-- ==== Defs.lean ====
def Pre_Attn [hPre_rows_in_range : Cert.Pre_rows_in_range.Facts] (m : (ℓ : Loc Cert.Attn.nD Cert.Attn.τ Cert.Attn.sig) → Buf (Elt Bits) ℓ) : Prop :=
  ∀ c : Dev Cert.Attn.nD,
    (Cert.Pre_rows_in_range.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3))) = (fun _ => 1#1)

def Pre_AttnIdeal [hPre_rows_in_range : Cert.Pre_rows_in_range.Facts] (m : (ℓ : Loc Cert.AttnIdeal.nD Cert.AttnIdeal.τ Cert.AttnIdeal.sig) → Buf (Elt Ideal) ℓ) : Prop :=
  ∀ c : Dev Cert.AttnIdeal.nD,
    (Cert.Pre_rows_in_range.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_rows_in_range [hPre_rows_in_range : Cert.Pre_rows_in_range.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_rows_in_range.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Score (m : (ℓ : Loc Cert.Score.nD Cert.Score.τ Cert.Score.sig) → Buf (Elt Bits) ℓ) : Prop :=
  True

def Pre_ScoreIdeal (m : (ℓ : Loc Cert.ScoreIdeal.nD Cert.ScoreIdeal.τ Cert.ScoreIdeal.sig) → Buf (Elt Ideal) ℓ) : Prop :=
  True

def Pre_ScoreRefIdeal (m : (ℓ : Loc Cert.ScoreRefIdeal.nD Cert.ScoreRefIdeal.τ Cert.ScoreRefIdeal.sig) → Buf (Elt Ideal) ℓ) : Prop :=
  True

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_TopKIdeal_finite_measures [hPre_finite_measures : Cert.Pre_finite_measures.Facts] (m : (ℓ : Loc Cert.TopKIdeal.nD Cert.TopKIdeal.τ Cert.TopKIdeal.sig) → Buf (Elt Ideal) ℓ) : Prop :=
  ∀ c : Dev Cert.TopKIdeal.nD,
    (Cert.Pre_finite_measures.fn (F := Ideal) (m ((c.tc : Thread Cert.TopKIdeal.nD Cert.TopKIdeal.τ).loc Cert.TopKIdeal.main_arg0))) = (fun _ => 1#1)

def Pre_TopKRefIdeal (m : (ℓ : Loc Cert.TopKRefIdeal.nD Cert.TopKRefIdeal.τ Cert.TopKRefIdeal.sig) → Buf (Elt Ideal) ℓ) : Prop :=
  True

def Pre_TopKRefIdeal_finite_measures [hPre_finite_measures : Cert.Pre_finite_measures.Facts] (m : (ℓ : Loc Cert.TopKRefIdeal.nD Cert.TopKRefIdeal.τ Cert.TopKRefIdeal.sig) → Buf (Elt Ideal) ℓ) : Prop :=
  ∀ c : Dev Cert.TopKRefIdeal.nD,
    (Cert.Pre_finite_measures.fn (F := Ideal) (m ((c.tc : Thread Cert.TopKRefIdeal.nD Cert.TopKRefIdeal.τ).loc Cert.TopKRefIdeal.main_arg0))) = (fun _ => 1#1)

def Pre_WholeIdeal (m : (ℓ : Loc Cert.WholeIdeal.nD Cert.WholeIdeal.τ Cert.WholeIdeal.sig) → Buf (Elt Ideal) ℓ) : Prop :=
  True

def Pre_WholeIdeal_finite_inputs [hPre_finite_inputs : Cert.Pre_finite_inputs.Facts] (m : (ℓ : Loc Cert.WholeIdeal.nD Cert.WholeIdeal.τ Cert.WholeIdeal.sig) → Buf (Elt Ideal) ℓ) : Prop :=
  ∀ c : Dev Cert.WholeIdeal.nD,
    (Cert.Pre_finite_inputs.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))) = (fun _ => 1#1)

def Pre_WholeRefIdeal (m : (ℓ : Loc Cert.WholeRefIdeal.nD Cert.WholeRefIdeal.τ Cert.WholeRefIdeal.sig) → Buf (Elt Ideal) ℓ) : Prop :=
  True

def Pre_WholeRefIdeal_finite_inputs [hPre_finite_inputs : Cert.Pre_finite_inputs.Facts] (m : (ℓ : Loc Cert.WholeRefIdeal.nD Cert.WholeRefIdeal.τ Cert.WholeRefIdeal.sig) → Buf (Elt Ideal) ℓ) : Prop :=
  ∀ c : Dev Cert.WholeRefIdeal.nD,
    (Cert.Pre_finite_inputs.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2))) = (fun _ => 1#1)

def quiescent_Attn [hAttn : Cert.Attn.Facts] [hPre_rows_in_range : Cert.Pre_rows_in_range.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] [hPre_rows_in_range : Cert.Pre_rows_in_range.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_rows_in_range [hAttnRefIdeal : Cert.AttnRefIdeal.Facts] [hPre_rows_in_range : Cert.Pre_rows_in_range.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_rows_in_range m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Score [hScore : Cert.Score.Facts] : Prop :=
  ∀ (m : (ℓ : Loc Cert.Score.nD Cert.Score.τ Cert.Score.sig) → Buf (Elt Bits) ℓ) (g : Dev Cert.Score.nD → PrngReg), Pre_Score m →
    θ_run (Cert.Score.defs (F := Bits)) (onTc (τ := Cert.Score.τ) (Cert.Score.main (F := Bits))) ⟨m, fun _ => 0, g⟩ (fun r => (∀ c : Dev Cert.Score.nD,
      r.2.mem ((c.tc : Thread Cert.Score.nD Cert.Score.τ).loc Cert.Score.main_arg0) = m ((c.tc : Thread Cert.Score.nD Cert.Score.τ).loc Cert.Score.main_arg0)
      ∧ r.2.mem ((c.tc : Thread Cert.Score.nD Cert.Score.τ).loc Cert.Score.main_arg1) = m ((c.tc : Thread Cert.Score.nD Cert.Score.τ).loc Cert.Score.main_arg1))
      ∧ r.2.sem = fun _ => 0)

def quiescent_ScoreIdeal [hScoreIdeal : Cert.ScoreIdeal.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1))
      ∧ r.2.sem = fun _ => 0)

def quiescent_ScoreRefIdeal [hScoreRefIdeal : Cert.ScoreRefIdeal.Facts] : Prop :=
  ∀ (m : (ℓ : Loc Cert.ScoreRefIdeal.nD Cert.ScoreRefIdeal.τ Cert.ScoreRefIdeal.sig) → Buf (Elt Ideal) ℓ) (g : Dev Cert.ScoreRefIdeal.nD → PrngReg), Pre_ScoreRefIdeal m →
    θ_run (Cert.ScoreRefIdeal.defs (F := Ideal)) (onTc (τ := Cert.ScoreRefIdeal.τ) (Cert.ScoreRefIdeal.main (F := Ideal))) ⟨m, fun _ => 0, g⟩ (fun r => (∀ c : Dev Cert.ScoreRefIdeal.nD,
      r.2.mem ((c.tc : Thread Cert.ScoreRefIdeal.nD Cert.ScoreRefIdeal.τ).loc Cert.ScoreRefIdeal.main_arg0) = m ((c.tc : Thread Cert.ScoreRefIdeal.nD Cert.ScoreRefIdeal.τ).loc Cert.ScoreRefIdeal.main_arg0)
      ∧ r.2.mem ((c.tc : Thread Cert.ScoreRefIdeal.nD Cert.ScoreRefIdeal.τ).loc Cert.ScoreRefIdeal.main_arg1) = m ((c.tc : Thread Cert.ScoreRefIdeal.nD Cert.ScoreRefIdeal.τ).loc Cert.ScoreRefIdeal.main_arg1))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKIdeal_pre_finite_measures [hTopKIdeal : Cert.TopKIdeal.Facts] [hPre_finite_measures : Cert.Pre_finite_measures.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal_finite_measures m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKRefIdeal [hTopKRefIdeal : Cert.TopKRefIdeal.Facts] : Prop :=
  ∀ (m : (ℓ : Loc Cert.TopKRefIdeal.nD Cert.TopKRefIdeal.τ Cert.TopKRefIdeal.sig) → Buf (Elt Ideal) ℓ) (g : Dev Cert.TopKRefIdeal.nD → PrngReg), Pre_TopKRefIdeal m →
    θ_run (Cert.TopKRefIdeal.defs (F := Ideal)) (onTc (τ := Cert.TopKRefIdeal.τ) (Cert.TopKRefIdeal.main (F := Ideal))) ⟨m, fun _ => 0, g⟩ (fun r => (∀ c : Dev Cert.TopKRefIdeal.nD,
      r.2.mem ((c.tc : Thread Cert.TopKRefIdeal.nD Cert.TopKRefIdeal.τ).loc Cert.TopKRefIdeal.main_arg0) = m ((c.tc : Thread Cert.TopKRefIdeal.nD Cert.TopKRefIdeal.τ).loc Cert.TopKRefIdeal.main_arg0))
      ∧ r.2.sem = fun _ => 0)

def quiescent_TopKRefIdeal_pre_finite_measures [hTopKRefIdeal : Cert.TopKRefIdeal.Facts] [hPre_finite_measures : Cert.Pre_finite_measures.Facts] : Prop :=
  ∀ (m : (ℓ : Loc Cert.TopKRefIdeal.nD Cert.TopKRefIdeal.τ Cert.TopKRefIdeal.sig) → Buf (Elt Ideal) ℓ) (g : Dev Cert.TopKRefIdeal.nD → PrngReg), Pre_TopKRefIdeal_finite_measures m →
    θ_run (Cert.TopKRefIdeal.defs (F := Ideal)) (onTc (τ := Cert.TopKRefIdeal.τ) (Cert.TopKRefIdeal.main (F := Ideal))) ⟨m, fun _ => 0, g⟩ (fun r => (∀ c : Dev Cert.TopKRefIdeal.nD,
      r.2.mem ((c.tc : Thread Cert.TopKRefIdeal.nD Cert.TopKRefIdeal.τ).loc Cert.TopKRefIdeal.main_arg0) = m ((c.tc : Thread Cert.TopKRefIdeal.nD Cert.TopKRefIdeal.τ).loc Cert.TopKRefIdeal.main_arg0))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeIdeal_pre_finite_inputs [hWholeIdeal : Cert.WholeIdeal.Facts] [hPre_finite_inputs : Cert.Pre_finite_inputs.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_finite_inputs m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeRefIdeal [hWholeRefIdeal : Cert.WholeRefIdeal.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2))
      ∧ r.2.sem = fun _ => 0)

def quiescent_WholeRefIdeal_pre_finite_inputs [hWholeRefIdeal : Cert.WholeRefIdeal.Facts] [hPre_finite_inputs : Cert.Pre_finite_inputs.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_finite_inputs m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] [hPre_rows_in_range : Cert.Pre_rows_in_range.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v50) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Score_ScoreIdeal : Prop :=
  True

def algebraic_ScoreIdeal_ScoreRefIdeal [hScoreIdeal : Cert.ScoreIdeal.Facts] [hScoreRefIdeal : Cert.ScoreRefIdeal.Facts] : Prop :=
  ∀ (m : (ℓ : Loc Cert.ScoreIdeal.nD Cert.ScoreIdeal.τ Cert.ScoreIdeal.sig) → Buf (Elt Ideal) ℓ) (g : Dev Cert.ScoreIdeal.nD → PrngReg)
    (m' : (ℓ : Loc Cert.ScoreRefIdeal.nD Cert.ScoreRefIdeal.τ Cert.ScoreRefIdeal.sig) → Buf (Elt Ideal) ℓ) (g' : Dev Cert.ScoreRefIdeal.nD → PrngReg), Pre_ScoreIdeal m →
    (∀ c : Dev Cert.ScoreIdeal.nD,
      m' ((c.tc : Thread Cert.ScoreRefIdeal.nD Cert.ScoreRefIdeal.τ).loc Cert.ScoreRefIdeal.main_arg0) = m ((c.tc : Thread Cert.ScoreIdeal.nD Cert.ScoreIdeal.τ).loc Cert.ScoreIdeal.main_arg0)
      ∧ m' ((c.tc : Thread Cert.ScoreRefIdeal.nD Cert.ScoreRefIdeal.τ).loc Cert.ScoreRefIdeal.main_arg1) = m ((c.tc : Thread Cert.ScoreIdeal.nD Cert.ScoreIdeal.τ).loc Cert.ScoreIdeal.main_arg1)) →
    ∃ (v0 : (c : Dev Cert.ScoreIdeal.nD) → Buf (Elt Ideal) ((c.tc : Thread Cert.ScoreIdeal.nD Cert.ScoreIdeal.τ).loc Cert.ScoreIdeal.main_v0)),
      θ_run (Cert.ScoreIdeal.defs (F := Ideal)) (onTc (τ := Cert.ScoreIdeal.τ) (Cert.ScoreIdeal.main (F := Ideal))) ⟨m, fun _ => 0, g⟩ (fun r => ∀ c : Dev Cert.ScoreIdeal.nD,
          r.2.mem ((c.tc : Thread Cert.ScoreIdeal.nD Cert.ScoreIdeal.τ).loc Cert.ScoreIdeal.main_v0) = v0 c
          ∧ r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
          ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1))
      ∧ θ_run (Cert.ScoreRefIdeal.defs (F := Ideal)) (onTc (τ := Cert.ScoreRefIdeal.τ) (Cert.ScoreRefIdeal.main (F := Ideal))) ⟨m', fun _ => 0, g'⟩ (fun r => ∀ c : Dev Cert.ScoreRefIdeal.nD,
          r.2.mem ((c.tc : Thread Cert.ScoreRefIdeal.nD Cert.ScoreRefIdeal.τ).loc Cert.ScoreRefIdeal.main_v7) = v0 c
          ∧ r.2.mem ((c.tc : Thread Cert.ScoreRefIdeal.nD Cert.ScoreRefIdeal.τ).loc Cert.ScoreRefIdeal.main_arg0) = m' ((c.tc : Thread Cert.ScoreRefIdeal.nD Cert.ScoreRefIdeal.τ).loc Cert.ScoreRefIdeal.main_arg0)
          ∧ r.2.mem ((c.tc : Thread Cert.ScoreRefIdeal.nD Cert.ScoreRefIdeal.τ).loc Cert.ScoreRefIdeal.main_arg1) = m' ((c.tc : Thread Cert.ScoreRefIdeal.nD Cert.ScoreRefIdeal.τ).loc Cert.ScoreRefIdeal.main_arg1))

def preserves_TopK_TopKIdeal : Prop :=
  True

def algebraic_TopKIdeal_TopKRefIdeal_pre_finite_measures [hTopKIdeal : Cert.TopKIdeal.Facts] [hTopKRefIdeal : Cert.TopKRefIdeal.Facts] [hPre_finite_measures : Cert.Pre_finite_measures.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKRefIdeal.nD Cert.TopKRefIdeal.τ Cert.TopKRefIdeal.sig) → Buf (Elt Ideal) ℓ) (g' : Dev Cert.TopKRefIdeal.nD → PrngReg), Pre_TopKIdeal_finite_measures m →
    (∀ c : Dev Cert.TopKIdeal.nD,
      m' ((c.tc : Thread Cert.TopKRefIdeal.nD Cert.TopKRefIdeal.τ).loc Cert.TopKRefIdeal.main_arg0) = m ((c.tc : Thread Cert.TopKIdeal.nD Cert.TopKIdeal.τ).loc Cert.TopKIdeal.main_arg0)) →
    ∃ (v0 : (c : Dev Cert.TopKIdeal.nD) → Buf (Elt Ideal) ((c.tc : Thread Cert.TopKIdeal.nD Cert.TopKIdeal.τ).loc Cert.TopKIdeal.main_v0)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v0) = v0 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ θ_run (Cert.TopKRefIdeal.defs (F := Ideal)) (onTc (τ := Cert.TopKRefIdeal.τ) (Cert.TopKRefIdeal.main (F := Ideal))) ⟨m', fun _ => 0, g'⟩ (fun r => ∀ c : Dev Cert.TopKRefIdeal.nD,
          r.2.mem ((c.tc : Thread Cert.TopKRefIdeal.nD Cert.TopKRefIdeal.τ).loc Cert.TopKRefIdeal.main_v1) = v0 c
          ∧ r.2.mem ((c.tc : Thread Cert.TopKRefIdeal.nD Cert.TopKRefIdeal.τ).loc Cert.TopKRefIdeal.main_arg0) = m' ((c.tc : Thread Cert.TopKRefIdeal.nD Cert.TopKRefIdeal.τ).loc Cert.TopKRefIdeal.main_arg0))

def algebraic_WholeIdeal_WholeRefIdeal_pre_finite_inputs [hWholeIdeal : Cert.WholeIdeal.Facts] [hWholeRefIdeal : Cert.WholeRefIdeal.Facts] [hPre_finite_inputs : Cert.Pre_finite_inputs.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeRefIdeal.nD Cert.WholeRefIdeal.τ Cert.WholeRefIdeal.sig) → Buf (Elt Ideal) ℓ) (g' : Dev Cert.WholeRefIdeal.nD → PrngReg), Pre_WholeIdeal_finite_inputs m →
    (∀ c : Dev Cert.WholeIdeal.nD,
      m' ((c.tc : Thread Cert.WholeRefIdeal.nD Cert.WholeRefIdeal.τ).loc Cert.WholeRefIdeal.main_arg0) = m ((c.tc : Thread Cert.WholeIdeal.nD Cert.WholeIdeal.τ).loc Cert.WholeIdeal.main_arg0)
      ∧ m' ((c.tc : Thread Cert.WholeRefIdeal.nD Cert.WholeRefIdeal.τ).loc Cert.WholeRefIdeal.main_arg1) = m ((c.tc : Thread Cert.WholeIdeal.nD Cert.WholeIdeal.τ).loc Cert.WholeIdeal.main_arg1)
      ∧ m' ((c.tc : Thread Cert.WholeRefIdeal.nD Cert.WholeRefIdeal.τ).loc Cert.WholeRefIdeal.main_arg2) = m ((c.tc : Thread Cert.WholeIdeal.nD Cert.WholeIdeal.τ).loc Cert.WholeIdeal.main_arg2)) →
    ∃ (v0 : (c : Dev Cert.WholeIdeal.nD) → Buf (Elt Ideal) ((c.tc : Thread Cert.WholeIdeal.nD Cert.WholeIdeal.τ).loc Cert.WholeIdeal.main_v7)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v7) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ θ_run (Cert.WholeRefIdeal.defs (F := Ideal)) (onTc (τ := Cert.WholeRefIdeal.τ) (Cert.WholeRefIdeal.main (F := Ideal))) ⟨m', fun _ => 0, g'⟩ (fun r => ∀ c : Dev Cert.WholeRefIdeal.nD,
          r.2.mem ((c.tc : Thread Cert.WholeRefIdeal.nD Cert.WholeRefIdeal.τ).loc Cert.WholeRefIdeal.main_v59) = v0 c
          ∧ r.2.mem ((c.tc : Thread Cert.WholeRefIdeal.nD Cert.WholeRefIdeal.τ).loc Cert.WholeRefIdeal.main_arg0) = m' ((c.tc : Thread Cert.WholeRefIdeal.nD Cert.WholeRefIdeal.τ).loc Cert.WholeRefIdeal.main_arg0)
          ∧ r.2.mem ((c.tc : Thread Cert.WholeRefIdeal.nD Cert.WholeRefIdeal.τ).loc Cert.WholeRefIdeal.main_arg1) = m' ((c.tc : Thread Cert.WholeRefIdeal.nD Cert.WholeRefIdeal.τ).loc Cert.WholeRefIdeal.main_arg1)
          ∧ r.2.mem ((c.tc : Thread Cert.WholeRefIdeal.nD Cert.WholeRefIdeal.τ).loc Cert.WholeRefIdeal.main_arg2) = m' ((c.tc : Thread Cert.WholeRefIdeal.nD Cert.WholeRefIdeal.τ).loc Cert.WholeRefIdeal.main_arg2))

def Claim : Prop :=
  ∃ (hAttn : Cert.Attn.Facts) (hAttnIdeal : Cert.AttnIdeal.Facts) (hAttnRefIdeal : Cert.AttnRefIdeal.Facts) (hScore : Cert.Score.Facts) (hScoreIdeal : Cert.ScoreIdeal.Facts) (hScoreRefIdeal : Cert.ScoreRefIdeal.Facts) (hTopK : Cert.TopK.Facts) (hTopKIdeal : Cert.TopKIdeal.Facts) (hTopKRefIdeal : Cert.TopKRefIdeal.Facts) (hWholeIdeal : Cert.WholeIdeal.Facts) (hWholeRefIdeal : Cert.WholeRefIdeal.Facts) (hPre_rows_in_range : Cert.Pre_rows_in_range.Facts) (hPre_finite_measures : Cert.Pre_finite_measures.Facts) (hPre_finite_inputs : Cert.Pre_finite_inputs.Facts),
    quiescent_Attn (hAttn := hAttn) (hPre_rows_in_range := hPre_rows_in_range)
    ∧ quiescent_AttnIdeal (hAttnIdeal := hAttnIdeal) (hPre_rows_in_range := hPre_rows_in_range)
    ∧ quiescent_AttnRefIdeal (hAttnRefIdeal := hAttnRefIdeal)
    ∧ quiescent_AttnRefIdeal_pre_rows_in_range (hAttnRefIdeal := hAttnRefIdeal) (hPre_rows_in_range := hPre_rows_in_range)
    ∧ quiescent_Score (hScore := hScore)
    ∧ quiescent_ScoreIdeal (hScoreIdeal := hScoreIdeal)
    ∧ quiescent_ScoreRefIdeal (hScoreRefIdeal := hScoreRefIdeal)
    ∧ quiescent_TopK (hTopK := hTopK)
    ∧ quiescent_TopKIdeal (hTopKIdeal := hTopKIdeal)
    ∧ quiescent_TopKIdeal_pre_finite_measures (hTopKIdeal := hTopKIdeal) (hPre_finite_measures := hPre_finite_measures)
    ∧ quiescent_TopKRefIdeal (hTopKRefIdeal := hTopKRefIdeal)
    ∧ quiescent_TopKRefIdeal_pre_finite_measures (hTopKRefIdeal := hTopKRefIdeal) (hPre_finite_measures := hPre_finite_measures)
    ∧ quiescent_WholeIdeal (hWholeIdeal := hWholeIdeal)
    ∧ quiescent_WholeIdeal_pre_finite_inputs (hWholeIdeal := hWholeIdeal) (hPre_finite_inputs := hPre_finite_inputs)
    ∧ quiescent_WholeRefIdeal (hWholeRefIdeal := hWholeRefIdeal)
    ∧ quiescent_WholeRefIdeal_pre_finite_inputs (hWholeRefIdeal := hWholeRefIdeal) (hPre_finite_inputs := hPre_finite_inputs)
    ∧ preserves_Attn_AttnIdeal
    ∧ algebraic_AttnIdeal_AttnRefIdeal (hAttnIdeal := hAttnIdeal) (hAttnRefIdeal := hAttnRefIdeal) (hPre_rows_in_range := hPre_rows_in_range)
    ∧ preserves_Score_ScoreIdeal
    ∧ algebraic_ScoreIdeal_ScoreRefIdeal (hScoreIdeal := hScoreIdeal) (hScoreRefIdeal := hScoreRefIdeal)
    ∧ preserves_TopK_TopKIdeal
    ∧ algebraic_TopKIdeal_TopKRefIdeal_pre_finite_measures (hTopKIdeal := hTopKIdeal) (hTopKRefIdeal := hTopKRefIdeal) (hPre_finite_measures := hPre_finite_measures)
    ∧ algebraic_WholeIdeal_WholeRefIdeal_pre_finite_inputs (hWholeIdeal := hWholeIdeal) (hWholeRefIdeal := hWholeRefIdeal) (hPre_finite_inputs := hPre_finite_inputs)
-- ==== Pre_finite_inputs.lean ====
abbrev S2x4096x16x64 : Shape := ⟨4, ![2, 4096, 16, 64]⟩
abbrev S_ : Shape := ⟨0, ![]⟩

class Facts : Prop where
  bcast_S_S2x4096x16x64 : S_.BroadcastsInDim S2x4096x16x64 (![] : Fin 0 → Fin S2x4096x16x64.rank)
  reducesTo_S2x4096x16x64_S_d0_1_2_3 : S2x4096x16x64.ReducesTo [0, 1, 2, 3] S_
  h_S_ : 0 < S_.numel

variable [Facts]

def fn {F : FTy → Type} [FloatOps F] (main_arg0 : FVec F S2x4096x16x64 .f32) (main_arg1 : FVec F S2x4096x16x64 .f32) (main_arg2 : FVec F S2x4096x16x64 .f32) : IVec S_ 1 :=
  let main_cst : FVec F S_ .f32 := constant S_ .f32 0xFF800000#32
  let main_v0 : FVec F S2x4096x16x64 .f32 := broadcastInDim S2x4096x16x64 ![] bcast_S_S2x4096x16x64 main_cst
  let main_v1 : IVec S2x4096x16x64 1 := cmpf .ogt main_arg0 main_v0
  let main_cst_0 : FVec F S_ .f32 := constant S_ .f32 0x7F800000#32
  let main_v2 : FVec F S2x4096x16x64 .f32 := broadcastInDim S2x4096x16x64 ![] bcast_S_S2x4096x16x64 main_cst_0
  let main_v3 : IVec S2x4096x16x64 1 := cmpf .olt main_arg0 main_v2
  let main_v4 : IVec S2x4096x16x64 1 := andi main_v1 main_v3
  let main_c : IVec S_ 1 := constantI S_ 1 1#1
  let main_v5 : IVec S_ 1 := (fun x v => Host.reduce IntOp.andi x v reducesTo_S2x4096x16x64_S_d0_1_2_3 h_S_) main_v4 main_c
  let main_cst_1 : FVec F S_ .f32 := constant S_ .f32 0xFF800000#32
  let main_v6 : FVec F S2x4096x16x64 .f32 := broadcastInDim S2x4096x16x64 ![] bcast_S_S2x4096x16x64 main_cst_1
  let main_v7 : IVec S2x4096x16x64 1 := cmpf .ogt main_arg1 main_v6
  let main_cst_2 : FVec F S_ .f32 := constant S_ .f32 0x7F800000#32
  let main_v8 : FVec F S2x4096x16x64 .f32 := broadcastInDim S2x4096x16x64 ![] bcast_S_S2x4096x16x64 main_cst_2
  let main_v9 : IVec S2x4096x16x64 1 := cmpf .olt main_arg1 main_v8
  let main_v10 : IVec S2x4096x16x64 1 := andi main_v7 main_v9
  let main_c_3 : IVec S_ 1 := constantI S_ 1 1#1
  let main_v11 : IVec S_ 1 := (fun x v => Host.reduce IntOp.andi x v reducesTo_S2x4096x16x64_S_d0_1_2_3 h_S_) main_v10 main_c_3
  let main_v12 : IVec S_ 1 := andi main_v5 main_v11
  main_v12
-- ==== Pre_finite_measures.lean ====
abbrev S32x1x4096 : Shape := ⟨3, ![32, 1, 4096]⟩
abbrev S_ : Shape := ⟨0, ![]⟩

class Facts : Prop where
  bcast_S_S32x1x4096 : S_.BroadcastsInDim S32x1x4096 (![] : Fin 0 → Fin S32x1x4096.rank)
  reducesTo_S32x1x4096_S_d0_1_2 : S32x1x4096.ReducesTo [0, 1, 2] S_
  h_S_ : 0 < S_.numel

variable [Facts]

def fn {F : FTy → Type} [FloatOps F] (main_arg0 : FVec F S32x1x4096 .f32) : IVec S_ 1 :=
  let main_cst : FVec F S_ .f32 := constant S_ .f32 0xFF800000#32
  let main_v0 : FVec F S32x1x4096 .f32 := broadcastInDim S32x1x4096 ![] bcast_S_S32x1x4096 main_cst
  let main_v1 : IVec S32x1x4096 1 := cmpf .ogt main_arg0 main_v0
  let main_c : IVec S_ 1 := constantI S_ 1 1#1
  let main_v2 : IVec S_ 1 := (fun x v => Host.reduce IntOp.andi x v reducesTo_S32x1x4096_S_d0_1_2 h_S_) main_v1 main_c
  main_v2
-- ==== Pre_rows_in_range.lean ====
abbrev S2048 : Shape := ⟨1, ![2048]⟩
abbrev S32x4096x64 : Shape := ⟨3, ![32, 4096, 64]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S32x4096x64 .f32) (main_arg2 : FVec F S32x4096x64 .f32) (main_arg3 : FVec F S32x4096x64 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 4096#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Attn.lean ====
abbrev S2048 : Shape := ⟨1, ![2048]⟩
abbrev S32x4096x64 : Shape := ⟨3, ![32, 4096, 64]⟩
abbrev S1x4096x64 : Shape := ⟨3, ![1, 4096, 64]⟩
abbrev S45x64 : Shape := ⟨2, ![45, 64]⟩
abbrev S_ : Shape := ⟨0, ![]⟩
abbrev S1 : Shape := ⟨1, ![1]⟩
abbrev S1x64 : Shape := ⟨2, ![1, 64]⟩
abbrev S1x1x64 : Shape := ⟨3, ![1, 1, 64]⟩
abbrev S4096x64 : Shape := ⟨2, ![4096, 64]⟩
abbrev S45x4096 : Shape := ⟨2, ![45, 4096]⟩
abbrev S45 : Shape := ⟨1, ![45]⟩
abbrev S45x1 : Shape := ⟨2, ![45, 1]⟩
abbrev S64 : Shape := ⟨1, ![64]⟩

abbrev nBuf : Space → Nat
  | .hbm => 5
  | .vmem => 7
  | .smem => 1
  | _ => 0

abbrev bufTy : (tb : Table) → Fin (tcTables nBuf tb) → BufTy
  | .hbm, ⟨0, _⟩ => ⟨S2048, .i32⟩
  | .hbm, ⟨1, _⟩ => ⟨S32x4096x64, .f32⟩
  | .hbm, ⟨2, _⟩ => ⟨S32x4096x64, .f32⟩
  | .hbm, ⟨3, _⟩ => ⟨S32x4096x64, .f32⟩
  | .hbm, ⟨4, _⟩ => ⟨S32x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S45x64, .f32⟩
  | .local _ .smem, ⟨0, _⟩ => ⟨S2048, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k0_off2 (i : grid0.Coords) (v3 : BitVec 32) : Fin 3 → Nat :=
  let arg0 : BitVec 32 := BitVec.ofNat 32 (i 0).val
  let c0_i32_2 : BitVec 32 := 0#32
  ![arg0.toNat, v3.toNat, 0]

def k0_off3 (i : grid0.Coords) : Fin 1 → Nat :=
  let arg0 : BitVec 32 := BitVec.ofNat 32 (i 0).val
  let c64_i32_3 : BitVec 32 := 64#32
  let v7 : BitVec 32 := Scalar.muli arg0 c64_i32_3
  let c1_i32 : BitVec 32 := 1#32
  let v8 : BitVec 32 := Scalar.addi v7 c1_i32
  let v9 : Index := Scalar.indexCast v8
  ![v9.toNat]
def k0_off4 (i : grid0.Coords) (v10 : BitVec 32) : Fin 3 → Nat :=
  let arg0 : BitVec 32 := BitVec.ofNat 32 (i 0).val
  let c0_i32_6 : BitVec 32 := 0#32
  ![arg0.toNat, v10.toNat, 0]

def k0_off5 (i : grid0.Coords) : Fin 1 → Nat :=
  let arg0 : BitVec 32 := BitVec.ofNat 32 (i 0).val
  let c64_i32_7 : BitVec 32 := 64#32
  let v14 : BitVec 32 := Scalar.muli arg0 c64_i32_7
  let c2_i32 : BitVec 32 := 2#32
  let v15 : BitVec 32 := Scalar.addi v14 c2_i32
  let v16 : Index := Scalar.indexCast v15
  ![v16.toNat]
def k0_off6 (i : grid0.Coords) (v17 : BitVec 32) : Fin 3 → Nat :=
  let arg0 : BitVec 32 := BitVec.ofNat 32 (i 0).val
  let c0_i32_10 : BitVec 32 := 0#32
  ![arg0.toNat, v17.toNat, 0]

def k0_off7 (i : grid0.Coords) : Fin 1 → Nat :=
  let arg0 : BitVec 32 := BitVec.ofNat 32 (i 0).val
  let c64_i32_11 : BitVec 32 := 64#32
  let v21 : BitVec 32 := Scalar.muli arg0 c64_i32_11
  let c3_i32 : BitVec 32 := 3#32
  let v22 : BitVec 32 := Scalar.addi v21 c3_i32
  let v23 : Index := Scalar.indexCast v22
  ![v23.toNat]
def k0_off8 (i : grid0.Coords) (v24 : BitVec 32) : Fin 3 → Nat :=
  let arg0 : BitVec 32 := BitVec.ofNat 32 (i 0).val
  let c0_i32_14 : BitVec 32 := 0#32
  ![arg0.toNat, v24.toNat, 0]

def k0_off9 (i : grid0.Coords) : Fin 1 → Nat :=
  let arg0 : BitVec 32 := BitVec.ofNat 32 (i 0).val
  let c64_i32_15 : BitVec 32 := 64#32
  let v28 : BitVec 32 := Scalar.muli arg0 c64_i32_15
  let c4_i32 : BitVec 32 := 4#32
  let v29 : BitVec 32 := Scalar.addi v28 c4_i32
  let v30 : Index := Scalar.indexCast v29
  ![v30.toNat]
def k0_off10 (i : grid0.Coords) (v31 : BitVec 32) : Fin 3 → Nat :=
  let arg0 : BitVec 32 := BitVec.ofNat 32 (i 0).val
  let c0_i32_18 : BitVec 32 := 0#32
  ![arg0.toNat, v31.toNat, 0]

def k0_off11 (i : grid0.Coords) : Fin 1 → Nat :=
  let arg0 : BitVec 32 := BitVec.ofNat 32 (i 0).val
  let c64_i32_19 : BitVec 32 := 64#32
  let v35 : BitVec 32 := Scalar.muli arg0 c64_i32_19
  let c5_i32 : BitVec 32 := 5#32
  let v36 : BitVec 32 := Scalar.addi v35 c5_i32
  let v37 : Index := Scalar.indexCast v36
  ![v37.toNat]
def k0_off12 (i : grid0.Coords) (v38 : BitVec 32) : Fin 3 → Nat :=
  let arg0 : BitVec 32 := BitVec.ofNat 32 (i 0).val
  let c0_i32_22 : BitVec 32 := 0#32
  ![arg0.toNat, v38.toNat, 0]

def k0_off13 (i : grid0.Coords) : Fin 1 → Nat :=
  let arg0 : BitVec 32 := BitVec.ofNat 32 (i 0).val
  let c64_i32_23 : BitVec 32 := 64#32
  let v42 : BitVec 32 := Scalar.muli arg0 c64_i32_23
  let c6_i32 : BitVec 32 := 6#32
  let v43 : BitVec 32 := Scalar.addi v42 c6_i32
  let v44 : Index := Scalar.indexCast v43
  ![v44.toNat]
def k0_off14 (i : grid0.Coords) (v45 : BitVec 32) : Fin 3 → Nat :=
  let arg0 : BitVec 32 := BitVec.ofNat 32 (i 0).val
  let c0_i32_26 : BitVec 32 := 0#32
  ![arg0.toNat, v45.toNat, 0]

def k0_off15 (i : grid0.Coords) : Fin 1 → Nat :=
  let arg0 : BitVec 32 := BitVec.ofNat 32 (i 0).val
  let c64_i32_27 : BitVec 32 := 64#32
  let v49 : BitVec 32 := Scalar.muli arg0 c64_i32_27
  let c7_i32 : BitVec 32 := 7#32
  let v50 : BitVec 32 := Scalar.addi v49 c7_i32
  let v51 : Index := Scalar.indexCast v50
  ![v51.toNat]
def k0_off16 (i : grid0.Coords) (v52 : BitVec 32) : Fin 3 → Nat :=
  let arg0 : BitVec 32 := BitVec.ofNat 32 (i 0).val
  let c0_i32_30 : BitVec 32 := 0#32
  ![arg0.toNat, v52.toNat, 0]

def k0_off17 (i : grid0.Coords) : Fin 1 → Nat :=
  let arg0 : BitVec 32 := BitVec.ofNat 32 (i 0).val
  let c64_i32_31 : BitVec 32 := 64#32
  let v56 : BitVec 32 := Scalar.muli arg0 c64_i32_31
  let c8_i32 : BitVec 32 := 8#32
  let v57 : BitVec 32 := Scalar.addi v56 c8_i32
  let v58 : Index := Scalar.indexCast v57
  ![v58.toNat]
def k0_off18 (i : grid0.Coords) (v59 : BitVec 32) : Fin 3 → Nat :=
  let arg0 : BitVec 32 := BitVec.ofNat 32 (i 0).val
  let c0_i32_34 : BitVec 32 := 0#32
  ![arg0.toNat, v59.toNat, 0]

def k0_off19 (i : grid0.Coords) : Fin 1 → Nat :=
  let arg0 : BitVec 32 := BitVec.ofNat 32 (i 0).val
  let c64_i32_35 : BitVec 32 := 64#32
  let v63 : BitVec 32 := Scalar.muli arg0 c64_i32_35
  let c9_i32 : BitVec 32 := 9#32
  let v64 : BitVec 32 := Scalar.addi v63 c9_i32
  let v65 : Index := Scalar.indexCast v64
  ![v65.toNat]
def k0_off20 (i : grid0.Coords) (v66 : BitVec 32) : Fin 3 → Nat :=
  let arg0 : BitVec 32 := BitVec.ofNat 32 (i 0).val
  let c0_i32_38 : BitVec 32 := 0#32
  ![arg0.toNat, v66.toNat, 0]

def k0_off21 (i : grid0.Coords) : Fin 1 → Nat :=
  let arg0 : BitVec 32 := BitVec.ofNat 32 (i 0).val
  let c64_i32_39 : BitVec 32 := 64#32
  let v70 : BitVec 32 := Scalar.muli arg0 c64_i32_39
  let c10_i32 : BitVec 32 := 10#32
  let v71 : BitVec 32 := Scalar.addi v70 c10_i32
  let v72 : Index := Scalar.indexCast v71
  ![v72.toNat]
def k0_off22 (i : grid0.Coords) (v73 : BitVec 32) : Fin 3 → Nat :=
  let arg0 : BitVec 32 := BitVec.ofNat 32 (i 0).val
  let c0_i32_42 : BitVec 32 := 0#32
  ![arg0.toNat, v73.toNat, 0]

def k0_off23 (i : grid0.Coords) : Fin 1 → Nat :=
  let arg0 : BitVec 32 := BitVec.ofNat 32 (i 0).val
  let c64_i32_43 : BitVec 32 := 64#32
  let v77 : BitVec 32 := Scalar.muli arg0 c64_i32_43
  let c11_i32 : BitVec 32 := 11#32
  let v78 : BitVec 32 := Scalar.addi v77 c11_i32
  let v79 : Index := Scalar.indexCast v78
  ![v79.toNat]
def k0_off24 (i : grid0.Coords) (v80 : BitVec 32) : Fin 3 → Nat :=
  let arg0 : BitVec 32 := BitVec.ofNat 32 (i 0).val
  let c0_i32_46 : BitVec 32 := 0#32
  ![arg0.toNat, v80.toNat, 0]

def k0_off25 (i : grid0.Coords) : Fin 1 → Nat :=
  let arg0 : BitVec 32 := BitVec.ofNat 32 (i 0).val
  let c64_i32_47 : BitVec 32 := 64#32
  let v84 : BitVec 32 := Scalar.muli arg0 c64_i32_47
  let c12_i32 : BitVec 32 := 12#32
  let v85 : BitVec 32 := Scalar.addi v84 c12_i32
  let v86 : Index := Scalar.indexCast v85
  ![v86.toNat]
def k0_off26 (i : grid0.Coords) (v87 : BitVec 32) : Fin 3 → Nat :=
  let arg0 : BitVec 32 := BitVec.ofNat 32 (i 0).val
  let c0_i32_50 : BitVec 32 := 0#32
  ![arg0.toNat, v87.toNat, 0]

def k0_off27 (i : grid0.Coords) : Fin 1 → Nat :=
  let arg0 : BitVec 32 := BitVec.ofNat 32 (i 0).val
  let c64_i32_51 : BitVec 32 := 64#32
  let v91 : BitVec 32 := Scalar.muli arg0 c64_i32_51
  let c13_i32 : BitVec 32 := 13#32
  let v92 : BitVec 32 := Scalar.addi v91 c13_i32
  let v93 : Index := Scalar.indexCast v92
  ![v93.toNat]
def k0_off28 (i : grid0.Coords) (v94 : BitVec 32) : Fin 3 → Nat :=
  let arg0 : BitVec 32 := BitVec.ofNat 32 (i 0).val
  let c0_i32_54 : BitVec 32 := 0#32
  ![arg0.toNat, v94.toNat, 0]

def k0_off29 (i : grid0.Coords) : Fin 1 → Nat :=
  let arg0 : BitVec 32 := BitVec.ofNat 32 (i 0).val
  let c64_i32_55 : BitVec 32 := 64#32
  let v98 : BitVec 32 := Scalar.muli arg0 c64_i32_55
  let c14_i32 : BitVec 32 := 14#32
  let v99 : BitVec 32 := Scalar.addi v98 c14_i32
  let v100 : Index := Scalar.indexCast v99
  ![v100.toNat]
def k0_off30 (i : grid0.Coords) (v101 : BitVec 32) : Fin 3 → Nat :=
  let arg0 : BitVec 32 := BitVec.ofNat 32 (i 0).val
  let c0_i32_58 : BitVec 32 := 0#32
  ![arg0.toNat, v101.toNat, 0]

def k0_off31 (i : grid0.Coords) : Fin 1 → Nat :=
  let arg0 : BitVec 32 := BitVec.ofNat 32 (i 0).val
  let c64_i32_59 : BitVec 32 := 64#32
  let v105 : BitVec 32 := Scalar.muli arg0 c64_i32_59
  let c15_i32 : BitVec 32 := 15#32
  let v106 : BitVec 32 := Scalar.addi v105 c15_i32
  let v107 : Index := Scalar.indexCast v106
  ![v107.toNat]
def k0_off32 (i : grid0.Coords) (v108 : BitVec 32) : Fin 3 → Nat :=
  let arg0 : BitVec 32 := BitVec.ofNat 32 (i 0).val
  let c0_i32_62 : BitVec 32 := 0#32
  ![arg0.toNat, v108.toNat, 0]

def k0_off33 (i : grid0.Coords) : Fin 1 → Nat :=
  let arg0 : BitVec 32 := BitVec.ofNat 32 (i 0).val
  let c64_i32_63 : BitVec 32 := 64#32
  let v112 : BitVec 32 := Scalar.muli arg0 c64_i32_63
  let c16_i32 : BitVec 32 := 16#32
  let v113 : BitVec 32 := Scalar.addi v112 c16_i32
  let v114 : Index := Scalar.indexCast v113
  ![v114.toNat]
def k0_off34 (i : grid0.Coords) (v115 : BitVec 32) : Fin 3 → Nat :=
  let arg0 : BitVec 32 := BitVec.ofNat 32 (i 0).val
  let c0_i32_66 : BitVec 32 := 0#32
  ![arg0.toNat, v115.toNat, 0]

def k0_off35 (i : grid0.Coords) : Fin 1 → Nat :=
  let arg0 : BitVec 32 := BitVec.ofNat 32 (i 0).val
  let c64_i32_67 : BitVec 32 := 64#32
  let v119 : BitVec 32 := Scalar.muli arg0 c64_i32_67
  let c17_i32 : BitVec 32 := 17#32
  let v120 : BitVec 32 := Scalar.addi v119 c17_i32
  let v121 : Index := Scalar.indexCast v120
  ![v121.toNat]
def k0_off36 (i : grid0.Coords) (v122 : BitVec 32) : Fin 3 → Nat :=
  let arg0 : BitVec 32 := BitVec.ofNat 32 (i 0).val
  let c0_i32_70 : BitVec 32 := 0#32
  ![arg0.toNat, v122.toNat, 0]

def k0_off37 (i : grid0.Coords) : Fin 1 → Nat :=
  let arg0 : BitVec 32 := BitVec.ofNat 32 (i 0).val
  let c64_i32_71 : BitVec 32 := 64#32
  let v126 : BitVec 32 := Scalar.muli arg0 c64_i32_71
  let c18_i32 : BitVec 32 := 18#32
  let v127 : BitVec 32 := Scalar.addi v126 c18_i32
  let v128 : Index := Scalar.indexCast v127
  ![v128.toNat]
def k0_off38 (i : grid0.Coords) (v129 : BitVec 32) : Fin 3 → Nat :=
  let arg0 : BitVec 32 := BitVec.ofNat 32 (i 0).val
  let c0_i32_74 : BitVec 32 := 0#32
  ![arg0.toNat, v129.toNat, 0]

def k0_off39 (i : grid0.Coords) : Fin 1 → Nat :=
  let arg0 : BitVec 32 := BitVec.ofNat 32 (i 0).val
  let c64_i32_75 : BitVec 32 := 64#32
  let v133 : BitVec 32 := Scalar.muli arg0 c64_i32_75
  let c19_i32 : BitVec 32 := 19#32
  let v134 : BitVec 32 := Scalar.addi v133 c19_i32
  let v135 : Index := Scalar.indexCast v134
  ![v135.toNat]
def k0_off40 (i : grid0.Coords) (v136 : BitVec 32) : Fin 3 → Nat :=
  let arg0 : BitVec 32 := BitVec.ofNat 32 (i 0).val
  let c0_i32_78 : BitVec 32 := 0#32
  ![arg0.toNat, v136.toNat, 0]

def k0_off41 (i : grid0.Coords) : Fin 1 → Nat :=
  let arg0 : BitVec 32 := BitVec.ofNat 32 (i 0).val
  let c64_i32_79 : BitVec 32 := 64#32
  let v140 : BitVec 32 := Scalar.muli arg0 c64_i32_79
  let c20_i32 : BitVec 32 := 20#32
  let v141 : BitVec 32 := Scalar.addi v140 c20_i32
  let v142 : Index := Scalar.indexCast v141
  ![v142.toNat]
def k0_off42 (i : grid0.Coords) (v143 : BitVec 32) : Fin 3 → Nat :=
  let arg0 : BitVec 32 := BitVec.ofNat 32 (i 0).val
  let c0_i32_82 : BitVec 32 := 0#32
  ![arg0.toNat, v143.toNat, 0]

def k0_off43 (i : grid0.Coords) : Fin 1 → Nat :=
  let arg0 : BitVec 32 := BitVec.ofNat 32 (i 0).val
  let c64_i32_83 : BitVec 32 := 64#32
  let v147 : BitVec 32 := Scalar.muli arg0 c64_i32_83
  let c21_i32 : BitVec 32 := 21#32
  let v148 : BitVec 32 := Scalar.addi v147 c21_i32
  let v149 : Index := Scalar.indexCast v148
  ![v149.toNat]
def k0_off44 (i : grid0.Coords) (v150 : BitVec 32) : Fin 3 → Nat :=
  let arg0 : BitVec 32 := BitVec.ofNat 32 (i 0).val
  let c0_i32_86 : BitVec 32 := 0#32
  ![arg0.toNat, v150.toNat, 0]

def k0_off45 (i : grid0.Coords) : Fin 1 → Nat :=
  let arg0 : BitVec 32 := BitVec.ofNat 32 (i 0).val
  let c64_i32_87 : BitVec 32 := 64#32
  let v154 : BitVec 32 := Scalar.muli arg0 c64_i32_87
  let c22_i32 : BitVec 32 := 22#32
  let v155 : BitVec 32 := Scalar.addi v154 c22_i32
  let v156 : Index := Scalar.indexCast v155
  ![v156.toNat]
def k0_off46 (i : grid0.Coords) (v157 : BitVec 32) : Fin 3 → Nat :=
  let arg0 : BitVec 32 := BitVec.ofNat 32 (i 0).val
  let c0_i32_90 : BitVec 32 := 0#32
  ![arg0.toNat, v157.toNat, 0]

def k0_off47 (i : grid0.Coords) : Fin 1 → Nat :=
  let arg0 : BitVec 32 := BitVec.ofNat 32 (i 0).val
  let c64_i32_91 : BitVec 32 := 64#32
  let v161 : BitVec 32 := Scalar.muli arg0 c64_i32_91
  let c23_i32 : BitVec 32 := 23#32
  let v162 : BitVec 32 := Scalar.addi v161 c23_i32
  let v163 : Index := Scalar.indexCast v162
  ![v163.toNat]
def k0_off48 (i : grid0.Coords) (v164 : BitVec 32) : Fin 3 → Nat :=
  let arg0 : BitVec 32 := BitVec.ofNat 32 (i 0).val
  let c0_i32_94 : BitVec 32 := 0#32
  ![arg0.toNat, v164.toNat, 0]

def k0_off49 (i : grid0.Coords) : Fin 1 → Nat :=
  let arg0 : BitVec 32 := BitVec.ofNat 32 (i 0).val
  let c64_i32_95 : BitVec 32 := 64#32
  let v168 : BitVec 32 := Scalar.muli arg0 c64_i32_95
  let c24_i32 : BitVec 32 := 24#32
  let v169 : BitVec 32 := Scalar.addi v168 c24_i32
  let v170 : Index := Scalar.indexCast v169
  ![v170.toNat]
def k0_off50 (i : grid0.Coords) (v171 : BitVec 32) : Fin 3 → Nat :=
  let arg0 : BitVec 32 := BitVec.ofNat 32 (i 0).val
  let c0_i32_98 : BitVec 32 := 0#32
  ![arg0.toNat, v171.toNat, 0]

def k0_off51 (i : grid0.Coords) : Fin 1 → Nat :=
  let arg0 : BitVec 32 := BitVec.ofNat 32 (i 0).val
  let c64_i32_99 : BitVec 32 := 64#32
  let v175 : BitVec 32 := Scalar.muli arg0 c64_i32_99
  let c25_i32 : BitVec 32 := 25#32
  let v176 : BitVec 32 := Scalar.addi v175 c25_i32
  let v177 : Index := Scalar.indexCast v176
  ![v177.toNat]
def k0_off52 (i : grid0.Coords) (v178 : BitVec 32) : Fin 3 → Nat :=
  let arg0 : BitVec 32 := BitVec.ofNat 32 (i 0).val
  let c0_i32_102 : BitVec 32 := 0#32
  ![arg0.toNat, v178.toNat, 0]

def k0_off53 (i : grid0.Coords) : Fin 1 → Nat :=
  let arg0 : BitVec 32 := BitVec.ofNat 32 (i 0).val
  let c64_i32_103 : BitVec 32 := 64#32
  let v182 : BitVec 32 := Scalar.muli arg0 c64_i32_103
  let c26_i32 : BitVec 32 := 26#32
  let v183 : BitVec 32 := Scalar.addi v182 c26_i32
  let v184 : Index := Scalar.indexCast v183
  ![v184.toNat]
def k0_off54 (i : grid0.Coords) (v185 : BitVec 32) : Fin 3 → Nat :=
  let arg0 : BitVec 32 := BitVec.ofNat 32 (i 0).val
  let c0_i32_106 : BitVec 32 := 0#32
  ![arg0.toNat, v185.toNat, 0]

def k0_off55 (i : grid0.Coords) : Fin 1 → Nat :=
  let arg0 : BitVec 32 := BitVec.ofNat 32 (i 0).val
  let c64_i32_107 : BitVec 32 := 64#32
  let v189 : BitVec 32 := Scalar.muli arg0 c64_i32_107
  let c27_i32 : BitVec 32 := 27#32
  let v190 : BitVec 32 := Scalar.addi v189 c27_i32
  let v191 : Index := Scalar.indexCast v190
  ![v191.toNat]
def k0_off56 (i : grid0.Coords) (v192 : BitVec 32) : Fin 3 → Nat :=
  let arg0 : BitVec 32 := BitVec.ofNat 32 (i 0).val
  let c0_i32_110 : BitVec 32 := 0#32
  ![arg0.toNat, v192.toNat, 0]

def k0_off57 (i : grid0.Coords) : Fin 1 → Nat :=
  let arg0 : BitVec 32 := BitVec.ofNat 32 (i 0).val
  let c64_i32_111 : BitVec 32 := 64#32
  let v196 : BitVec 32 := Scalar.muli arg0 c64_i32_111
  let c28_i32 : BitVec 32 := 28#32
  let v197 : BitVec 32 := Scalar.addi v196 c28_i32
  let v198 : Index := Scalar.indexCast v197
  ![v198.toNat]
def k0_off58 (i : grid0.Coords) (v199 : BitVec 32) : Fin 3 → Nat :=
  let arg0 : BitVec 32 := BitVec.ofNat 32 (i 0).val
  let c0_i32_114 : BitVec 32 := 0#32
  ![arg0.toNat, v199.toNat, 0]

def k0_off59 (i : grid0.Coords) : Fin 1 → Nat :=
  let arg0 : BitVec 32 := BitVec.ofNat 32 (i 0).val
  let c64_i32_115 : BitVec 32 := 64#32
  let v203 : BitVec 32 := Scalar.muli arg0 c64_i32_115
  let c29_i32 : BitVec 32 := 29#32
  let v204 : BitVec 32 := Scalar.addi v203 c29_i32
  let v205 : Index := Scalar.indexCast v204
  ![v205.toNat]
def k0_off60 (i : grid0.Coords) (v206 : BitVec 32) : Fin 3 → Nat :=
  let arg0 : BitVec 32 := BitVec.ofNat 32 (i 0).val
  let c0_i32_118 : BitVec 32 := 0#32
  ![arg0.toNat, v206.toNat, 0]

def k0_off61 (i : grid0.Coords) : Fin 1 → Nat :=
  let arg0 : BitVec 32 := BitVec.ofNat 32 (i 0).val
  let c64_i32_119 : BitVec 32 := 64#32
  let v210 : BitVec 32 := Scalar.muli arg0 c64_i32_119
  let c30_i32 : BitVec 32 := 30#32
  let v211 : BitVec 32 := Scalar.addi v210 c30_i32
  let v212 : Index := Scalar.indexCast v211
  ![v212.toNat]
def k0_off62 (i : grid0.Coords) (v213 : BitVec 32) : Fin 3 → Nat :=
  let arg0 : BitVec 32 := BitVec.ofNat 32 (i 0).val
  let c0_i32_122 : BitVec 32 := 0#32
  ![arg0.toNat, v213.toNat, 0]

def k0_off63 (i : grid0.Coords) : Fin 1 → Nat :=
  let arg0 : BitVec 32 := BitVec.ofNat 32 (i 0).val
  let c64_i32_123 : BitVec 32 := 64#32
  let v217 : BitVec 32 := Scalar.muli arg0 c64_i32_123
  let c31_i32 : BitVec 32 := 31#32
  let v218 : BitVec 32 := Scalar.addi v217 c31_i32
  let v219 : Index := Scalar.indexCast v218
  ![v219.toNat]
def k0_off64 (i : grid0.Coords) (v220 : BitVec 32) : Fin 3 → Nat :=
  let arg0 : BitVec 32 := BitVec.ofNat 32 (i 0).val
  let c0_i32_126 : BitVec 32 := 0#32
  ![arg0.toNat, v220.toNat, 0]

def k0_off65 (i : grid0.Coords) : Fin 1 → Nat :=
  let arg0 : BitVec 32 := BitVec.ofNat 32 (i 0).val
  let c64_i32_127 : BitVec 32 := 64#32
  let v224 : BitVec 32 := Scalar.muli arg0 c64_i32_127
  let c32_i32 : BitVec 32 := 32#32
  let v225 : BitVec 32 := Scalar.addi v224 c32_i32
  let v226 : Index := Scalar.indexCast v225
  ![v226.toNat]
def k0_off66 (i : grid0.Coords) (v227 : BitVec 32) : Fin 3 → Nat :=
  let arg0 : BitVec 32 := BitVec.ofNat 32 (i 0).val
  let c0_i32_130 : BitVec 32 := 0#32
  ![arg0.toNat, v227.toNat, 0]

def k0_off67 (i : grid0.Coords) : Fin 1 → Nat :=
  let arg0 : BitVec 32 := BitVec.ofNat 32 (i 0).val
  let c64_i32_131 : BitVec 32 := 64#32
  let v231 : BitVec 32 := Scalar.muli arg0 c64_i32_131
  let c33_i32 : BitVec 32 := 33#32
  let v232 : BitVec 32 := Scalar.addi v231 c33_i32
  let v233 : Index := Scalar.indexCast v232
  ![v233.toNat]
def k0_off68 (i : grid0.Coords) (v234 : BitVec 32) : Fin 3 → Nat :=
  let arg0 : BitVec 32 := BitVec.ofNat 32 (i 0).val
  let c0_i32_134 : BitVec 32 := 0#32
  ![arg0.toNat, v234.toNat, 0]

def k0_off69 (i : grid0.Coords) : Fin 1 → Nat :=
  let arg0 : BitVec 32 := BitVec.ofNat 32 (i 0).val
  let c64_i32_135 : BitVec 32 := 64#32
  let v238 : BitVec 32 := Scalar.muli arg0 c64_i32_135
  let c34_i32 : BitVec 32 := 34#32
  let v239 : BitVec 32 := Scalar.addi v238 c34_i32
  let v240 : Index := Scalar.indexCast v239
  ![v240.toNat]
def k0_off70 (i : grid0.Coords) (v241 : BitVec 32) : Fin 3 → Nat :=
  let arg0 : BitVec 32 := BitVec.ofNat 32 (i 0).val
  let c0_i32_138 : BitVec 32 := 0#32
  ![arg0.toNat, v241.toNat, 0]

def k0_off71 (i : grid0.Coords) : Fin 1 → Nat :=
  let arg0 : BitVec 32 := BitVec.ofNat 32 (i 0).val
  let c64_i32_139 : BitVec 32 := 64#32
  let v245 : BitVec 32 := Scalar.muli arg0 c64_i32_139
  let c35_i32 : BitVec 32 := 35#32
  let v246 : BitVec 32 := Scalar.addi v245 c35_i32
  let v247 : Index := Scalar.indexCast v246
  ![v247.toNat]
def k0_off72 (i : grid0.Coords) (v248 : BitVec 32) : Fin 3 → Nat :=
  let arg0 : BitVec 32 := BitVec.ofNat 32 (i 0).val
  let c0_i32_142 : BitVec 32 := 0#32
  ![arg0.toNat, v248.toNat, 0]

def k0_off73 (i : grid0.Coords) : Fin 1 → Nat :=
  let arg0 : BitVec 32 := BitVec.ofNat 32 (i 0).val
  let c64_i32_143 : BitVec 32 := 64#32
  let v252 : BitVec 32 := Scalar.muli arg0 c64_i32_143
  let c36_i32 : BitVec 32 := 36#32
  let v253 : BitVec 32 := Scalar.addi v252 c36_i32
  let v254 : Index := Scalar.indexCast v253
  ![v254.toNat]
def k0_off74 (i : grid0.Coords) (v255 : BitVec 32) : Fin 3 → Nat :=
  let arg0 : BitVec 32 := BitVec.ofNat 32 (i 0).val
  let c0_i32_146 : BitVec 32 := 0#32
  ![arg0.toNat, v255.toNat, 0]

def k0_off75 (i : grid0.Coords) : Fin 1 → Nat :=
  let arg0 : BitVec 32 := BitVec.ofNat 32 (i 0).val
  let c64_i32_147 : BitVec 32 := 64#32
  let v259 : BitVec 32 := Scalar.muli arg0 c64_i32_147
  let c37_i32 : BitVec 32 := 37#32
  let v260 : BitVec 32 := Scalar.addi v259 c37_i32
  let v261 : Index := Scalar.indexCast v260
  ![v261.toNat]
def k0_off76 (i : grid0.Coords) (v262 : BitVec 32) : Fin 3 → Nat :=
  let arg0 : BitVec 32 := BitVec.ofNat 32 (i 0).val
  let c0_i32_150 : BitVec 32 := 0#32
  ![arg0.toNat, v262.toNat, 0]

def k0_off77 (i : grid0.Coords) : Fin 1 → Nat :=
  let arg0 : BitVec 32 := BitVec.ofNat 32 (i 0).val
  let c64_i32_151 : BitVec 32 := 64#32
  let v266 : BitVec 32 := Scalar.muli arg0 c64_i32_151
  let c38_i32 : BitVec 32 := 38#32
  let v267 : BitVec 32 := Scalar.addi v266 c38_i32
  let v268 : Index := Scalar.indexCast v267
  ![v268.toNat]
def k0_off78 (i : grid0.Coords) (v269 : BitVec 32) : Fin 3 → Nat :=
  let arg0 : BitVec 32 := BitVec.ofNat 32 (i 0).val
  let c0_i32_154 : BitVec 32 := 0#32
  ![arg0.toNat, v269.toNat, 0]

def k0_off79 (i : grid0.Coords) : Fin 1 → Nat :=
  let arg0 : BitVec 32 := BitVec.ofNat 32 (i 0).val
  let c64_i32_155 : BitVec 32 := 64#32
  let v273 : BitVec 32 := Scalar.muli arg0 c64_i32_155
  let c39_i32 : BitVec 32 := 39#32
  let v274 : BitVec 32 := Scalar.addi v273 c39_i32
  let v275 : Index := Scalar.indexCast v274
  ![v275.toNat]
def k0_off80 (i : grid0.Coords) (v276 : BitVec 32) : Fin 3 → Nat :=
  let arg0 : BitVec 32 := BitVec.ofNat 32 (i 0).val
  let c0_i32_158 : BitVec 32 := 0#32
  ![arg0.toNat, v276.toNat, 0]

def k0_off81 (i : grid0.Coords) : Fin 1 → Nat :=
  let arg0 : BitVec 32 := BitVec.ofNat 32 (i 0).val
  let c64_i32_159 : BitVec 32 := 64#32
  let v280 : BitVec 32 := Scalar.muli arg0 c64_i32_159
  let c40_i32 : BitVec 32 := 40#32
  let v281 : BitVec 32 := Scalar.addi v280 c40_i32
  let v282 : Index := Scalar.indexCast v281
  ![v282.toNat]
def k0_off82 (i : grid0.Coords) (v283 : BitVec 32) : Fin 3 → Nat :=
  let arg0 : BitVec 32 := BitVec.ofNat 32 (i 0).val
  let c0_i32_162 : BitVec 32 := 0#32
  ![arg0.toNat, v283.toNat, 0]

def k0_off83 (i : grid0.Coords) : Fin 1 → Nat :=
  let arg0 : BitVec 32 := BitVec.ofNat 32 (i 0).val
  let c64_i32_163 : BitVec 32 := 64#32
  let v287 : BitVec 32 := Scalar.muli arg0 c64_i32_163
  let c41_i32 : BitVec 32 := 41#32
  let v288 : BitVec 32 := Scalar.addi v287 c41_i32
  let v289 : Index := Scalar.indexCast v288
  ![v289.toNat]
def k0_off84 (i : grid0.Coords) (v290 : BitVec 32) : Fin 3 → Nat :=
  let arg0 : BitVec 32 := BitVec.ofNat 32 (i 0).val
  let c0_i32_166 : BitVec 32 := 0#32
  ![arg0.toNat, v290.toNat, 0]

def k0_off85 (i : grid0.Coords) : Fin 1 → Nat :=
  let arg0 : BitVec 32 := BitVec.ofNat 32 (i 0).val
  let c64_i32_167 : BitVec 32 := 64#32
  let v294 : BitVec 32 := Scalar.muli arg0 c64_i32_167
  let c42_i32 : BitVec 32 := 42#32
  let v295 : BitVec 32 := Scalar.addi v294 c42_i32
  let v296 : Index := Scalar.indexCast v295
  ![v296.toNat]
def k0_off86 (i : grid0.Coords) (v297 : BitVec 32) : Fin 3 → Nat :=
  let arg0 : BitVec 32 := BitVec.ofNat 32 (i 0).val
  let c0_i32_170 : BitVec 32 := 0#32
  ![arg0.toNat, v297.toNat, 0]

def k0_off87 (i : grid0.Coords) : Fin 1 → Nat :=
  let arg0 : BitVec 32 := BitVec.ofNat 32 (i 0).val
  let c64_i32_171 : BitVec 32 := 64#32
  let v301 : BitVec 32 := Scalar.muli arg0 c64_i32_171
  let c43_i32 : BitVec 32 := 43#32
  let v302 : BitVec 32 := Scalar.addi v301 c43_i32
  let v303 : Index := Scalar.indexCast v302
  ![v303.toNat]
def k0_off88 (i : grid0.Coords) (v304 : BitVec 32) : Fin 3 → Nat :=
  let arg0 : BitVec 32 := BitVec.ofNat 32 (i 0).val
  let c0_i32_174 : BitVec 32 := 0#32
  ![arg0.toNat, v304.toNat, 0]

def k0_off89 (i : grid0.Coords) : Fin 1 → Nat :=
  let arg0 : BitVec 32 := BitVec.ofNat 32 (i 0).val
  let c64_i32_175 : BitVec 32 := 64#32
  let v308 : BitVec 32 := Scalar.muli arg0 c64_i32_175
  let c44_i32 : BitVec 32 := 44#32
  let v309 : BitVec 32 := Scalar.addi v308 c44_i32
  let v310 : Index := Scalar.indexCast v309
  ![v310.toNat]
def k0_off90 (i : grid0.Coords) (v311 : BitVec 32) : Fin 3 → Nat :=
  let arg0 : BitVec 32 := BitVec.ofNat 32 (i 0).val
  let c0_i32_178 : BitVec 32 := 0#32
  ![arg0.toNat, v311.toNat, 0]

def k0_chk45 (i : grid0.Coords) (v311 : BitVec 32) : Prop :=
  (∀ a, (k0_off90 i v311) a + S1x1x64.size a ≤ S32x4096x64.size a)
theorem k0_off90_inb : ∀ (i : grid0.Coords) (v311 : BitVec 32) (k0_hw45 : k0_chk45 i v311), ∀ a, (k0_off90 i v311) a + S1x1x64.size a ≤ S32x4096x64.size a := fun i v311 k0_hw45 => k0_hw45

def k0_off91 (i : grid0.Coords) (v3 : BitVec 32) : Fin 3 → Nat :=
  let arg0 : BitVec 32 := BitVec.ofNat 32 (i 0).val
  let c0_i32_181 : BitVec 32 := 0#32
  ![arg0.toNat, v3.toNat, 0]

def k0_chk1 (i : grid0.Coords) (v3 : BitVec 32) : Prop :=
  (∀ a, (k0_off2 i v3) a + S1x1x64.size a ≤ S32x4096x64.size a) ∧
  (∀ a, (k0_off91 i v3) a + S1x1x64.size a ≤ S32x4096x64.size a)
theorem k0_off2_inb : ∀ (i : grid0.Coords) (v3 : BitVec 32) (k0_hw1 : k0_chk1 i v3), ∀ a, (k0_off2 i v3) a + S1x1x64.size a ≤ S32x4096x64.size a := fun i v3 k0_hw1 => k0_hw1.1
theorem k0_off91_inb : ∀ (i : grid0.Coords) (v3 : BitVec 32) (k0_hw1 : k0_chk1 i v3), ∀ a, (k0_off91 i v3) a + S1x1x64.size a ≤ S32x4096x64.size a := fun i v3 k0_hw1 => k0_hw1.2

def k0_off92 (i : grid0.Coords) (v10 : BitVec 32) : Fin 3 → Nat :=
  let arg0 : BitVec 32 := BitVec.ofNat 32 (i 0).val
  let c0_i32_184 : BitVec 32 := 0#32
  ![arg0.toNat, v10.toNat, 0]

def k0_chk2 (i : grid0.Coords) (v10 : BitVec 32) : Prop :=
  (∀ a, (k0_off4 i v10) a + S1x1x64.size a ≤ S32x4096x64.size a) ∧
  (∀ a, (k0_off92 i v10) a + S1x1x64.size a ≤ S32x4096x64.size a)
theorem k0_off4_inb : ∀ (i : grid0.Coords) (v10 : BitVec 32) (k0_hw2 : k0_chk2 i v10), ∀ a, (k0_off4 i v10) a + S1x1x64.size a ≤ S32x4096x64.size a := fun i v10 k0_hw2 => k0_hw2.1
theorem k0_off92_inb : ∀ (i : grid0.Coords) (v10 : BitVec 32) (k0_hw2 : k0_chk2 i v10), ∀ a, (k0_off92 i v10) a + S1x1x64.size a ≤ S32x4096x64.size a := fun i v10 k0_hw2 => k0_hw2.2

def k0_off93 (i : grid0.Coords) (v17 : BitVec 32) : Fin 3 → Nat :=
  let arg0 : BitVec 32 := BitVec.ofNat 32 (i 0).val
  let c0_i32_187 : BitVec 32 := 0#32
  ![arg0.toNat, v17.toNat, 0]

def k0_chk3 (i : grid0.Coords) (v17 : BitVec 32) : Prop :=
  (∀ a, (k0_off6 i v17) a + S1x1x64.size a ≤ S32x4096x64.size a) ∧
  (∀ a, (k0_off93 i v17) a + S1x1x64.size a ≤ S32x4096x64.size a)
theorem k0_off6_inb : ∀ (i : grid0.Coords) (v17 : BitVec 32) (k0_hw3 : k0_chk3 i v17), ∀ a, (k0_off6 i v17) a + S1x1x64.size a ≤ S32x4096x64.size a := fun i v17 k0_hw3 => k0_hw3.1
theorem k0_off93_inb : ∀ (i : grid0.Coords) (v17 : BitVec 32) (k0_hw3 : k0_chk3 i v17), ∀ a, (k0_off93 i v17) a + S1x1x64.size a ≤ S32x4096x64.size a := fun i v17 k0_hw3 => k0_hw3.2

def k0_off94 (i : grid0.Coords) (v24 : BitVec 32) : Fin 3 → Nat :=
  let arg0 : BitVec 32 := BitVec.ofNat 32 (i 0).val
  let c0_i32_190 : BitVec 32 := 0#32
  ![arg0.toNat, v24.toNat, 0]

def k0_chk4 (i : grid0.Coords) (v24 : BitVec 32) : Prop :=
  (∀ a, (k0_off8 i v24) a + S1x1x64.size a ≤ S32x4096x64.size a) ∧
  (∀ a, (k0_off94 i v24) a + S1x1x64.size a ≤ S32x4096x64.size a)
theorem k0_off8_inb : ∀ (i : grid0.Coords) (v24 : BitVec 32) (k0_hw4 : k0_chk4 i v24), ∀ a, (k0_off8 i v24) a + S1x1x64.size a ≤ S32x4096x64.size a := fun i v24 k0_hw4 => k0_hw4.1
theorem k0_off94_inb : ∀ (i : grid0.Coords) (v24 : BitVec 32) (k0_hw4 : k0_chk4 i v24), ∀ a, (k0_off94 i v24) a + S1x1x64.size a ≤ S32x4096x64.size a := fun i v24 k0_hw4 => k0_hw4.2

def k0_off95 (i : grid0.Coords) (v31 : BitVec 32) : Fin 3 → Nat :=
  let arg0 : BitVec 32 := BitVec.ofNat 32 (i 0).val
  let c0_i32_193 : BitVec 32 := 0#32
  ![arg0.toNat, v31.toNat, 0]

def k0_chk5 (i : grid0.Coords) (v31 : BitVec 32) : Prop :=
  (∀ a, (k0_off10 i v31) a + S1x1x64.size a ≤ S32x4096x64.size a) ∧
  (∀ a, (k0_off95 i v31) a + S1x1x64.size a ≤ S32x4096x64.size a)
theorem k0_off10_inb : ∀ (i : grid0.Coords) (v31 : BitVec 32) (k0_hw5 : k0_chk5 i v31), ∀ a, (k0_off10 i v31) a + S1x1x64.size a ≤ S32x4096x64.size a := fun i v31 k0_hw5 => k0_hw5.1
theorem k0_off95_inb : ∀ (i : grid0.Coords) (v31 : BitVec 32) (k0_hw5 : k0_chk5 i v31), ∀ a, (k0_off95 i v31) a + S1x1x64.size a ≤ S32x4096x64.size a := fun i v31 k0_hw5 => k0_hw5.2

def k0_off96 (i : grid0.Coords) (v38 : BitVec 32) : Fin 3 → Nat :=
  let arg0 : BitVec 32 := BitVec.ofNat 32 (i 0).val
  let c0_i32_196 : BitVec 32 := 0#32
  ![arg0.toNat, v38.toNat, 0]

def k0_chk6 (i : grid0.Coords) (v38 : BitVec 32) : Prop :=
  (∀ a, (k0_off12 i v38) a + S1x1x64.size a ≤ S32x4096x64.size a) ∧
  (∀ a, (k0_off96 i v38) a + S1x1x64.size a ≤ S32x4096x64.size a)
theorem k0_off12_inb : ∀ (i : grid0.Coords) (v38 : BitVec 32) (k0_hw6 : k0_chk6 i v38), ∀ a, (k0_off12 i v38) a + S1x1x64.size a ≤ S32x4096x64.size a := fun i v38 k0_hw6 => k0_hw6.1
theorem k0_off96_inb : ∀ (i : grid0.Coords) (v38 : BitVec 32) (k0_hw6 : k0_chk6 i v38), ∀ a, (k0_off96 i v38) a + S1x1x64.size a ≤ S32x4096x64.size a := fun i v38 k0_hw6 => k0_hw6.2

def k0_off97 (i : grid0.Coords) (v45 : BitVec 32) : Fin 3 → Nat :=
  let arg0 : BitVec 32 := BitVec.ofNat 32 (i 0).val
  let c0_i32_199 : BitVec 32 := 0#32
  ![arg0.toNat, v45.toNat, 0]

def k0_chk7 (i : grid0.Coords) (v45 : BitVec 32) : Prop :=
  (∀ a, (k0_off14 i v45) a + S1x1x64.size a ≤ S32x4096x64.size a) ∧
  (∀ a, (k0_off97 i v45) a + S1x1x64.size a ≤ S32x4096x64.size a)
theorem k0_off14_inb : ∀ (i : grid0.Coords) (v45 : BitVec 32) (k0_hw7 : k0_chk7 i v45), ∀ a, (k0_off14 i v45) a + S1x1x64.size a ≤ S32x4096x64.size a := fun i v45 k0_hw7 => k0_hw7.1
theorem k0_off97_inb : ∀ (i : grid0.Coords) (v45 : BitVec 32) (k0_hw7 : k0_chk7 i v45), ∀ a, (k0_off97 i v45) a + S1x1x64.size a ≤ S32x4096x64.size a := fun i v45 k0_hw7 => k0_hw7.2

def k0_off98 (i : grid0.Coords) (v52 : BitVec 32) : Fin 3 → Nat :=
  let arg0 : BitVec 32 := BitVec.ofNat 32 (i 0).val
  let c0_i32_202 : BitVec 32 := 0#32
  ![arg0.toNat, v52.toNat, 0]

def k0_chk8 (i : grid0.Coords) (v52 : BitVec 32) : Prop :=
  (∀ a, (k0_off16 i v52) a + S1x1x64.size a ≤ S32x4096x64.size a) ∧
  (∀ a, (k0_off98 i v52) a + S1x1x64.size a ≤ S32x4096x64.size a)
theorem k0_off16_inb : ∀ (i : grid0.Coords) (v52 : BitVec 32) (k0_hw8 : k0_chk8 i v52), ∀ a, (k0_off16 i v52) a + S1x1x64.size a ≤ S32x4096x64.size a := fun i v52 k0_hw8 => k0_hw8.1
theorem k0_off98_inb : ∀ (i : grid0.Coords) (v52 : BitVec 32) (k0_hw8 : k0_chk8 i v52), ∀ a, (k0_off98 i v52) a + S1x1x64.size a ≤ S32x4096x64.size a := fun i v52 k0_hw8 => k0_hw8.2

def k0_off99 (i : grid0.Coords) (v59 : BitVec 32) : Fin 3 → Nat :=
  let arg0 : BitVec 32 := BitVec.ofNat 32 (i 0).val
  let c0_i32_205 : BitVec 32 := 0#32
  ![arg0.toNat, v59.toNat, 0]

def k0_chk9 (i : grid0.Coords) (v59 : BitVec 32) : Prop :=
  (∀ a, (k0_off18 i v59) a + S1x1x64.size a ≤ S32x4096x64.size a) ∧
  (∀ a, (k0_off99 i v59) a + S1x1x64.size a ≤ S32x4096x64.size a)
theorem k0_off18_inb : ∀ (i : grid0.Coords) (v59 : BitVec 32) (k0_hw9 : k0_chk9 i v59), ∀ a, (k0_off18 i v59) a + S1x1x64.size a ≤ S32x4096x64.size a := fun i v59 k0_hw9 => k0_hw9.1
theorem k0_off99_inb : ∀ (i : grid0.Coords) (v59 : BitVec 32) (k0_hw9 : k0_chk9 i v59), ∀ a, (k0_off99 i v59) a + S1x1x64.size a ≤ S32x4096x64.size a := fun i v59 k0_hw9 => k0_hw9.2

def k0_off100 (i : grid0.Coords) (v66 : BitVec 32) : Fin 3 → Nat :=
  let arg0 : BitVec 32 := BitVec.ofNat 32 (i 0).val
  let c0_i32_208 : BitVec 32 := 0#32
  ![arg0.toNat, v66.toNat, 0]

def k0_chk10 (i : grid0.Coords) (v66 : BitVec 32) : Prop :=
  (∀ a, (k0_off20 i v66) a + S1x1x64.size a ≤ S32x4096x64.size a) ∧
  (∀ a, (k0_off100 i v66) a + S1x1x64.size a ≤ S32x4096x64.size a)
theorem k0_off20_inb : ∀ (i : grid0.Coords) (v66 : BitVec 32) (k0_hw10 : k0_chk10 i v66), ∀ a, (k0_off20 i v66) a + S1x1x64.size a ≤ S32x4096x64.size a := fun i v66 k0_hw10 => k0_hw10.1
theorem k0_off100_inb : ∀ (i : grid0.Coords) (v66 : BitVec 32) (k0_hw10 : k0_chk10 i v66), ∀ a, (k0_off100 i v66) a + S1x1x64.size a ≤ S32x4096x64.size a := fun i v66 k0_hw10 => k0_hw10.2

def k0_off101 (i : grid0.Coords) (v73 : BitVec 32) : Fin 3 → Nat :=
  let arg0 : BitVec 32 := BitVec.ofNat 32 (i 0).val
  let c0_i32_211 : BitVec 32 := 0#32
  ![arg0.toNat, v73.toNat, 0]

def k0_chk11 (i : grid0.Coords) (v73 : BitVec 32) : Prop :=
  (∀ a, (k0_off22 i v73) a + S1x1x64.size a ≤ S32x4096x64.size a) ∧
  (∀ a, (k0_off101 i v73) a + S1x1x64.size a ≤ S32x4096x64.size a)
theorem k0_off22_inb : ∀ (i : grid0.Coords) (v73 : BitVec 32) (k0_hw11 : k0_chk11 i v73), ∀ a, (k0_off22 i v73) a + S1x1x64.size a ≤ S32x4096x64.size a := fun i v73 k0_hw11 => k0_hw11.1
theorem k0_off101_inb : ∀ (i : grid0.Coords) (v73 : BitVec 32) (k0_hw11 : k0_chk11 i v73), ∀ a, (k0_off101 i v73) a + S1x1x64.size a ≤ S32x4096x64.size a := fun i v73 k0_hw11 => k0_hw11.2

def k0_off102 (i : grid0.Coords) (v80 : BitVec 32) : Fin 3 → Nat :=
  let arg0 : BitVec 32 := BitVec.ofNat 32 (i 0).val
  let c0_i32_214 : BitVec 32 := 0#32
  ![arg0.toNat, v80.toNat, 0]

def k0_chk12 (i : grid0.Coords) (v80 : BitVec 32) : Prop :=
  (∀ a, (k0_off24 i v80) a + S1x1x64.size a ≤ S32x4096x64.size a) ∧
  (∀ a, (k0_off102 i v80) a + S1x1x64.size a ≤ S32x4096x64.size a)
theorem k0_off24_inb : ∀ (i : grid0.Coords) (v80 : BitVec 32) (k0_hw12 : k0_chk12 i v80), ∀ a, (k0_off24 i v80) a + S1x1x64.size a ≤ S32x4096x64.size a := fun i v80 k0_hw12 => k0_hw12.1
theorem k0_off102_inb : ∀ (i : grid0.Coords) (v80 : BitVec 32) (k0_hw12 : k0_chk12 i v80), ∀ a, (k0_off102 i v80) a + S1x1x64.size a ≤ S32x4096x64.size a := fun i v80 k0_hw12 => k0_hw12.2

def k0_off103 (i : grid0.Coords) (v87 : BitVec 32) : Fin 3 → Nat :=
  let arg0 : BitVec 32 := BitVec.ofNat 32 (i 0).val
  let c0_i32_217 : BitVec 32 := 0#32
  ![arg0.toNat, v87.toNat, 0]

def k0_chk13 (i : grid0.Coords) (v87 : BitVec 32) : Prop :=
  (∀ a, (k0_off26 i v87) a + S1x1x64.size a ≤ S32x4096x64.size a) ∧
  (∀ a, (k0_off103 i v87) a + S1x1x64.size a ≤ S32x4096x64.size a)
theorem k0_off26_inb : ∀ (i : grid0.Coords) (v87 : BitVec 32) (k0_hw13 : k0_chk13 i v87), ∀ a, (k0_off26 i v87) a + S1x1x64.size a ≤ S32x4096x64.size a := fun i v87 k0_hw13 => k0_hw13.1
theorem k0_off103_inb : ∀ (i : grid0.Coords) (v87 : BitVec 32) (k0_hw13 : k0_chk13 i v87), ∀ a, (k0_off103 i v87) a + S1x1x64.size a ≤ S32x4096x64.size a := fun i v87 k0_hw13 => k0_hw13.2

def k0_off104 (i : grid0.Coords) (v94 : BitVec 32) : Fin 3 → Nat :=
  let arg0 : BitVec 32 := BitVec.ofNat 32 (i 0).val
  let c0_i32_220 : BitVec 32 := 0#32
  ![arg0.toNat, v94.toNat, 0]

def k0_chk14 (i : grid0.Coords) (v94 : BitVec 32) : Prop :=
  (∀ a, (k0_off28 i v94) a + S1x1x64.size a ≤ S32x4096x64.size a) ∧
  (∀ a, (k0_off104 i v94) a + S1x1x64.size a ≤ S32x4096x64.size a)
theorem k0_off28_inb : ∀ (i : grid0.Coords) (v94 : BitVec 32) (k0_hw14 : k0_chk14 i v94), ∀ a, (k0_off28 i v94) a + S1x1x64.size a ≤ S32x4096x64.size a := fun i v94 k0_hw14 => k0_hw14.1
theorem k0_off104_inb : ∀ (i : grid0.Coords) (v94 : BitVec 32) (k0_hw14 : k0_chk14 i v94), ∀ a, (k0_off104 i v94) a + S1x1x64.size a ≤ S32x4096x64.size a := fun i v94 k0_hw14 => k0_hw14.2

def k0_off105 (i : grid0.Coords) (v101 : BitVec 32) : Fin 3 → Nat :=
  let arg0 : BitVec 32 := BitVec.ofNat 32 (i 0).val
  let c0_i32_223 : BitVec 32 := 0#32
  ![arg0.toNat, v101.toNat, 0]

def k0_chk15 (i : grid0.Coords) (v101 : BitVec 32) : Prop :=
  (∀ a, (k0_off30 i v101) a + S1x1x64.size a ≤ S32x4096x64.size a) ∧
  (∀ a, (k0_off105 i v101) a + S1x1x64.size a ≤ S32x4096x64.size a)
theorem k0_off30_inb : ∀ (i : grid0.Coords) (v101 : BitVec 32) (k0_hw15 : k0_chk15 i v101), ∀ a, (k0_off30 i v101) a + S1x1x64.size a ≤ S32x4096x64.size a := fun i v101 k0_hw15 => k0_hw15.1
theorem k0_off105_inb : ∀ (i : grid0.Coords) (v101 : BitVec 32) (k0_hw15 : k0_chk15 i v101), ∀ a, (k0_off105 i v101) a + S1x1x64.size a ≤ S32x4096x64.size a := fun i v101 k0_hw15 => k0_hw15.2

def k0_off106 (i : grid0.Coords) (v108 : BitVec 32) : Fin 3 → Nat :=
  let arg0 : BitVec 32 := BitVec.ofNat 32 (i 0).val
  let c0_i32_226 : BitVec 32 := 0#32
  ![arg0.toNat, v108.toNat, 0]

def k0_chk16 (i : grid0.Coords) (v108 : BitVec 32) : Prop :=
  (∀ a, (k0_off32 i v108) a + S1x1x64.size a ≤ S32x4096x64.size a) ∧
  (∀ a, (k0_off106 i v108) a + S1x1x64.size a ≤ S32x4096x64.size a)
theorem k0_off32_inb : ∀ (i : grid0.Coords) (v108 : BitVec 32) (k0_hw16 : k0_chk16 i v108), ∀ a, (k0_off32 i v108) a + S1x1x64.size a ≤ S32x4096x64.size a := fun i v108 k0_hw16 => k0_hw16.1
theorem k0_off106_inb : ∀ (i : grid0.Coords) (v108 : BitVec 32) (k0_hw16 : k0_chk16 i v108), ∀ a, (k0_off106 i v108) a + S1x1x64.size a ≤ S32x4096x64.size a := fun i v108 k0_hw16 => k0_hw16.2

def k0_off107 (i : grid0.Coords) (v115 : BitVec 32) : Fin 3 → Nat :=
  let arg0 : BitVec 32 := BitVec.ofNat 32 (i 0).val
  let c0_i32_229 : BitVec 32 := 0#32
  ![arg0.toNat, v115.toNat, 0]

def k0_chk17 (i : grid0.Coords) (v115 : BitVec 32) : Prop :=
  (∀ a, (k0_off34 i v115) a + S1x1x64.size a ≤ S32x4096x64.size a) ∧
  (∀ a, (k0_off107 i v115) a + S1x1x64.size a ≤ S32x4096x64.size a)
theorem k0_off34_inb : ∀ (i : grid0.Coords) (v115 : BitVec 32) (k0_hw17 : k0_chk17 i v115), ∀ a, (k0_off34 i v115) a + S1x1x64.size a ≤ S32x4096x64.size a := fun i v115 k0_hw17 => k0_hw17.1
theorem k0_off107_inb : ∀ (i : grid0.Coords) (v115 : BitVec 32) (k0_hw17 : k0_chk17 i v115), ∀ a, (k0_off107 i v115) a + S1x1x64.size a ≤ S32x4096x64.size a := fun i v115 k0_hw17 => k0_hw17.2

def k0_off108 (i : grid0.Coords) (v122 : BitVec 32) : Fin 3 → Nat :=
  let arg0 : BitVec 32 := BitVec.ofNat 32 (i 0).val
  let c0_i32_232 : BitVec 32 := 0#32
  ![arg0.toNat, v122.toNat, 0]

def k0_chk18 (i : grid0.Coords) (v122 : BitVec 32) : Prop :=
  (∀ a, (k0_off36 i v122) a + S1x1x64.size a ≤ S32x4096x64.size a) ∧
  (∀ a, (k0_off108 i v122) a + S1x1x64.size a ≤ S32x4096x64.size a)
theorem k0_off36_inb : ∀ (i : grid0.Coords) (v122 : BitVec 32) (k0_hw18 : k0_chk18 i v122), ∀ a, (k0_off36 i v122) a + S1x1x64.size a ≤ S32x4096x64.size a := fun i v122 k0_hw18 => k0_hw18.1
theorem k0_off108_inb : ∀ (i : grid0.Coords) (v122 : BitVec 32) (k0_hw18 : k0_chk18 i v122), ∀ a, (k0_off108 i v122) a + S1x1x64.size a ≤ S32x4096x64.size a := fun i v122 k0_hw18 => k0_hw18.2

def k0_off109 (i : grid0.Coords) (v129 : BitVec 32) : Fin 3 → Nat :=
  let arg0 : BitVec 32 := BitVec.ofNat 32 (i 0).val
  let c0_i32_235 : BitVec 32 := 0#32
  ![arg0.toNat, v129.toNat, 0]

def k0_chk19 (i : grid0.Coords) (v129 : BitVec 32) : Prop :=
  (∀ a, (k0_off38 i v129) a + S1x1x64.size a ≤ S32x4096x64.size a) ∧
  (∀ a, (k0_off109 i v129) a + S1x1x64.size a ≤ S32x4096x64.size a)
theorem k0_off38_inb : ∀ (i : grid0.Coords) (v129 : BitVec 32) (k0_hw19 : k0_chk19 i v129), ∀ a, (k0_off38 i v129) a + S1x1x64.size a ≤ S32x4096x64.size a := fun i v129 k0_hw19 => k0_hw19.1
theorem k0_off109_inb : ∀ (i : grid0.Coords) (v129 : BitVec 32) (k0_hw19 : k0_chk19 i v129), ∀ a, (k0_off109 i v129) a + S1x1x64.size a ≤ S32x4096x64.size a := fun i v129 k0_hw19 => k0_hw19.2

def k0_off110 (i : grid0.Coords) (v136 : BitVec 32) : Fin 3 → Nat :=
  let arg0 : BitVec 32 := BitVec.ofNat 32 (i 0).val
  let c0_i32_238 : BitVec 32 := 0#32
  ![arg0.toNat, v136.toNat, 0]

def k0_chk20 (i : grid0.Coords) (v136 : BitVec 32) : Prop :=
  (∀ a, (k0_off40 i v136) a + S1x1x64.size a ≤ S32x4096x64.size a) ∧
  (∀ a, (k0_off110 i v136) a + S1x1x64.size a ≤ S32x4096x64.size a)
theorem k0_off40_inb : ∀ (i : grid0.Coords) (v136 : BitVec 32) (k0_hw20 : k0_chk20 i v136), ∀ a, (k0_off40 i v136) a + S1x1x64.size a ≤ S32x4096x64.size a := fun i v136 k0_hw20 => k0_hw20.1
theorem k0_off110_inb : ∀ (i : grid0.Coords) (v136 : BitVec 32) (k0_hw20 : k0_chk20 i v136), ∀ a, (k0_off110 i v136) a + S1x1x64.size a ≤ S32x4096x64.size a := fun i v136 k0_hw20 => k0_hw20.2

def k0_off111 (i : grid0.Coords) (v143 : BitVec 32) : Fin 3 → Nat :=
  let arg0 : BitVec 32 := BitVec.ofNat 32 (i 0).val
  let c0_i32_241 : BitVec 32 := 0#32
  ![arg0.toNat, v143.toNat, 0]

def k0_chk21 (i : grid0.Coords) (v143 : BitVec 32) : Prop :=
  (∀ a, (k0_off42 i v143) a + S1x1x64.size a ≤ S32x4096x64.size a) ∧
  (∀ a, (k0_off111 i v143) a + S1x1x64.size a ≤ S32x4096x64.size a)
theorem k0_off42_inb : ∀ (i : grid0.Coords) (v143 : BitVec 32) (k0_hw21 : k0_chk21 i v143), ∀ a, (k0_off42 i v143) a + S1x1x64.size a ≤ S32x4096x64.size a := fun i v143 k0_hw21 => k0_hw21.1
theorem k0_off111_inb : ∀ (i : grid0.Coords) (v143 : BitVec 32) (k0_hw21 : k0_chk21 i v143), ∀ a, (k0_off111 i v143) a + S1x1x64.size a ≤ S32x4096x64.size a := fun i v143 k0_hw21 => k0_hw21.2

def k0_off112 (i : grid0.Coords) (v150 : BitVec 32) : Fin 3 → Nat :=
  let arg0 : BitVec 32 := BitVec.ofNat 32 (i 0).val
  let c0_i32_244 : BitVec 32 := 0#32
  ![arg0.toNat, v150.toNat, 0]

def k0_chk22 (i : grid0.Coords) (v150 : BitVec 32) : Prop :=
  (∀ a, (k0_off44 i v150) a + S1x1x64.size a ≤ S32x4096x64.size a) ∧
  (∀ a, (k0_off112 i v150) a + S1x1x64.size a ≤ S32x4096x64.size a)
theorem k0_off44_inb : ∀ (i : grid0.Coords) (v150 : BitVec 32) (k0_hw22 : k0_chk22 i v150), ∀ a, (k0_off44 i v150) a + S1x1x64.size a ≤ S32x4096x64.size a := fun i v150 k0_hw22 => k0_hw22.1
theorem k0_off112_inb : ∀ (i : grid0.Coords) (v150 : BitVec 32) (k0_hw22 : k0_chk22 i v150), ∀ a, (k0_off112 i v150) a + S1x1x64.size a ≤ S32x4096x64.size a := fun i v150 k0_hw22 => k0_hw22.2

def k0_off113 (i : grid0.Coords) (v157 : BitVec 32) : Fin 3 → Nat :=
  let arg0 : BitVec 32 := BitVec.ofNat 32 (i 0).val
  let c0_i32_247 : BitVec 32 := 0#32
  ![arg0.toNat, v157.toNat, 0]

def k0_chk23 (i : grid0.Coords) (v157 : BitVec 32) : Prop :=
  (∀ a, (k0_off46 i v157) a + S1x1x64.size a ≤ S32x4096x64.size a) ∧
  (∀ a, (k0_off113 i v157) a + S1x1x64.size a ≤ S32x4096x64.size a)
theorem k0_off46_inb : ∀ (i : grid0.Coords) (v157 : BitVec 32) (k0_hw23 : k0_chk23 i v157), ∀ a, (k0_off46 i v157) a + S1x1x64.size a ≤ S32x4096x64.size a := fun i v157 k0_hw23 => k0_hw23.1
theorem k0_off113_inb : ∀ (i : grid0.Coords) (v157 : BitVec 32) (k0_hw23 : k0_chk23 i v157), ∀ a, (k0_off113 i v157) a + S1x1x64.size a ≤ S32x4096x64.size a := fun i v157 k0_hw23 => k0_hw23.2

def k0_off114 (i : grid0.Coords) (v164 : BitVec 32) : Fin 3 → Nat :=
  let arg0 : BitVec 32 := BitVec.ofNat 32 (i 0).val
  let c0_i32_250 : BitVec 32 := 0#32
  ![arg0.toNat, v164.toNat, 0]

def k0_chk24 (i : grid0.Coords) (v164 : BitVec 32) : Prop :=
  (∀ a, (k0_off48 i v164) a + S1x1x64.size a ≤ S32x4096x64.size a) ∧
  (∀ a, (k0_off114 i v164) a + S1x1x64.size a ≤ S32x4096x64.size a)
theorem k0_off48_inb : ∀ (i : grid0.Coords) (v164 : BitVec 32) (k0_hw24 : k0_chk24 i v164), ∀ a, (k0_off48 i v164) a + S1x1x64.size a ≤ S32x4096x64.size a := fun i v164 k0_hw24 => k0_hw24.1
theorem k0_off114_inb : ∀ (i : grid0.Coords) (v164 : BitVec 32) (k0_hw24 : k0_chk24 i v164), ∀ a, (k0_off114 i v164) a + S1x1x64.size a ≤ S32x4096x64.size a := fun i v164 k0_hw24 => k0_hw24.2

def k0_off115 (i : grid0.Coords) (v171 : BitVec 32) : Fin 3 → Nat :=
  let arg0 : BitVec 32 := BitVec.ofNat 32 (i 0).val
  let c0_i32_253 : BitVec 32 := 0#32
  ![arg0.toNat, v171.toNat, 0]

def k0_chk25 (i : grid0.Coords) (v171 : BitVec 32) : Prop :=
  (∀ a, (k0_off50 i v171) a + S1x1x64.size a ≤ S32x4096x64.size a) ∧
  (∀ a, (k0_off115 i v171) a + S1x1x64.size a ≤ S32x4096x64.size a)
theorem k0_off50_inb : ∀ (i : grid0.Coords) (v171 : BitVec 32) (k0_hw25 : k0_chk25 i v171), ∀ a, (k0_off50 i v171) a + S1x1x64.size a ≤ S32x4096x64.size a := fun i v171 k0_hw25 => k0_hw25.1
theorem k0_off115_inb : ∀ (i : grid0.Coords) (v171 : BitVec 32) (k0_hw25 : k0_chk25 i v171), ∀ a, (k0_off115 i v171) a + S1x1x64.size a ≤ S32x4096x64.size a := fun i v171 k0_hw25 => k0_hw25.2

def k0_off116 (i : grid0.Coords) (v178 : BitVec 32) : Fin 3 → Nat :=
  let arg0 : BitVec 32 := BitVec.ofNat 32 (i 0).val
  let c0_i32_256 : BitVec 32 := 0#32
  ![arg0.toNat, v178.toNat, 0]

def k0_chk26 (i : grid0.Coords) (v178 : BitVec 32) : Prop :=
  (∀ a, (k0_off52 i v178) a + S1x1x64.size a ≤ S32x4096x64.size a) ∧
  (∀ a, (k0_off116 i v178) a + S1x1x64.size a ≤ S32x4096x64.size a)
theorem k0_off52_inb : ∀ (i : grid0.Coords) (v178 : BitVec 32) (k0_hw26 : k0_chk26 i v178), ∀ a, (k0_off52 i v178) a + S1x1x64.size a ≤ S32x4096x64.size a := fun i v178 k0_hw26 => k0_hw26.1
theorem k0_off116_inb : ∀ (i : grid0.Coords) (v178 : BitVec 32) (k0_hw26 : k0_chk26 i v178), ∀ a, (k0_off116 i v178) a + S1x1x64.size a ≤ S32x4096x64.size a := fun i v178 k0_hw26 => k0_hw26.2

def k0_off117 (i : grid0.Coords) (v185 : BitVec 32) : Fin 3 → Nat :=
  let arg0 : BitVec 32 := BitVec.ofNat 32 (i 0).val
  let c0_i32_259 : BitVec 32 := 0#32
  ![arg0.toNat, v185.toNat, 0]

def k0_chk27 (i : grid0.Coords) (v185 : BitVec 32) : Prop :=
  (∀ a, (k0_off54 i v185) a + S1x1x64.size a ≤ S32x4096x64.size a) ∧
  (∀ a, (k0_off117 i v185) a + S1x1x64.size a ≤ S32x4096x64.size a)
theorem k0_off54_inb : ∀ (i : grid0.Coords) (v185 : BitVec 32) (k0_hw27 : k0_chk27 i v185), ∀ a, (k0_off54 i v185) a + S1x1x64.size a ≤ S32x4096x64.size a := fun i v185 k0_hw27 => k0_hw27.1
theorem k0_off117_inb : ∀ (i : grid0.Coords) (v185 : BitVec 32) (k0_hw27 : k0_chk27 i v185), ∀ a, (k0_off117 i v185) a + S1x1x64.size a ≤ S32x4096x64.size a := fun i v185 k0_hw27 => k0_hw27.2

def k0_off118 (i : grid0.Coords) (v192 : BitVec 32) : Fin 3 → Nat :=
  let arg0 : BitVec 32 := BitVec.ofNat 32 (i 0).val
  let c0_i32_262 : BitVec 32 := 0#32
  ![arg0.toNat, v192.toNat, 0]

def k0_chk28 (i : grid0.Coords) (v192 : BitVec 32) : Prop :=
  (∀ a, (k0_off56 i v192) a + S1x1x64.size a ≤ S32x4096x64.size a) ∧
  (∀ a, (k0_off118 i v192) a + S1x1x64.size a ≤ S32x4096x64.size a)
theorem k0_off56_inb : ∀ (i : grid0.Coords) (v192 : BitVec 32) (k0_hw28 : k0_chk28 i v192), ∀ a, (k0_off56 i v192) a + S1x1x64.size a ≤ S32x4096x64.size a := fun i v192 k0_hw28 => k0_hw28.1
theorem k0_off118_inb : ∀ (i : grid0.Coords) (v192 : BitVec 32) (k0_hw28 : k0_chk28 i v192), ∀ a, (k0_off118 i v192) a + S1x1x64.size a ≤ S32x4096x64.size a := fun i v192 k0_hw28 => k0_hw28.2

def k0_off119 (i : grid0.Coords) (v199 : BitVec 32) : Fin 3 → Nat :=
  let arg0 : BitVec 32 := BitVec.ofNat 32 (i 0).val
  let c0_i32_265 : BitVec 32 := 0#32
  ![arg0.toNat, v199.toNat, 0]

def k0_chk29 (i : grid0.Coords) (v199 : BitVec 32) : Prop :=
  (∀ a, (k0_off58 i v199) a + S1x1x64.size a ≤ S32x4096x64.size a) ∧
  (∀ a, (k0_off119 i v199) a + S1x1x64.size a ≤ S32x4096x64.size a)
theorem k0_off58_inb : ∀ (i : grid0.Coords) (v199 : BitVec 32) (k0_hw29 : k0_chk29 i v199), ∀ a, (k0_off58 i v199) a + S1x1x64.size a ≤ S32x4096x64.size a := fun i v199 k0_hw29 => k0_hw29.1
theorem k0_off119_inb : ∀ (i : grid0.Coords) (v199 : BitVec 32) (k0_hw29 : k0_chk29 i v199), ∀ a, (k0_off119 i v199) a + S1x1x64.size a ≤ S32x4096x64.size a := fun i v199 k0_hw29 => k0_hw29.2

def k0_off120 (i : grid0.Coords) (v206 : BitVec 32) : Fin 3 → Nat :=
  let arg0 : BitVec 32 := BitVec.ofNat 32 (i 0).val
  let c0_i32_268 : BitVec 32 := 0#32
  ![arg0.toNat, v206.toNat, 0]

def k0_chk30 (i : grid0.Coords) (v206 : BitVec 32) : Prop :=
  (∀ a, (k0_off60 i v206) a + S1x1x64.size a ≤ S32x4096x64.size a) ∧
  (∀ a, (k0_off120 i v206) a + S1x1x64.size a ≤ S32x4096x64.size a)
theorem k0_off60_inb : ∀ (i : grid0.Coords) (v206 : BitVec 32) (k0_hw30 : k0_chk30 i v206), ∀ a, (k0_off60 i v206) a + S1x1x64.size a ≤ S32x4096x64.size a := fun i v206 k0_hw30 => k0_hw30.1
theorem k0_off120_inb : ∀ (i : grid0.Coords) (v206 : BitVec 32) (k0_hw30 : k0_chk30 i v206), ∀ a, (k0_off120 i v206) a + S1x1x64.size a ≤ S32x4096x64.size a := fun i v206 k0_hw30 => k0_hw30.2

def k0_off121 (i : grid0.Coords) (v213 : BitVec 32) : Fin 3 → Nat :=
  let arg0 : BitVec 32 := BitVec.ofNat 32 (i 0).val
  let c0_i32_271 : BitVec 32 := 0#32
  ![arg0.toNat, v213.toNat, 0]

def k0_chk31 (i : grid0.Coords) (v213 : BitVec 32) : Prop :=
  (∀ a, (k0_off62 i v213) a + S1x1x64.size a ≤ S32x4096x64.size a) ∧
  (∀ a, (k0_off121 i v213) a + S1x1x64.size a ≤ S32x4096x64.size a)
theorem k0_off62_inb : ∀ (i : grid0.Coords) (v213 : BitVec 32) (k0_hw31 : k0_chk31 i v213), ∀ a, (k0_off62 i v213) a + S1x1x64.size a ≤ S32x4096x64.size a := fun i v213 k0_hw31 => k0_hw31.1
theorem k0_off121_inb : ∀ (i : grid0.Coords) (v213 : BitVec 32) (k0_hw31 : k0_chk31 i v213), ∀ a, (k0_off121 i v213) a + S1x1x64.size a ≤ S32x4096x64.size a := fun i v213 k0_hw31 => k0_hw31.2

def k0_off122 (i : grid0.Coords) (v220 : BitVec 32) : Fin 3 → Nat :=
  let arg0 : BitVec 32 := BitVec.ofNat 32 (i 0).val
  let c0_i32_274 : BitVec 32 := 0#32
  ![arg0.toNat, v220.toNat, 0]

def k0_chk32 (i : grid0.Coords) (v220 : BitVec 32) : Prop :=
  (∀ a, (k0_off64 i v220) a + S1x1x64.size a ≤ S32x4096x64.size a) ∧
  (∀ a, (k0_off122 i v220) a + S1x1x64.size a ≤ S32x4096x64.size a)
theorem k0_off64_inb : ∀ (i : grid0.Coords) (v220 : BitVec 32) (k0_hw32 : k0_chk32 i v220), ∀ a, (k0_off64 i v220) a + S1x1x64.size a ≤ S32x4096x64.size a := fun i v220 k0_hw32 => k0_hw32.1
theorem k0_off122_inb : ∀ (i : grid0.Coords) (v220 : BitVec 32) (k0_hw32 : k0_chk32 i v220), ∀ a, (k0_off122 i v220) a + S1x1x64.size a ≤ S32x4096x64.size a := fun i v220 k0_hw32 => k0_hw32.2

def k0_off123 (i : grid0.Coords) (v227 : BitVec 32) : Fin 3 → Nat :=
  let arg0 : BitVec 32 := BitVec.ofNat 32 (i 0).val
  let c0_i32_277 : BitVec 32 := 0#32
  ![arg0.toNat, v227.toNat, 0]

def k0_chk33 (i : grid0.Coords) (v227 : BitVec 32) : Prop :=
  (∀ a, (k0_off66 i v227) a + S1x1x64.size a ≤ S32x4096x64.size a) ∧
  (∀ a, (k0_off123 i v227) a + S1x1x64.size a ≤ S32x4096x64.size a)
theorem k0_off66_inb : ∀ (i : grid0.Coords) (v227 : BitVec 32) (k0_hw33 : k0_chk33 i v227), ∀ a, (k0_off66 i v227) a + S1x1x64.size a ≤ S32x4096x64.size a := fun i v227 k0_hw33 => k0_hw33.1
theorem k0_off123_inb : ∀ (i : grid0.Coords) (v227 : BitVec 32) (k0_hw33 : k0_chk33 i v227), ∀ a, (k0_off123 i v227) a + S1x1x64.size a ≤ S32x4096x64.size a := fun i v227 k0_hw33 => k0_hw33.2

def k0_off124 (i : grid0.Coords) (v234 : BitVec 32) : Fin 3 → Nat :=
  let arg0 : BitVec 32 := BitVec.ofNat 32 (i 0).val
  let c0_i32_280 : BitVec 32 := 0#32
  ![arg0.toNat, v234.toNat, 0]

def k0_chk34 (i : grid0.Coords) (v234 : BitVec 32) : Prop :=
  (∀ a, (k0_off68 i v234) a + S1x1x64.size a ≤ S32x4096x64.size a) ∧
  (∀ a, (k0_off124 i v234) a + S1x1x64.size a ≤ S32x4096x64.size a)
theorem k0_off68_inb : ∀ (i : grid0.Coords) (v234 : BitVec 32) (k0_hw34 : k0_chk34 i v234), ∀ a, (k0_off68 i v234) a + S1x1x64.size a ≤ S32x4096x64.size a := fun i v234 k0_hw34 => k0_hw34.1
theorem k0_off124_inb : ∀ (i : grid0.Coords) (v234 : BitVec 32) (k0_hw34 : k0_chk34 i v234), ∀ a, (k0_off124 i v234) a + S1x1x64.size a ≤ S32x4096x64.size a := fun i v234 k0_hw34 => k0_hw34.2

def k0_off125 (i : grid0.Coords) (v241 : BitVec 32) : Fin 3 → Nat :=
  let arg0 : BitVec 32 := BitVec.ofNat 32 (i 0).val
  let c0_i32_283 : BitVec 32 := 0#32
  ![arg0.toNat, v241.toNat, 0]

def k0_chk35 (i : grid0.Coords) (v241 : BitVec 32) : Prop :=
  (∀ a, (k0_off70 i v241) a + S1x1x64.size a ≤ S32x4096x64.size a) ∧
  (∀ a, (k0_off125 i v241) a + S1x1x64.size a ≤ S32x4096x64.size a)
theorem k0_off70_inb : ∀ (i : grid0.Coords) (v241 : BitVec 32) (k0_hw35 : k0_chk35 i v241), ∀ a, (k0_off70 i v241) a + S1x1x64.size a ≤ S32x4096x64.size a := fun i v241 k0_hw35 => k0_hw35.1
theorem k0_off125_inb : ∀ (i : grid0.Coords) (v241 : BitVec 32) (k0_hw35 : k0_chk35 i v241), ∀ a, (k0_off125 i v241) a + S1x1x64.size a ≤ S32x4096x64.size a := fun i v241 k0_hw35 => k0_hw35.2

def k0_off126 (i : grid0.Coords) (v248 : BitVec 32) : Fin 3 → Nat :=
  let arg0 : BitVec 32 := BitVec.ofNat 32 (i 0).val
  let c0_i32_286 : BitVec 32 := 0#32
  ![arg0.toNat, v248.toNat, 0]

def k0_chk36 (i : grid0.Coords) (v248 : BitVec 32) : Prop :=
  (∀ a, (k0_off72 i v248) a + S1x1x64.size a ≤ S32x4096x64.size a) ∧
  (∀ a, (k0_off126 i v248) a + S1x1x64.size a ≤ S32x4096x64.size a)
theorem k0_off72_inb : ∀ (i : grid0.Coords) (v248 : BitVec 32) (k0_hw36 : k0_chk36 i v248), ∀ a, (k0_off72 i v248) a + S1x1x64.size a ≤ S32x4096x64.size a := fun i v248 k0_hw36 => k0_hw36.1
theorem k0_off126_inb : ∀ (i : grid0.Coords) (v248 : BitVec 32) (k0_hw36 : k0_chk36 i v248), ∀ a, (k0_off126 i v248) a + S1x1x64.size a ≤ S32x4096x64.size a := fun i v248 k0_hw36 => k0_hw36.2

def k0_off127 (i : grid0.Coords) (v255 : BitVec 32) : Fin 3 → Nat :=
  let arg0 : BitVec 32 := BitVec.ofNat 32 (i 0).val
  let c0_i32_289 : BitVec 32 := 0#32
  ![arg0.toNat, v255.toNat, 0]

def k0_chk37 (i : grid0.Coords) (v255 : BitVec 32) : Prop :=
  (∀ a, (k0_off74 i v255) a + S1x1x64.size a ≤ S32x4096x64.size a) ∧
  (∀ a, (k0_off127 i v255) a + S1x1x64.size a ≤ S32x4096x64.size a)
theorem k0_off74_inb : ∀ (i : grid0.Coords) (v255 : BitVec 32) (k0_hw37 : k0_chk37 i v255), ∀ a, (k0_off74 i v255) a + S1x1x64.size a ≤ S32x4096x64.size a := fun i v255 k0_hw37 => k0_hw37.1
theorem k0_off127_inb : ∀ (i : grid0.Coords) (v255 : BitVec 32) (k0_hw37 : k0_chk37 i v255), ∀ a, (k0_off127 i v255) a + S1x1x64.size a ≤ S32x4096x64.size a := fun i v255 k0_hw37 => k0_hw37.2

def k0_off128 (i : grid0.Coords) (v262 : BitVec 32) : Fin 3 → Nat :=
  let arg0 : BitVec 32 := BitVec.ofNat 32 (i 0).val
  let c0_i32_292 : BitVec 32 := 0#32
  ![arg0.toNat, v262.toNat, 0]

def k0_chk38 (i : grid0.Coords) (v262 : BitVec 32) : Prop :=
  (∀ a, (k0_off76 i v262) a + S1x1x64.size a ≤ S32x4096x64.size a) ∧
  (∀ a, (k0_off128 i v262) a + S1x1x64.size a ≤ S32x4096x64.size a)
theorem k0_off76_inb : ∀ (i : grid0.Coords) (v262 : BitVec 32) (k0_hw38 : k0_chk38 i v262), ∀ a, (k0_off76 i v262) a + S1x1x64.size a ≤ S32x4096x64.size a := fun i v262 k0_hw38 => k0_hw38.1
theorem k0_off128_inb : ∀ (i : grid0.Coords) (v262 : BitVec 32) (k0_hw38 : k0_chk38 i v262), ∀ a, (k0_off128 i v262) a + S1x1x64.size a ≤ S32x4096x64.size a := fun i v262 k0_hw38 => k0_hw38.2

def k0_off129 (i : grid0.Coords) (v269 : BitVec 32) : Fin 3 → Nat :=
  let arg0 : BitVec 32 := BitVec.ofNat 32 (i 0).val
  let c0_i32_295 : BitVec 32 := 0#32
  ![arg0.toNat, v269.toNat, 0]

def k0_chk39 (i : grid0.Coords) (v269 : BitVec 32) : Prop :=
  (∀ a, (k0_off78 i v269) a + S1x1x64.size a ≤ S32x4096x64.size a) ∧
  (∀ a, (k0_off129 i v269) a + S1x1x64.size a ≤ S32x4096x64.size a)
theorem k0_off78_inb : ∀ (i : grid0.Coords) (v269 : BitVec 32) (k0_hw39 : k0_chk39 i v269), ∀ a, (k0_off78 i v269) a + S1x1x64.size a ≤ S32x4096x64.size a := fun i v269 k0_hw39 => k0_hw39.1
theorem k0_off129_inb : ∀ (i : grid0.Coords) (v269 : BitVec 32) (k0_hw39 : k0_chk39 i v269), ∀ a, (k0_off129 i v269) a + S1x1x64.size a ≤ S32x4096x64.size a := fun i v269 k0_hw39 => k0_hw39.2

def k0_off130 (i : grid0.Coords) (v276 : BitVec 32) : Fin 3 → Nat :=
  let arg0 : BitVec 32 := BitVec.ofNat 32 (i 0).val
  let c0_i32_298 : BitVec 32 := 0#32
  ![arg0.toNat, v276.toNat, 0]

def k0_chk40 (i : grid0.Coords) (v276 : BitVec 32) : Prop :=
  (∀ a, (k0_off80 i v276) a + S1x1x64.size a ≤ S32x4096x64.size a) ∧
  (∀ a, (k0_off130 i v276) a + S1x1x64.size a ≤ S32x4096x64.size a)
theorem k0_off80_inb : ∀ (i : grid0.Coords) (v276 : BitVec 32) (k0_hw40 : k0_chk40 i v276), ∀ a, (k0_off80 i v276) a + S1x1x64.size a ≤ S32x4096x64.size a := fun i v276 k0_hw40 => k0_hw40.1
theorem k0_off130_inb : ∀ (i : grid0.Coords) (v276 : BitVec 32) (k0_hw40 : k0_chk40 i v276), ∀ a, (k0_off130 i v276) a + S1x1x64.size a ≤ S32x4096x64.size a := fun i v276 k0_hw40 => k0_hw40.2

def k0_off131 (i : grid0.Coords) (v283 : BitVec 32) : Fin 3 → Nat :=
  let arg0 : BitVec 32 := BitVec.ofNat 32 (i 0).val
  let c0_i32_301 : BitVec 32 := 0#32
  ![arg0.toNat, v283.toNat, 0]

def k0_chk41 (i : grid0.Coords) (v283 : BitVec 32) : Prop :=
  (∀ a, (k0_off82 i v283) a + S1x1x64.size a ≤ S32x4096x64.size a) ∧
  (∀ a, (k0_off131 i v283) a + S1x1x64.size a ≤ S32x4096x64.size a)
theorem k0_off82_inb : ∀ (i : grid0.Coords) (v283 : BitVec 32) (k0_hw41 : k0_chk41 i v283), ∀ a, (k0_off82 i v283) a + S1x1x64.size a ≤ S32x4096x64.size a := fun i v283 k0_hw41 => k0_hw41.1
theorem k0_off131_inb : ∀ (i : grid0.Coords) (v283 : BitVec 32) (k0_hw41 : k0_chk41 i v283), ∀ a, (k0_off131 i v283) a + S1x1x64.size a ≤ S32x4096x64.size a := fun i v283 k0_hw41 => k0_hw41.2

def k0_off132 (i : grid0.Coords) (v290 : BitVec 32) : Fin 3 → Nat :=
  let arg0 : BitVec 32 := BitVec.ofNat 32 (i 0).val
  let c0_i32_304 : BitVec 32 := 0#32
  ![arg0.toNat, v290.toNat, 0]

def k0_chk42 (i : grid0.Coords) (v290 : BitVec 32) : Prop :=
  (∀ a, (k0_off84 i v290) a + S1x1x64.size a ≤ S32x4096x64.size a) ∧
  (∀ a, (k0_off132 i v290) a + S1x1x64.size a ≤ S32x4096x64.size a)
theorem k0_off84_inb : ∀ (i : grid0.Coords) (v290 : BitVec 32) (k0_hw42 : k0_chk42 i v290), ∀ a, (k0_off84 i v290) a + S1x1x64.size a ≤ S32x4096x64.size a := fun i v290 k0_hw42 => k0_hw42.1
theorem k0_off132_inb : ∀ (i : grid0.Coords) (v290 : BitVec 32) (k0_hw42 : k0_chk42 i v290), ∀ a, (k0_off132 i v290) a + S1x1x64.size a ≤ S32x4096x64.size a := fun i v290 k0_hw42 => k0_hw42.2

def k0_off133 (i : grid0.Coords) (v297 : BitVec 32) : Fin 3 → Nat :=
  let arg0 : BitVec 32 := BitVec.ofNat 32 (i 0).val
  let c0_i32_307 : BitVec 32 := 0#32
  ![arg0.toNat, v297.toNat, 0]

def k0_chk43 (i : grid0.Coords) (v297 : BitVec 32) : Prop :=
  (∀ a, (k0_off86 i v297) a + S1x1x64.size a ≤ S32x4096x64.size a) ∧
  (∀ a, (k0_off133 i v297) a + S1x1x64.size a ≤ S32x4096x64.size a)
theorem k0_off86_inb : ∀ (i : grid0.Coords) (v297 : BitVec 32) (k0_hw43 : k0_chk43 i v297), ∀ a, (k0_off86 i v297) a + S1x1x64.size a ≤ S32x4096x64.size a := fun i v297 k0_hw43 => k0_hw43.1
theorem k0_off133_inb : ∀ (i : grid0.Coords) (v297 : BitVec 32) (k0_hw43 : k0_chk43 i v297), ∀ a, (k0_off133 i v297) a + S1x1x64.size a ≤ S32x4096x64.size a := fun i v297 k0_hw43 => k0_hw43.2

def k0_off134 (i : grid0.Coords) (v304 : BitVec 32) : Fin 3 → Nat :=
  let arg0 : BitVec 32 := BitVec.ofNat 32 (i 0).val
  let c0_i32_310 : BitVec 32 := 0#32
  ![arg0.toNat, v304.toNat, 0]

def k0_chk44 (i : grid0.Coords) (v304 : BitVec 32) : Prop :=
  (∀ a, (k0_off88 i v304) a + S1x1x64.size a ≤ S32x4096x64.size a) ∧
  (∀ a, (k0_off134 i v304) a + S1x1x64.size a ≤ S32x4096x64.size a)
theorem k0_off88_inb : ∀ (i : grid0.Coords) (v304 : BitVec 32) (k0_hw44 : k0_chk44 i v304), ∀ a, (k0_off88 i v304) a + S1x1x64.size a ≤ S32x4096x64.size a := fun i v304 k0_hw44 => k0_hw44.1
theorem k0_off134_inb : ∀ (i : grid0.Coords) (v304 : BitVec 32) (k0_hw44 : k0_chk44 i v304), ∀ a, (k0_off134 i v304) a + S1x1x64.size a ≤ S32x4096x64.size a := fun i v304 k0_hw44 => k0_hw44.2

@[reducible] def k0_t1_loop : Scf.Loop 32 :=
  let c0_i32_330 : BitVec 32 := 0#32
  let c45_i32 : BitVec 32 := 45#32
  let v476 : BitVec 32 := Scalar.addi c0_i32_330 c45_i32
  let c1_i32_331 : BitVec 32 := 1#32
  ⟨c0_i32_330, v476, c1_i32_331⟩
def k0_off135 (k0_t1 : Fin k0_t1_loop.trips) : Fin 2 → Nat :=
  let c0_i32_330 : BitVec 32 := 0#32
  let c1_i32_331 : BitVec 32 := 1#32
  let arg8 : BitVec 32 := Scf.iv c0_i32_330 c1_i32_331 k0_t1
  let v477 : Index := Scalar.indexCast arg8
  let c0_333 : Index := 0#32
  ![v477.toNat, 0]
def k0_off136 (i : grid0.Coords) (k0_t1 : Fin k0_t1_loop.trips) : Fin 1 → Nat :=
  let arg0 : BitVec 32 := BitVec.ofNat 32 (i 0).val
  let c64_i32_334 : BitVec 32 := 64#32
  let v479 : BitVec 32 := Scalar.muli arg0 c64_i32_334
  let c0_i32_330 : BitVec 32 := 0#32
  let c1_i32_331 : BitVec 32 := 1#32
  let arg8 : BitVec 32 := Scf.iv c0_i32_330 c1_i32_331 k0_t1
  let v480 : BitVec 32 := Scalar.addi v479 arg8
  let v481 : Index := Scalar.indexCast v480
  ![v481.toNat]
def k0_off137 (v482 : BitVec 32) : Fin 3 → Nat :=
  let c0_335 : Index := 0#32
  let v483 : Index := Scalar.indexCast v482
  let c0_336 : Index := 0#32
  ![0, v483.toNat, 0]

def k0_chk46 (v482 : BitVec 32) : Prop :=
  (∀ a, (k0_off137 v482) a + S1x1x64.size a ≤ S1x4096x64.size a)
theorem k0_off137_inb : ∀ (v482 : BitVec 32) (k0_hw46 : k0_chk46 v482), ∀ a, (k0_off137 v482) a + S1x1x64.size a ≤ S1x4096x64.size a := fun v482 k0_hw46 => k0_hw46

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnRefIdeal.lean ====
abbrev S2048 : Shape := ⟨1, ![2048]⟩
abbrev S32x4096x64 : Shape := ⟨3, ![32, 4096, 64]⟩
abbrev S32x64 : Shape := ⟨2, ![32, 64]⟩
abbrev S32x45 : Shape := ⟨2, ![32, 45]⟩
abbrev S32 : Shape := ⟨1, ![32]⟩
abbrev S32x1 : Shape := ⟨2, ![32, 1]⟩
abbrev S_ : Shape := ⟨0, ![]⟩
abbrev S32x45x1 : Shape := ⟨3, ![32, 45, 1]⟩
abbrev S32x45x2 : Shape := ⟨3, ![32, 45, 2]⟩
abbrev S32x45x64 : Shape := ⟨3, ![32, 45, 64]⟩
abbrev S32x64x4096 : Shape := ⟨3, ![32, 64, 4096]⟩
abbrev S32x45x4096 : Shape := ⟨3, ![32, 45, 4096]⟩
abbrev S32x1x64 : Shape := ⟨3, ![32, 1, 64]⟩

abbrev nBuf : Space → Nat
  | .hbm => 67
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32x4096x64, .f32⟩
  | .hbm, ⟨2, _⟩ => ⟨S32x4096x64, .f32⟩
  | .hbm, ⟨3, _⟩ => ⟨S32x4096x64, .f32⟩
  | .hbm, ⟨4, _⟩ => ⟨S32x64, .i32⟩
  | .hbm, ⟨5, _⟩ => ⟨S32x45, .i32⟩
  | .hbm, ⟨6, _⟩ => ⟨S32, .i32⟩
  | .hbm, ⟨7, _⟩ => ⟨S32x1, .i32⟩
  | .hbm, ⟨8, _⟩ => ⟨S_, .i32⟩
  | .hbm, ⟨9, _⟩ => ⟨S32x1, .i32⟩
  | .hbm, ⟨10, _⟩ => ⟨S32x1, .i1⟩
  | .hbm, ⟨11, _⟩ => ⟨S_, .i32⟩
  | .hbm, ⟨12, _⟩ => ⟨S32x1, .i32⟩
  | .hbm, ⟨13, _⟩ => ⟨S32x1, .i32⟩
  | .hbm, ⟨14, _⟩ => ⟨S32x1, .i32⟩
  | .hbm, ⟨15, _⟩ => ⟨S_, .i32⟩
  | .hbm, ⟨16, _⟩ => ⟨S32x45, .i32⟩
  | .hbm, ⟨17, _⟩ => ⟨S32x45, .i1⟩
  | .hbm, ⟨18, _⟩ => ⟨S_, .i32⟩
  | .hbm, ⟨19, _⟩ => ⟨S32x45, .i32⟩
  | .hbm, ⟨20, _⟩ => ⟨S32x45, .i32⟩
  | .hbm, ⟨21, _⟩ => ⟨S32x45, .i32⟩
  | .hbm, ⟨22, _⟩ => ⟨S32x45, .i32⟩
  | .hbm, ⟨23, _⟩ => ⟨S32x45x1, .i32⟩
  | .hbm, ⟨24, _⟩ => ⟨S32x45x1, .i32⟩
  | .hbm, ⟨25, _⟩ => ⟨S32x45x2, .i32⟩
  | .hbm, ⟨26, _⟩ => ⟨S32x45x64, .f32⟩
  | .hbm, ⟨27, _⟩ => ⟨S32x64x4096, .f32⟩
  | .hbm, ⟨28, _⟩ => ⟨S32x45x4096, .f32⟩
  | .hbm, ⟨29, _⟩ => ⟨S_, .f32⟩
  | .hbm, ⟨30, _⟩ => ⟨S32x45, .f32⟩
  | .hbm, ⟨31, _⟩ => ⟨S_, .f32⟩
  | .hbm, ⟨32, _⟩ => ⟨S32x45, .f32⟩
  | .hbm, ⟨33, _⟩ => ⟨S32x45, .f32⟩
  | .hbm, ⟨34, _⟩ => ⟨S32x45x1, .f32⟩
  | .hbm, ⟨35, _⟩ => ⟨S32x45x4096, .f32⟩
  | .hbm, ⟨36, _⟩ => ⟨S32x45x4096, .f32⟩
  | .hbm, ⟨37, _⟩ => ⟨S32x45x4096, .f32⟩
  | .hbm, ⟨38, _⟩ => ⟨S_, .f32⟩
  | .hbm, ⟨39, _⟩ => ⟨S32x45, .f32⟩
  | .hbm, ⟨40, _⟩ => ⟨S32x45x1, .f32⟩
  | .hbm, ⟨41, _⟩ => ⟨S32x45x4096, .f32⟩
  | .hbm, ⟨42, _⟩ => ⟨S32x45x4096, .f32⟩
  | .hbm, ⟨43, _⟩ => ⟨S32x45x64, .f32⟩
  | .hbm, ⟨44, _⟩ => ⟨S_, .f32⟩
  | .hbm, ⟨45, _⟩ => ⟨S32x64, .f32⟩
  | .hbm, ⟨46, _⟩ => ⟨S32x1x64, .f32⟩
  | .hbm, ⟨47, _⟩ => ⟨S32x4096x64, .f32⟩
  | .hbm, ⟨48, _⟩ => ⟨S_, .i32⟩
  | .hbm, ⟨49, _⟩ => ⟨S32x1, .i32⟩
  | .hbm, ⟨50, _⟩ => ⟨S32x1, .i1⟩
  | .hbm, ⟨51, _⟩ => ⟨S_, .i32⟩
  | .hbm, ⟨52, _⟩ => ⟨S32x1, .i32⟩
  | .hbm, ⟨53, _⟩ => ⟨S32x1, .i32⟩
  | .hbm, ⟨54, _⟩ => ⟨S32x1, .i32⟩
  | .hbm, ⟨55, _⟩ => ⟨S_, .i32⟩
  | .hbm, ⟨56, _⟩ => ⟨S32x45, .i32⟩
  | .hbm, ⟨57, _⟩ => ⟨S32x45, .i1⟩
  | .hbm, ⟨58, _⟩ => ⟨S_, .i32⟩
  | .hbm, ⟨59, _⟩ => ⟨S32x45, .i32⟩
  | .hbm, ⟨60, _⟩ => ⟨S32x45, .i32⟩
  | .hbm, ⟨61, _⟩ => ⟨S32x45, .i32⟩
  | .hbm, ⟨62, _⟩ => ⟨S32x45, .i32⟩
  | .hbm, ⟨63, _⟩ => ⟨S32x45x1, .i32⟩
  | .hbm, ⟨64, _⟩ => ⟨S32x45x1, .i32⟩
  | .hbm, ⟨65, _⟩ => ⟨S32x45x2, .i32⟩
  | .hbm, ⟨66, _⟩ => ⟨S32x4096x64, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Score.lean ====
abbrev S32x4096x64 : Shape := ⟨3, ![32, 4096, 64]⟩
abbrev S32x1x4096 : Shape := ⟨3, ![32, 1, 4096]⟩
abbrev S1x4096x64 : Shape := ⟨3, ![1, 4096, 64]⟩
abbrev S1x1x4096 : Shape := ⟨3, ![1, 1, 4096]⟩
abbrev S45x64 : Shape := ⟨2, ![45, 64]⟩
abbrev S_ : Shape := ⟨0, ![]⟩
abbrev S1x64 : Shape := ⟨2, ![1, 64]⟩
abbrev S1x1x64 : Shape := ⟨3, ![1, 1, 64]⟩
abbrev S4096x64 : Shape := ⟨2, ![4096, 64]⟩
abbrev S45x4096 : Shape := ⟨2, ![45, 4096]⟩
abbrev S4096 : Shape := ⟨1, ![4096]⟩

abbrev nBuf : Space → Nat
  | .hbm => 3
  | .vmem => 5
  | .smem => 0
  | _ => 0

abbrev bufTy : (tb : Table) → Fin (tcTables nBuf tb) → BufTy
  | .hbm, ⟨0, _⟩ => ⟨S32x4096x64, .f32⟩
  | .hbm, ⟨1, _⟩ => ⟨S32x4096x64, .f32⟩
  | .hbm, ⟨2, _⟩ => ⟨S32x1x4096, .f32⟩
  | .local _ .vmem, ⟨0, _⟩ => ⟨S1x4096x64, .f32⟩
  | .local _ .vmem, ⟨1, _⟩ => ⟨S1x4096x64, .f32⟩
  | .local _ .vmem, ⟨2, _⟩ => ⟨S1x1x4096, .f32⟩
  | .local _ .vmem, ⟨3, _⟩ => ⟨S1x1x4096, .f32⟩
  | .local _ .vmem, ⟨4, _⟩ => ⟨S45x64, .f32⟩
  | _, _ => ⟨S32x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c1220_i32 : BitVec 32 := 1220#32
  let c0_i32_1 : BitVec 32 := 0#32
  ![arg0.toNat, 1220, 0]
def k0_off2 (i : grid0.Coords) : Fin 3 → Nat :=
  let arg0 : BitVec 32 := BitVec.ofNat 32 (i 0).val
  let c18_i32 : BitVec 32 := 18#32
  let c0_i32_3 : BitVec 32 := 0#32
  ![arg0.toNat, 18, 0]
def k0_off3 (i : grid0.Coords) : Fin 3 → Nat :=
  let arg0 : BitVec 32 := BitVec.ofNat 32 (i 0).val
  let c1207_i32 : BitVec 32 := 1207#32
  let c0_i32_5 : BitVec 32 := 0#32
  ![arg0.toNat, 1207, 0]
def k0_off4 (i : grid0.Coords) : Fin 3 → Nat :=
  let arg0 : BitVec 32 := BitVec.ofNat 32 (i 0).val
  let c3265_i32 : BitVec 32 := 3265#32
  let c0_i32_7 : BitVec 32 := 0#32
  ![arg0.toNat, 3265, 0]
def k0_off5 (i : grid0.Coords) : Fin 3 → Nat :=
  let arg0 : BitVec 32 := BitVec.ofNat 32 (i 0).val
  let c653_i32 : BitVec 32 := 653#32
  let c0_i32_9 : BitVec 32 := 0#32
  ![arg0.toNat, 653, 0]
def k0_off6 (i : grid0.Coords) : Fin 3 → Nat :=
  let arg0 : BitVec 32 := BitVec.ofNat 32 (i 0).val
  let c3435_i32 : BitVec 32 := 3435#32
  let c0_i32_11 : BitVec 32 := 0#32
  ![arg0.toNat, 3435, 0]
def k0_off7 (i : grid0.Coords) : Fin 3 → Nat :=
  let arg0 : BitVec 32 := BitVec.ofNat 32 (i 0).val
  let c2433_i32 : BitVec 32 := 2433#32
  let c0_i32_13 : BitVec 32 := 0#32
  ![arg0.toNat, 2433, 0]
def k0_off8 (i : grid0.Coords) : Fin 3 → Nat :=
  let arg0 : BitVec 32 := BitVec.ofNat 32 (i 0).val
  let c2343_i32 : BitVec 32 := 2343#32
  let c0_i32_15 : BitVec 32 := 0#32
  ![arg0.toNat, 2343, 0]
def k0_off9 (i : grid0.Coords) : Fin 3 → Nat :=
  let arg0 : BitVec 32 := BitVec.ofNat 32 (i 0).val
  let c2054_i32 : BitVec 32 := 2054#32
  let c0_i32_17 : BitVec 32 := 0#32
  ![arg0.toNat, 2054, 0]
def k0_off10 (i : grid0.Coords) : Fin 3 → Nat :=
  let arg0 : BitVec 32 := BitVec.ofNat 32 (i 0).val
  let c1282_i32 : BitVec 32 := 1282#32
  let c0_i32_19 : BitVec 32 := 0#32
  ![arg0.toNat, 1282, 0]
def k0_off11 (i : grid0.Coords) : Fin 3 → Nat :=
  let arg0 : BitVec 32 := BitVec.ofNat 32 (i 0).val
  let c552_i32 : BitVec 32 := 552#32
  let c0_i32_21 : BitVec 32 := 0#32
  ![arg0.toNat, 552, 0]
def k0_off12 (i : grid0.Coords) : Fin 3 → Nat :=
  let arg0 : BitVec 32 := BitVec.ofNat 32 (i 0).val
  let c2034_i32 : BitVec 32 := 2034#32
  let c0_i32_23 : BitVec 32 := 0#32
  ![arg0.toNat, 2034, 0]
def k0_off13 (i : grid0.Coords) : Fin 3 → Nat :=
  let arg0 : BitVec 32 := BitVec.ofNat 32 (i 0).val
  let c3481_i32 : BitVec 32 := 3481#32
  let c0_i32_25 : BitVec 32 := 0#32
  ![arg0.toNat, 3481, 0]
def k0_off14 (i : grid0.Coords) : Fin 3 → Nat :=
  let arg0 : BitVec 32 := BitVec.ofNat 32 (i 0).val
  let c475_i32 : BitVec 32 := 475#32
  let c0_i32_27 : BitVec 32 := 0#32
  ![arg0.toNat, 475, 0]
def k0_off15 (i : grid0.Coords) : Fin 3 → Nat :=
  let arg0 : BitVec 32 := BitVec.ofNat 32 (i 0).val
  let c4044_i32 : BitVec 32 := 4044#32
  let c0_i32_29 : BitVec 32 := 0#32
  ![arg0.toNat, 4044, 0]
def k0_off16 (i : grid0.Coords) : Fin 3 → Nat :=
  let arg0 : BitVec 32 := BitVec.ofNat 32 (i 0).val
  let c1810_i32 : BitVec 32 := 1810#32
  let c0_i32_31 : BitVec 32 := 0#32
  ![arg0.toNat, 1810, 0]
def k0_off17 (i : grid0.Coords) : Fin 3 → Nat :=
  let arg0 : BitVec 32 := BitVec.ofNat 32 (i 0).val
  let c1611_i32 : BitVec 32 := 1611#32
  let c0_i32_33 : BitVec 32 := 0#32
  ![arg0.toNat, 1611, 0]
def k0_off18 (i : grid0.Coords) : Fin 3 → Nat :=
  let arg0 : BitVec 32 := BitVec.ofNat 32 (i 0).val
  let c898_i32 : BitVec 32 := 898#32
  let c0_i32_35 : BitVec 32 := 0#32
  ![arg0.toNat, 898, 0]
def k0_off19 (i : grid0.Coords) : Fin 3 → Nat :=
  let arg0 : BitVec 32 := BitVec.ofNat 32 (i 0).val
  let c2883_i32 : BitVec 32 := 2883#32
  let c0_i32_38 : BitVec 32 := 0#32
  ![arg0.toNat, 2883, 0]
def k0_off20 (i : grid0.Coords) : Fin 3 → Nat :=
  let arg0 : BitVec 32 := BitVec.ofNat 32 (i 0).val
  let c519_i32 : BitVec 32 := 519#32
  let c0_i32_40 : BitVec 32 := 0#32
  ![arg0.toNat, 519, 0]
def k0_off21 (i : grid0.Coords) : Fin 3 → Nat :=
  let arg0 : BitVec 32 := BitVec.ofNat 32 (i 0).val
  let c3638_i32 : BitVec 32 := 3638#32
  let c0_i32_42 : BitVec 32 := 0#32
  ![arg0.toNat, 3638, 0]
def k0_off22 (i : grid0.Coords) : Fin 3 → Nat :=
  let arg0 : BitVec 32 := BitVec.ofNat 32 (i 0).val
  let c651_i32 : BitVec 32 := 651#32
  let c0_i32_44 : BitVec 32 := 0#32
  ![arg0.toNat, 651, 0]
def k0_off23 (i : grid0.Coords) : Fin 3 → Nat :=
  let arg0 : BitVec 32 := BitVec.ofNat 32 (i 0).val
  let c2316_i32 : BitVec 32 := 2316#32
  let c0_i32_46 : BitVec 32 := 0#32
  ![arg0.toNat, 2316, 0]
def k0_off24 (i : grid0.Coords) : Fin 3 → Nat :=
  let arg0 : BitVec 32 := BitVec.ofNat 32 (i 0).val
  let c3779_i32 : BitVec 32 := 3779#32
  let c0_i32_48 : BitVec 32 := 0#32
  ![arg0.toNat, 3779, 0]
def k0_off25 (i : grid0.Coords) : Fin 3 → Nat :=
  let arg0 : BitVec 32 := BitVec.ofNat 32 (i 0).val
  let c3180_i32 : BitVec 32 := 3180#32
  let c0_i32_50 : BitVec 32 := 0#32
  ![arg0.toNat, 3180, 0]
def k0_off26 (i : grid0.Coords) : Fin 3 → Nat :=
  let arg0 : BitVec 32 := BitVec.ofNat 32 (i 0).val
  let c1553_i32 : BitVec 32 := 1553#32
  let c0_i32_52 : BitVec 32 := 0#32
  ![arg0.toNat, 1553, 0]
def k0_off27 (i : grid0.Coords) : Fin 3 → Nat :=
  let arg0 : BitVec 32 := BitVec.ofNat 32 (i 0).val
  let c3056_i32 : BitVec 32 := 3056#32
  let c0_i32_54 : BitVec 32 := 0#32
  ![arg0.toNat, 3056, 0]
def k0_off28 (i : grid0.Coords) : Fin 3 → Nat :=
  let arg0 : BitVec 32 := BitVec.ofNat 32 (i 0).val
  let c539_i32 : BitVec 32 := 539#32
  let c0_i32_56 : BitVec 32 := 0#32
  ![arg0.toNat, 539, 0]
def k0_off29 (i : grid0.Coords) : Fin 3 → Nat :=
  let arg0 : BitVec 32 := BitVec.ofNat 32 (i 0).val
  let c2332_i32 : BitVec 32 := 2332#32
  let c0_i32_58 : BitVec 32 := 0#32
  ![arg0.toNat, 2332, 0]
def k0_off30 (i : grid0.Coords) : Fin 3 → Nat :=
  let arg0 : BitVec 32 := BitVec.ofNat 32 (i 0).val
  let c3383_i32 : BitVec 32 := 3383#32
  let c0_i32_60 : BitVec 32 := 0#32
  ![arg0.toNat, 3383, 0]
def k0_off31 (i : grid0.Coords) : Fin 3 → Nat :=
  let arg0 : BitVec 32 := BitVec.ofNat 32 (i 0).val
  let c2309_i32 : BitVec 32 := 2309#32
  let c0_i32_62 : BitVec 32 := 0#32
  ![arg0.toNat, 2309, 0]
def k0_off32 (i : grid0.Coords) : Fin 3 → Nat :=
  let arg0 : BitVec 32 := BitVec.ofNat 32 (i 0).val
  let c676_i32 : BitVec 32 := 676#32
  let c0_i32_64 : BitVec 32 := 0#32
  ![arg0.toNat, 676, 0]
def k0_off33 (i : grid0.Coords) : Fin 3 → Nat :=
  let arg0 : BitVec 32 := BitVec.ofNat 32 (i 0).val
  let c1493_i32 : BitVec 32 := 1493#32
  let c0_i32_66 : BitVec 32 := 0#32
  ![arg0.toNat, 1493, 0]
def k0_off34 (i : grid0.Coords) : Fin 3 → Nat :=
  let arg0 : BitVec 32 := BitVec.ofNat 32 (i 0).val
  let c2094_i32 : BitVec 32 := 2094#32
  let c0_i32_68 : BitVec 32 := 0#32
  ![arg0.toNat, 2094, 0]
def k0_off35 (i : grid0.Coords) : Fin 3 → Nat :=
  let arg0 : BitVec 32 := BitVec.ofNat 32 (i 0).val
  let c3123_i32 : BitVec 32 := 3123#32
  let c0_i32_70 : BitVec 32 := 0#32
  ![arg0.toNat, 3123, 0]
def k0_off36 (i : grid0.Coords) : Fin 3 → Nat :=
  let arg0 : BitVec 32 := BitVec.ofNat 32 (i 0).val
  let c2068_i32 : BitVec 32 := 2068#32
  let c0_i32_72 : BitVec 32 := 0#32
  ![arg0.toNat, 2068, 0]
def k0_off37 (i : grid0.Coords) : Fin 3 → Nat :=
  let arg0 : BitVec 32 := BitVec.ofNat 32 (i 0).val
  let c814_i32 : BitVec 32 := 814#32
  let c0_i32_74 : BitVec 32 := 0#32
  ![arg0.toNat, 814, 0]
def k0_off38 (i : grid0.Coords) : Fin 3 → Nat :=
  let arg0 : BitVec 32 := BitVec.ofNat 32 (i 0).val
  let c1970_i32 : BitVec 32 := 1970#32
  let c0_i32_76 : BitVec 32 := 0#32
  ![arg0.toNat, 1970, 0]
def k0_off39 (i : grid0.Coords) : Fin 3 → Nat :=
  let arg0 : BitVec 32 := BitVec.ofNat 32 (i 0).val
  let c3921_i32 : BitVec 32 := 3921#32
  let c0_i32_78 : BitVec 32 := 0#32
  ![arg0.toNat, 3921, 0]
def k0_off40 (i : grid0.Coords) : Fin 3 → Nat :=
  let arg0 : BitVec 32 := BitVec.ofNat 32 (i 0).val
  let c2029_i32 : BitVec 32 := 2029#32
  let c0_i32_80 : BitVec 32 := 0#32
  ![arg0.toNat, 2029, 0]
def k0_off41 (i : grid0.Coords) : Fin 3 → Nat :=
  let arg0 : BitVec 32 := BitVec.ofNat 32 (i 0).val
  let c1799_i32 : BitVec 32 := 1799#32
  let c0_i32_82 : BitVec 32 := 0#32
  ![arg0.toNat, 1799, 0]
def k0_off42 (i : grid0.Coords) : Fin 3 → Nat :=
  let arg0 : BitVec 32 := BitVec.ofNat 32 (i 0).val
  let c1604_i32 : BitVec 32 := 1604#32
  let c0_i32_84 : BitVec 32 := 0#32
  ![arg0.toNat, 1604, 0]
def k0_off43 (i : grid0.Coords) : Fin 3 → Nat :=
  let arg0 : BitVec 32 := BitVec.ofNat 32 (i 0).val
  let c3735_i32 : BitVec 32 := 3735#32
  let c0_i32_86 : BitVec 32 := 0#32
  ![arg0.toNat, 3735, 0]
def k0_off44 (i : grid0.Coords) : Fin 3 → Nat :=
  let arg0 : BitVec 32 := BitVec.ofNat 32 (i 0).val
  let c381_i32 : BitVec 32 := 381#32
  let c0_i32_88 : BitVec 32 := 0#32
  ![arg0.toNat, 381, 0]
def k0_off45 (i : grid0.Coords) : Fin 3 → Nat :=
  let arg0 : BitVec 32 := BitVec.ofNat 32 (i 0).val
  let c2937_i32 : BitVec 32 := 2937#32
  let c0_i32_90 : BitVec 32 := 0#32
  ![arg0.toNat, 2937, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ScoreRefIdeal.lean ====
abbrev S32x4096x64 : Shape := ⟨3, ![32, 4096, 64]⟩
abbrev S45 : Shape := ⟨1, ![45]⟩
abbrev S_ : Shape := ⟨0, ![]⟩
abbrev S45x1 : Shape := ⟨2, ![45, 1]⟩
abbrev S1 : Shape := ⟨1, ![1]⟩
abbrev S1x1 : Shape := ⟨2, ![1, 1]⟩
abbrev S32x45x64 : Shape := ⟨3, ![32, 45, 64]⟩
abbrev S32x4096x45 : Shape := ⟨3, ![32, 4096, 45]⟩
abbrev S32x4096 : Shape := ⟨2, ![32, 4096]⟩
abbrev S32x1x4096 : Shape := ⟨3, ![32, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S32x4096x64, .f32⟩
  | .hbm, ⟨1, _⟩ => ⟨S32x4096x64, .f32⟩
  | .hbm, ⟨2, _⟩ => ⟨S45, .i32⟩
  | .hbm, ⟨3, _⟩ => ⟨S_, .i32⟩
  | .hbm, ⟨4, _⟩ => ⟨S45, .i32⟩
  | .hbm, ⟨5, _⟩ => ⟨S45, .i1⟩
  | .hbm, ⟨6, _⟩ => ⟨S_, .i32⟩
  | .hbm, ⟨7, _⟩ => ⟨S45, .i32⟩
  | .hbm, ⟨8, _⟩ => ⟨S45, .i32⟩
  | .hbm, ⟨9, _⟩ => ⟨S45, .i32⟩
  | .hbm, ⟨10, _⟩ => ⟨S45x1, .i32⟩
  | .hbm, ⟨11, _⟩ => ⟨S1, .i32⟩
  | .hbm, ⟨12, _⟩ => ⟨S_, .i32⟩
  | .hbm, ⟨13, _⟩ => ⟨S45x1, .i32⟩
  | .hbm, ⟨14, _⟩ => ⟨S45x1, .i1⟩
  | .hbm, ⟨15, _⟩ => ⟨S1x1, .i32⟩
  | .hbm, ⟨16, _⟩ => ⟨S45x1, .i32⟩
  | .hbm, ⟨17, _⟩ => ⟨S45x1, .i1⟩
  | .hbm, ⟨18, _⟩ => ⟨S45x1, .i1⟩
  | .hbm, ⟨19, _⟩ => ⟨S_, .i1⟩
  | .hbm, ⟨20, _⟩ => ⟨S45, .i1⟩
  | .hbm, ⟨21, _⟩ => ⟨S32x45x64, .f32⟩
  | .hbm, ⟨22, _⟩ => ⟨S32x45x64, .i1⟩
  | .hbm, ⟨23, _⟩ => ⟨S_, .f32⟩
  | .hbm, ⟨24, _⟩ => ⟨S32x45x64, .f32⟩
  | .hbm, ⟨25, _⟩ => ⟨S32x45x64, .f32⟩
  | .hbm, ⟨26, _⟩ => ⟨S32x4096x45, .f32⟩
  | .hbm, ⟨27, _⟩ => ⟨S_, .f32⟩
  | .hbm, ⟨28, _⟩ => ⟨S32x4096, .f32⟩
  | .hbm, ⟨29, _⟩ => ⟨S_, .f32⟩
  | .hbm, ⟨30, _⟩ => ⟨S32x4096, .f32⟩
  | .hbm, ⟨31, _⟩ => ⟨S_, .f32⟩
  | .hbm, ⟨32, _⟩ => ⟨S32x4096, .f32⟩
  | .hbm, ⟨33, _⟩ => ⟨S32x4096, .f32⟩
  | .hbm, ⟨34, _⟩ => ⟨S32x4096, .f32⟩
  | .hbm, ⟨35, _⟩ => ⟨S32x1x4096, .f32⟩
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩

abbrev nD : Nat := 1
abbrev τ : Topo := Topo.v7x

variable {F : FTy → Type} [FloatOps F]
-- ==== TopK.lean ====
abbrev S32x1x4096 : Shape := ⟨3, ![32, 1, 4096]⟩
abbrev S32x64 : Shape := ⟨2, ![32, 64]⟩
abbrev S32x4096 : Shape := ⟨2, ![32, 4096]⟩
abbrev S32 : Shape := ⟨1, ![32]⟩
abbrev S32x1 : Shape := ⟨2, ![32, 1]⟩

abbrev nBuf : Space → Nat
  | .hbm => 2
  | .vmem => 3
  | .smem => 0
  | _ => 0

abbrev bufTy : (tb : Table) → Fin (tcTables nBuf tb) → BufTy
  | .hbm, ⟨0, _⟩ => ⟨S32x1x4096, .f32⟩
  | .hbm, ⟨1, _⟩ => ⟨S32x64, .i32⟩
  | .local _ .vmem, ⟨0, _⟩ => ⟨S32x1x4096, .f32⟩
  | .local _ .vmem, ⟨1, _⟩ => ⟨S32x64, .i32⟩
  | .local _ .vmem, ⟨2, _⟩ => ⟨S32x4096, .f32⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_4 : BitVec 32 := 0#32
  let c45_i32 : BitVec 32 := 45#32
  let v8 : BitVec 32 := Scalar.addi c0_i32_4 c45_i32
  let c1_i32 : BitVec 32 := 1#32
  ⟨c0_i32_4, v8, c1_i32⟩
abbrev stage0_0 : Fin 1 → Memref sig .tc .vmem S32x1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== TopKRefIdeal.lean ====
abbrev S32x1x4096 : Shape := ⟨3, ![32, 1, 4096]⟩
abbrev S32x4096 : Shape := ⟨2, ![32, 4096]⟩
abbrev S32x45 : Shape := ⟨2, ![32, 45]⟩
abbrev S_ : Shape := ⟨0, ![]⟩
abbrev S32x64 : Shape := ⟨2, ![32, 64]⟩

abbrev nBuf : Space → Nat
  | .hbm => 7
  | .vmem => 0
  | .smem => 0
  | _ => 0

abbrev bufTy : (tb : Table) → Fin (tcTables nBuf tb) → BufTy
  | .hbm, ⟨0, _⟩ => ⟨S32x1x4096, .f32⟩
  | .hbm, ⟨1, _⟩ => ⟨S32x4096, .f32⟩
  | .hbm, ⟨2, _⟩ => ⟨S32x45, .f32⟩
  | .hbm, ⟨3, _⟩ => ⟨S32x45, .i32⟩
  | .hbm, ⟨4, _⟩ => ⟨S_, .i32⟩
  | .hbm, ⟨5, _⟩ => ⟨S_, .i32⟩
  | .hbm, ⟨6, _⟩ => ⟨S32x64, .i32⟩
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== WholeIdeal.lean ====
abbrev S2x4096x16x64 : Shape := ⟨4, ![2, 4096, 16, 64]⟩
abbrev S32x4096x64 : Shape := ⟨3, ![32, 4096, 64]⟩
abbrev S32x1x4096 : Shape := ⟨3, ![32, 1, 4096]⟩
abbrev S1x4096x64 : Shape := ⟨3, ![1, 4096, 64]⟩
abbrev S1x1x4096 : Shape := ⟨3, ![1, 1, 4096]⟩
abbrev S45x64 : Shape := ⟨2, ![45, 64]⟩
abbrev S_ : Shape := ⟨0, ![]⟩
abbrev S1x64 : Shape := ⟨2, ![1, 64]⟩
abbrev S1x1x64 : Shape := ⟨3, ![1, 1, 64]⟩
abbrev S4096x64 : Shape := ⟨2, ![4096, 64]⟩
abbrev S45x4096 : Shape := ⟨2, ![45, 4096]⟩
abbrev S4096 : Shape := ⟨1, ![4096]⟩
abbrev S32x64 : Shape := ⟨2, ![32, 64]⟩
abbrev S32x4096 : Shape := ⟨2, ![32, 4096]⟩
abbrev S32 : Shape := ⟨1, ![32]⟩
abbrev S32x1 : Shape := ⟨2, ![32, 1]⟩
abbrev S2048 : Shape := ⟨1, ![2048]⟩
abbrev S1 : Shape := ⟨1, ![1]⟩
abbrev S45 : Shape := ⟨1, ![45]⟩
abbrev S45x1 : Shape := ⟨2, ![45, 1]⟩
abbrev S64 : Shape := ⟨1, ![64]⟩
abbrev S2x16x4096x64 : Shape := ⟨4, ![2, 16, 4096, 64]⟩

abbrev nBuf : Space → Nat
  | .hbm => 11
  | .vmem => 15
  | .smem => 1
  | _ => 0

abbrev bufTy : (tb : Table) → Fin (tcTables nBuf tb) → BufTy
  | .hbm, ⟨0, _⟩ => ⟨S2x4096x16x64, .f32⟩
  | .hbm, ⟨1, _⟩ => ⟨S2x4096x16x64, .f32⟩
  | .hbm, ⟨2, _⟩ => ⟨S2x4096x16x64, .f32⟩
  | .hbm, ⟨3, _⟩ => ⟨S32x4096x64, .f32⟩
  | .hbm, ⟨4, _⟩ => ⟨S32x4096x64, .f32⟩
  | .hbm, ⟨5, _⟩ => ⟨S32x4096x64, .f32⟩
  | .hbm, ⟨6, _⟩ => ⟨S32x1x4096, .f32⟩
  | .hbm, ⟨7, _⟩ => ⟨S32x64, .i32⟩
  | .hbm, ⟨8, _⟩ => ⟨S2048, .i32⟩
  | .hbm, ⟨9, _⟩ => ⟨S32x4096x64, .f32⟩
  | .hbm, ⟨10, _⟩ => ⟨S2x16x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x1x4096, .f32⟩
  | .local _ .vmem, ⟨3, _⟩ => ⟨S1x1x4096, .f32⟩
  | .local _ .vmem, ⟨4, _⟩ => ⟨S45x64, .f32⟩
  | .local _ .vmem, ⟨5, _⟩ => ⟨S32x1x4096, .f32⟩
  | .local _ .vmem, ⟨6, _⟩ => ⟨S32x64, .i32⟩
  | .local _ .vmem, ⟨7, _⟩ => ⟨S32x4096, .f32⟩
  | .local _ .vmem, ⟨8, _⟩ => ⟨S1x4096x64, .f32⟩
  | .local _ .vmem, ⟨9, _⟩ => ⟨S1x4096x64, .f32⟩
  | .local _ .vmem, ⟨10, _⟩ => ⟨S1x4096x64, .f32⟩
  | .local _ .vmem, ⟨11, _⟩ => ⟨S1x4096x64, .f32⟩
  | .local _ .vmem, ⟨12, _⟩ => ⟨S1x4096x64, .f32⟩
  | .local _ .vmem, ⟨13, _⟩ => ⟨S1x4096x64, .f32⟩
  | .local _ .vmem, ⟨14, _⟩ => ⟨S45x64, .f32⟩
  | .local _ .smem, ⟨0, _⟩ => ⟨S2048, .i32⟩
  | _, _ => ⟨S2x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_scratch0 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc2_scratch0 : Ref sig .tc := ⟨.vmem, 14, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 5
abbrev cc1_sem1_0 : DmaSem sig := 6
abbrev cc2_sem0_0 : DmaSem sig := 7
abbrev cc2_sem1_0 : DmaSem sig := 8
abbrev cc2_sem1_1 : DmaSem sig := 9
abbrev cc2_sem2_0 : DmaSem sig := 10
abbrev cc2_sem2_1 : DmaSem sig := 11
abbrev cc2_sem3_0 : DmaSem sig := 12
abbrev cc2_sem3_1 : DmaSem sig := 13

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c1220_i32 : BitVec 32 := 1220#32
  let c0_i32_1 : BitVec 32 := 0#32
  ![arg0.toNat, 1220, 0]
def k0_off2 (i : grid0.Coords) : Fin 3 → Nat :=
  let arg0 : BitVec 32 := BitVec.ofNat 32 (i 0).val
  let c18_i32 : BitVec 32 := 18#32
  let c0_i32_3 : BitVec 32 := 0#32
  ![arg0.toNat, 18, 0]
def k0_off3 (i : grid0.Coords) : Fin 3 → Nat :=
  let arg0 : BitVec 32 := BitVec.ofNat 32 (i 0).val
  let c1207_i32 : BitVec 32 := 1207#32
  let c0_i32_5 : BitVec 32 := 0#32
  ![arg0.toNat, 1207, 0]
def k0_off4 (i : grid0.Coords) : Fin 3 → Nat :=
  let arg0 : BitVec 32 := BitVec.ofNat 32 (i 0).val
  let c3265_i32 : BitVec 32 := 3265#32
  let c0_i32_7 : BitVec 32 := 0#32
  ![arg0.toNat, 3265, 0]
def k0_off5 (i : grid0.Coords) : Fin 3 → Nat :=
  let arg0 : BitVec 32 := BitVec.ofNat 32 (i 0).val
  let c653_i32 : BitVec 32 := 653#32
  let c0_i32_9 : BitVec 32 := 0#32
  ![arg0.toNat, 653, 0]
def k0_off6 (i : grid0.Coords) : Fin 3 → Nat :=
  let arg0 : BitVec 32 := BitVec.ofNat 32 (i 0).val
  let c3435_i32 : BitVec 32 := 3435#32
  let c0_i32_11 : BitVec 32 := 0#32
  ![arg0.toNat, 3435, 0]
def k0_off7 (i : grid0.Coords) : Fin 3 → Nat :=
  let arg0 : BitVec 32 := BitVec.ofNat 32 (i 0).val
  let c2433_i32 : BitVec 32 := 2433#32
  let c0_i32_13 : BitVec 32 := 0#32
  ![arg0.toNat, 2433, 0]
def k0_off8 (i : grid0.Coords) : Fin 3 → Nat :=
  let arg0 : BitVec 32 := BitVec.ofNat 32 (i 0).val
  let c2343_i32 : BitVec 32 := 2343#32
  let c0_i32_15 : BitVec 32 := 0#32
  ![arg0.toNat, 2343, 0]
def k0_off9 (i : grid0.Coords) : Fin 3 → Nat :=
  let arg0 : BitVec 32 := BitVec.ofNat 32 (i 0).val
  let c2054_i32 : BitVec 32 := 2054#32
  let c0_i32_17 : BitVec 32 := 0#32
  ![arg0.toNat, 2054, 0]
def k0_off10 (i : grid0.Coords) : Fin 3 → Nat :=
  let arg0 : BitVec 32 := BitVec.ofNat 32 (i 0).val
  let c1282_i32 : BitVec 32 := 1282#32
  let c0_i32_19 : BitVec 32 := 0#32
  ![arg0.toNat, 1282, 0]
def k0_off11 (i : grid0.Coords) : Fin 3 → Nat :=
  let arg0 : BitVec 32 := BitVec.ofNat 32 (i 0).val
  let c552_i32 : BitVec 32 := 552#32
  let c0_i32_21 : BitVec 32 := 0#32
  ![arg0.toNat, 552, 0]
def k0_off12 (i : grid0.Coords) : Fin 3 → Nat :=
  let arg0 : BitVec 32 := BitVec.ofNat 32 (i 0).val
  let c2034_i32 : BitVec 32 := 2034#32
  let c0_i32_23 : BitVec 32 := 0#32
  ![arg0.toNat, 2034, 0]
def k0_off13 (i : grid0.Coords) : Fin 3 → Nat :=
  let arg0 : BitVec 32 := BitVec.ofNat 32 (i 0).val
  let c3481_i32 : BitVec 32 := 3481#32
  let c0_i32_25 : BitVec 32 := 0#32
  ![arg0.toNat, 3481, 0]
def k0_off14 (i : grid0.Coords) : Fin 3 → Nat :=
  let arg0 : BitVec 32 := BitVec.ofNat 32 (i 0).val
  let c475_i32 : BitVec 32 := 475#32
  let c0_i32_27 : BitVec 32 := 0#32
  ![arg0.toNat, 475, 0]
def k0_off15 (i : grid0.Coords) : Fin 3 → Nat :=
  let arg0 : BitVec 32 := BitVec.ofNat 32 (i 0).val
  let c4044_i32 : BitVec 32 := 4044#32
  let c0_i32_29 : BitVec 32 := 0#32
  ![arg0.toNat, 4044, 0]
def k0_off16 (i : grid0.Coords) : Fin 3 → Nat :=
  let arg0 : BitVec 32 := BitVec.ofNat 32 (i 0).val
  let c1810_i32 : BitVec 32 := 1810#32
  let c0_i32_31 : BitVec 32 := 0#32
  ![arg0.toNat, 1810, 0]
def k0_off17 (i : grid0.Coords) : Fin 3 → Nat :=
  let arg0 : BitVec 32 := BitVec.ofNat 32 (i 0).val
  let c1611_i32 : BitVec 32 := 1611#32
  let c0_i32_33 : BitVec 32 := 0#32
  ![arg0.toNat, 1611, 0]
def k0_off18 (i : grid0.Coords) : Fin 3 → Nat :=
  let arg0 : BitVec 32 := BitVec.ofNat 32 (i 0).val
  let c898_i32 : BitVec 32 := 898#32
  let c0_i32_35 : BitVec 32 := 0#32
  ![arg0.toNat, 898, 0]
def k0_off19 (i : grid0.Coords) : Fin 3 → Nat :=
  let arg0 : BitVec 32 := BitVec.ofNat 32 (i 0).val
  let c2883_i32 : BitVec 32 := 2883#32
  let c0_i32_38 : BitVec 32 := 0#32
  ![arg0.toNat, 2883, 0]
def k0_off20 (i : grid0.Coords) : Fin 3 → Nat :=
  let arg0 : BitVec 32 := BitVec.ofNat 32 (i 0).val
  let c519_i32 : BitVec 32 := 519#32
  let c0_i32_40 : BitVec 32 := 0#32
  ![arg0.toNat, 519, 0]
def k0_off21 (i : grid0.Coords) : Fin 3 → Nat :=
  let arg0 : BitVec 32 := BitVec.ofNat 32 (i 0).val
  let c3638_i32 : BitVec 32 := 3638#32
  let c0_i32_42 : BitVec 32 := 0#32
  ![arg0.toNat, 3638, 0]
def k0_off22 (i : grid0.Coords) : Fin 3 → Nat :=
  let arg0 : BitVec 32 := BitVec.ofNat 32 (i 0).val
  let c651_i32 : BitVec 32 := 651#32
  let c0_i32_44 : BitVec 32 := 0#32
  ![arg0.toNat, 651, 0]
def k0_off23 (i : grid0.Coords) : Fin 3 → Nat :=
  let arg0 : BitVec 32 := BitVec.ofNat 32 (i 0).val
  let c2316_i32 : BitVec 32 := 2316#32
  let c0_i32_46 : BitVec 32 := 0#32
  ![arg0.toNat, 2316, 0]
def k0_off24 (i : grid0.Coords) : Fin 3 → Nat :=
  let arg0 : BitVec 32 := BitVec.ofNat 32 (i 0).val
  let c3779_i32 : BitVec 32 := 3779#32
  let c0_i32_48 : BitVec 32 := 0#32
  ![arg0.toNat, 3779, 0]
def k0_off25 (i : grid0.Coords) : Fin 3 → Nat :=
  let arg0 : BitVec 32 := BitVec.ofNat 32 (i 0).val
  let c3180_i32 : BitVec 32 := 3180#32
  let c0_i32_50 : BitVec 32 := 0#32
  ![arg0.toNat, 3180, 0]
def k0_off26 (i : grid0.Coords) : Fin 3 → Nat :=
  let arg0 : BitVec 32 := BitVec.ofNat 32 (i 0).val
  let c1553_i32 : BitVec 32 := 1553#32
  let c0_i32_52 : BitVec 32 := 0#32
  ![arg0.toNat, 1553, 0]
def k0_off27 (i : grid0.Coords) : Fin 3 → Nat :=
  let arg0 : BitVec 32 := BitVec.ofNat 32 (i 0).val
  let c3056_i32 : BitVec 32 := 3056#32
  let c0_i32_54 : BitVec 32 := 0#32
  ![arg0.toNat, 3056, 0]
def k0_off28 (i : grid0.Coords) : Fin 3 → Nat :=
  let arg0 : BitVec 32 := BitVec.ofNat 32 (i 0).val
  let c539_i32 : BitVec 32 := 539#32
  let c0_i32_56 : BitVec 32 := 0#32
  ![arg0.toNat, 539, 0]
def k0_off29 (i : grid0.Coords) : Fin 3 → Nat :=
  let arg0 : BitVec 32 := BitVec.ofNat 32 (i 0).val
  let c2332_i32 : BitVec 32 := 2332#32
  let c0_i32_58 : BitVec 32 := 0#32
  ![arg0.toNat, 2332, 0]
def k0_off30 (i : grid0.Coords) : Fin 3 → Nat :=
  let arg0 : BitVec 32 := BitVec.ofNat 32 (i 0).val
  let c3383_i32 : BitVec 32 := 3383#32
  let c0_i32_60 : BitVec 32 := 0#32
  ![arg0.toNat, 3383, 0]
def k0_off31 (i : grid0.Coords) : Fin 3 → Nat :=
  let arg0 : BitVec 32 := BitVec.ofNat 32 (i 0).val
  let c2309_i32 : BitVec 32 := 2309#32
  let c0_i32_62 : BitVec 32 := 0#32
  ![arg0.toNat, 2309, 0]
def k0_off32 (i : grid0.Coords) : Fin 3 → Nat :=
  let arg0 : BitVec 32 := BitVec.ofNat 32 (i 0).val
  let c676_i32 : BitVec 32 := 676#32
  let c0_i32_64 : BitVec 32 := 0#32
  ![arg0.toNat, 676, 0]
def k0_off33 (i : grid0.Coords) : Fin 3 → Nat :=
  let arg0 : BitVec 32 := BitVec.ofNat 32 (i 0).val
  let c1493_i32 : BitVec 32 := 1493#32
  let c0_i32_66 : BitVec 32 := 0#32
  ![arg0.toNat, 1493, 0]
def k0_off34 (i : grid0.Coords) : Fin 3 → Nat :=
  let arg0 : BitVec 32 := BitVec.ofNat 32 (i 0).val
  let c2094_i32 : BitVec 32 := 2094#32
  let c0_i32_68 : BitVec 32 := 0#32
  ![arg0.toNat, 2094, 0]
def k0_off35 (i : grid0.Coords) : Fin 3 → Nat :=
  let arg0 : BitVec 32 := BitVec.ofNat 32 (i 0).val
  let c3123_i32 : BitVec 32 := 3123#32
  let c0_i32_70 : BitVec 32 := 0#32
  ![arg0.toNat, 3123, 0]
def k0_off36 (i : grid0.Coords) : Fin 3 → Nat :=
  let arg0 : BitVec 32 := BitVec.ofNat 32 (i 0).val
  let c2068_i32 : BitVec 32 := 2068#32
  let c0_i32_72 : BitVec 32 := 0#32
  ![arg0.toNat, 2068, 0]
def k0_off37 (i : grid0.Coords) : Fin 3 → Nat :=
  let arg0 : BitVec 32 := BitVec.ofNat 32 (i 0).val
  let c814_i32 : BitVec 32 := 814#32
  let c0_i32_74 : BitVec 32 := 0#32
  ![arg0.toNat, 814, 0]
def k0_off38 (i : grid0.Coords) : Fin 3 → Nat :=
  let arg0 : BitVec 32 := BitVec.ofNat 32 (i 0).val
  let c1970_i32 : BitVec 32 := 1970#32
  let c0_i32_76 : BitVec 32 := 0#32
  ![arg0.toNat, 1970, 0]
def k0_off39 (i : grid0.Coords) : Fin 3 → Nat :=
  let arg0 : BitVec 32 := BitVec.ofNat 32 (i 0).val
  let c3921_i32 : BitVec 32 := 3921#32
  let c0_i32_78 : BitVec 32 := 0#32
  ![arg0.toNat, 3921, 0]
def k0_off40 (i : grid0.Coords) : Fin 3 → Nat :=
  let arg0 : BitVec 32 := BitVec.ofNat 32 (i 0).val
  let c2029_i32 : BitVec 32 := 2029#32
  let c0_i32_80 : BitVec 32 := 0#32
  ![arg0.toNat, 2029, 0]
def k0_off41 (i : grid0.Coords) : Fin 3 → Nat :=
  let arg0 : BitVec 32 := BitVec.ofNat 32 (i 0).val
  let c1799_i32 : BitVec 32 := 1799#32
  let c0_i32_82 : BitVec 32 := 0#32
  ![arg0.toNat, 1799, 0]
def k0_off42 (i : grid0.Coords) : Fin 3 → Nat :=
  let arg0 : BitVec 32 := BitVec.ofNat 32 (i 0).val
  let c1604_i32 : BitVec 32 := 1604#32
  let c0_i32_84 : BitVec 32 := 0#32
  ![arg0.toNat, 1604, 0]
def k0_off43 (i : grid0.Coords) : Fin 3 → Nat :=
  let arg0 : BitVec 32 := BitVec.ofNat 32 (i 0).val
  let c3735_i32 : BitVec 32 := 3735#32
  let c0_i32_86 : BitVec 32 := 0#32
  ![arg0.toNat, 3735, 0]
def k0_off44 (i : grid0.Coords) : Fin 3 → Nat :=
  let arg0 : BitVec 32 := BitVec.ofNat 32 (i 0).val
  let c381_i32 : BitVec 32 := 381#32
  let c0_i32_88 : BitVec 32 := 0#32
  ![arg0.toNat, 381, 0]
def k0_off45 (i : grid0.Coords) : Fin 3 → Nat :=
  let arg0 : BitVec 32 := BitVec.ofNat 32 (i 0).val
  let c2937_i32 : BitVec 32 := 2937#32
  let c0_i32_90 : BitVec 32 := 0#32
  ![arg0.toNat, 2937, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

@[reducible] def k1_t1_loop : Scf.Loop 32 :=
  let c0_i32_4 : BitVec 32 := 0#32
  let c45_i32 : BitVec 32 := 45#32
  let v8 : BitVec 32 := Scalar.addi c0_i32_4 c45_i32
  let c1_i32 : BitVec 32 := 1#32
  ⟨c0_i32_4, v8, c1_i32⟩
abbrev stage1_0 : Fin 1 → Memref sig .tc .vmem S32x1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x64 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![32], ![false]⟩

def k2_off1 (i : grid2.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k2_off2 (i : grid2.Coords) (v3 : BitVec 32) : Fin 3 → Nat :=
  let arg0 : BitVec 32 := BitVec.ofNat 32 (i 0).val
  let c0_i32_2 : BitVec 32 := 0#32
  ![arg0.toNat, v3.toNat, 0]

def k2_off3 (i : grid2.Coords) : Fin 1 → Nat :=
  let arg0 : BitVec 32 := BitVec.ofNat 32 (i 0).val
  let c64_i32_3 : BitVec 32 := 64#32
  let v7 : BitVec 32 := Scalar.muli arg0 c64_i32_3
  let c1_i32 : BitVec 32 := 1#32
  let v8 : BitVec 32 := Scalar.addi v7 c1_i32
  let v9 : Index := Scalar.indexCast v8
  ![v9.toNat]
def k2_off4 (i : grid2.Coords) (v10 : BitVec 32) : Fin 3 → Nat :=
  let arg0 : BitVec 32 := BitVec.ofNat 32 (i 0).val
  let c0_i32_6 : BitVec 32 := 0#32
  ![arg0.toNat, v10.toNat, 0]

def k2_off5 (i : grid2.Coords) : Fin 1 → Nat :=
  let arg0 : BitVec 32 := BitVec.ofNat 32 (i 0).val
  let c64_i32_7 : BitVec 32 := 64#32
  let v14 : BitVec 32 := Scalar.muli arg0 c64_i32_7
  let c2_i32 : BitVec 32 := 2#32
  let v15 : BitVec 32 := Scalar.addi v14 c2_i32
  let v16 : Index := Scalar.indexCast v15
  ![v16.toNat]
def k2_off6 (i : grid2.Coords) (v17 : BitVec 32) : Fin 3 → Nat :=
  let arg0 : BitVec 32 := BitVec.ofNat 32 (i 0).val
  let c0_i32_10 : BitVec 32 := 0#32
  ![arg0.toNat, v17.toNat, 0]

def k2_off7 (i : grid2.Coords) : Fin 1 → Nat :=
  let arg0 : BitVec 32 := BitVec.ofNat 32 (i 0).val
  let c64_i32_11 : BitVec 32 := 64#32
  let v21 : BitVec 32 := Scalar.muli arg0 c64_i32_11
  let c3_i32 : BitVec 32 := 3#32
  let v22 : BitVec 32 := Scalar.addi v21 c3_i32
  let v23 : Index := Scalar.indexCast v22
  ![v23.toNat]
def k2_off8 (i : grid2.Coords) (v24 : BitVec 32) : Fin 3 → Nat :=
  let arg0 : BitVec 32 := BitVec.ofNat 32 (i 0).val
  let c0_i32_14 : BitVec 32 := 0#32
  ![arg0.toNat, v24.toNat, 0]

def k2_off9 (i : grid2.Coords) : Fin 1 → Nat :=
  let arg0 : BitVec 32 := BitVec.ofNat 32 (i 0).val
  let c64_i32_15 : BitVec 32 := 64#32
  let v28 : BitVec 32 := Scalar.muli arg0 c64_i32_15
  let c4_i32 : BitVec 32 := 4#32
  let v29 : BitVec 32 := Scalar.addi v28 c4_i32
  let v30 : Index := Scalar.indexCast v29
  ![v30.toNat]
def k2_off10 (i : grid2.Coords) (v31 : BitVec 32) : Fin 3 → Nat :=
  let arg0 : BitVec 32 := BitVec.ofNat 32 (i 0).val
  let c0_i32_18 : BitVec 32 := 0#32
  ![arg0.toNat, v31.toNat, 0]

def k2_off11 (i : grid2.Coords) : Fin 1 → Nat :=
  let arg0 : BitVec 32 := BitVec.ofNat 32 (i 0).val
  let c64_i32_19 : BitVec 32 := 64#32
  let v35 : BitVec 32 := Scalar.muli arg0 c64_i32_19
  let c5_i32 : BitVec 32 := 5#32
  let v36 : BitVec 32 := Scalar.addi v35 c5_i32
  let v37 : Index := Scalar.indexCast v36
  ![v37.toNat]
def k2_off12 (i : grid2.Coords) (v38 : BitVec 32) : Fin 3 → Nat :=
  let arg0 : BitVec 32 := BitVec.ofNat 32 (i 0).val
  let c0_i32_22 : BitVec 32 := 0#32
  ![arg0.toNat, v38.toNat, 0]

def k2_off13 (i : grid2.Coords) : Fin 1 → Nat :=
  let arg0 : BitVec 32 := BitVec.ofNat 32 (i 0).val
  let c64_i32_23 : BitVec 32 := 64#32
  let v42 : BitVec 32 := Scalar.muli arg0 c64_i32_23
  let c6_i32 : BitVec 32 := 6#32
  let v43 : BitVec 32 := Scalar.addi v42 c6_i32
  let v44 : Index := Scalar.indexCast v43
  ![v44.toNat]
def k2_off14 (i : grid2.Coords) (v45 : BitVec 32) : Fin 3 → Nat :=
  let arg0 : BitVec 32 := BitVec.ofNat 32 (i 0).val
  let c0_i32_26 : BitVec 32 := 0#32
  ![arg0.toNat, v45.toNat, 0]

def k2_off15 (i : grid2.Coords) : Fin 1 → Nat :=
  let arg0 : BitVec 32 := BitVec.ofNat 32 (i 0).val
  let c64_i32_27 : BitVec 32 := 64#32
  let v49 : BitVec 32 := Scalar.muli arg0 c64_i32_27
  let c7_i32 : BitVec 32 := 7#32
  let v50 : BitVec 32 := Scalar.addi v49 c7_i32
  let v51 : Index := Scalar.indexCast v50
  ![v51.toNat]
def k2_off16 (i : grid2.Coords) (v52 : BitVec 32) : Fin 3 → Nat :=
  let arg0 : BitVec 32 := BitVec.ofNat 32 (i 0).val
  let c0_i32_30 : BitVec 32 := 0#32
  ![arg0.toNat, v52.toNat, 0]

def k2_off17 (i : grid2.Coords) : Fin 1 → Nat :=
  let arg0 : BitVec 32 := BitVec.ofNat 32 (i 0).val
  let c64_i32_31 : BitVec 32 := 64#32
  let v56 : BitVec 32 := Scalar.muli arg0 c64_i32_31
  let c8_i32 : BitVec 32 := 8#32
  let v57 : BitVec 32 := Scalar.addi v56 c8_i32
  let v58 : Index := Scalar.indexCast v57
  ![v58.toNat]
def k2_off18 (i : grid2.Coords) (v59 : BitVec 32) : Fin 3 → Nat :=
  let arg0 : BitVec 32 := BitVec.ofNat 32 (i 0).val
  let c0_i32_34 : BitVec 32 := 0#32
  ![arg0.toNat, v59.toNat, 0]

def k2_off19 (i : grid2.Coords) : Fin 1 → Nat :=
  let arg0 : BitVec 32 := BitVec.ofNat 32 (i 0).val
  let c64_i32_35 : BitVec 32 := 64#32
  let v63 : BitVec 32 := Scalar.muli arg0 c64_i32_35
  let c9_i32 : BitVec 32 := 9#32
  let v64 : BitVec 32 := Scalar.addi v63 c9_i32
  let v65 : Index := Scalar.indexCast v64
  ![v65.toNat]
def k2_off20 (i : grid2.Coords) (v66 : BitVec 32) : Fin 3 → Nat :=
  let arg0 : BitVec 32 := BitVec.ofNat 32 (i 0).val
  let c0_i32_38 : BitVec 32 := 0#32
  ![arg0.toNat, v66.toNat, 0]

def k2_off21 (i : grid2.Coords) : Fin 1 → Nat :=
  let arg0 : BitVec 32 := BitVec.ofNat 32 (i 0).val
  let c64_i32_39 : BitVec 32 := 64#32
  let v70 : BitVec 32 := Scalar.muli arg0 c64_i32_39
  let c10_i32 : BitVec 32 := 10#32
  let v71 : BitVec 32 := Scalar.addi v70 c10_i32
  let v72 : Index := Scalar.indexCast v71
  ![v72.toNat]
def k2_off22 (i : grid2.Coords) (v73 : BitVec 32) : Fin 3 → Nat :=
  let arg0 : BitVec 32 := BitVec.ofNat 32 (i 0).val
  let c0_i32_42 : BitVec 32 := 0#32
  ![arg0.toNat, v73.toNat, 0]

def k2_off23 (i : grid2.Coords) : Fin 1 → Nat :=
  let arg0 : BitVec 32 := BitVec.ofNat 32 (i 0).val
  let c64_i32_43 : BitVec 32 := 64#32
  let v77 : BitVec 32 := Scalar.muli arg0 c64_i32_43
  let c11_i32 : BitVec 32 := 11#32
  let v78 : BitVec 32 := Scalar.addi v77 c11_i32
  let v79 : Index := Scalar.indexCast v78
  ![v79.toNat]
def k2_off24 (i : grid2.Coords) (v80 : BitVec 32) : Fin 3 → Nat :=
  let arg0 : BitVec 32 := BitVec.ofNat 32 (i 0).val
  let c0_i32_46 : BitVec 32 := 0#32
  ![arg0.toNat, v80.toNat, 0]

def k2_off25 (i : grid2.Coords) : Fin 1 → Nat :=
  let arg0 : BitVec 32 := BitVec.ofNat 32 (i 0).val
  let c64_i32_47 : BitVec 32 := 64#32
  let v84 : BitVec 32 := Scalar.muli arg0 c64_i32_47
  let c12_i32 : BitVec 32 := 12#32
  let v85 : BitVec 32 := Scalar.addi v84 c12_i32
  let v86 : Index := Scalar.indexCast v85
  ![v86.toNat]
def k2_off26 (i : grid2.Coords) (v87 : BitVec 32) : Fin 3 → Nat :=
  let arg0 : BitVec 32 := BitVec.ofNat 32 (i 0).val
  let c0_i32_50 : BitVec 32 := 0#32
  ![arg0.toNat, v87.toNat, 0]

def k2_off27 (i : grid2.Coords) : Fin 1 → Nat :=
  let arg0 : BitVec 32 := BitVec.ofNat 32 (i 0).val
  let c64_i32_51 : BitVec 32 := 64#32
  let v91 : BitVec 32 := Scalar.muli arg0 c64_i32_51
  let c13_i32 : BitVec 32 := 13#32
  let v92 : BitVec 32 := Scalar.addi v91 c13_i32
  let v93 : Index := Scalar.indexCast v92
  ![v93.toNat]
def k2_off28 (i : grid2.Coords) (v94 : BitVec 32) : Fin 3 → Nat :=
  let arg0 : BitVec 32 := BitVec.ofNat 32 (i 0).val
  let c0_i32_54 : BitVec 32 := 0#32
  ![arg0.toNat, v94.toNat, 0]

def k2_off29 (i : grid2.Coords) : Fin 1 → Nat :=
  let arg0 : BitVec 32 := BitVec.ofNat 32 (i 0).val
  let c64_i32_55 : BitVec 32 := 64#32
  let v98 : BitVec 32 := Scalar.muli arg0 c64_i32_55
  let c14_i32 : BitVec 32 := 14#32
  let v99 : BitVec 32 := Scalar.addi v98 c14_i32
  let v100 : Index := Scalar.indexCast v99
  ![v100.toNat]
def k2_off30 (i : grid2.Coords) (v101 : BitVec 32) : Fin 3 → Nat :=
  let arg0 : BitVec 32 := BitVec.ofNat 32 (i 0).val
  let c0_i32_58 : BitVec 32 := 0#32
  ![arg0.toNat, v101.toNat, 0]

def k2_off31 (i : grid2.Coords) : Fin 1 → Nat :=
  let arg0 : BitVec 32 := BitVec.ofNat 32 (i 0).val
  let c64_i32_59 : BitVec 32 := 64#32
  let v105 : BitVec 32 := Scalar.muli arg0 c64_i32_59
  let c15_i32 : BitVec 32 := 15#32
  let v106 : BitVec 32 := Scalar.addi v105 c15_i32
  let v107 : Index := Scalar.indexCast v106
  ![v107.toNat]
def k2_off32 (i : grid2.Coords) (v108 : BitVec 32) : Fin 3 → Nat :=
  let arg0 : BitVec 32 := BitVec.ofNat 32 (i 0).val
  let c0_i32_62 : BitVec 32 := 0#32
  ![arg0.toNat, v108.toNat, 0]

def k2_off33 (i : grid2.Coords) : Fin 1 → Nat :=
  let arg0 : BitVec 32 := BitVec.ofNat 32 (i 0).val
  let c64_i32_63 : BitVec 32 := 64#32
  let v112 : BitVec 32 := Scalar.muli arg0 c64_i32_63
  let c16_i32 : BitVec 32 := 16#32
  let v113 : BitVec 32 := Scalar.addi v112 c16_i32
  let v114 : Index := Scalar.indexCast v113
  ![v114.toNat]
def k2_off34 (i : grid2.Coords) (v115 : BitVec 32) : Fin 3 → Nat :=
  let arg0 : BitVec 32 := BitVec.ofNat 32 (i 0).val
  let c0_i32_66 : BitVec 32 := 0#32
  ![arg0.toNat, v115.toNat, 0]

def k2_off35 (i : grid2.Coords) : Fin 1 → Nat :=
  let arg0 : BitVec 32 := BitVec.ofNat 32 (i 0).val
  let c64_i32_67 : BitVec 32 := 64#32
  let v119 : BitVec 32 := Scalar.muli arg0 c64_i32_67
  let c17_i32 : BitVec 32 := 17#32
  let v120 : BitVec 32 := Scalar.addi v119 c17_i32
  let v121 : Index := Scalar.indexCast v120
  ![v121.toNat]
def k2_off36 (i : grid2.Coords) (v122 : BitVec 32) : Fin 3 → Nat :=
  let arg0 : BitVec 32 := BitVec.ofNat 32 (i 0).val
  let c0_i32_70 : BitVec 32 := 0#32
  ![arg0.toNat, v122.toNat, 0]

def k2_off37 (i : grid2.Coords) : Fin 1 → Nat :=
  let arg0 : BitVec 32 := BitVec.ofNat 32 (i 0).val
  let c64_i32_71 : BitVec 32 := 64#32
  let v126 : BitVec 32 := Scalar.muli arg0 c64_i32_71
  let c18_i32 : BitVec 32 := 18#32
  let v127 : BitVec 32 := Scalar.addi v126 c18_i32
  let v128 : Index := Scalar.indexCast v127
  ![v128.toNat]
def k2_off38 (i : grid2.Coords) (v129 : BitVec 32) : Fin 3 → Nat :=
  let arg0 : BitVec 32 := BitVec.ofNat 32 (i 0).val
  let c0_i32_74 : BitVec 32 := 0#32
  ![arg0.toNat, v129.toNat, 0]

def k2_off39 (i : grid2.Coords) : Fin 1 → Nat :=
  let arg0 : BitVec 32 := BitVec.ofNat 32 (i 0).val
  let c64_i32_75 : BitVec 32 := 64#32
  let v133 : BitVec 32 := Scalar.muli arg0 c64_i32_75
  let c19_i32 : BitVec 32 := 19#32
  let v134 : BitVec 32 := Scalar.addi v133 c19_i32
  let v135 : Index := Scalar.indexCast v134
  ![v135.toNat]
def k2_off40 (i : grid2.Coords) (v136 : BitVec 32) : Fin 3 → Nat :=
  let arg0 : BitVec 32 := BitVec.ofNat 32 (i 0).val
  let c0_i32_78 : BitVec 32 := 0#32
  ![arg0.toNat, v136.toNat, 0]

def k2_off41 (i : grid2.Coords) : Fin 1 → Nat :=
  let arg0 : BitVec 32 := BitVec.ofNat 32 (i 0).val
  let c64_i32_79 : BitVec 32 := 64#32
  let v140 : BitVec 32 := Scalar.muli arg0 c64_i32_79
  let c20_i32 : BitVec 32 := 20#32
  let v141 : BitVec 32 := Scalar.addi v140 c20_i32
  let v142 : Index := Scalar.indexCast v141
  ![v142.toNat]
def k2_off42 (i : grid2.Coords) (v143 : BitVec 32) : Fin 3 → Nat :=
  let arg0 : BitVec 32 := BitVec.ofNat 32 (i 0).val
  let c0_i32_82 : BitVec 32 := 0#32
  ![arg0.toNat, v143.toNat, 0]

def k2_off43 (i : grid2.Coords) : Fin 1 → Nat :=
  let arg0 : BitVec 32 := BitVec.ofNat 32 (i 0).val
  let c64_i32_83 : BitVec 32 := 64#32
  let v147 : BitVec 32 := Scalar.muli arg0 c64_i32_83
  let c21_i32 : BitVec 32 := 21#32
  let v148 : BitVec 32 := Scalar.addi v147 c21_i32
  let v149 : Index := Scalar.indexCast v148
  ![v149.toNat]
def k2_off44 (i : grid2.Coords) (v150 : BitVec 32) : Fin 3 → Nat :=
  let arg0 : BitVec 32 := BitVec.ofNat 32 (i 0).val
  let c0_i32_86 : BitVec 32 := 0#32
  ![arg0.toNat, v150.toNat, 0]

def k2_off45 (i : grid2.Coords) : Fin 1 → Nat :=
  let arg0 : BitVec 32 := BitVec.ofNat 32 (i 0).val
  let c64_i32_87 : BitVec 32 := 64#32
  let v154 : BitVec 32 := Scalar.muli arg0 c64_i32_87
  let c22_i32 : BitVec 32 := 22#32
  let v155 : BitVec 32 := Scalar.addi v154 c22_i32
  let v156 : Index := Scalar.indexCast v155
  ![v156.toNat]
def k2_off46 (i : grid2.Coords) (v157 : BitVec 32) : Fin 3 → Nat :=
  let arg0 : BitVec 32 := BitVec.ofNat 32 (i 0).val
  let c0_i32_90 : BitVec 32 := 0#32
  ![arg0.toNat, v157.toNat, 0]

def k2_off47 (i : grid2.Coords) : Fin 1 → Nat :=
  let arg0 : BitVec 32 := BitVec.ofNat 32 (i 0).val
  let c64_i32_91 : BitVec 32 := 64#32
  let v161 : BitVec 32 := Scalar.muli arg0 c64_i32_91
  let c23_i32 : BitVec 32 := 23#32
  let v162 : BitVec 32 := Scalar.addi v161 c23_i32
  let v163 : Index := Scalar.indexCast v162
  ![v163.toNat]
def k2_off48 (i : grid2.Coords) (v164 : BitVec 32) : Fin 3 → Nat :=
  let arg0 : BitVec 32 := BitVec.ofNat 32 (i 0).val
  let c0_i32_94 : BitVec 32 := 0#32
  ![arg0.toNat, v164.toNat, 0]

def k2_off49 (i : grid2.Coords) : Fin 1 → Nat :=
  let arg0 : BitVec 32 := BitVec.ofNat 32 (i 0).val
  let c64_i32_95 : BitVec 32 := 64#32
  let v168 : BitVec 32 := Scalar.muli arg0 c64_i32_95
  let c24_i32 : BitVec 32 := 24#32
  let v169 : BitVec 32 := Scalar.addi v168 c24_i32
  let v170 : Index := Scalar.indexCast v169
  ![v170.toNat]
def k2_off50 (i : grid2.Coords) (v171 : BitVec 32) : Fin 3 → Nat :=
  let arg0 : BitVec 32 := BitVec.ofNat 32 (i 0).val
  let c0_i32_98 : BitVec 32 := 0#32
  ![arg0.toNat, v171.toNat, 0]

def k2_off51 (i : grid2.Coords) : Fin 1 → Nat :=
  let arg0 : BitVec 32 := BitVec.ofNat 32 (i 0).val
  let c64_i32_99 : BitVec 32 := 64#32
  let v175 : BitVec 32 := Scalar.muli arg0 c64_i32_99
  let c25_i32 : BitVec 32 := 25#32
  let v176 : BitVec 32 := Scalar.addi v175 c25_i32
  let v177 : Index := Scalar.indexCast v176
  ![v177.toNat]
def k2_off52 (i : grid2.Coords) (v178 : BitVec 32) : Fin 3 → Nat :=
  let arg0 : BitVec 32 := BitVec.ofNat 32 (i 0).val
  let c0_i32_102 : BitVec 32 := 0#32
  ![arg0.toNat, v178.toNat, 0]

def k2_off53 (i : grid2.Coords) : Fin 1 → Nat :=
  let arg0 : BitVec 32 := BitVec.ofNat 32 (i 0).val
  let c64_i32_103 : BitVec 32 := 64#32
  let v182 : BitVec 32 := Scalar.muli arg0 c64_i32_103
  let c26_i32 : BitVec 32 := 26#32
  let v183 : BitVec 32 := Scalar.addi v182 c26_i32
  let v184 : Index := Scalar.indexCast v183
  ![v184.toNat]
def k2_off54 (i : grid2.Coords) (v185 : BitVec 32) : Fin 3 → Nat :=
  let arg0 : BitVec 32 := BitVec.ofNat 32 (i 0).val
  let c0_i32_106 : BitVec 32 := 0#32
  ![arg0.toNat, v185.toNat, 0]

def k2_off55 (i : grid2.Coords) : Fin 1 → Nat :=
  let arg0 : BitVec 32 := BitVec.ofNat 32 (i 0).val
  let c64_i32_107 : BitVec 32 := 64#32
  let v189 : BitVec 32 := Scalar.muli arg0 c64_i32_107
  let c27_i32 : BitVec 32 := 27#32
  let v190 : BitVec 32 := Scalar.addi v189 c27_i32
  let v191 : Index := Scalar.indexCast v190
  ![v191.toNat]
def k2_off56 (i : grid2.Coords) (v192 : BitVec 32) : Fin 3 → Nat :=
  let arg0 : BitVec 32 := BitVec.ofNat 32 (i 0).val
  let c0_i32_110 : BitVec 32 := 0#32
  ![arg0.toNat, v192.toNat, 0]

def k2_off57 (i : grid2.Coords) : Fin 1 → Nat :=
  let arg0 : BitVec 32 := BitVec.ofNat 32 (i 0).val
  let c64_i32_111 : BitVec 32 := 64#32
  let v196 : BitVec 32 := Scalar.muli arg0 c64_i32_111
  let c28_i32 : BitVec 32 := 28#32
  let v197 : BitVec 32 := Scalar.addi v196 c28_i32
  let v198 : Index := Scalar.indexCast v197
  ![v198.toNat]
def k2_off58 (i : grid2.Coords) (v199 : BitVec 32) : Fin 3 → Nat :=
  let arg0 : BitVec 32 := BitVec.ofNat 32 (i 0).val
  let c0_i32_114 : BitVec 32 := 0#32
  ![arg0.toNat, v199.toNat, 0]

def k2_off59 (i : grid2.Coords) : Fin 1 → Nat :=
  let arg0 : BitVec 32 := BitVec.ofNat 32 (i 0).val
  let c64_i32_115 : BitVec 32 := 64#32
  let v203 : BitVec 32 := Scalar.muli arg0 c64_i32_115
  let c29_i32 : BitVec 32 := 29#32
  let v204 : BitVec 32 := Scalar.addi v203 c29_i32
  let v205 : Index := Scalar.indexCast v204
  ![v205.toNat]
def k2_off60 (i : grid2.Coords) (v206 : BitVec 32) : Fin 3 → Nat :=
  let arg0 : BitVec 32 := BitVec.ofNat 32 (i 0).val
  let c0_i32_118 : BitVec 32 := 0#32
  ![arg0.toNat, v206.toNat, 0]

def k2_off61 (i : grid2.Coords) : Fin 1 → Nat :=
  let arg0 : BitVec 32 := BitVec.ofNat 32 (i 0).val
  let c64_i32_119 : BitVec 32 := 64#32
  let v210 : BitVec 32 := Scalar.muli arg0 c64_i32_119
  let c30_i32 : BitVec 32 := 30#32
  let v211 : BitVec 32 := Scalar.addi v210 c30_i32
  let v212 : Index := Scalar.indexCast v211
  ![v212.toNat]
def k2_off62 (i : grid2.Coords) (v213 : BitVec 32) : Fin 3 → Nat :=
  let arg0 : BitVec 32 := BitVec.ofNat 32 (i 0).val
  let c0_i32_122 : BitVec 32 := 0#32
  ![arg0.toNat, v213.toNat, 0]

def k2_off63 (i : grid2.Coords) : Fin 1 → Nat :=
  let arg0 : BitVec 32 := BitVec.ofNat 32 (i 0).val
  let c64_i32_123 : BitVec 32 := 64#32
  let v217 : BitVec 32 := Scalar.muli arg0 c64_i32_123
  let c31_i32 : BitVec 32 := 31#32
  let v218 : BitVec 32 := Scalar.addi v217 c31_i32
  let v219 : Index := Scalar.indexCast v218
  ![v219.toNat]
def k2_off64 (i : grid2.Coords) (v220 : BitVec 32) : Fin 3 → Nat :=
  let arg0 : BitVec 32 := BitVec.ofNat 32 (i 0).val
  let c0_i32_126 : BitVec 32 := 0#32
  ![arg0.toNat, v220.toNat, 0]

def k2_off65 (i : grid2.Coords) : Fin 1 → Nat :=
  let arg0 : BitVec 32 := BitVec.ofNat 32 (i 0).val
  let c64_i32_127 : BitVec 32 := 64#32
  let v224 : BitVec 32 := Scalar.muli arg0 c64_i32_127
  let c32_i32 : BitVec 32 := 32#32
  let v225 : BitVec 32 := Scalar.addi v224 c32_i32
  let v226 : Index := Scalar.indexCast v225
  ![v226.toNat]
def k2_off66 (i : grid2.Coords) (v227 : BitVec 32) : Fin 3 → Nat :=
  let arg0 : BitVec 32 := BitVec.ofNat 32 (i 0).val
  let c0_i32_130 : BitVec 32 := 0#32
  ![arg0.toNat, v227.toNat, 0]

def k2_off67 (i : grid2.Coords) : Fin 1 → Nat :=
  let arg0 : BitVec 32 := BitVec.ofNat 32 (i 0).val
  let c64_i32_131 : BitVec 32 := 64#32
  let v231 : BitVec 32 := Scalar.muli arg0 c64_i32_131
  let c33_i32 : BitVec 32 := 33#32
  let v232 : BitVec 32 := Scalar.addi v231 c33_i32
  let v233 : Index := Scalar.indexCast v232
  ![v233.toNat]
def k2_off68 (i : grid2.Coords) (v234 : BitVec 32) : Fin 3 → Nat :=
  let arg0 : BitVec 32 := BitVec.ofNat 32 (i 0).val
  let c0_i32_134 : BitVec 32 := 0#32
  ![arg0.toNat, v234.toNat, 0]

def k2_off69 (i : grid2.Coords) : Fin 1 → Nat :=
  let arg0 : BitVec 32 := BitVec.ofNat 32 (i 0).val
  let c64_i32_135 : BitVec 32 := 64#32
  let v238 : BitVec 32 := Scalar.muli arg0 c64_i32_135
  let c34_i32 : BitVec 32 := 34#32
  let v239 : BitVec 32 := Scalar.addi v238 c34_i32
  let v240 : Index := Scalar.indexCast v239
  ![v240.toNat]
def k2_off70 (i : grid2.Coords) (v241 : BitVec 32) : Fin 3 → Nat :=
  let arg0 : BitVec 32 := BitVec.ofNat 32 (i 0).val
  let c0_i32_138 : BitVec 32 := 0#32
  ![arg0.toNat, v241.toNat, 0]

def k2_off71 (i : grid2.Coords) : Fin 1 → Nat :=
  let arg0 : BitVec 32 := BitVec.ofNat 32 (i 0).val
  let c64_i32_139 : BitVec 32 := 64#32
  let v245 : BitVec 32 := Scalar.muli arg0 c64_i32_139
  let c35_i32 : BitVec 32 := 35#32
  let v246 : BitVec 32 := Scalar.addi v245 c35_i32
  let v247 : Index := Scalar.indexCast v246
  ![v247.toNat]
def k2_off72 (i : grid2.Coords) (v248 : BitVec 32) : Fin 3 → Nat :=
  let arg0 : BitVec 32 := BitVec.ofNat 32 (i 0).val
  let c0_i32_142 : BitVec 32 := 0#32
  ![arg0.toNat, v248.toNat, 0]

def k2_off73 (i : grid2.Coords) : Fin 1 → Nat :=
  let arg0 : BitVec 32 := BitVec.ofNat 32 (i 0).val
  let c64_i32_143 : BitVec 32 := 64#32
  let v252 : BitVec 32 := Scalar.muli arg0 c64_i32_143
  let c36_i32 : BitVec 32 := 36#32
  let v253 : BitVec 32 := Scalar.addi v252 c36_i32
  let v254 : Index := Scalar.indexCast v253
  ![v254.toNat]
def k2_off74 (i : grid2.Coords) (v255 : BitVec 32) : Fin 3 → Nat :=
  let arg0 : BitVec 32 := BitVec.ofNat 32 (i 0).val
  let c0_i32_146 : BitVec 32 := 0#32
  ![arg0.toNat, v255.toNat, 0]

def k2_off75 (i : grid2.Coords) : Fin 1 → Nat :=
  let arg0 : BitVec 32 := BitVec.ofNat 32 (i 0).val
  let c64_i32_147 : BitVec 32 := 64#32
  let v259 : BitVec 32 := Scalar.muli arg0 c64_i32_147
  let c37_i32 : BitVec 32 := 37#32
  let v260 : BitVec 32 := Scalar.addi v259 c37_i32
  let v261 : Index := Scalar.indexCast v260
  ![v261.toNat]
def k2_off76 (i : grid2.Coords) (v262 : BitVec 32) : Fin 3 → Nat :=
  let arg0 : BitVec 32 := BitVec.ofNat 32 (i 0).val
  let c0_i32_150 : BitVec 32 := 0#32
  ![arg0.toNat, v262.toNat, 0]

def k2_off77 (i : grid2.Coords) : Fin 1 → Nat :=
  let arg0 : BitVec 32 := BitVec.ofNat 32 (i 0).val
  let c64_i32_151 : BitVec 32 := 64#32
  let v266 : BitVec 32 := Scalar.muli arg0 c64_i32_151
  let c38_i32 : BitVec 32 := 38#32
  let v267 : BitVec 32 := Scalar.addi v266 c38_i32
  let v268 : Index := Scalar.indexCast v267
  ![v268.toNat]
def k2_off78 (i : grid2.Coords) (v269 : BitVec 32) : Fin 3 → Nat :=
  let arg0 : BitVec 32 := BitVec.ofNat 32 (i 0).val
  let c0_i32_154 : BitVec 32 := 0#32
  ![arg0.toNat, v269.toNat, 0]

def k2_off79 (i : grid2.Coords) : Fin 1 → Nat :=
  let arg0 : BitVec 32 := BitVec.ofNat 32 (i 0).val
  let c64_i32_155 : BitVec 32 := 64#32
  let v273 : BitVec 32 := Scalar.muli arg0 c64_i32_155
  let c39_i32 : BitVec 32 := 39#32
  let v274 : BitVec 32 := Scalar.addi v273 c39_i32
  let v275 : Index := Scalar.indexCast v274
  ![v275.toNat]
def k2_off80 (i : grid2.Coords) (v276 : BitVec 32) : Fin 3 → Nat :=
  let arg0 : BitVec 32 := BitVec.ofNat 32 (i 0).val
  let c0_i32_158 : BitVec 32 := 0#32
  ![arg0.toNat, v276.toNat, 0]

def k2_off81 (i : grid2.Coords) : Fin 1 → Nat :=
  let arg0 : BitVec 32 := BitVec.ofNat 32 (i 0).val
  let c64_i32_159 : BitVec 32 := 64#32
  let v280 : BitVec 32 := Scalar.muli arg0 c64_i32_159
  let c40_i32 : BitVec 32 := 40#32
  let v281 : BitVec 32 := Scalar.addi v280 c40_i32
  let v282 : Index := Scalar.indexCast v281
  ![v282.toNat]
def k2_off82 (i : grid2.Coords) (v283 : BitVec 32) : Fin 3 → Nat :=
  let arg0 : BitVec 32 := BitVec.ofNat 32 (i 0).val
  let c0_i32_162 : BitVec 32 := 0#32
  ![arg0.toNat, v283.toNat, 0]

def k2_off83 (i : grid2.Coords) : Fin 1 → Nat :=
  let arg0 : BitVec 32 := BitVec.ofNat 32 (i 0).val
  let c64_i32_163 : BitVec 32 := 64#32
  let v287 : BitVec 32 := Scalar.muli arg0 c64_i32_163
  let c41_i32 : BitVec 32 := 41#32
  let v288 : BitVec 32 := Scalar.addi v287 c41_i32
  let v289 : Index := Scalar.indexCast v288
  ![v289.toNat]
def k2_off84 (i : grid2.Coords) (v290 : BitVec 32) : Fin 3 → Nat :=
  let arg0 : BitVec 32 := BitVec.ofNat 32 (i 0).val
  let c0_i32_166 : BitVec 32 := 0#32
  ![arg0.toNat, v290.toNat, 0]

def k2_off85 (i : grid2.Coords) : Fin 1 → Nat :=
  let arg0 : BitVec 32 := BitVec.ofNat 32 (i 0).val
  let c64_i32_167 : BitVec 32 := 64#32
  let v294 : BitVec 32 := Scalar.muli arg0 c64_i32_167
  let c42_i32 : BitVec 32 := 42#32
  let v295 : BitVec 32 := Scalar.addi v294 c42_i32
  let v296 : Index := Scalar.indexCast v295
  ![v296.toNat]
def k2_off86 (i : grid2.Coords) (v297 : BitVec 32) : Fin 3 → Nat :=
  let arg0 : BitVec 32 := BitVec.ofNat 32 (i 0).val
  let c0_i32_170 : BitVec 32 := 0#32
  ![arg0.toNat, v297.toNat, 0]

def k2_off87 (i : grid2.Coords) : Fin 1 → Nat :=
  let arg0 : BitVec 32 := BitVec.ofNat 32 (i 0).val
  let c64_i32_171 : BitVec 32 := 64#32
  let v301 : BitVec 32 := Scalar.muli arg0 c64_i32_171
  let c43_i32 : BitVec 32 := 43#32
  let v302 : BitVec 32 := Scalar.addi v301 c43_i32
  let v303 : Index := Scalar.indexCast v302
  ![v303.toNat]
def k2_off88 (i : grid2.Coords) (v304 : BitVec 32) : Fin 3 → Nat :=
  let arg0 : BitVec 32 := BitVec.ofNat 32 (i 0).val
  let c0_i32_174 : BitVec 32 := 0#32
  ![arg0.toNat, v304.toNat, 0]

def k2_off89 (i : grid2.Coords) : Fin 1 → Nat :=
  let arg0 : BitVec 32 := BitVec.ofNat 32 (i 0).val
  let c64_i32_175 : BitVec 32 := 64#32
  let v308 : BitVec 32 := Scalar.muli arg0 c64_i32_175
  let c44_i32 : BitVec 32 := 44#32
  let v309 : BitVec 32 := Scalar.addi v308 c44_i32
  let v310 : Index := Scalar.indexCast v309
  ![v310.toNat]
def k2_off90 (i : grid2.Coords) (v311 : BitVec 32) : Fin 3 → Nat :=
  let arg0 : BitVec 32 := BitVec.ofNat 32 (i 0).val
  let c0_i32_178 : BitVec 32 := 0#32
  ![arg0.toNat, v311.toNat, 0]

def k2_chk45 (i : grid2.Coords) (v311 : BitVec 32) : Prop :=
  (∀ a, (k2_off90 i v311) a + S1x1x64.size a ≤ S32x4096x64.size a)
theorem k2_off90_inb : ∀ (i : grid2.Coords) (v311 : BitVec 32) (k2_hw45 : k2_chk45 i v311), ∀ a, (k2_off90 i v311) a + S1x1x64.size a ≤ S32x4096x64.size a := fun i v311 k2_hw45 => k2_hw45

def k2_off91 (i : grid2.Coords) (v3 : BitVec 32) : Fin 3 → Nat :=
  let arg0 : BitVec 32 := BitVec.ofNat 32 (i 0).val
  let c0_i32_181 : BitVec 32 := 0#32
  ![arg0.toNat, v3.toNat, 0]

def k2_chk1 (i : grid2.Coords) (v3 : BitVec 32) : Prop :=
  (∀ a, (k2_off2 i v3) a + S1x1x64.size a ≤ S32x4096x64.size a) ∧
  (∀ a, (k2_off91 i v3) a + S1x1x64.size a ≤ S32x4096x64.size a)
theorem k2_off2_inb : ∀ (i : grid2.Coords) (v3 : BitVec 32) (k2_hw1 : k2_chk1 i v3), ∀ a, (k2_off2 i v3) a + S1x1x64.size a ≤ S32x4096x64.size a := fun i v3 k2_hw1 => k2_hw1.1
theorem k2_off91_inb : ∀ (i : grid2.Coords) (v3 : BitVec 32) (k2_hw1 : k2_chk1 i v3), ∀ a, (k2_off91 i v3) a + S1x1x64.size a ≤ S32x4096x64.size a := fun i v3 k2_hw1 => k2_hw1.2

def k2_off92 (i : grid2.Coords) (v10 : BitVec 32) : Fin 3 → Nat :=
  let arg0 : BitVec 32 := BitVec.ofNat 32 (i 0).val
  let c0_i32_184 : BitVec 32 := 0#32
  ![arg0.toNat, v10.toNat, 0]

def k2_chk2 (i : grid2.Coords) (v10 : BitVec 32) : Prop :=
  (∀ a, (k2_off4 i v10) a + S1x1x64.size a ≤ S32x4096x64.size a) ∧
  (∀ a, (k2_off92 i v10) a + S1x1x64.size a ≤ S32x4096x64.size a)
theorem k2_off4_inb : ∀ (i : grid2.Coords) (v10 : BitVec 32) (k2_hw2 : k2_chk2 i v10), ∀ a, (k2_off4 i v10) a + S1x1x64.size a ≤ S32x4096x64.size a := fun i v10 k2_hw2 => k2_hw2.1
theorem k2_off92_inb : ∀ (i : grid2.Coords) (v10 : BitVec 32) (k2_hw2 : k2_chk2 i v10), ∀ a, (k2_off92 i v10) a + S1x1x64.size a ≤ S32x4096x64.size a := fun i v10 k2_hw2 => k2_hw2.2

def k2_off93 (i : grid2.Coords) (v17 : BitVec 32) : Fin 3 → Nat :=
  let arg0 : BitVec 32 := BitVec.ofNat 32 (i 0).val
  let c0_i32_187 : BitVec 32 := 0#32
  ![arg0.toNat, v17.toNat, 0]

def k2_chk3 (i : grid2.Coords) (v17 : BitVec 32) : Prop :=
  (∀ a, (k2_off6 i v17) a + S1x1x64.size a ≤ S32x4096x64.size a) ∧
  (∀ a, (k2_off93 i v17) a + S1x1x64.size a ≤ S32x4096x64.size a)
theorem k2_off6_inb : ∀ (i : grid2.Coords) (v17 : BitVec 32) (k2_hw3 : k2_chk3 i v17), ∀ a, (k2_off6 i v17) a + S1x1x64.size a ≤ S32x4096x64.size a := fun i v17 k2_hw3 => k2_hw3.1
theorem k2_off93_inb : ∀ (i : grid2.Coords) (v17 : BitVec 32) (k2_hw3 : k2_chk3 i v17), ∀ a, (k2_off93 i v17) a + S1x1x64.size a ≤ S32x4096x64.size a := fun i v17 k2_hw3 => k2_hw3.2

def k2_off94 (i : grid2.Coords) (v24 : BitVec 32) : Fin 3 → Nat :=
  let arg0 : BitVec 32 := BitVec.ofNat 32 (i 0).val
  let c0_i32_190 : BitVec 32 := 0#32
  ![arg0.toNat, v24.toNat, 0]

def k2_chk4 (i : grid2.Coords) (v24 : BitVec 32) : Prop :=
  (∀ a, (k2_off8 i v24) a + S1x1x64.size a ≤ S32x4096x64.size a) ∧
  (∀ a, (k2_off94 i v24) a + S1x1x64.size a ≤ S32x4096x64.size a)
theorem k2_off8_inb : ∀ (i : grid2.Coords) (v24 : BitVec 32) (k2_hw4 : k2_chk4 i v24), ∀ a, (k2_off8 i v24) a + S1x1x64.size a ≤ S32x4096x64.size a := fun i v24 k2_hw4 => k2_hw4.1
theorem k2_off94_inb : ∀ (i : grid2.Coords) (v24 : BitVec 32) (k2_hw4 : k2_chk4 i v24), ∀ a, (k2_off94 i v24) a + S1x1x64.size a ≤ S32x4096x64.size a := fun i v24 k2_hw4 => k2_hw4.2

def k2_off95 (i : grid2.Coords) (v31 : BitVec 32) : Fin 3 → Nat :=
  let arg0 : BitVec 32 := BitVec.ofNat 32 (i 0).val
  let c0_i32_193 : BitVec 32 := 0#32
  ![arg0.toNat, v31.toNat, 0]

def k2_chk5 (i : grid2.Coords) (v31 : BitVec 32) : Prop :=
  (∀ a, (k2_off10 i v31) a + S1x1x64.size a ≤ S32x4096x64.size a) ∧
  (∀ a, (k2_off95 i v31) a + S1x1x64.size a ≤ S32x4096x64.size a)
theorem k2_off10_inb : ∀ (i : grid2.Coords) (v31 : BitVec 32) (k2_hw5 : k2_chk5 i v31), ∀ a, (k2_off10 i v31) a + S1x1x64.size a ≤ S32x4096x64.size a := fun i v31 k2_hw5 => k2_hw5.1
theorem k2_off95_inb : ∀ (i : grid2.Coords) (v31 : BitVec 32) (k2_hw5 : k2_chk5 i v31), ∀ a, (k2_off95 i v31) a + S1x1x64.size a ≤ S32x4096x64.size a := fun i v31 k2_hw5 => k2_hw5.2

def k2_off96 (i : grid2.Coords) (v38 : BitVec 32) : Fin 3 → Nat :=
  let arg0 : BitVec 32 := BitVec.ofNat 32 (i 0).val
  let c0_i32_196 : BitVec 32 := 0#32
  ![arg0.toNat, v38.toNat, 0]

def k2_chk6 (i : grid2.Coords) (v38 : BitVec 32) : Prop :=
  (∀ a, (k2_off12 i v38) a + S1x1x64.size a ≤ S32x4096x64.size a) ∧
  (∀ a, (k2_off96 i v38) a + S1x1x64.size a ≤ S32x4096x64.size a)
theorem k2_off12_inb : ∀ (i : grid2.Coords) (v38 : BitVec 32) (k2_hw6 : k2_chk6 i v38), ∀ a, (k2_off12 i v38) a + S1x1x64.size a ≤ S32x4096x64.size a := fun i v38 k2_hw6 => k2_hw6.1
theorem k2_off96_inb : ∀ (i : grid2.Coords) (v38 : BitVec 32) (k2_hw6 : k2_chk6 i v38), ∀ a, (k2_off96 i v38) a + S1x1x64.size a ≤ S32x4096x64.size a := fun i v38 k2_hw6 => k2_hw6.2

def k2_off97 (i : grid2.Coords) (v45 : BitVec 32) : Fin 3 → Nat :=
  let arg0 : BitVec 32 := BitVec.ofNat 32 (i 0).val
  let c0_i32_199 : BitVec 32 := 0#32
  ![arg0.toNat, v45.toNat, 0]

def k2_chk7 (i : grid2.Coords) (v45 : BitVec 32) : Prop :=
  (∀ a, (k2_off14 i v45) a + S1x1x64.size a ≤ S32x4096x64.size a) ∧
  (∀ a, (k2_off97 i v45) a + S1x1x64.size a ≤ S32x4096x64.size a)
theorem k2_off14_inb : ∀ (i : grid2.Coords) (v45 : BitVec 32) (k2_hw7 : k2_chk7 i v45), ∀ a, (k2_off14 i v45) a + S1x1x64.size a ≤ S32x4096x64.size a := fun i v45 k2_hw7 => k2_hw7.1
theorem k2_off97_inb : ∀ (i : grid2.Coords) (v45 : BitVec 32) (k2_hw7 : k2_chk7 i v45), ∀ a, (k2_off97 i v45) a + S1x1x64.size a ≤ S32x4096x64.size a := fun i v45 k2_hw7 => k2_hw7.2

def k2_off98 (i : grid2.Coords) (v52 : BitVec 32) : Fin 3 → Nat :=
  let arg0 : BitVec 32 := BitVec.ofNat 32 (i 0).val
  let c0_i32_202 : BitVec 32 := 0#32
  ![arg0.toNat, v52.toNat, 0]

def k2_chk8 (i : grid2.Coords) (v52 : BitVec 32) : Prop :=
  (∀ a, (k2_off16 i v52) a + S1x1x64.size a ≤ S32x4096x64.size a) ∧
  (∀ a, (k2_off98 i v52) a + S1x1x64.size a ≤ S32x4096x64.size a)
theorem k2_off16_inb : ∀ (i : grid2.Coords) (v52 : BitVec 32) (k2_hw8 : k2_chk8 i v52), ∀ a, (k2_off16 i v52) a + S1x1x64.size a ≤ S32x4096x64.size a := fun i v52 k2_hw8 => k2_hw8.1
theorem k2_off98_inb : ∀ (i : grid2.Coords) (v52 : BitVec 32) (k2_hw8 : k2_chk8 i v52), ∀ a, (k2_off98 i v52) a + S1x1x64.size a ≤ S32x4096x64.size a := fun i v52 k2_hw8 => k2_hw8.2

def k2_off99 (i : grid2.Coords) (v59 : BitVec 32) : Fin 3 → Nat :=
  let arg0 : BitVec 32 := BitVec.ofNat 32 (i 0).val
  let c0_i32_205 : BitVec 32 := 0#32
  ![arg0.toNat, v59.toNat, 0]

def k2_chk9 (i : grid2.Coords) (v59 : BitVec 32) : Prop :=
  (∀ a, (k2_off18 i v59) a + S1x1x64.size a ≤ S32x4096x64.size a) ∧
  (∀ a, (k2_off99 i v59) a + S1x1x64.size a ≤ S32x4096x64.size a)
theorem k2_off18_inb : ∀ (i : grid2.Coords) (v59 : BitVec 32) (k2_hw9 : k2_chk9 i v59), ∀ a, (k2_off18 i v59) a + S1x1x64.size a ≤ S32x4096x64.size a := fun i v59 k2_hw9 => k2_hw9.1
theorem k2_off99_inb : ∀ (i : grid2.Coords) (v59 : BitVec 32) (k2_hw9 : k2_chk9 i v59), ∀ a, (k2_off99 i v59) a + S1x1x64.size a ≤ S32x4096x64.size a := fun i v59 k2_hw9 => k2_hw9.2

def k2_off100 (i : grid2.Coords) (v66 : BitVec 32) : Fin 3 → Nat :=
  let arg0 : BitVec 32 := BitVec.ofNat 32 (i 0).val
  let c0_i32_208 : BitVec 32 := 0#32
  ![arg0.toNat, v66.toNat, 0]

def k2_chk10 (i : grid2.Coords) (v66 : BitVec 32) : Prop :=
  (∀ a, (k2_off20 i v66) a + S1x1x64.size a ≤ S32x4096x64.size a) ∧
  (∀ a, (k2_off100 i v66) a + S1x1x64.size a ≤ S32x4096x64.size a)
theorem k2_off20_inb : ∀ (i : grid2.Coords) (v66 : BitVec 32) (k2_hw10 : k2_chk10 i v66), ∀ a, (k2_off20 i v66) a + S1x1x64.size a ≤ S32x4096x64.size a := fun i v66 k2_hw10 => k2_hw10.1
theorem k2_off100_inb : ∀ (i : grid2.Coords) (v66 : BitVec 32) (k2_hw10 : k2_chk10 i v66), ∀ a, (k2_off100 i v66) a + S1x1x64.size a ≤ S32x4096x64.size a := fun i v66 k2_hw10 => k2_hw10.2

def k2_off101 (i : grid2.Coords) (v73 : BitVec 32) : Fin 3 → Nat :=
  let arg0 : BitVec 32 := BitVec.ofNat 32 (i 0).val
  let c0_i32_211 : BitVec 32 := 0#32
  ![arg0.toNat, v73.toNat, 0]

def k2_chk11 (i : grid2.Coords) (v73 : BitVec 32) : Prop :=
  (∀ a, (k2_off22 i v73) a + S1x1x64.size a ≤ S32x4096x64.size a) ∧
  (∀ a, (k2_off101 i v73) a + S1x1x64.size a ≤ S32x4096x64.size a)
theorem k2_off22_inb : ∀ (i : grid2.Coords) (v73 : BitVec 32) (k2_hw11 : k2_chk11 i v73), ∀ a, (k2_off22 i v73) a + S1x1x64.size a ≤ S32x4096x64.size a := fun i v73 k2_hw11 => k2_hw11.1
theorem k2_off101_inb : ∀ (i : grid2.Coords) (v73 : BitVec 32) (k2_hw11 : k2_chk11 i v73), ∀ a, (k2_off101 i v73) a + S1x1x64.size a ≤ S32x4096x64.size a := fun i v73 k2_hw11 => k2_hw11.2

def k2_off102 (i : grid2.Coords) (v80 : BitVec 32) : Fin 3 → Nat :=
  let arg0 : BitVec 32 := BitVec.ofNat 32 (i 0).val
  let c0_i32_214 : BitVec 32 := 0#32
  ![arg0.toNat, v80.toNat, 0]

def k2_chk12 (i : grid2.Coords) (v80 : BitVec 32) : Prop :=
  (∀ a, (k2_off24 i v80) a + S1x1x64.size a ≤ S32x4096x64.size a) ∧
  (∀ a, (k2_off102 i v80) a + S1x1x64.size a ≤ S32x4096x64.size a)
theorem k2_off24_inb : ∀ (i : grid2.Coords) (v80 : BitVec 32) (k2_hw12 : k2_chk12 i v80), ∀ a, (k2_off24 i v80) a + S1x1x64.size a ≤ S32x4096x64.size a := fun i v80 k2_hw12 => k2_hw12.1
theorem k2_off102_inb : ∀ (i : grid2.Coords) (v80 : BitVec 32) (k2_hw12 : k2_chk12 i v80), ∀ a, (k2_off102 i v80) a + S1x1x64.size a ≤ S32x4096x64.size a := fun i v80 k2_hw12 => k2_hw12.2

def k2_off103 (i : grid2.Coords) (v87 : BitVec 32) : Fin 3 → Nat :=
  let arg0 : BitVec 32 := BitVec.ofNat 32 (i 0).val
  let c0_i32_217 : BitVec 32 := 0#32
  ![arg0.toNat, v87.toNat, 0]

def k2_chk13 (i : grid2.Coords) (v87 : BitVec 32) : Prop :=
  (∀ a, (k2_off26 i v87) a + S1x1x64.size a ≤ S32x4096x64.size a) ∧
  (∀ a, (k2_off103 i v87) a + S1x1x64.size a ≤ S32x4096x64.size a)
theorem k2_off26_inb : ∀ (i : grid2.Coords) (v87 : BitVec 32) (k2_hw13 : k2_chk13 i v87), ∀ a, (k2_off26 i v87) a + S1x1x64.size a ≤ S32x4096x64.size a := fun i v87 k2_hw13 => k2_hw13.1
theorem k2_off103_inb : ∀ (i : grid2.Coords) (v87 : BitVec 32) (k2_hw13 : k2_chk13 i v87), ∀ a, (k2_off103 i v87) a + S1x1x64.size a ≤ S32x4096x64.size a := fun i v87 k2_hw13 => k2_hw13.2

def k2_off104 (i : grid2.Coords) (v94 : BitVec 32) : Fin 3 → Nat :=
  let arg0 : BitVec 32 := BitVec.ofNat 32 (i 0).val
  let c0_i32_220 : BitVec 32 := 0#32
  ![arg0.toNat, v94.toNat, 0]

def k2_chk14 (i : grid2.Coords) (v94 : BitVec 32) : Prop :=
  (∀ a, (k2_off28 i v94) a + S1x1x64.size a ≤ S32x4096x64.size a) ∧
  (∀ a, (k2_off104 i v94) a + S1x1x64.size a ≤ S32x4096x64.size a)
theorem k2_off28_inb : ∀ (i : grid2.Coords) (v94 : BitVec 32) (k2_hw14 : k2_chk14 i v94), ∀ a, (k2_off28 i v94) a + S1x1x64.size a ≤ S32x4096x64.size a := fun i v94 k2_hw14 => k2_hw14.1
theorem k2_off104_inb : ∀ (i : grid2.Coords) (v94 : BitVec 32) (k2_hw14 : k2_chk14 i v94), ∀ a, (k2_off104 i v94) a + S1x1x64.size a ≤ S32x4096x64.size a := fun i v94 k2_hw14 => k2_hw14.2

def k2_off105 (i : grid2.Coords) (v101 : BitVec 32) : Fin 3 → Nat :=
  let arg0 : BitVec 32 := BitVec.ofNat 32 (i 0).val
  let c0_i32_223 : BitVec 32 := 0#32
  ![arg0.toNat, v101.toNat, 0]

def k2_chk15 (i : grid2.Coords) (v101 : BitVec 32) : Prop :=
  (∀ a, (k2_off30 i v101) a + S1x1x64.size a ≤ S32x4096x64.size a) ∧
  (∀ a, (k2_off105 i v101) a + S1x1x64.size a ≤ S32x4096x64.size a)
theorem k2_off30_inb : ∀ (i : grid2.Coords) (v101 : BitVec 32) (k2_hw15 : k2_chk15 i v101), ∀ a, (k2_off30 i v101) a + S1x1x64.size a ≤ S32x4096x64.size a := fun i v101 k2_hw15 => k2_hw15.1
theorem k2_off105_inb : ∀ (i : grid2.Coords) (v101 : BitVec 32) (k2_hw15 : k2_chk15 i v101), ∀ a, (k2_off105 i v101) a + S1x1x64.size a ≤ S32x4096x64.size a := fun i v101 k2_hw15 => k2_hw15.2

def k2_off106 (i : grid2.Coords) (v108 : BitVec 32) : Fin 3 → Nat :=
  let arg0 : BitVec 32 := BitVec.ofNat 32 (i 0).val
  let c0_i32_226 : BitVec 32 := 0#32
  ![arg0.toNat, v108.toNat, 0]

def k2_chk16 (i : grid2.Coords) (v108 : BitVec 32) : Prop :=
  (∀ a, (k2_off32 i v108) a + S1x1x64.size a ≤ S32x4096x64.size a) ∧
  (∀ a, (k2_off106 i v108) a + S1x1x64.size a ≤ S32x4096x64.size a)
theorem k2_off32_inb : ∀ (i : grid2.Coords) (v108 : BitVec 32) (k2_hw16 : k2_chk16 i v108), ∀ a, (k2_off32 i v108) a + S1x1x64.size a ≤ S32x4096x64.size a := fun i v108 k2_hw16 => k2_hw16.1
theorem k2_off106_inb : ∀ (i : grid2.Coords) (v108 : BitVec 32) (k2_hw16 : k2_chk16 i v108), ∀ a, (k2_off106 i v108) a + S1x1x64.size a ≤ S32x4096x64.size a := fun i v108 k2_hw16 => k2_hw16.2

def k2_off107 (i : grid2.Coords) (v115 : BitVec 32) : Fin 3 → Nat :=
  let arg0 : BitVec 32 := BitVec.ofNat 32 (i 0).val
  let c0_i32_229 : BitVec 32 := 0#32
  ![arg0.toNat, v115.toNat, 0]

def k2_chk17 (i : grid2.Coords) (v115 : BitVec 32) : Prop :=
  (∀ a, (k2_off34 i v115) a + S1x1x64.size a ≤ S32x4096x64.size a) ∧
  (∀ a, (k2_off107 i v115) a + S1x1x64.size a ≤ S32x4096x64.size a)
theorem k2_off34_inb : ∀ (i : grid2.Coords) (v115 : BitVec 32) (k2_hw17 : k2_chk17 i v115), ∀ a, (k2_off34 i v115) a + S1x1x64.size a ≤ S32x4096x64.size a := fun i v115 k2_hw17 => k2_hw17.1
theorem k2_off107_inb : ∀ (i : grid2.Coords) (v115 : BitVec 32) (k2_hw17 : k2_chk17 i v115), ∀ a, (k2_off107 i v115) a + S1x1x64.size a ≤ S32x4096x64.size a := fun i v115 k2_hw17 => k2_hw17.2

def k2_off108 (i : grid2.Coords) (v122 : BitVec 32) : Fin 3 → Nat :=
  let arg0 : BitVec 32 := BitVec.ofNat 32 (i 0).val
  let c0_i32_232 : BitVec 32 := 0#32
  ![arg0.toNat, v122.toNat, 0]

def k2_chk18 (i : grid2.Coords) (v122 : BitVec 32) : Prop :=
  (∀ a, (k2_off36 i v122) a + S1x1x64.size a ≤ S32x4096x64.size a) ∧
  (∀ a, (k2_off108 i v122) a + S1x1x64.size a ≤ S32x4096x64.size a)
theorem k2_off36_inb : ∀ (i : grid2.Coords) (v122 : BitVec 32) (k2_hw18 : k2_chk18 i v122), ∀ a, (k2_off36 i v122) a + S1x1x64.size a ≤ S32x4096x64.size a := fun i v122 k2_hw18 => k2_hw18.1
theorem k2_off108_inb : ∀ (i : grid2.Coords) (v122 : BitVec 32) (k2_hw18 : k2_chk18 i v122), ∀ a, (k2_off108 i v122) a + S1x1x64.size a ≤ S32x4096x64.size a := fun i v122 k2_hw18 => k2_hw18.2

def k2_off109 (i : grid2.Coords) (v129 : BitVec 32) : Fin 3 → Nat :=
  let arg0 : BitVec 32 := BitVec.ofNat 32 (i 0).val
  let c0_i32_235 : BitVec 32 := 0#32
  ![arg0.toNat, v129.toNat, 0]

def k2_chk19 (i : grid2.Coords) (v129 : BitVec 32) : Prop :=
  (∀ a, (k2_off38 i v129) a + S1x1x64.size a ≤ S32x4096x64.size a) ∧
  (∀ a, (k2_off109 i v129) a + S1x1x64.size a ≤ S32x4096x64.size a)
theorem k2_off38_inb : ∀ (i : grid2.Coords) (v129 : BitVec 32) (k2_hw19 : k2_chk19 i v129), ∀ a, (k2_off38 i v129) a + S1x1x64.size a ≤ S32x4096x64.size a := fun i v129 k2_hw19 => k2_hw19.1
theorem k2_off109_inb : ∀ (i : grid2.Coords) (v129 : BitVec 32) (k2_hw19 : k2_chk19 i v129), ∀ a, (k2_off109 i v129) a + S1x1x64.size a ≤ S32x4096x64.size a := fun i v129 k2_hw19 => k2_hw19.2

def k2_off110 (i : grid2.Coords) (v136 : BitVec 32) : Fin 3 → Nat :=
  let arg0 : BitVec 32 := BitVec.ofNat 32 (i 0).val
  let c0_i32_238 : BitVec 32 := 0#32
  ![arg0.toNat, v136.toNat, 0]

def k2_chk20 (i : grid2.Coords) (v136 : BitVec 32) : Prop :=
  (∀ a, (k2_off40 i v136) a + S1x1x64.size a ≤ S32x4096x64.size a) ∧
  (∀ a, (k2_off110 i v136) a + S1x1x64.size a ≤ S32x4096x64.size a)
theorem k2_off40_inb : ∀ (i : grid2.Coords) (v136 : BitVec 32) (k2_hw20 : k2_chk20 i v136), ∀ a, (k2_off40 i v136) a + S1x1x64.size a ≤ S32x4096x64.size a := fun i v136 k2_hw20 => k2_hw20.1
theorem k2_off110_inb : ∀ (i : grid2.Coords) (v136 : BitVec 32) (k2_hw20 : k2_chk20 i v136), ∀ a, (k2_off110 i v136) a + S1x1x64.size a ≤ S32x4096x64.size a := fun i v136 k2_hw20 => k2_hw20.2

def k2_off111 (i : grid2.Coords) (v143 : BitVec 32) : Fin 3 → Nat :=
  let arg0 : BitVec 32 := BitVec.ofNat 32 (i 0).val
  let c0_i32_241 : BitVec 32 := 0#32
  ![arg0.toNat, v143.toNat, 0]

def k2_chk21 (i : grid2.Coords) (v143 : BitVec 32) : Prop :=
  (∀ a, (k2_off42 i v143) a + S1x1x64.size a ≤ S32x4096x64.size a) ∧
  (∀ a, (k2_off111 i v143) a + S1x1x64.size a ≤ S32x4096x64.size a)
theorem k2_off42_inb : ∀ (i : grid2.Coords) (v143 : BitVec 32) (k2_hw21 : k2_chk21 i v143), ∀ a, (k2_off42 i v143) a + S1x1x64.size a ≤ S32x4096x64.size a := fun i v143 k2_hw21 => k2_hw21.1
theorem k2_off111_inb : ∀ (i : grid2.Coords) (v143 : BitVec 32) (k2_hw21 : k2_chk21 i v143), ∀ a, (k2_off111 i v143) a + S1x1x64.size a ≤ S32x4096x64.size a := fun i v143 k2_hw21 => k2_hw21.2

def k2_off112 (i : grid2.Coords) (v150 : BitVec 32) : Fin 3 → Nat :=
  let arg0 : BitVec 32 := BitVec.ofNat 32 (i 0).val
  let c0_i32_244 : BitVec 32 := 0#32
  ![arg0.toNat, v150.toNat, 0]

def k2_chk22 (i : grid2.Coords) (v150 : BitVec 32) : Prop :=
  (∀ a, (k2_off44 i v150) a + S1x1x64.size a ≤ S32x4096x64.size a) ∧
  (∀ a, (k2_off112 i v150) a + S1x1x64.size a ≤ S32x4096x64.size a)
theorem k2_off44_inb : ∀ (i : grid2.Coords) (v150 : BitVec 32) (k2_hw22 : k2_chk22 i v150), ∀ a, (k2_off44 i v150) a + S1x1x64.size a ≤ S32x4096x64.size a := fun i v150 k2_hw22 => k2_hw22.1
theorem k2_off112_inb : ∀ (i : grid2.Coords) (v150 : BitVec 32) (k2_hw22 : k2_chk22 i v150), ∀ a, (k2_off112 i v150) a + S1x1x64.size a ≤ S32x4096x64.size a := fun i v150 k2_hw22 => k2_hw22.2

def k2_off113 (i : grid2.Coords) (v157 : BitVec 32) : Fin 3 → Nat :=
  let arg0 : BitVec 32 := BitVec.ofNat 32 (i 0).val
  let c0_i32_247 : BitVec 32 := 0#32
  ![arg0.toNat, v157.toNat, 0]

def k2_chk23 (i : grid2.Coords) (v157 : BitVec 32) : Prop :=
  (∀ a, (k2_off46 i v157) a + S1x1x64.size a ≤ S32x4096x64.size a) ∧
  (∀ a, (k2_off113 i v157) a + S1x1x64.size a ≤ S32x4096x64.size a)
theorem k2_off46_inb : ∀ (i : grid2.Coords) (v157 : BitVec 32) (k2_hw23 : k2_chk23 i v157), ∀ a, (k2_off46 i v157) a + S1x1x64.size a ≤ S32x4096x64.size a := fun i v157 k2_hw23 => k2_hw23.1
theorem k2_off113_inb : ∀ (i : grid2.Coords) (v157 : BitVec 32) (k2_hw23 : k2_chk23 i v157), ∀ a, (k2_off113 i v157) a + S1x1x64.size a ≤ S32x4096x64.size a := fun i v157 k2_hw23 => k2_hw23.2

def k2_off114 (i : grid2.Coords) (v164 : BitVec 32) : Fin 3 → Nat :=
  let arg0 : BitVec 32 := BitVec.ofNat 32 (i 0).val
  let c0_i32_250 : BitVec 32 := 0#32
  ![arg0.toNat, v164.toNat, 0]

def k2_chk24 (i : grid2.Coords) (v164 : BitVec 32) : Prop :=
  (∀ a, (k2_off48 i v164) a + S1x1x64.size a ≤ S32x4096x64.size a) ∧
  (∀ a, (k2_off114 i v164) a + S1x1x64.size a ≤ S32x4096x64.size a)
theorem k2_off48_inb : ∀ (i : grid2.Coords) (v164 : BitVec 32) (k2_hw24 : k2_chk24 i v164), ∀ a, (k2_off48 i v164) a + S1x1x64.size a ≤ S32x4096x64.size a := fun i v164 k2_hw24 => k2_hw24.1
theorem k2_off114_inb : ∀ (i : grid2.Coords) (v164 : BitVec 32) (k2_hw24 : k2_chk24 i v164), ∀ a, (k2_off114 i v164) a + S1x1x64.size a ≤ S32x4096x64.size a := fun i v164 k2_hw24 => k2_hw24.2

def k2_off115 (i : grid2.Coords) (v171 : BitVec 32) : Fin 3 → Nat :=
  let arg0 : BitVec 32 := BitVec.ofNat 32 (i 0).val
  let c0_i32_253 : BitVec 32 := 0#32
  ![arg0.toNat, v171.toNat, 0]

def k2_chk25 (i : grid2.Coords) (v171 : BitVec 32) : Prop :=
  (∀ a, (k2_off50 i v171) a + S1x1x64.size a ≤ S32x4096x64.size a) ∧
  (∀ a, (k2_off115 i v171) a + S1x1x64.size a ≤ S32x4096x64.size a)
theorem k2_off50_inb : ∀ (i : grid2.Coords) (v171 : BitVec 32) (k2_hw25 : k2_chk25 i v171), ∀ a, (k2_off50 i v171) a + S1x1x64.size a ≤ S32x4096x64.size a := fun i v171 k2_hw25 => k2_hw25.1
theorem k2_off115_inb : ∀ (i : grid2.Coords) (v171 : BitVec 32) (k2_hw25 : k2_chk25 i v171), ∀ a, (k2_off115 i v171) a + S1x1x64.size a ≤ S32x4096x64.size a := fun i v171 k2_hw25 => k2_hw25.2

def k2_off116 (i : grid2.Coords) (v178 : BitVec 32) : Fin 3 → Nat :=
  let arg0 : BitVec 32 := BitVec.ofNat 32 (i 0).val
  let c0_i32_256 : BitVec 32 := 0#32
  ![arg0.toNat, v178.toNat, 0]

def k2_chk26 (i : grid2.Coords) (v178 : BitVec 32) : Prop :=
  (∀ a, (k2_off52 i v178) a + S1x1x64.size a ≤ S32x4096x64.size a) ∧
  (∀ a, (k2_off116 i v178) a + S1x1x64.size a ≤ S32x4096x64.size a)
theorem k2_off52_inb : ∀ (i : grid2.Coords) (v178 : BitVec 32) (k2_hw26 : k2_chk26 i v178), ∀ a, (k2_off52 i v178) a + S1x1x64.size a ≤ S32x4096x64.size a := fun i v178 k2_hw26 => k2_hw26.1
theorem k2_off116_inb : ∀ (i : grid2.Coords) (v178 : BitVec 32) (k2_hw26 : k2_chk26 i v178), ∀ a, (k2_off116 i v178) a + S1x1x64.size a ≤ S32x4096x64.size a := fun i v178 k2_hw26 => k2_hw26.2

def k2_off117 (i : grid2.Coords) (v185 : BitVec 32) : Fin 3 → Nat :=
  let arg0 : BitVec 32 := BitVec.ofNat 32 (i 0).val
  let c0_i32_259 : BitVec 32 := 0#32
  ![arg0.toNat, v185.toNat, 0]

def k2_chk27 (i : grid2.Coords) (v185 : BitVec 32) : Prop :=
  (∀ a, (k2_off54 i v185) a + S1x1x64.size a ≤ S32x4096x64.size a) ∧
  (∀ a, (k2_off117 i v185) a + S1x1x64.size a ≤ S32x4096x64.size a)
theorem k2_off54_inb : ∀ (i : grid2.Coords) (v185 : BitVec 32) (k2_hw27 : k2_chk27 i v185), ∀ a, (k2_off54 i v185) a + S1x1x64.size a ≤ S32x4096x64.size a := fun i v185 k2_hw27 => k2_hw27.1
theorem k2_off117_inb : ∀ (i : grid2.Coords) (v185 : BitVec 32) (k2_hw27 : k2_chk27 i v185), ∀ a, (k2_off117 i v185) a + S1x1x64.size a ≤ S32x4096x64.size a := fun i v185 k2_hw27 => k2_hw27.2

def k2_off118 (i : grid2.Coords) (v192 : BitVec 32) : Fin 3 → Nat :=
  let arg0 : BitVec 32 := BitVec.ofNat 32 (i 0).val
  let c0_i32_262 : BitVec 32 := 0#32
  ![arg0.toNat, v192.toNat, 0]

def k2_chk28 (i : grid2.Coords) (v192 : BitVec 32) : Prop :=
  (∀ a, (k2_off56 i v192) a + S1x1x64.size a ≤ S32x4096x64.size a) ∧
  (∀ a, (k2_off118 i v192) a + S1x1x64.size a ≤ S32x4096x64.size a)
theorem k2_off56_inb : ∀ (i : grid2.Coords) (v192 : BitVec 32) (k2_hw28 : k2_chk28 i v192), ∀ a, (k2_off56 i v192) a + S1x1x64.size a ≤ S32x4096x64.size a := fun i v192 k2_hw28 => k2_hw28.1
theorem k2_off118_inb : ∀ (i : grid2.Coords) (v192 : BitVec 32) (k2_hw28 : k2_chk28 i v192), ∀ a, (k2_off118 i v192) a + S1x1x64.size a ≤ S32x4096x64.size a := fun i v192 k2_hw28 => k2_hw28.2

def k2_off119 (i : grid2.Coords) (v199 : BitVec 32) : Fin 3 → Nat :=
  let arg0 : BitVec 32 := BitVec.ofNat 32 (i 0).val
  let c0_i32_265 : BitVec 32 := 0#32
  ![arg0.toNat, v199.toNat, 0]

def k2_chk29 (i : grid2.Coords) (v199 : BitVec 32) : Prop :=
  (∀ a, (k2_off58 i v199) a + S1x1x64.size a ≤ S32x4096x64.size a) ∧
  (∀ a, (k2_off119 i v199) a + S1x1x64.size a ≤ S32x4096x64.size a)
theorem k2_off58_inb : ∀ (i : grid2.Coords) (v199 : BitVec 32) (k2_hw29 : k2_chk29 i v199), ∀ a, (k2_off58 i v199) a + S1x1x64.size a ≤ S32x4096x64.size a := fun i v199 k2_hw29 => k2_hw29.1
theorem k2_off119_inb : ∀ (i : grid2.Coords) (v199 : BitVec 32) (k2_hw29 : k2_chk29 i v199), ∀ a, (k2_off119 i v199) a + S1x1x64.size a ≤ S32x4096x64.size a := fun i v199 k2_hw29 => k2_hw29.2

def k2_off120 (i : grid2.Coords) (v206 : BitVec 32) : Fin 3 → Nat :=
  let arg0 : BitVec 32 := BitVec.ofNat 32 (i 0).val
  let c0_i32_268 : BitVec 32 := 0#32
  ![arg0.toNat, v206.toNat, 0]

def k2_chk30 (i : grid2.Coords) (v206 : BitVec 32) : Prop :=
  (∀ a, (k2_off60 i v206) a + S1x1x64.size a ≤ S32x4096x64.size a) ∧
  (∀ a, (k2_off120 i v206) a + S1x1x64.size a ≤ S32x4096x64.size a)
theorem k2_off60_inb : ∀ (i : grid2.Coords) (v206 : BitVec 32) (k2_hw30 : k2_chk30 i v206), ∀ a, (k2_off60 i v206) a + S1x1x64.size a ≤ S32x4096x64.size a := fun i v206 k2_hw30 => k2_hw30.1
theorem k2_off120_inb : ∀ (i : grid2.Coords) (v206 : BitVec 32) (k2_hw30 : k2_chk30 i v206), ∀ a, (k2_off120 i v206) a + S1x1x64.size a ≤ S32x4096x64.size a := fun i v206 k2_hw30 => k2_hw30.2

def k2_off121 (i : grid2.Coords) (v213 : BitVec 32) : Fin 3 → Nat :=
  let arg0 : BitVec 32 := BitVec.ofNat 32 (i 0).val
  let c0_i32_271 : BitVec 32 := 0#32
  ![arg0.toNat, v213.toNat, 0]

def k2_chk31 (i : grid2.Coords) (v213 : BitVec 32) : Prop :=
  (∀ a, (k2_off62 i v213) a + S1x1x64.size a ≤ S32x4096x64.size a) ∧
  (∀ a, (k2_off121 i v213) a + S1x1x64.size a ≤ S32x4096x64.size a)
theorem k2_off62_inb : ∀ (i : grid2.Coords) (v213 : BitVec 32) (k2_hw31 : k2_chk31 i v213), ∀ a, (k2_off62 i v213) a + S1x1x64.size a ≤ S32x4096x64.size a := fun i v213 k2_hw31 => k2_hw31.1
theorem k2_off121_inb : ∀ (i : grid2.Coords) (v213 : BitVec 32) (k2_hw31 : k2_chk31 i v213), ∀ a, (k2_off121 i v213) a + S1x1x64.size a ≤ S32x4096x64.size a := fun i v213 k2_hw31 => k2_hw31.2

def k2_off122 (i : grid2.Coords) (v220 : BitVec 32) : Fin 3 → Nat :=
  let arg0 : BitVec 32 := BitVec.ofNat 32 (i 0).val
  let c0_i32_274 : BitVec 32 := 0#32
  ![arg0.toNat, v220.toNat, 0]

def k2_chk32 (i : grid2.Coords) (v220 : BitVec 32) : Prop :=
  (∀ a, (k2_off64 i v220) a + S1x1x64.size a ≤ S32x4096x64.size a) ∧
  (∀ a, (k2_off122 i v220) a + S1x1x64.size a ≤ S32x4096x64.size a)
theorem k2_off64_inb : ∀ (i : grid2.Coords) (v220 : BitVec 32) (k2_hw32 : k2_chk32 i v220), ∀ a, (k2_off64 i v220) a + S1x1x64.size a ≤ S32x4096x64.size a := fun i v220 k2_hw32 => k2_hw32.1
theorem k2_off122_inb : ∀ (i : grid2.Coords) (v220 : BitVec 32) (k2_hw32 : k2_chk32 i v220), ∀ a, (k2_off122 i v220) a + S1x1x64.size a ≤ S32x4096x64.size a := fun i v220 k2_hw32 => k2_hw32.2

def k2_off123 (i : grid2.Coords) (v227 : BitVec 32) : Fin 3 → Nat :=
  let arg0 : BitVec 32 := BitVec.ofNat 32 (i 0).val
  let c0_i32_277 : BitVec 32 := 0#32
  ![arg0.toNat, v227.toNat, 0]

def k2_chk33 (i : grid2.Coords) (v227 : BitVec 32) : Prop :=
  (∀ a, (k2_off66 i v227) a + S1x1x64.size a ≤ S32x4096x64.size a) ∧
  (∀ a, (k2_off123 i v227) a + S1x1x64.size a ≤ S32x4096x64.size a)
theorem k2_off66_inb : ∀ (i : grid2.Coords) (v227 : BitVec 32) (k2_hw33 : k2_chk33 i v227), ∀ a, (k2_off66 i v227) a + S1x1x64.size a ≤ S32x4096x64.size a := fun i v227 k2_hw33 => k2_hw33.1
theorem k2_off123_inb : ∀ (i : grid2.Coords) (v227 : BitVec 32) (k2_hw33 : k2_chk33 i v227), ∀ a, (k2_off123 i v227) a + S1x1x64.size a ≤ S32x4096x64.size a := fun i v227 k2_hw33 => k2_hw33.2

def k2_off124 (i : grid2.Coords) (v234 : BitVec 32) : Fin 3 → Nat :=
  let arg0 : BitVec 32 := BitVec.ofNat 32 (i 0).val
  let c0_i32_280 : BitVec 32 := 0#32
  ![arg0.toNat, v234.toNat, 0]

def k2_chk34 (i : grid2.Coords) (v234 : BitVec 32) : Prop :=
  (∀ a, (k2_off68 i v234) a + S1x1x64.size a ≤ S32x4096x64.size a) ∧
  (∀ a, (k2_off124 i v234) a + S1x1x64.size a ≤ S32x4096x64.size a)
theorem k2_off68_inb : ∀ (i : grid2.Coords) (v234 : BitVec 32) (k2_hw34 : k2_chk34 i v234), ∀ a, (k2_off68 i v234) a + S1x1x64.size a ≤ S32x4096x64.size a := fun i v234 k2_hw34 => k2_hw34.1
theorem k2_off124_inb : ∀ (i : grid2.Coords) (v234 : BitVec 32) (k2_hw34 : k2_chk34 i v234), ∀ a, (k2_off124 i v234) a + S1x1x64.size a ≤ S32x4096x64.size a := fun i v234 k2_hw34 => k2_hw34.2

def k2_off125 (i : grid2.Coords) (v241 : BitVec 32) : Fin 3 → Nat :=
  let arg0 : BitVec 32 := BitVec.ofNat 32 (i 0).val
  let c0_i32_283 : BitVec 32 := 0#32
  ![arg0.toNat, v241.toNat, 0]

def k2_chk35 (i : grid2.Coords) (v241 : BitVec 32) : Prop :=
  (∀ a, (k2_off70 i v241) a + S1x1x64.size a ≤ S32x4096x64.size a) ∧
  (∀ a, (k2_off125 i v241) a + S1x1x64.size a ≤ S32x4096x64.size a)
theorem k2_off70_inb : ∀ (i : grid2.Coords) (v241 : BitVec 32) (k2_hw35 : k2_chk35 i v241), ∀ a, (k2_off70 i v241) a + S1x1x64.size a ≤ S32x4096x64.size a := fun i v241 k2_hw35 => k2_hw35.1
theorem k2_off125_inb : ∀ (i : grid2.Coords) (v241 : BitVec 32) (k2_hw35 : k2_chk35 i v241), ∀ a, (k2_off125 i v241) a + S1x1x64.size a ≤ S32x4096x64.size a := fun i v241 k2_hw35 => k2_hw35.2

def k2_off126 (i : grid2.Coords) (v248 : BitVec 32) : Fin 3 → Nat :=
  let arg0 : BitVec 32 := BitVec.ofNat 32 (i 0).val
  let c0_i32_286 : BitVec 32 := 0#32
  ![arg0.toNat, v248.toNat, 0]

def k2_chk36 (i : grid2.Coords) (v248 : BitVec 32) : Prop :=
  (∀ a, (k2_off72 i v248) a + S1x1x64.size a ≤ S32x4096x64.size a) ∧
  (∀ a, (k2_off126 i v248) a + S1x1x64.size a ≤ S32x4096x64.size a)
theorem k2_off72_inb : ∀ (i : grid2.Coords) (v248 : BitVec 32) (k2_hw36 : k2_chk36 i v248), ∀ a, (k2_off72 i v248) a + S1x1x64.size a ≤ S32x4096x64.size a := fun i v248 k2_hw36 => k2_hw36.1
theorem k2_off126_inb : ∀ (i : grid2.Coords) (v248 : BitVec 32) (k2_hw36 : k2_chk36 i v248), ∀ a, (k2_off126 i v248) a + S1x1x64.size a ≤ S32x4096x64.size a := fun i v248 k2_hw36 => k2_hw36.2

def k2_off127 (i : grid2.Coords) (v255 : BitVec 32) : Fin 3 → Nat :=
  let arg0 : BitVec 32 := BitVec.ofNat 32 (i 0).val
  let c0_i32_289 : BitVec 32 := 0#32
  ![arg0.toNat, v255.toNat, 0]

def k2_chk37 (i : grid2.Coords) (v255 : BitVec 32) : Prop :=
  (∀ a, (k2_off74 i v255) a + S1x1x64.size a ≤ S32x4096x64.size a) ∧
  (∀ a, (k2_off127 i v255) a + S1x1x64.size a ≤ S32x4096x64.size a)
theorem k2_off74_inb : ∀ (i : grid2.Coords) (v255 : BitVec 32) (k2_hw37 : k2_chk37 i v255), ∀ a, (k2_off74 i v255) a + S1x1x64.size a ≤ S32x4096x64.size a := fun i v255 k2_hw37 => k2_hw37.1
theorem k2_off127_inb : ∀ (i : grid2.Coords) (v255 : BitVec 32) (k2_hw37 : k2_chk37 i v255), ∀ a, (k2_off127 i v255) a + S1x1x64.size a ≤ S32x4096x64.size a := fun i v255 k2_hw37 => k2_hw37.2

def k2_off128 (i : grid2.Coords) (v262 : BitVec 32) : Fin 3 → Nat :=
  let arg0 : BitVec 32 := BitVec.ofNat 32 (i 0).val
  let c0_i32_292 : BitVec 32 := 0#32
  ![arg0.toNat, v262.toNat, 0]

def k2_chk38 (i : grid2.Coords) (v262 : BitVec 32) : Prop :=
  (∀ a, (k2_off76 i v262) a + S1x1x64.size a ≤ S32x4096x64.size a) ∧
  (∀ a, (k2_off128 i v262) a + S1x1x64.size a ≤ S32x4096x64.size a)
theorem k2_off76_inb : ∀ (i : grid2.Coords) (v262 : BitVec 32) (k2_hw38 : k2_chk38 i v262), ∀ a, (k2_off76 i v262) a + S1x1x64.size a ≤ S32x4096x64.size a := fun i v262 k2_hw38 => k2_hw38.1
theorem k2_off128_inb : ∀ (i : grid2.Coords) (v262 : BitVec 32) (k2_hw38 : k2_chk38 i v262), ∀ a, (k2_off128 i v262) a + S1x1x64.size a ≤ S32x4096x64.size a := fun i v262 k2_hw38 => k2_hw38.2

def k2_off129 (i : grid2.Coords) (v269 : BitVec 32) : Fin 3 → Nat :=
  let arg0 : BitVec 32 := BitVec.ofNat 32 (i 0).val
  let c0_i32_295 : BitVec 32 := 0#32
  ![arg0.toNat, v269.toNat, 0]

def k2_chk39 (i : grid2.Coords) (v269 : BitVec 32) : Prop :=
  (∀ a, (k2_off78 i v269) a + S1x1x64.size a ≤ S32x4096x64.size a) ∧
  (∀ a, (k2_off129 i v269) a + S1x1x64.size a ≤ S32x4096x64.size a)
theorem k2_off78_inb : ∀ (i : grid2.Coords) (v269 : BitVec 32) (k2_hw39 : k2_chk39 i v269), ∀ a, (k2_off78 i v269) a + S1x1x64.size a ≤ S32x4096x64.size a := fun i v269 k2_hw39 => k2_hw39.1
theorem k2_off129_inb : ∀ (i : grid2.Coords) (v269 : BitVec 32) (k2_hw39 : k2_chk39 i v269), ∀ a, (k2_off129 i v269) a + S1x1x64.size a ≤ S32x4096x64.size a := fun i v269 k2_hw39 => k2_hw39.2

def k2_off130 (i : grid2.Coords) (v276 : BitVec 32) : Fin 3 → Nat :=
  let arg0 : BitVec 32 := BitVec.ofNat 32 (i 0).val
  let c0_i32_298 : BitVec 32 := 0#32
  ![arg0.toNat, v276.toNat, 0]

def k2_chk40 (i : grid2.Coords) (v276 : BitVec 32) : Prop :=
  (∀ a, (k2_off80 i v276) a + S1x1x64.size a ≤ S32x4096x64.size a) ∧
  (∀ a, (k2_off130 i v276) a + S1x1x64.size a ≤ S32x4096x64.size a)
theorem k2_off80_inb : ∀ (i : grid2.Coords) (v276 : BitVec 32) (k2_hw40 : k2_chk40 i v276), ∀ a, (k2_off80 i v276) a + S1x1x64.size a ≤ S32x4096x64.size a := fun i v276 k2_hw40 => k2_hw40.1
theorem k2_off130_inb : ∀ (i : grid2.Coords) (v276 : BitVec 32) (k2_hw40 : k2_chk40 i v276), ∀ a, (k2_off130 i v276) a + S1x1x64.size a ≤ S32x4096x64.size a := fun i v276 k2_hw40 => k2_hw40.2

def k2_off131 (i : grid2.Coords) (v283 : BitVec 32) : Fin 3 → Nat :=
  let arg0 : BitVec 32 := BitVec.ofNat 32 (i 0).val
  let c0_i32_301 : BitVec 32 := 0#32
  ![arg0.toNat, v283.toNat, 0]

def k2_chk41 (i : grid2.Coords) (v283 : BitVec 32) : Prop :=
  (∀ a, (k2_off82 i v283) a + S1x1x64.size a ≤ S32x4096x64.size a) ∧
  (∀ a, (k2_off131 i v283) a + S1x1x64.size a ≤ S32x4096x64.size a)
theorem k2_off82_inb : ∀ (i : grid2.Coords) (v283 : BitVec 32) (k2_hw41 : k2_chk41 i v283), ∀ a, (k2_off82 i v283) a + S1x1x64.size a ≤ S32x4096x64.size a := fun i v283 k2_hw41 => k2_hw41.1
theorem k2_off131_inb : ∀ (i : grid2.Coords) (v283 : BitVec 32) (k2_hw41 : k2_chk41 i v283), ∀ a, (k2_off131 i v283) a + S1x1x64.size a ≤ S32x4096x64.size a := fun i v283 k2_hw41 => k2_hw41.2

def k2_off132 (i : grid2.Coords) (v290 : BitVec 32) : Fin 3 → Nat :=
  let arg0 : BitVec 32 := BitVec.ofNat 32 (i 0).val
  let c0_i32_304 : BitVec 32 := 0#32
  ![arg0.toNat, v290.toNat, 0]

def k2_chk42 (i : grid2.Coords) (v290 : BitVec 32) : Prop :=
  (∀ a, (k2_off84 i v290) a + S1x1x64.size a ≤ S32x4096x64.size a) ∧
  (∀ a, (k2_off132 i v290) a + S1x1x64.size a ≤ S32x4096x64.size a)
theorem k2_off84_inb : ∀ (i : grid2.Coords) (v290 : BitVec 32) (k2_hw42 : k2_chk42 i v290), ∀ a, (k2_off84 i v290) a + S1x1x64.size a ≤ S32x4096x64.size a := fun i v290 k2_hw42 => k2_hw42.1
theorem k2_off132_inb : ∀ (i : grid2.Coords) (v290 : BitVec 32) (k2_hw42 : k2_chk42 i v290), ∀ a, (k2_off132 i v290) a + S1x1x64.size a ≤ S32x4096x64.size a := fun i v290 k2_hw42 => k2_hw42.2

def k2_off133 (i : grid2.Coords) (v297 : BitVec 32) : Fin 3 → Nat :=
  let arg0 : BitVec 32 := BitVec.ofNat 32 (i 0).val
  let c0_i32_307 : BitVec 32 := 0#32
  ![arg0.toNat, v297.toNat, 0]

def k2_chk43 (i : grid2.Coords) (v297 : BitVec 32) : Prop :=
  (∀ a, (k2_off86 i v297) a + S1x1x64.size a ≤ S32x4096x64.size a) ∧
  (∀ a, (k2_off133 i v297) a + S1x1x64.size a ≤ S32x4096x64.size a)
theorem k2_off86_inb : ∀ (i : grid2.Coords) (v297 : BitVec 32) (k2_hw43 : k2_chk43 i v297), ∀ a, (k2_off86 i v297) a + S1x1x64.size a ≤ S32x4096x64.size a := fun i v297 k2_hw43 => k2_hw43.1
theorem k2_off133_inb : ∀ (i : grid2.Coords) (v297 : BitVec 32) (k2_hw43 : k2_chk43 i v297), ∀ a, (k2_off133 i v297) a + S1x1x64.size a ≤ S32x4096x64.size a := fun i v297 k2_hw43 => k2_hw43.2

def k2_off134 (i : grid2.Coords) (v304 : BitVec 32) : Fin 3 → Nat :=
  let arg0 : BitVec 32 := BitVec.ofNat 32 (i 0).val
  let c0_i32_310 : BitVec 32 := 0#32
  ![arg0.toNat, v304.toNat, 0]

def k2_chk44 (i : grid2.Coords) (v304 : BitVec 32) : Prop :=
  (∀ a, (k2_off88 i v304) a + S1x1x64.size a ≤ S32x4096x64.size a) ∧
  (∀ a, (k2_off134 i v304) a + S1x1x64.size a ≤ S32x4096x64.size a)
theorem k2_off88_inb : ∀ (i : grid2.Coords) (v304 : BitVec 32) (k2_hw44 : k2_chk44 i v304), ∀ a, (k2_off88 i v304) a + S1x1x64.size a ≤ S32x4096x64.size a := fun i v304 k2_hw44 => k2_hw44.1
theorem k2_off134_inb : ∀ (i : grid2.Coords) (v304 : BitVec 32) (k2_hw44 : k2_chk44 i v304), ∀ a, (k2_off134 i v304) a + S1x1x64.size a ≤ S32x4096x64.size a := fun i v304 k2_hw44 => k2_hw44.2

@[reducible] def k2_t1_loop : Scf.Loop 32 :=
  let c0_i32_330 : BitVec 32 := 0#32
  let c45_i32 : BitVec 32 := 45#32
  let v476 : BitVec 32 := Scalar.addi c0_i32_330 c45_i32
  let c1_i32_331 : BitVec 32 := 1#32
  ⟨c0_i32_330, v476, c1_i32_331⟩
def k2_off135 (k2_t1 : Fin k2_t1_loop.trips) : Fin 2 → Nat :=
  let c0_i32_330 : BitVec 32 := 0#32
  let c1_i32_331 : BitVec 32 := 1#32
  let arg8 : BitVec 32 := Scf.iv c0_i32_330 c1_i32_331 k2_t1
  let v477 : Index := Scalar.indexCast arg8
  let c0_333 : Index := 0#32
  ![v477.toNat, 0]
def k2_off136 (i : grid2.Coords) (k2_t1 : Fin k2_t1_loop.trips) : Fin 1 → Nat :=
  let arg0 : BitVec 32 := BitVec.ofNat 32 (i 0).val
  let c64_i32_334 : BitVec 32 := 64#32
  let v479 : BitVec 32 := Scalar.muli arg0 c64_i32_334
  let c0_i32_330 : BitVec 32 := 0#32
  let c1_i32_331 : BitVec 32 := 1#32
  let arg8 : BitVec 32 := Scf.iv c0_i32_330 c1_i32_331 k2_t1
  let v480 : BitVec 32 := Scalar.addi v479 arg8
  let v481 : Index := Scalar.indexCast v480
  ![v481.toNat]
def k2_off137 (v482 : BitVec 32) : Fin 3 → Nat :=
  let c0_335 : Index := 0#32
  let v483 : Index := Scalar.indexCast v482
  let c0_336 : Index := 0#32
  ![0, v483.toNat, 0]

def k2_chk46 (v482 : BitVec 32) : Prop :=
  (∀ a, (k2_off137 v482) a + S1x1x64.size a ≤ S1x4096x64.size a)
theorem k2_off137_inb : ∀ (v482 : BitVec 32) (k2_hw46 : k2_chk46 v482), ∀ a, (k2_off137 v482) a + S1x1x64.size a ≤ S1x4096x64.size a := fun v482 k2_hw46 => k2_hw46

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S2048 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x4096x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== WholeRefIdeal.lean ====
abbrev S2x4096x16x64 : Shape := ⟨4, ![2, 4096, 16, 64]⟩
abbrev S45 : Shape := ⟨1, ![45]⟩
abbrev S32x4096x64 : Shape := ⟨3, ![32, 4096, 64]⟩
abbrev S_ : Shape := ⟨0, ![]⟩
abbrev S45x1 : Shape := ⟨2, ![45, 1]⟩
abbrev S1 : Shape := ⟨1, ![1]⟩
abbrev S1x1 : Shape := ⟨2, ![1, 1]⟩
abbrev S32x45x64 : Shape := ⟨3, ![32, 45, 64]⟩
abbrev S32x4096x45 : Shape := ⟨3, ![32, 4096, 45]⟩
abbrev S32x4096 : Shape := ⟨2, ![32, 4096]⟩
abbrev S32x45 : Shape := ⟨2, ![32, 45]⟩
abbrev S32 : Shape := ⟨1, ![32]⟩
abbrev S32x1 : Shape := ⟨2, ![32, 1]⟩
abbrev S32x45x1 : Shape := ⟨3, ![32, 45, 1]⟩
abbrev S32x45x2 : Shape := ⟨3, ![32, 45, 2]⟩
abbrev S32x64x4096 : Shape := ⟨3, ![32, 64, 4096]⟩
abbrev S32x45x4096 : Shape := ⟨3, ![32, 45, 4096]⟩
abbrev S32x64 : Shape := ⟨2, ![32, 64]⟩
abbrev S32x1x64 : Shape := ⟨3, ![32, 1, 64]⟩
abbrev S2x16x4096x64 : Shape := ⟨4, ![2, 16, 4096, 64]⟩

abbrev nBuf : Space → Nat
  | .hbm => 103
  | .vmem => 0
  | .smem => 0
  | _ => 0

abbrev bufTy : (tb : Table) → Fin (tcTables nBuf tb) → BufTy
  | .hbm, ⟨0, _⟩ => ⟨S2x4096x16x64, .f32⟩
  | .hbm, ⟨1, _⟩ => ⟨S2x4096x16x64, .f32⟩
  | .hbm, ⟨2, _⟩ => ⟨S2x4096x16x64, .f32⟩
  | .hbm, ⟨3, _⟩ => ⟨S45, .i32⟩
  | .hbm, ⟨4, _⟩ => ⟨S32x4096x64, .f32⟩
  | .hbm, ⟨5, _⟩ => ⟨S32x4096x64, .f32⟩
  | .hbm, ⟨6, _⟩ => ⟨S32x4096x64, .f32⟩
  | .hbm, ⟨7, _⟩ => ⟨S_, .i32⟩
  | .hbm, ⟨8, _⟩ => ⟨S45, .i32⟩
  | .hbm, ⟨9, _⟩ => ⟨S45, .i1⟩
  | .hbm, ⟨10, _⟩ => ⟨S_, .i32⟩
  | .hbm, ⟨11, _⟩ => ⟨S45, .i32⟩
  | .hbm, ⟨12, _⟩ => ⟨S45, .i32⟩
  | .hbm, ⟨13, _⟩ => ⟨S45, .i32⟩
  | .hbm, ⟨14, _⟩ => ⟨S45x1, .i32⟩
  | .hbm, ⟨15, _⟩ => ⟨S1, .i32⟩
  | .hbm, ⟨16, _⟩ => ⟨S_, .i32⟩
  | .hbm, ⟨17, _⟩ => ⟨S45x1, .i32⟩
  | .hbm, ⟨18, _⟩ => ⟨S45x1, .i1⟩
  | .hbm, ⟨19, _⟩ => ⟨S1x1, .i32⟩
  | .hbm, ⟨20, _⟩ => ⟨S45x1, .i32⟩
  | .hbm, ⟨21, _⟩ => ⟨S45x1, .i1⟩
  | .hbm, ⟨22, _⟩ => ⟨S45x1, .i1⟩
  | .hbm, ⟨23, _⟩ => ⟨S_, .i1⟩
  | .hbm, ⟨24, _⟩ => ⟨S45, .i1⟩
  | .hbm, ⟨25, _⟩ => ⟨S32x45x64, .f32⟩
  | .hbm, ⟨26, _⟩ => ⟨S32x45x64, .i1⟩
  | .hbm, ⟨27, _⟩ => ⟨S_, .f32⟩
  | .hbm, ⟨28, _⟩ => ⟨S32x45x64, .f32⟩
  | .hbm, ⟨29, _⟩ => ⟨S32x45x64, .f32⟩
  | .hbm, ⟨30, _⟩ => ⟨S32x4096x45, .f32⟩
  | .hbm, ⟨31, _⟩ => ⟨S_, .f32⟩
  | .hbm, ⟨32, _⟩ => ⟨S32x4096, .f32⟩
  | .hbm, ⟨33, _⟩ => ⟨S_, .f32⟩
  | .hbm, ⟨34, _⟩ => ⟨S32x4096, .f32⟩
  | .hbm, ⟨35, _⟩ => ⟨S_, .f32⟩
  | .hbm, ⟨36, _⟩ => ⟨S32x4096, .f32⟩
  | .hbm, ⟨37, _⟩ => ⟨S32x4096, .f32⟩
  | .hbm, ⟨38, _⟩ => ⟨S32x4096, .f32⟩
  | .hbm, ⟨39, _⟩ => ⟨S32x45, .f32⟩
  | .hbm, ⟨40, _⟩ => ⟨S32x45, .i32⟩
  | .hbm, ⟨41, _⟩ => ⟨S32, .i32⟩
  | .hbm, ⟨42, _⟩ => ⟨S32x1, .i32⟩
  | .hbm, ⟨43, _⟩ => ⟨S_, .i32⟩
  | .hbm, ⟨44, _⟩ => ⟨S32x1, .i32⟩
  | .hbm, ⟨45, _⟩ => ⟨S32x1, .i1⟩
  | .hbm, ⟨46, _⟩ => ⟨S_, .i32⟩
  | .hbm, ⟨47, _⟩ => ⟨S32x1, .i32⟩
  | .hbm, ⟨48, _⟩ => ⟨S32x1, .i32⟩
  | .hbm, ⟨49, _⟩ => ⟨S32x1, .i32⟩
  | .hbm, ⟨50, _⟩ => ⟨S_, .i32⟩
  | .hbm, ⟨51, _⟩ => ⟨S32x45, .i32⟩
  | .hbm, ⟨52, _⟩ => ⟨S32x45, .i1⟩
  | .hbm, ⟨53, _⟩ => ⟨S_, .i32⟩
  | .hbm, ⟨54, _⟩ => ⟨S32x45, .i32⟩
  | .hbm, ⟨55, _⟩ => ⟨S32x45, .i32⟩
  | .hbm, ⟨56, _⟩ => ⟨S32x45, .i32⟩
  | .hbm, ⟨57, _⟩ => ⟨S32x45, .i32⟩
  | .hbm, ⟨58, _⟩ => ⟨S32x45x1, .i32⟩
  | .hbm, ⟨59, _⟩ => ⟨S32x45x1, .i32⟩
  | .hbm, ⟨60, _⟩ => ⟨S32x45x2, .i32⟩
  | .hbm, ⟨61, _⟩ => ⟨S32x45x64, .f32⟩
  | .hbm, ⟨62, _⟩ => ⟨S32x64x4096, .f32⟩
  | .hbm, ⟨63, _⟩ => ⟨S32x45x4096, .f32⟩
  | .hbm, ⟨64, _⟩ => ⟨S_, .f32⟩
  | .hbm, ⟨65, _⟩ => ⟨S32x45, .f32⟩
  | .hbm, ⟨66, _⟩ => ⟨S_, .f32⟩
  | .hbm, ⟨67, _⟩ => ⟨S32x45, .f32⟩
  | .hbm, ⟨68, _⟩ => ⟨S32x45, .f32⟩
  | .hbm, ⟨69, _⟩ => ⟨S32x45x1, .f32⟩
  | .hbm, ⟨70, _⟩ => ⟨S32x45x4096, .f32⟩
  | .hbm, ⟨71, _⟩ => ⟨S32x45x4096, .f32⟩
  | .hbm, ⟨72, _⟩ => ⟨S32x45x4096, .f32⟩
  | .hbm, ⟨73, _⟩ => ⟨S_, .f32⟩
  | .hbm, ⟨74, _⟩ => ⟨S32x45, .f32⟩
  | .hbm, ⟨75, _⟩ => ⟨S32x45x1, .f32⟩
  | .hbm, ⟨76, _⟩ => ⟨S32x45x4096, .f32⟩
  | .hbm, ⟨77, _⟩ => ⟨S32x45x4096, .f32⟩
  | .hbm, ⟨78, _⟩ => ⟨S32x45x64, .f32⟩
  | .hbm, ⟨79, _⟩ => ⟨S_, .f32⟩
  | .hbm, ⟨80, _⟩ => ⟨S32x64, .f32⟩
  | .hbm, ⟨81, _⟩ => ⟨S32x1x64, .f32⟩
  | .hbm, ⟨82, _⟩ => ⟨S32x4096x64, .f32⟩
  | .hbm, ⟨83, _⟩ => ⟨S_, .i32⟩
  | .hbm, ⟨84, _⟩ => ⟨S32x1, .i32⟩
  | .hbm, ⟨85, _⟩ => ⟨S32x1, .i1⟩
  | .hbm, ⟨86, _⟩ => ⟨S_, .i32⟩
  | .hbm, ⟨87, _⟩ => ⟨S32x1, .i32⟩
  | .hbm, ⟨88, _⟩ => ⟨S32x1, .i32⟩
  | .hbm, ⟨89, _⟩ => ⟨S32x1, .i32⟩
  | .hbm, ⟨90, _⟩ => ⟨S_, .i32⟩
  | .hbm, ⟨91, _⟩ => ⟨S32x45, .i32⟩
  | .hbm, ⟨92, _⟩ => ⟨S32x45, .i1⟩
  | .hbm, ⟨93, _⟩ => ⟨S_, .i32⟩
  | .hbm, ⟨94, _⟩ => ⟨S32x45, .i32⟩
  | .hbm, ⟨95, _⟩ => ⟨S32x45, .i32⟩
  | .hbm, ⟨96, _⟩ => ⟨S32x45, .i32⟩
  | .hbm, ⟨97, _⟩ => ⟨S32x45, .i32⟩
  | .hbm, ⟨98, _⟩ => ⟨S32x45x1, .i32⟩
  | .hbm, ⟨99, _⟩ => ⟨S32x45x1, .i32⟩
  | .hbm, ⟨100, _⟩ => ⟨S32x45x2, .i32⟩
  | .hbm, ⟨101, _⟩ => ⟨S32x4096x64, .f32⟩
  | .hbm, ⟨102, _⟩ => ⟨S2x16x4096x64, .f32⟩
  | _, _ => ⟨S2x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_values : Ref sig .tc := ⟨.hbm, 39, rfl⟩
abbrev main_indices : Ref sig .tc := ⟨.hbm, 40, rfl⟩
abbrev main_v10 : Ref sig .tc := ⟨.hbm, 41, rfl⟩
abbrev main_v11 : Ref sig .tc := ⟨.hbm, 42, rfl⟩
abbrev main_c_2 : Ref sig .tc := ⟨.hbm, 43, rfl⟩
abbrev main_v12 : Ref sig .tc := ⟨.hbm, 44, rfl⟩
abbrev main_v13 : Ref sig .tc := ⟨.hbm, 45, rfl⟩
abbrev main_c_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_4 : Ref sig .tc := ⟨.hbm, 50, rfl⟩
abbrev main_v17 : Ref sig .tc := ⟨.hbm, 51, rfl⟩
abbrev main_v18 : Ref sig .tc := ⟨.hbm, 52, rfl⟩
abbrev main_c_5 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_cst_7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_9 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_10 : Ref sig .tc := ⟨.hbm, 83, rfl⟩
abbrev main_v44 : Ref sig .tc := ⟨.hbm, 84, rfl⟩
abbrev main_v45 : Ref sig .tc := ⟨.hbm, 85, rfl⟩
abbrev main_c_11 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_12 : Ref sig .tc := ⟨.hbm, 90, rfl⟩
abbrev main_v49 : Ref sig .tc := ⟨.hbm, 91, rfl⟩
abbrev main_v50 : Ref sig .tc := ⟨.hbm, 92, rfl⟩
abbrev main_c_13 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩

abbrev nD : Nat := 1
abbrev τ : Topo := Topo.v7x

variable {F : FTy → Type} [FloatOps F]
-- ==== Proof.Words.lean ====
module
public import proofs.«01_k».proof.Pre_rows_in_range
public import Idealize.ShloMosaic.Lib.ReduceAll
@[expose] public section
noncomputable section
/-! # The precondition, word by word -/
namespace Cert.Pre_rows_in_range
open Idealize.ShloMosaic

variable [Facts]

/-- Where the precondition holds, every word of the index array is the number of a row, below 4096. -/
theorem word_lt {F : FTy → Type} [FloatOps F] (a0 : IVec S2048 32) (a1 a2 a3 : FVec F S32x4096x64 .f32)
    (h : fn (F := F) a0 a1 a2 a3 = fun _ => 1#1) (j : S2048.Idx) : (a0 j).toNat < 4096 := by
  have hs : Subsingleton S_.Idx := ⟨fun a b => funext fun k => k.elim0⟩
  have e := congrFun h (fun k => k.elim0)
  have e2 := IntOp.andi_eq_one.1 (Host.reduce_andi_all _ _ _ _ _ e j)
  have h0 : 0 ≤ (a0 j).toInt := IntOp.cmpi_sge.1 e2.1
  have h1 : (a0 j).toInt < 4096 := IntOp.cmpi_slt.1 e2.2
  rw [BitVec.toInt_eq_toNat_cond] at h0 h1
  split at h0 <;> omega

end Cert.Pre_rows_in_range
end
-- ==== Proof.AttnIdealRows.lean ====
module
public import proofs.«01_k».proof.Proof.Gen.AttnIdeal
public import proofs.«01_k».proof.Proof.Gen.AttnIdeal.Skeleton
public import proofs.«01_k».proof.Proof.Gen.AttnIdeal.Points
public import proofs.«01_k».proof.Proof.Gen.AttnIdeal.Loops
public import proofs.«01_k».proof.Proof.Gen.AttnIdeal.Launch
public import Idealize.ShloMosaic.Lib.Batch
public import Idealize.ShloMosaic.Lib.Tactic
public import Idealize.ShloMosaic.Lib.Pipeline.Kit
public import Idealize.ShloMosaic.Lib.Pipeline.Frame
public import Idealize.ShloMosaic.Lib.ValueIdxCore
public import Idealize.ShloMosaic.Lib.VecWindow
public import Idealize.ShloMosaic.Lib.Pipeline.Value
@[expose] public section
set_option maxRecDepth 16384
noncomputable section
namespace Cert.AttnIdeal.Hand
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Cert.AttnIdeal Cert.AttnIdeal.Gen

variable {F : FTy → Type} [FloatOps F]
local notation "𝕄" => MT nD τ sig Unit (Elt F) ℕ (Pipeline.UD sig nD τ) ℕ

abbrev qM : Memref sig .tc .hbm S32x4096x64 .f32 := Memref.whole main_arg1
abbrev sM : Memref sig .tc .vmem S45x64 .f32 := Memref.whole cc0_scratch0

/-- A row of one head of `q` that a word below 4096 names lies inside the array. -/
theorem row_inb (i : grid0.Coords) (v : BitVec 32) (h : v.toNat < 4096) :
    ∀ a, (![(BitVec.ofNat 32 (i 0).val).toNat, v.toNat, 0] : Fin 3 → ℕ) a + S1x1x64.size a ≤ S32x4096x64.size a := by
  have hi : (i 0).val < 32 := (i 0).isLt
  intro a
  fin_cases a
  · show (BitVec.ofNat 32 (i 0).val).toNat + 1 ≤ 32
    rw [BitVec.toNat_ofNat]; omega
  · show v.toNat + 1 ≤ 4096
    omega
  · show 0 + 64 ≤ 64
    omega
theorem chk1_of (i : grid0.Coords) (v : BitVec 32) (h : v.toNat < 4096) : k0_chk1 i v := ⟨row_inb i v h, row_inb i v h⟩
theorem chk2_of (i : grid0.Coords) (v : BitVec 32) (h : v.toNat < 4096) : k0_chk2 i v := ⟨row_inb i v h, row_inb i v h⟩
theorem chk3_of (i : grid0.Coords) (v : BitVec 32) (h : v.toNat < 4096) : k0_chk3 i v := ⟨row_inb i v h, row_inb i v h⟩
theorem chk4_of (i : grid0.Coords) (v : BitVec 32) (h : v.toNat < 4096) : k0_chk4 i v := ⟨row_inb i v h, row_inb i v h⟩
theorem chk5_of (i : grid0.Coords) (v : BitVec 32) (h : v.toNat < 4096) : k0_chk5 i v := ⟨row_inb i v h, row_inb i v h⟩
theorem chk6_of (i : grid0.Coords) (v : BitVec 32) (h : v.toNat < 4096) : k0_chk6 i v := ⟨row_inb i v h, row_inb i v h⟩
theorem chk7_of (i : grid0.Coords) (v : BitVec 32) (h : v.toNat < 4096) : k0_chk7 i v := ⟨row_inb i v h, row_inb i v h⟩
theorem chk8_of (i : grid0.Coords) (v : BitVec 32) (h : v.toNat < 4096) : k0_chk8 i v := ⟨row_inb i v h, row_inb i v h⟩
theorem chk9_of (i : grid0.Coords) (v : BitVec 32) (h : v.toNat < 4096) : k0_chk9 i v := ⟨row_inb i v h, row_inb i v h⟩
theorem chk10_of (i : grid0.Coords) (v : BitVec 32) (h : v.toNat < 4096) : k0_chk10 i v := ⟨row_inb i v h, row_inb i v h⟩
theorem chk11_of (i : grid0.Coords) (v : BitVec 32) (h : v.toNat < 4096) : k0_chk11 i v := ⟨row_inb i v h, row_inb i v h⟩
theorem chk12_of (i : grid0.Coords) (v : BitVec 32) (h : v.toNat < 4096) : k0_chk12 i v := ⟨row_inb i v h, row_inb i v h⟩
theorem chk13_of (i : grid0.Coords) (v : BitVec 32) (h : v.toNat < 4096) : k0_chk13 i v := ⟨row_inb i v h, row_inb i v h⟩
theorem chk14_of (i : grid0.Coords) (v : BitVec 32) (h : v.toNat < 4096) : k0_chk14 i v := ⟨row_inb i v h, row_inb i v h⟩
theorem chk15_of (i : grid0.Coords) (v : BitVec 32) (h : v.toNat < 4096) : k0_chk15 i v := ⟨row_inb i v h, row_inb i v h⟩
theorem chk16_of (i : grid0.Coords) (v : BitVec 32) (h : v.toNat < 4096) : k0_chk16 i v := ⟨row_inb i v h, row_inb i v h⟩
theorem chk17_of (i : grid0.Coords) (v : BitVec 32) (h : v.toNat < 4096) : k0_chk17 i v := ⟨row_inb i v h, row_inb i v h⟩
theorem chk18_of (i : grid0.Coords) (v : BitVec 32) (h : v.toNat < 4096) : k0_chk18 i v := ⟨row_inb i v h, row_inb i v h⟩
theorem chk19_of (i : grid0.Coords) (v : BitVec 32) (h : v.toNat < 4096) : k0_chk19 i v := ⟨row_inb i v h, row_inb i v h⟩
theorem chk20_of (i : grid0.Coords) (v : BitVec 32) (h : v.toNat < 4096) : k0_chk20 i v := ⟨row_inb i v h, row_inb i v h⟩
theorem chk21_of (i : grid0.Coords) (v : BitVec 32) (h : v.toNat < 4096) : k0_chk21 i v := ⟨row_inb i v h, row_inb i v h⟩
theorem chk22_of (i : grid0.Coords) (v : BitVec 32) (h : v.toNat < 4096) : k0_chk22 i v := ⟨row_inb i v h, row_inb i v h⟩
theorem chk23_of (i : grid0.Coords) (v : BitVec 32) (h : v.toNat < 4096) : k0_chk23 i v := ⟨row_inb i v h, row_inb i v h⟩
theorem chk24_of (i : grid0.Coords) (v : BitVec 32) (h : v.toNat < 4096) : k0_chk24 i v := ⟨row_inb i v h, row_inb i v h⟩
theorem chk25_of (i : grid0.Coords) (v : BitVec 32) (h : v.toNat < 4096) : k0_chk25 i v := ⟨row_inb i v h, row_inb i v h⟩
theorem chk26_of (i : grid0.Coords) (v : BitVec 32) (h : v.toNat < 4096) : k0_chk26 i v := ⟨row_inb i v h, row_inb i v h⟩
theorem chk27_of (i : grid0.Coords) (v : BitVec 32) (h : v.toNat < 4096) : k0_chk27 i v := ⟨row_inb i v h, row_inb i v h⟩
theorem chk28_of (i : grid0.Coords) (v : BitVec 32) (h : v.toNat < 4096) : k0_chk28 i v := ⟨row_inb i v h, row_inb i v h⟩
theorem chk29_of (i : grid0.Coords) (v : BitVec 32) (h : v.toNat < 4096) : k0_chk29 i v := ⟨row_inb i v h, row_inb i v h⟩
theorem chk30_of (i : grid0.Coords) (v : BitVec 32) (h : v.toNat < 4096) : k0_chk30 i v := ⟨row_inb i v h, row_inb i v h⟩
theorem chk31_of (i : grid0.Coords) (v : BitVec 32) (h : v.toNat < 4096) : k0_chk31 i v := ⟨row_inb i v h, row_inb i v h⟩
theorem chk32_of (i : grid0.Coords) (v : BitVec 32) (h : v.toNat < 4096) : k0_chk32 i v := ⟨row_inb i v h, row_inb i v h⟩
theorem chk33_of (i : grid0.Coords) (v : BitVec 32) (h : v.toNat < 4096) : k0_chk33 i v := ⟨row_inb i v h, row_inb i v h⟩
theorem chk34_of (i : grid0.Coords) (v : BitVec 32) (h : v.toNat < 4096) : k0_chk34 i v := ⟨row_inb i v h, row_inb i v h⟩
theorem chk35_of (i : grid0.Coords) (v : BitVec 32) (h : v.toNat < 4096) : k0_chk35 i v := ⟨row_inb i v h, row_inb i v h⟩
theorem chk36_of (i : grid0.Coords) (v : BitVec 32) (h : v.toNat < 4096) : k0_chk36 i v := ⟨row_inb i v h, row_inb i v h⟩
theorem chk37_of (i : grid0.Coords) (v : BitVec 32) (h : v.toNat < 4096) : k0_chk37 i v := ⟨row_inb i v h, row_inb i v h⟩
theorem chk38_of (i : grid0.Coords) (v : BitVec 32) (h : v.toNat < 4096) : k0_chk38 i v := ⟨row_inb i v h, row_inb i v h⟩
theorem chk39_of (i : grid0.Coords) (v : BitVec 32) (h : v.toNat < 4096) : k0_chk39 i v := ⟨row_inb i v h, row_inb i v h⟩
theorem chk40_of (i : grid0.Coords) (v : BitVec 32) (h : v.toNat < 4096) : k0_chk40 i v := ⟨row_inb i v h, row_inb i v h⟩
theorem chk41_of (i : grid0.Coords) (v : BitVec 32) (h : v.toNat < 4096) : k0_chk41 i v := ⟨row_inb i v h, row_inb i v h⟩
theorem chk42_of (i : grid0.Coords) (v : BitVec 32) (h : v.toNat < 4096) : k0_chk42 i v := ⟨row_inb i v h, row_inb i v h⟩
theorem chk43_of (i : grid0.Coords) (v : BitVec 32) (h : v.toNat < 4096) : k0_chk43 i v := ⟨row_inb i v h, row_inb i v h⟩
theorem chk44_of (i : grid0.Coords) (v : BitVec 32) (h : v.toNat < 4096) : k0_chk44 i v := ⟨row_inb i v h, row_inb i v h⟩
theorem chk45_of (i : grid0.Coords) (v : BitVec 32) (h : v.toNat < 4096) : k0_chk45 i v := row_inb i v h

theorem chk46_of (v : BitVec 32) (h : v.toNat < 4096) : k0_chk46 v := by
  intro a
  fin_cases a
  · show 0 + 1 ≤ 1
    omega
  · show (Scalar.indexCast v).toNat + 1 ≤ 4096
    have : (Scalar.indexCast v).toNat = v.toNat := rfl
    omega
  · show 0 + 64 ≤ 64
    omega

/-- The read share of `q` the `n`th row copy takes. -/
def qTok (n : ℕ) : PosShare TreeShare := Transfers.shareTokN fullShare n

section Run
variable (c : Dev nD) (i : grid0.Coords) (arg1 : Memref sig .tc .smem S2048 .i32) (harg1 : arg1.IsWhole)
  (arg3 arg4 arg5 : Memref sig .tc .vmem S1x4096x64 .f32) (harg3 : arg3.IsWhole) (harg4 : arg4.IsWhole) (harg5 : arg5.IsWhole)

/-- Every word the kernel may read off the index buffer names a row. -/
def InRange (f1 : Buf (Elt F) (arg1.view.loc (c : Thread nD τ))) : Prop :=
  ∀ (o : Fin 1 → ℕ) h y, BitVec.toNat (w := 32) (arg1.view.readAt (Elt F) (Rect.unit (s := S2048) o S1.size h).toLoadRect f1 y) < 4096

/-- The word trip `k` of the second loop reads. -/
abbrev wordT (f1 : Buf (Elt F) (arg1.view.loc (c : Thread nD τ))) (k : Fin k0_t1_loop.trips) : BitVec 32 :=
  arg1.view.readAt (Elt F) (Rect.unit (s := S2048) (k0_off136 i k) S1.size (k0_off136_inb i k)).toLoadRect f1 (Shape.Idx.first (numel1_S1.symm ▸ Nat.one_pos))

/-- The result's buffer before trip `k` of the second loop: the rows of the trips before it written over `g`. -/
def scB (f1 : Buf (Elt F) (arg1.view.loc (c : Thread nD τ))) (hr : InRange c arg1 f1) (fs : Buf (Elt F) (sM.view.loc (c : Thread nD τ)))
    (g : Buf (Elt F) (arg5.view.loc (c : Thread nD τ))) : ℕ → Buf (Elt F) (arg5.view.loc (c : Thread nD τ))
  | 0 => g
  | k + 1 => if h : k < k0_t1_loop.trips then
      arg5.view.writes (Elt F) (scB f1 hr fs g k)
        [⟨Rect.unit (s := S1x4096x64) (k0_off137 (wordT c i arg1 f1 ⟨k, h⟩)) S1x1x64.size (k0_off137_inb _ (chk46_of _ (hr _ _ _))),
          k0_pay3 (sM.view.readAt (Elt F) (Rect.unit (s := S45x64) (k0_off135 ⟨k, h⟩) S1x64.size (k0_off135_inb ⟨k, h⟩)).toLoadRect fs)⟩]
      else scB f1 hr fs g k

set_option warn.classDefReducibility false in
set_option maxHeartbeats 4000000 in
@[sl_loop] def loopInv (f1 : Buf (Elt F) (arg1.view.loc (c : Thread nD τ))) (hr : InRange c arg1 f1) (fs : Buf (Elt F) (sM.view.loc (c : Thread nD τ)))
    (g : Buf (Elt F) (arg5.view.loc (c : Thread nD τ))) :
    LoopInvTy_k0_t1 (F := F) Unit ℕ (Pipeline.UD sig nD τ) ℕ Variants.none c none Set.univ i arg1 harg1 qM (Memref.isWhole_whole _)
      arg3 harg3 arg4 harg4 arg5 harg5 sM (Memref.isWhole_whole _) cc0_scratch1 where
  inv k _ := iprop((arg1.view.loc (c : Thread nD τ) ↦[arg1.view.set]{fullShare} f1)
    ∗ (sM.view.loc (c : Thread nD τ) ↦{fullShare} fs)
    ∗ (arg5.view.loc (c : Thread nD τ) ↦[arg5.view.set]{fullShare} scB c i arg1 arg5 f1 hr fs g k))
  step k _ := by
    have e : scB c i arg1 arg5 f1 hr fs g (k.val + 1) = arg5.view.writes (Elt F) (scB c i arg1 arg5 f1 hr fs g k.val)
        [⟨Rect.unit (s := S1x4096x64) (k0_off137 (wordT c i arg1 f1 k)) S1x1x64.size (k0_off137_inb _ (chk46_of _ (hr _ _ _))),
          k0_pay3 (sM.view.readAt (Elt F) (Rect.unit (s := S45x64) (k0_off135 k) S1x64.size (k0_off135_inb k)).toLoadRect fs)⟩] := by
      rw [scB]; exact dif_pos k.isLt
    rw [e]
    iintro ⟨H1, HS, H5⟩
    unfold k0_t1_body
    sl_exec (disch := (with_reducible apply chk46_of); exact hr _ _ _)
    sl_step
    isplitl [H1]; · iexact H1
    isplitl [HS]; · iexact HS
    iexact H5
end Run

/-! ## What the kernel computes, of arrays -/

section Values
open Idealize.ShloMosaic.ValueIdx
variable {X : EltTy → Type}

/-- Word `t` of head `h` of the index array. -/
def wordAt (X1 : S2048.Idx → BitVec 32) (h : Fin 32) (t : Fin 45) : BitVec 32 :=
  X1 (ix1 ⟨64 * h.val + t.val, by omega⟩)

/-- The head grid point `i` works on. -/
def hd (i : grid0.Coords) : Fin 32 := ⟨(i 0).val, (i 0).isLt⟩

/-- The row of `q` a word names. -/
def rowNo (v : BitVec 32) : Fin 4096 := ⟨v.toNat % 4096, Nat.mod_lt _ (by decide)⟩

/-- The 45 rows of `q` the words of a head pick. -/
def rowsOf (X1 : S2048.Idx → BitVec 32) (Xq : S32x4096x64.Idx → F .f32) (h : Fin 32) : S45x64.Idx → F .f32 :=
  fun j => Xq (ix3 h (rowNo (wordAt X1 h (j 0))) (j 1))

/-- The block `A` after the rows `0 … k - 1` of `U` are stored over it, row `t` at the place `w t`. -/
def scatF {α : Type} (w : Fin 45 → BitVec 32) (U : S45x64.Idx → α) (A : S1x4096x64.Idx → α) : ℕ → S1x4096x64.Idx → α
  | 0 => A
  | k + 1 => fun y => if h : k < 45 then
      if (y 1).val = (w ⟨k, h⟩).toNat then U (ix2 ⟨k, h⟩ (y 2)) else scatF w U A k y
    else scatF w U A k y

/-- The block of the result grid point `i` leaves, of what its operands read. -/
def bodyOut (h : Fin 32) (X1 : S2048.Idx → BitVec 32) (Xq : S32x4096x64.Idx → F .f32) (X3 X4 : S1x4096x64.Idx → F .f32) :
    S1x4096x64.Idx → F .f32 :=
  scatF (wordAt X1 h) (k0_pay2 (k0_pay4 X3) (k0_pay5 X4) (rowsOf X1 Xq h) (constant S45x4096 .f32 0x00000000#32)) (k0_pay1 (k0_pay5 X4)) 45
end Values

/-! ## The kernel's reads and writes are those -/

section Reads
open Idealize.ShloMosaic.ValueIdx

/-- A word load off the index buffer. -/
theorem word_read (c : Dev nD) (i : grid0.Coords) (arg1 : Memref sig .tc .smem S2048 .i32) (f1 : Buf (Elt F) (arg1.view.loc (c : Thread nD τ)))
    {off : Fin 1 → ℕ} (inb : ∀ a, off a + S1.size a ≤ S2048.size a) (t : Fin 45) (ho : off = ![64 * (i 0).val + t.val])
    (x : (Rect.unit (s := S2048) off S1.size inb).toLoadRect.shape.Idx) :
    arg1.view.readAt (Elt F) (Rect.unit (s := S2048) off S1.size inb).toLoadRect f1 x
      = wordAt (arg1.view.read (Elt F) f1) (hd i) t := by
  subst ho
  rw [View.readAt_apply]
  refine congrArg (arg1.view.read (Elt F) f1) (funext fun a => Fin.ext ?_)
  have hx : (x 0).val < 1 := (x 0).isLt
  match a with
  | ⟨0, _⟩ =>
    show 64 * (i 0).val + t.val + 1 * (x 0).val = 64 * (i 0).val + t.val
    omega

/-- One row copy's payload: the row of `q` the word names. -/
theorem pay_row (c : Dev nD) (i : grid0.Coords) (v : BitVec 32) (hv : v.toNat < 4096) {off : Fin 3 → ℕ}
    (hoff : off = ![(BitVec.ofNat 32 (i 0).val).toNat, v.toNat, 0]) (inb : ∀ a, off a + S1x1x64.size a ≤ S32x4096x64.size a)
    (hst) (hsq : (Rect.unit (s := S32x4096x64) off S1x1x64.size inb).shape.Squeezes S1x64) (fq : Buf (Elt F) (qM.view.loc (c : Thread nD τ))) (j : S1x64.Idx) :
    View.read (Elt F) ((qM.slice (Rect.unit (s := S32x4096x64) off S1x1x64.size inb) hst).squeeze S1x64 hsq).view fq j
      = qM.view.read (Elt F) fq (ix3 (hd i) (rowNo v) (j 1)) := by
  subst hoff
  show qM.view.read (Elt F) fq ((Rect.unit (s := S32x4096x64) _ S1x1x64.size inb).emb (Shape.reshapeEquiv hsq.numel_eq j)) = _
  have e : Shape.reshapeEquiv (s' := S1x64) (s := S1x1x64) hsq.numel_eq j = Fin.cons ⟨0, Nat.one_pos⟩ j := Shape.reshapeEquiv_cons_one _ j
  have hj : (j 0).val < 1 := (j 0).isLt
  have hi : (i 0).val < 32 := (i 0).isLt
  have hb : (BitVec.ofNat 32 (i 0).val).toNat = (i 0).val := by rw [BitVec.toNat_ofNat]; omega
  refine congrArg (qM.view.read (Elt F) fq) ?_
  refine (congrArg _ e).trans (funext fun a => Fin.ext ?_)
  match a with
  | ⟨0, _⟩ =>
    show (BitVec.ofNat 32 (i 0).val).toNat + 1 * 0 = (i 0).val
    omega
  | ⟨1, _⟩ =>
    show v.toNat + 1 * (j 0).val = v.toNat % 4096
    omega
  | ⟨2, _⟩ =>
    show 0 + 1 * (j 1).val = (j 1).val
    omega

/-- A list of pieces that all hold the values of one function reads that function wherever some piece covers. -/
theorem read_pieces {sig' : RefSig} {κ : Kind} {sp : Space} {s : Shape} {e : EltTy} {Val : EltTy → Type} (v : View sig' κ sp s e)
    (f : v.ty.Contents Val) (G : s.Idx → Val e) (y : s.Idx) : ∀ L : List (View.Piece Val s e), (∀ p ∈ L, ∀ x, p.2 x = G (p.1.emb x)) →
      (∃ p ∈ L, y ∈ p.1.set) → v.read Val (v.writes Val f L) y = G y
  | [], _, h => by obtain ⟨_, hm, _⟩ := h; exact absurd hm List.not_mem_nil
  | p :: L, ha, h => by
    by_cases hy : y ∈ p.1.set
    · obtain ⟨x, rfl⟩ : ∃ x, p.1.emb x = y := p.1.exists_idx_of_mem hy
      obtain ⟨r, w⟩ := p
      rw [View.read_writes_cons_emb]
      exact ha _ List.mem_cons_self x
    · have hy' : y ∉ Finset.univ.map p.1.emb := by rwa [Rect.map_emb_univ]
      rw [View.writes_cons, View.read_slice_write_of_not_mem p.1 _ _ _ hy']
      refine read_pieces v f G y L (fun p' hp => ha p' (List.mem_cons_of_mem _ hp)) ?_
      obtain ⟨p', hm, hy2⟩ := h
      rcases List.mem_cons.mp hm with rfl | hm
      · exact absurd hy2 hy
      · exact ⟨p', hm, hy2⟩

/-- A row of the scratch, placed. -/
theorem row_emb {k : ℕ} (hk : k < 45) (inb : ∀ a, (![k, 0] : Fin 2 → ℕ) a + S1x64.size a ≤ S45x64.size a) (x : S1x64.Idx) :
    (Rect.unit (s := S45x64) ![k, 0] S1x64.size inb).emb x = ix2 ⟨k, hk⟩ (x 1) := by
  have hx : (x 0).val < 1 := (x 0).isLt
  refine funext fun a => Fin.ext ?_
  match a with
  | ⟨0, _⟩ =>
    show k + 1 * (x 0).val = k
    omega
  | ⟨1, _⟩ =>
    show 0 + 1 * (x 1).val = (x 1).val
    omega

theorem trips45 : k0_t1_loop.trips = 45 := by decide +kernel

/-- The result's buffer in the second loop reads as the scattered block. -/
theorem scB_read (c : Dev nD) (i : grid0.Coords) (arg1 : Memref sig .tc .smem S2048 .i32) (arg5 : Memref sig .tc .vmem S1x4096x64 .f32)
    (f1 : Buf (Elt F) (arg1.view.loc (c : Thread nD τ))) (hr : InRange c arg1 f1) (fs : Buf (Elt F) (sM.view.loc (c : Thread nD τ)))
    (g : Buf (Elt F) (arg5.view.loc (c : Thread nD τ))) : ∀ k : ℕ, k ≤ 45 → ∀ y,
    arg5.view.read (Elt F) (scB c i arg1 arg5 f1 hr fs g k) y
      = scatF (wordAt (arg1.view.read (Elt F) f1) (hd i)) (sM.view.read (Elt F) fs) (arg5.view.read (Elt F) g) k y
  | 0, _, y => rfl
  | k + 1, hk, y => by
    have hk' : k < k0_t1_loop.trips := by rw [trips45]; omega
    have hk2 : k < 45 := by omega
    have ew : wordT c i arg1 f1 ⟨k, hk'⟩ = wordAt (arg1.view.read (Elt F) f1) (hd i) ⟨k, hk2⟩ :=
      word_read c i arg1 f1 (k0_off136_inb i ⟨k, hk'⟩) ⟨k, hk2⟩ (k0_off136_eq i ⟨k, hk'⟩) _
    rw [scB, dif_pos hk', scatF]
    simp only [dif_pos hk2]
    have ho : k0_off137 (wordT c i arg1 f1 ⟨k, hk'⟩) = ![0, (wordT c i arg1 f1 ⟨k, hk'⟩).toNat, 0] := rfl
    have hy0 : (y 0).val < 1 := (y 0).isLt
    split
    · rename_i h
      refine (View.read_writes_cons_unit_of_mem (size := S1x1x64.size) arg5.view (scB c i arg1 arg5 f1 hr fs g k) _ _ [] y
        (ix3 (0 : Fin 1) (0 : Fin 1) (y 2) : S1x1x64.Idx) ho ?_).trans ?_
      rotate_left
      · unfold k0_pay3
        refine (shapeCast_addUnit_apply (n := 2) ![1, 64] _ shapeCasts_S1x64_S1x1x64 (ix3 (0 : Fin 1) (0 : Fin 1) (y 2))).trans ?_
        show sM.view.read (Elt F) fs ((Rect.unit (s := S45x64) (k0_off135 ⟨k, hk'⟩) S1x64.size (k0_off135_inb ⟨k, hk'⟩)).toLoadRect.idx _) = _
        refine congrArg (sM.view.read (Elt F) fs) (funext fun a => Fin.ext ?_)
        have h135 := k0_off135_eq ⟨k, hk'⟩
        match a with
        | ⟨0, _⟩ =>
          show k0_off135 ⟨k, hk'⟩ 0 + 1 * 0 = k
          rw [h135]; rfl
        | ⟨1, _⟩ =>
          show k0_off135 ⟨k, hk'⟩ 1 + 1 * (y 2).val = (y 2).val
          rw [h135]
          show 0 + 1 * (y 2).val = (y 2).val
          omega
      · intro a
        match a with
        | ⟨0, _⟩ =>
          show (y 0).val = 0 + 0
          omega
        | ⟨1, _⟩ =>
          show (y 1).val = (wordT c i arg1 f1 ⟨k, hk'⟩).toNat + 0
          rw [ew, h]; rfl
        | ⟨2, _⟩ =>
          show (y 2).val = 0 + (y 2).val
          omega
    · rename_i h
      refine (View.read_writes_cons_unit_of_not_mem (size := S1x1x64.size) arg5.view (scB c i arg1 arg5 f1 hr fs g k) _ _ [] y ho ⟨1, by decide⟩ ?_).trans ?_
      rotate_left
      · exact scB_read c i arg1 arg5 f1 hr fs g k (by omega) y
      · rw [← ew] at h
        show (y 1).val < (wordT c i arg1 f1 ⟨k, hk'⟩).toNat ∨ (wordT c i arg1 f1 ⟨k, hk'⟩).toNat + 1 ≤ (y 1).val
        omega
end Reads

end Cert.AttnIdeal.Hand
-- ==== Proof.AttnIdealBody.lean ====
module
public import proofs.«01_k».proof.Proof.Gen.AttnIdeal
public import proofs.«01_k».proof.Proof.Gen.AttnIdeal.Skeleton
public import proofs.«01_k».proof.Proof.Gen.AttnIdeal.Points
public import proofs.«01_k».proof.Proof.Gen.AttnIdeal.Loops
public import proofs.«01_k».proof.Proof.Gen.AttnIdeal.Launch
public import proofs.«01_k».proof.Proof.AttnIdealRows
public import Idealize.ShloMosaic.Lib.Batch
public import Idealize.ShloMosaic.Lib.Ring
public import Idealize.ShloMosaic.Lib.Tactic
public import Idealize.ShloMosaic.Lib.Pipeline.Kit
public import Idealize.ShloMosaic.Lib.Pipeline.Frame
public import Idealize.ShloMosaic.Lib.ValueIdxCore
public import Idealize.ShloMosaic.Lib.VecWindow
public import Idealize.ShloMosaic.Lib.Pipeline.Value
@[expose] public section
set_option maxRecDepth 16384
noncomputable section
namespace Cert.AttnIdeal.Hand
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Cert.AttnIdeal Cert.AttnIdeal.Gen
open Idealize.ShloMosaic.ValueIdx

variable {F : FTy → Type} [FloatOps F]
local notation "𝕄" => MT nD τ sig Unit (Elt F) ℕ (Pipeline.UD sig nD τ) ℕ

set_option maxHeartbeats 40000000
set_option sl_exec.rejoinFuel 100
set_option sl_exec.stepHeartbeats 4000000
/-- The kernel's body at a grid point, `q` in the 45 read shares its row copies take: what it leaves is `bodyOut`'s block. -/
theorem bodyRun (c : Dev nD) (i : grid0.Coords) (arg1 : Memref sig .tc .smem S2048 .i32) (harg1 : arg1.IsWhole)
   (arg3 arg4 arg5 : Memref sig .tc .vmem S1x4096x64 .f32) (harg3 : arg3.IsWhole) (harg4 : arg4.IsWhole) (harg5 : arg5.IsWhole)
   (f1 : Buf (Elt F) (arg1.view.loc (c : Thread nD τ))) (fq : Buf (Elt F) (qM.view.loc (c : Thread nD τ))) (fs : Buf (Elt F) (sM.view.loc (c : Thread nD τ)))
   (f3 : Buf (Elt F) (arg3.view.loc (c : Thread nD τ))) (f4 : Buf (Elt F) (arg4.view.loc (c : Thread nD τ))) (f5 : Buf (Elt F) (arg5.view.loc (c : Thread nD τ)))
   (hr : InRange c arg1 f1) (W : Waits sig Unit) (K : _ → sProp 𝕄)
   (_plan : Transfers.BatchOf (c : Thread nD τ) (SemLoc.dma (sig := sig) 7) 45 (windows := true)) :
   iprop((arg1.view.loc (c : Thread nD τ) ↦[arg1.view.set]{fullShare} f1)
     ∗ (arg3.view.loc (c : Thread nD τ) ↦[arg3.view.set]{fullShare} f3)
     ∗ (arg4.view.loc (c : Thread nD τ) ↦[arg4.view.set]{fullShare} f4)
     ∗ (arg5.view.loc (c : Thread nD τ) ↦[arg5.view.set]{fullShare} f5)
     ∗ (sM.view.loc (c : Thread nD τ) ↦{fullShare} fs)
     ∗ semVal ((c : Thread nD τ), SemLoc.dma 7) 0
     ∗ owes (c : Thread nD τ) 0 W
     ∗ (qM.view.loc (c : Thread nD τ) ↦{qTok 0} fq)
     ∗ (qM.view.loc (c : Thread nD τ) ↦{qTok 1} fq)
     ∗ (qM.view.loc (c : Thread nD τ) ↦{qTok 2} fq)
     ∗ (qM.view.loc (c : Thread nD τ) ↦{qTok 3} fq)
     ∗ (qM.view.loc (c : Thread nD τ) ↦{qTok 4} fq)
     ∗ (qM.view.loc (c : Thread nD τ) ↦{qTok 5} fq)
     ∗ (qM.view.loc (c : Thread nD τ) ↦{qTok 6} fq)
     ∗ (qM.view.loc (c : Thread nD τ) ↦{qTok 7} fq)
     ∗ (qM.view.loc (c : Thread nD τ) ↦{qTok 8} fq)
     ∗ (qM.view.loc (c : Thread nD τ) ↦{qTok 9} fq)
     ∗ (qM.view.loc (c : Thread nD τ) ↦{qTok 10} fq)
     ∗ (qM.view.loc (c : Thread nD τ) ↦{qTok 11} fq)
     ∗ (qM.view.loc (c : Thread nD τ) ↦{qTok 12} fq)
     ∗ (qM.view.loc (c : Thread nD τ) ↦{qTok 13} fq)
     ∗ (qM.view.loc (c : Thread nD τ) ↦{qTok 14} fq)
     ∗ (qM.view.loc (c : Thread nD τ) ↦{qTok 15} fq)
     ∗ (qM.view.loc (c : Thread nD τ) ↦{qTok 16} fq)
     ∗ (qM.view.loc (c : Thread nD τ) ↦{qTok 17} fq)
     ∗ (qM.view.loc (c : Thread nD τ) ↦{qTok 18} fq)
     ∗ (qM.view.loc (c : Thread nD τ) ↦{qTok 19} fq)
     ∗ (qM.view.loc (c : Thread nD τ) ↦{qTok 20} fq)
     ∗ (qM.view.loc (c : Thread nD τ) ↦{qTok 21} fq)
     ∗ (qM.view.loc (c : Thread nD τ) ↦{qTok 22} fq)
     ∗ (qM.view.loc (c : Thread nD τ) ↦{qTok 23} fq)
     ∗ (qM.view.loc (c : Thread nD τ) ↦{qTok 24} fq)
     ∗ (qM.view.loc (c : Thread nD τ) ↦{qTok 25} fq)
     ∗ (qM.view.loc (c : Thread nD τ) ↦{qTok 26} fq)
     ∗ (qM.view.loc (c : Thread nD τ) ↦{qTok 27} fq)
     ∗ (qM.view.loc (c : Thread nD τ) ↦{qTok 28} fq)
     ∗ (qM.view.loc (c : Thread nD τ) ↦{qTok 29} fq)
     ∗ (qM.view.loc (c : Thread nD τ) ↦{qTok 30} fq)
     ∗ (qM.view.loc (c : Thread nD τ) ↦{qTok 31} fq)
     ∗ (qM.view.loc (c : Thread nD τ) ↦{qTok 32} fq)
     ∗ (qM.view.loc (c : Thread nD τ) ↦{qTok 33} fq)
     ∗ (qM.view.loc (c : Thread nD τ) ↦{qTok 34} fq)
     ∗ (qM.view.loc (c : Thread nD τ) ↦{qTok 35} fq)
     ∗ (qM.view.loc (c : Thread nD τ) ↦{qTok 36} fq)
     ∗ (qM.view.loc (c : Thread nD τ) ↦{qTok 37} fq)
     ∗ (qM.view.loc (c : Thread nD τ) ↦{qTok 38} fq)
     ∗ (qM.view.loc (c : Thread nD τ) ↦{qTok 39} fq)
     ∗ (qM.view.loc (c : Thread nD τ) ↦{qTok 40} fq)
     ∗ (qM.view.loc (c : Thread nD τ) ↦{qTok 41} fq)
     ∗ (qM.view.loc (c : Thread nD τ) ↦{qTok 42} fq)
     ∗ (qM.view.loc (c : Thread nD τ) ↦{qTok 43} fq)
     ∗ (qM.view.loc (c : Thread nD τ) ↦{qTok 44} fq)
     ∗ (iprop((arg1.view.loc (c : Thread nD τ) ↦[arg1.view.set]{fullShare} f1)
         ∗ (arg3.view.loc (c : Thread nD τ) ↦[arg3.view.set]{fullShare} f3)
         ∗ (arg4.view.loc (c : Thread nD τ) ↦[arg4.view.set]{fullShare} f4)
         ∗ (∃ g, ⌜arg5.view.read (Elt F) g = bodyOut (hd i) (arg1.view.read (Elt F) f1) (qM.view.read (Elt F) fq) (arg3.view.read (Elt F) f3) (arg4.view.read (Elt F) f4)⌝
             ∗ (arg5.view.loc (c : Thread nD τ) ↦[arg5.view.set]{fullShare} g))
         ∗ (∃ g, sM.view.loc (c : Thread nD τ) ↦{fullShare} g)
         ∗ semVal ((c : Thread nD τ), SemLoc.dma 7) 0
         ∗ (∃ W', owes (c : Thread nD τ) 0 W')
         ∗ (qM.view.loc (c : Thread nD τ) ↦{qTok 0} fq)
         ∗ (qM.view.loc (c : Thread nD τ) ↦{qTok 1} fq)
         ∗ (qM.view.loc (c : Thread nD τ) ↦{qTok 2} fq)
         ∗ (qM.view.loc (c : Thread nD τ) ↦{qTok 3} fq)
         ∗ (qM.view.loc (c : Thread nD τ) ↦{qTok 4} fq)
         ∗ (qM.view.loc (c : Thread nD τ) ↦{qTok 5} fq)
         ∗ (qM.view.loc (c : Thread nD τ) ↦{qTok 6} fq)
         ∗ (qM.view.loc (c : Thread nD τ) ↦{qTok 7} fq)
         ∗ (qM.view.loc (c : Thread nD τ) ↦{qTok 8} fq)
         ∗ (qM.view.loc (c : Thread nD τ) ↦{qTok 9} fq)
         ∗ (qM.view.loc (c : Thread nD τ) ↦{qTok 10} fq)
         ∗ (qM.view.loc (c : Thread nD τ) ↦{qTok 11} fq)
         ∗ (qM.view.loc (c : Thread nD τ) ↦{qTok 12} fq)
         ∗ (qM.view.loc (c : Thread nD τ) ↦{qTok 13} fq)
         ∗ (qM.view.loc (c : Thread nD τ) ↦{qTok 14} fq)
         ∗ (qM.view.loc (c : Thread nD τ) ↦{qTok 15} fq)
         ∗ (qM.view.loc (c : Thread nD τ) ↦{qTok 16} fq)
         ∗ (qM.view.loc (c : Thread nD τ) ↦{qTok 17} fq)
         ∗ (qM.view.loc (c : Thread nD τ) ↦{qTok 18} fq)
         ∗ (qM.view.loc (c : Thread nD τ) ↦{qTok 19} fq)
         ∗ (qM.view.loc (c : Thread nD τ) ↦{qTok 20} fq)
         ∗ (qM.view.loc (c : Thread nD τ) ↦{qTok 21} fq)
         ∗ (qM.view.loc (c : Thread nD τ) ↦{qTok 22} fq)
         ∗ (qM.view.loc (c : Thread nD τ) ↦{qTok 23} fq)
         ∗ (qM.view.loc (c : Thread nD τ) ↦{qTok 24} fq)
         ∗ (qM.view.loc (c : Thread nD τ) ↦{qTok 25} fq)
         ∗ (qM.view.loc (c : Thread nD τ) ↦{qTok 26} fq)
         ∗ (qM.view.loc (c : Thread nD τ) ↦{qTok 27} fq)
         ∗ (qM.view.loc (c : Thread nD τ) ↦{qTok 28} fq)
         ∗ (qM.view.loc (c : Thread nD τ) ↦{qTok 29} fq)
         ∗ (qM.view.loc (c : Thread nD τ) ↦{qTok 30} fq)
         ∗ (qM.view.loc (c : Thread nD τ) ↦{qTok 31} fq)
         ∗ (qM.view.loc (c : Thread nD τ) ↦{qTok 32} fq)
         ∗ (qM.view.loc (c : Thread nD τ) ↦{qTok 33} fq)
         ∗ (qM.view.loc (c : Thread nD τ) ↦{qTok 34} fq)
         ∗ (qM.view.loc (c : Thread nD τ) ↦{qTok 35} fq)
         ∗ (qM.view.loc (c : Thread nD τ) ↦{qTok 36} fq)
         ∗ (qM.view.loc (c : Thread nD τ) ↦{qTok 37} fq)
         ∗ (qM.view.loc (c : Thread nD τ) ↦{qTok 38} fq)
         ∗ (qM.view.loc (c : Thread nD τ) ↦{qTok 39} fq)
         ∗ (qM.view.loc (c : Thread nD τ) ↦{qTok 40} fq)
         ∗ (qM.view.loc (c : Thread nD τ) ↦{qTok 41} fq)
         ∗ (qM.view.loc (c : Thread nD τ) ↦{qTok 42} fq)
         ∗ (qM.view.loc (c : Thread nD τ) ↦{qTok 43} fq)
         ∗ (qM.view.loc (c : Thread nD τ) ↦{qTok 44} fq)) -∗ K ⟨⟩))
   ⊢ wp frame (wpE (defs₀ (F := F)) Variants.none c none) Set.univ
       (cc0__attn_kernel i arg1 harg1 qM (Memref.isWhole_whole _) arg3 harg3 arg4 harg4 arg5 harg5 sM (Memref.isWhole_whole _) cc0_scratch1) K := by
  iintro ⟨H1, H3, H4, H5, HS, Hsem, HO, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hk⟩
  rw [cc0__attn_kernel_eq_skeleton]; unfold cc0__attn_kernel_skel
  sl_exec (disch := (first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of); exact hr _ _ _)
  have hv : bodyRun.sl.v454 c i arg1 f1 fq hr = rowsOf (arg1.view.read (Elt F) f1) (qM.view.read (Elt F) fq) (hd i) := by
    unfold bodyRun.sl.v454 View.readCov
    refine (View.readAt_full _ _ inb_S45x64_S45x64_0_0).trans (funext fun y => ?_)
    refine read_pieces _ _ _ y _ ?_ (View.cover_of_tiledL (s := S45x64) _ S1x64.size (by sl_kernel_rfl) y)
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 44 (k0_off89_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 43 (k0_off87_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 42 (k0_off85_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 41 (k0_off83_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 40 (k0_off81_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 39 (k0_off79_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 38 (k0_off77_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 37 (k0_off75_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 36 (k0_off73_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 35 (k0_off71_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 34 (k0_off69_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 33 (k0_off67_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 32 (k0_off65_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 31 (k0_off63_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 30 (k0_off61_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 29 (k0_off59_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 28 (k0_off57_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 27 (k0_off55_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 26 (k0_off53_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 25 (k0_off51_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 24 (k0_off49_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 23 (k0_off47_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 22 (k0_off45_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 21 (k0_off43_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 20 (k0_off41_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 19 (k0_off39_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 18 (k0_off37_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 17 (k0_off35_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 16 (k0_off33_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 15 (k0_off31_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 14 (k0_off29_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 13 (k0_off27_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 12 (k0_off25_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 11 (k0_off23_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 10 (k0_off21_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 9 (k0_off19_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 8 (k0_off17_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 7 (k0_off15_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 6 (k0_off13_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 5 (k0_off11_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 4 (k0_off9_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 3 (k0_off7_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 2 (k0_off5_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 1 (k0_off3_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 0 (k0_off1_eq i) _)
  sl_step
  iapply Hk
  isplitl [H1]; · iexact H1
  isplitl [H3]; · iexact H3
  isplitl [H4]; · iexact H4
  isplitl [H5]
  · iexists _; isplitr; swap; · iexact H5
    ipureintro
    funext y
    refine (scB_read c i arg1 arg5 f1 hr _ _ _ (by rw [show Scf.trips k0_t1_loop.lb k0_t1_loop.ub k0_t1_loop.st = 45 from trips45]) y).trans ?_
    rw [show Scf.trips k0_t1_loop.lb k0_t1_loop.ub k0_t1_loop.st = 45 from trips45]
    unfold bodyOut
    refine congrArg₂ (fun U A => scatF (wordAt (arg1.view.read (Elt F) f1) (hd i)) U A 45 y) ?_ ?_
    · unfold bodyRun.sl.HS_46
      refine (View.read_writes_full _ _ inb_S45x64_S45x64_0_0 _ _).trans ?_
      rw [hv]
      unfold bodyRun.sl.r_45 bodyRun.sl.r_46 bodyRun.sl.cst
      rw [View.readAt_full arg3.view f3 inb_S1x4096x64_S1x4096x64_0_0_0, View.readAt_full arg4.view f4 inb_S1x4096x64_S1x4096x64_0_0_0]
    · refine (View.read_writes_full (L := []) _ _ inb_S1x4096x64_S1x4096x64_0_0_0 _).trans ?_
      unfold bodyRun.sl.r_46
      rw [View.readAt_full arg4.view f4 inb_S1x4096x64_S1x4096x64_0_0_0]
  isplitl [HS]; · iexists _; iexact HS
  isplitl [Hsem]; · iexact Hsem
  isplitl [HO]; · iexists _; iexact HO
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  iexact Hq44

/-- The 45 read shares of the whole of `q`, and what is left beside them. -/
theorem q_split (c : Dev nD) (fq : Buf (Elt F) (qM.view.loc (c : Thread nD τ))) :
    ((qM.view.loc (c : Thread nD τ) ↦{fullShare} fq : sProp 𝕄)) ⊣⊢ iprop((qM.view.loc (c : Thread nD τ) ↦{Transfers.shareDrop fullShare 45} fq)
      ∗ (qM.view.loc (c : Thread nD τ) ↦{qTok 0} fq)
      ∗ (qM.view.loc (c : Thread nD τ) ↦{qTok 1} fq)
      ∗ (qM.view.loc (c : Thread nD τ) ↦{qTok 2} fq)
      ∗ (qM.view.loc (c : Thread nD τ) ↦{qTok 3} fq)
      ∗ (qM.view.loc (c : Thread nD τ) ↦{qTok 4} fq)
      ∗ (qM.view.loc (c : Thread nD τ) ↦{qTok 5} fq)
      ∗ (qM.view.loc (c : Thread nD τ) ↦{qTok 6} fq)
      ∗ (qM.view.loc (c : Thread nD τ) ↦{qTok 7} fq)
      ∗ (qM.view.loc (c : Thread nD τ) ↦{qTok 8} fq)
      ∗ (qM.view.loc (c : Thread nD τ) ↦{qTok 9} fq)
      ∗ (qM.view.loc (c : Thread nD τ) ↦{qTok 10} fq)
      ∗ (qM.view.loc (c : Thread nD τ) ↦{qTok 11} fq)
      ∗ (qM.view.loc (c : Thread nD τ) ↦{qTok 12} fq)
      ∗ (qM.view.loc (c : Thread nD τ) ↦{qTok 13} fq)
      ∗ (qM.view.loc (c : Thread nD τ) ↦{qTok 14} fq)
      ∗ (qM.view.loc (c : Thread nD τ) ↦{qTok 15} fq)
      ∗ (qM.view.loc (c : Thread nD τ) ↦{qTok 16} fq)
      ∗ (qM.view.loc (c : Thread nD τ) ↦{qTok 17} fq)
      ∗ (qM.view.loc (c : Thread nD τ) ↦{qTok 18} fq)
      ∗ (qM.view.loc (c : Thread nD τ) ↦{qTok 19} fq)
      ∗ (qM.view.loc (c : Thread nD τ) ↦{qTok 20} fq)
      ∗ (qM.view.loc (c : Thread nD τ) ↦{qTok 21} fq)
      ∗ (qM.view.loc (c : Thread nD τ) ↦{qTok 22} fq)
      ∗ (qM.view.loc (c : Thread nD τ) ↦{qTok 23} fq)
      ∗ (qM.view.loc (c : Thread nD τ) ↦{qTok 24} fq)
      ∗ (qM.view.loc (c : Thread nD τ) ↦{qTok 25} fq)
      ∗ (qM.view.loc (c : Thread nD τ) ↦{qTok 26} fq)
      ∗ (qM.view.loc (c : Thread nD τ) ↦{qTok 27} fq)
      ∗ (qM.view.loc (c : Thread nD τ) ↦{qTok 28} fq)
      ∗ (qM.view.loc (c : Thread nD τ) ↦{qTok 29} fq)
      ∗ (qM.view.loc (c : Thread nD τ) ↦{qTok 30} fq)
      ∗ (qM.view.loc (c : Thread nD τ) ↦{qTok 31} fq)
      ∗ (qM.view.loc (c : Thread nD τ) ↦{qTok 32} fq)
      ∗ (qM.view.loc (c : Thread nD τ) ↦{qTok 33} fq)
      ∗ (qM.view.loc (c : Thread nD τ) ↦{qTok 34} fq)
      ∗ (qM.view.loc (c : Thread nD τ) ↦{qTok 35} fq)
      ∗ (qM.view.loc (c : Thread nD τ) ↦{qTok 36} fq)
      ∗ (qM.view.loc (c : Thread nD τ) ↦{qTok 37} fq)
      ∗ (qM.view.loc (c : Thread nD τ) ↦{qTok 38} fq)
      ∗ (qM.view.loc (c : Thread nD τ) ↦{qTok 39} fq)
      ∗ (qM.view.loc (c : Thread nD τ) ↦{qTok 40} fq)
      ∗ (qM.view.loc (c : Thread nD τ) ↦{qTok 41} fq)
      ∗ (qM.view.loc (c : Thread nD τ) ↦{qTok 42} fq)
      ∗ (qM.view.loc (c : Thread nD τ) ↦{qTok 43} fq)
      ∗ (qM.view.loc (c : Thread nD τ) ↦{qTok 44} fq)) := by
  refine (Transfers.pointsTo_toks_range (ℓ := qM.view.loc (c : Thread nD τ)) (f := fq) fullShare 45).trans ?_
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44] (by decide) (by decide)]
  exact ⟨.rfl, .rfl⟩

set_option maxHeartbeats 4000000 in
/-- The kernel's body at a grid point: `q` whole, the operands' blocks, the result's block at anything. -/
theorem bodySpec (c : Dev nD) (i : grid0.Coords) (arg1 : Memref sig .tc .smem S2048 .i32) (harg1 : arg1.IsWhole)
   (arg3 arg4 arg5 : Memref sig .tc .vmem S1x4096x64 .f32) (harg3 : arg3.IsWhole) (harg4 : arg4.IsWhole) (harg5 : arg5.IsWhole)
   (f1 : Buf (Elt F) (arg1.view.loc (c : Thread nD τ))) (fq : Buf (Elt F) (qM.view.loc (c : Thread nD τ))) (fs : Buf (Elt F) (sM.view.loc (c : Thread nD τ)))
   (f3 : Buf (Elt F) (arg3.view.loc (c : Thread nD τ))) (f4 : Buf (Elt F) (arg4.view.loc (c : Thread nD τ))) (f5 : Buf (Elt F) (arg5.view.loc (c : Thread nD τ)))
   (hr : InRange c arg1 f1) (W : Waits sig Unit) (K : _ → sProp 𝕄) :
   iprop((arg1.view.loc (c : Thread nD τ) ↦[arg1.view.set]{fullShare} f1)
     ∗ (arg3.view.loc (c : Thread nD τ) ↦[arg3.view.set]{fullShare} f3)
     ∗ (arg4.view.loc (c : Thread nD τ) ↦[arg4.view.set]{fullShare} f4)
     ∗ (arg5.view.loc (c : Thread nD τ) ↦[arg5.view.set]{fullShare} f5)
     ∗ (sM.view.loc (c : Thread nD τ) ↦{fullShare} fs)
     ∗ semVal ((c : Thread nD τ), SemLoc.dma 7) 0
     ∗ owes (c : Thread nD τ) 0 W
     ∗ (qM.view.loc (c : Thread nD τ) ↦{fullShare} fq)
     ∗ (iprop((arg1.view.loc (c : Thread nD τ) ↦[arg1.view.set]{fullShare} f1)
         ∗ (arg3.view.loc (c : Thread nD τ) ↦[arg3.view.set]{fullShare} f3)
         ∗ (arg4.view.loc (c : Thread nD τ) ↦[arg4.view.set]{fullShare} f4)
         ∗ (∃ g, ⌜arg5.view.read (Elt F) g = bodyOut (hd i) (arg1.view.read (Elt F) f1) (qM.view.read (Elt F) fq) (arg3.view.read (Elt F) f3) (arg4.view.read (Elt F) f4)⌝
             ∗ (arg5.view.loc (c : Thread nD τ) ↦[arg5.view.set]{fullShare} g))
         ∗ (∃ g, sM.view.loc (c : Thread nD τ) ↦{fullShare} g)
         ∗ semVal ((c : Thread nD τ), SemLoc.dma 7) 0
         ∗ (∃ W', owes (c : Thread nD τ) 0 W')
         ∗ (qM.view.loc (c : Thread nD τ) ↦{fullShare} fq)) -∗ K ⟨⟩))
   ⊢ wp frame (wpE (defs₀ (F := F)) Variants.none c none) Set.univ
       (cc0__attn_kernel i arg1 harg1 qM (Memref.isWhole_whole _) arg3 harg3 arg4 harg4 arg5 harg5 sM (Memref.isWhole_whole _) cc0_scratch1) K := by
  iintro ⟨H1, H3, H4, H5, HS, Hsem, HO, Hq, Hk⟩
  ihave Hq := (q_split c fq).1 $$ Hq
  icases Hq with ⟨Hd, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44⟩
  iapply (bodyRun c i arg1 harg1 arg3 arg4 arg5 harg3 harg4 harg5 f1 fq fs f3 f4 f5 hr W K trivial)
  isplitl [H1]; · iexact H1
  isplitl [H3]; · iexact H3
  isplitl [H4]; · iexact H4
  isplitl [H5]; · iexact H5
  isplitl [HS]; · iexact HS
  isplitl [Hsem]; · iexact Hsem
  isplitl [HO]; · iexact HO
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  iintro ⟨H1, H3, H4, H5, HS, Hsem, HO, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44⟩
  iapply Hk
  isplitl [H1]; · iexact H1
  isplitl [H3]; · iexact H3
  isplitl [H4]; · iexact H4
  isplitl [H5]; · iexact H5
  isplitl [HS]; · iexact HS
  isplitl [Hsem]; · iexact Hsem
  isplitl [HO]; · iexact HO
  iapply (q_split c fq).2
  isplitl [Hd]; · iexact Hd
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  iexact Hq44

end Cert.AttnIdeal.Hand
-- ==== Proof.AttnIdealFrame.lean ====
module
public import proofs.«01_k».proof.Proof.Gen.AttnIdeal
public import proofs.«01_k».proof.Proof.Gen.AttnIdeal.Skeleton
public import proofs.«01_k».proof.Proof.Gen.AttnIdeal.Points
public import proofs.«01_k».proof.Proof.Gen.AttnIdeal.Loops
public import proofs.«01_k».proof.Proof.Gen.AttnIdeal.Launch
public import proofs.«01_k».proof.Proof.AttnIdealRows
public import proofs.«01_k».proof.Proof.AttnIdealBody
public import Idealize.ShloMosaic.Lib.Pipeline.FrameBody
public import Idealize.ShloMosaic.Lib.Pipeline.ValueKit
public import Idealize.ShloMosaic.Lib.Batch
public import Idealize.ShloMosaic.Lib.Ring
public import Idealize.ShloMosaic.Lib.Tactic
public import Idealize.ShloMosaic.Lib.Pipeline.Kit
public import Idealize.ShloMosaic.Lib.Pipeline.Frame
public import Idealize.ShloMosaic.Lib.ValueIdxCore
public import Idealize.ShloMosaic.Lib.VecWindow
public import Idealize.ShloMosaic.Lib.Pipeline.Value
@[expose] public section
set_option maxRecDepth 16384
noncomputable section
namespace Cert.AttnIdeal.Hand
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Cert.AttnIdeal Cert.AttnIdeal.Gen
open Idealize.ShloMosaic.ValueIdx
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The launch -/

/-- What the region finds in a buffer: what it was launched with. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The one semaphore the row copies complete on. -/
abbrev osem0 : Fin 1 → SemLoc sig := fun j => (![SemLoc.dma 7] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 7) 0 := by
  rw [Pipeline.ownSems0_eq_of_list c osem0 [0] (by decide) (by decide)]; rfl
/-- The operand the row copies read where it lies: `q`. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (qM.view.loc (c : Thread nD τ) ↦{fullShare} V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop((∃ f, sM.view.loc (c : Thread nD τ) ↦{fullShare} f) ∗ (∃ r, prngReg c r)
          ∗ semVal ((c : Thread nD τ), SemLoc.dma 7) 0
          ∗ (qM.view.loc (c : Thread nD τ) ↦{fullShare} V m c main_arg1)) := by
  rw [Pipeline.ΦD_eq, scopedRest0_eq, ownSems00_eq, hbmPts0_eq]

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves in the result's buffer at point `t`. -/
def outAt (c : Dev nD) (t : Fin cfg0.N) : S1x4096x64.Idx → F .f32 :=
  bodyOut (hd (grid0.coords t)) (iblk m c 0 t) (qM.view.read (Elt F) (V m c main_arg1)) (iblk m c 1 t) (iblk m c 2 t)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

abbrev ms0_0 (t : Fin cfg0.N) : Memref sig .tc .smem S2048 .i32 := win0_0.stage (cfg0.slots t 0)
abbrev ms0_1 (t : Fin cfg0.N) : Memref sig .tc .vmem S1x4096x64 .f32 := win0_1.stage (cfg0.slots t 1)
abbrev ms0_2 (t : Fin cfg0.N) : Memref sig .tc .vmem S1x4096x64 .f32 := win0_2.stage (cfg0.slots t 2)
abbrev ms0_3 (t : Fin cfg0.N) : Memref sig .tc .vmem S1x4096x64 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- Every word of the index array names a row. -/
def RowsOk : Prop := ∀ (c : Dev nD) (j : S2048.Idx), BitVec.toNat (w := 32) (V m c main_arg0 j) < 4096

/-- A block of the index window holds words of the index array. -/
theorem iblk0_lt (hR : RowsOk m) (c : Dev nD) (t : Fin cfg0.N) (j : S2048.Idx) : BitVec.toNat (w := 32) (iblk m c 0 t j) < 4096 := by
  unfold iblk
  rw [View.read_apply, cast_eq]
  exact hR c _

theorem sound_body (hR : RowsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3]
  simp only [before0_0, before0_1, before0_2]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold owns
  iintro ⟨⟨⟨%fs, HS⟩, Hg, Hsem, Hq⟩, ⟨%W, -, HW⟩, ⟨%d0, %f0, %e0, H0⟩, ⟨%d1, %f1, %e1, H1⟩, ⟨%d2, %f2, %e2, H2⟩, ⟨%d3, %f3, -, H3⟩⟩
  have hr : InRange c (ms0_0 t) f0 := fun o h y => by
    rw [View.readAt_apply, e0]; exact iblk0_lt m hR c t _
  iapply (bodySpec c (grid0.coords t) (ms0_0 t) (hstage0_0 ((cfg0.slots t 0).cast nbuf0_0)) (ms0_1 t) (ms0_2 t) (ms0_3 t)
    (hstage0_1 ((cfg0.slots t 1).cast nbuf0_1)) (hstage0_2 ((cfg0.slots t 2).cast nbuf0_2)) (hstage0_3 ((cfg0.slots t 3).cast nbuf0_3))
    f0 (V m c main_arg1) fs f1 f2 f3 hr W _)
  isplitl [H0]; · iexact H0
  isplitl [H1]; · iexact H1
  isplitl [H2]; · iexact H2
  isplitl [H3]; · iexact H3
  isplitl [HS]; · iexact HS
  isplitl [Hsem]; · iexact Hsem
  isplitl [HW]; · iexact HW
  isplitl [Hq]; · iexact Hq
  iintro ⟨H0, H1, H2, ⟨%g, %eg, H3⟩, HS, Hsem, ⟨%W', HW'⟩, Hq⟩
  isplitl [HS Hg Hsem Hq]
  · isplitl [HS]; · iexact HS
    isplitl [Hg]; · iexact Hg
    isplitl [Hsem]; · iexact Hsem
    iexact Hq
  isplitl [HW']
  · iexists W'; isplitr; · ipureintro; exact fun _ _ => Or.inl trivial
    iexact HW'
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  iexists _; isplitr; swap; · iexact H3
  ipureintro; rw [eg, e0, e1, e2]; rfl

theorem defs₀_row (t : Fin cfg0.N) :
    defs₀ (F := F) .tc cfg0.body (cfg0.bodyArgs t (cfg0.slots t)) = bodyAt0 t := by
  unfold defs₀; rw [Defs.onTc_tc]

theorem body_obligation (hR : RowsOk m) (c : Dev nD) : BodyObligation (dats (F := F) m 0 c) (defs₀ (F := F)) Variants.none () Set.univ := fun t => by
  rw [bigSep_W0, bigSep_W0, defs₀_row]
  exact triple_restated (sound_body m hR c t) rfl .rfl fun _ => .rfl

set_option backward.isDefEq.respectTransparency.types false in
theorem run_main (hR : RowsOk m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hR c).loose) (hshare := fun c => (dats m 0 c).share_full fun _ => rfl)
    (howed := fun _ _ => rfl) (V := V m) (hmain := hmain m Variants.none) (hA := A_eq m)
    (hin := fun _ => .rfl) (hout := fun _ => .rfl)

/-! ## What the result array holds -/

/-- The whole result: head `h`'s block is `bodyOut`'s of the head's blocks of `k` and `v`. -/
def outArr (X1 : S2048.Idx → BitVec 32) (Xq Xk Xv : S32x4096x64.Idx → F .f32) : S32x4096x64.Idx → F .f32 :=
  fun j => bodyOut (F := F) (j 0) X1 Xq (fun y => Xk (ValueIdx.ix3 (j 0) (y 1) (y 2))) (fun y => Xv (ValueIdx.ix3 (j 0) (y 1) (y 2))) (ValueIdx.ix3 (0 : Fin 1) (j 1) (j 2))

theorem index0_0 : ∀ t : Fin cfg0.N, win0_0.index t = ![0] := by decide +kernel
theorem index0_1 : ∀ t : Fin cfg0.N, win0_1.index t = ![(grid0.coords t 0).val, 0, 0] := by decide +kernel
theorem index0_2 : ∀ t : Fin cfg0.N, win0_2.index t = ![(grid0.coords t 0).val, 0, 0] := by decide +kernel
theorem index0_3 : ∀ t : Fin cfg0.N, win0_3.index t = ![(grid0.coords t 0).val, 0, 0] := by decide +kernel

theorem iblk0_eq (c : Dev nD) (t : Fin cfg0.N) : (iblk m c 0 t : S2048.Idx → BitVec 32) = V m c main_arg0 := by
  funext y
  blk_simp [iblk]
  refine congrArg (V m c main_arg0) ?_
  blk_ext [index0_0]
theorem iblk1_eq (c : Dev nD) (t : Fin cfg0.N) : (iblk m c 1 t : S1x4096x64.Idx → F .f32) = fun y => V m c main_arg2 (ValueIdx.ix3 (hd (grid0.coords t)) (y 1) (y 2)) := by
  funext y
  have hy : (y 0).val < 1 := (y 0).isLt
  blk_simp [iblk]
  refine congrArg (V m c main_arg2) ?_
  funext a
  match a with
  | ⟨0, _⟩ => apply Fin.ext; blk_simp [index0_1]; rfl
  | ⟨1, _⟩ => apply Fin.ext; blk_simp [index0_1]; rfl
  | ⟨2, _⟩ => apply Fin.ext; blk_simp [index0_1]; rfl
theorem iblk2_eq (c : Dev nD) (t : Fin cfg0.N) : (iblk m c 2 t : S1x4096x64.Idx → F .f32) = fun y => V m c main_arg3 (ValueIdx.ix3 (hd (grid0.coords t)) (y 1) (y 2)) := by
  funext y
  have hy : (y 0).val < 1 := (y 0).isLt
  blk_simp [iblk]
  refine congrArg (V m c main_arg3) ?_
  funext a
  match a with
  | ⟨0, _⟩ => apply Fin.ext; blk_simp [index0_2]; rfl
  | ⟨1, _⟩ => apply Fin.ext; blk_simp [index0_2]; rfl
  | ⟨2, _⟩ => apply Fin.ext; blk_simp [index0_2]; rfl

/-- Where point `t`'s block of the result lies in the result. -/
theorem emb3_eq (t : Fin cfg0.N) (y : S1x4096x64.Idx) :
    (((cfg0.win 3).blk t).view.emb y : S32x4096x64.Idx) = ValueIdx.ix3 (hd (grid0.coords t)) (y 1) (y 2) := by
  have hy : (y 0).val < 1 := (y 0).isLt
  funext a
  match a with
  | ⟨0, _⟩ => apply Fin.ext; blk_simp [index0_3]; rfl
  | ⟨1, _⟩ => apply Fin.ext; blk_simp [index0_3]; rfl
  | ⟨2, _⟩ => apply Fin.ext; blk_simp [index0_3]; rfl

theorem final_out (c : Dev nD) :
    (dats m 0 c).arrAt 3 cfg0.N = outArr (F := F) (V m c main_arg0) (V m c main_arg1) (V m c main_arg2) (V m c main_arg3) := by
  refine (dats m 0 c).arrAt_eq_of_covers 3 _ (by decide +kernel) fun t hf y => ?_
  refine Eq.trans ?_ (congrArg (outArr (F := F) (V m c main_arg0) (V m c main_arg1) (V m c main_arg2) (V m c main_arg3)) (emb3_eq t y)).symm
  blk_simp
  rw [after0_3]
  unfold outAt outArr
  rw [iblk0_eq, iblk1_eq, iblk2_eq]
  have hy : y = (ValueIdx.ix3 (0 : Fin 1) (y 1) (y 2) : S1x4096x64.Idx) := by
    have hy : (y 0).val < 1 := (y 0).isLt
    funext a
    match a with
    | ⟨0, _⟩ => exact Fin.ext (by show (y 0).val = 0; omega)
    | ⟨1, _⟩ => rfl
    | ⟨2, _⟩ => rfl
  exact congrArg (bodyOut (hd (grid0.coords t)) (V m c main_arg0) (V m c main_arg1) _ _) hy

/-- The kernel's run: the result array is `outArr` of the arguments, which end unchanged, and every semaphore is back at zero. -/
theorem run (hR : RowsOk m) : θ_run defs (onTc (τ := τ) (main (F := F))) (s₀ m ρ) (fun r =>
    (∀ c : Dev nD, r.2.mem ((c.tc : Thread nD τ).loc main_v0) = outArr (F := F) (V m c main_arg0) (V m c main_arg1) (V m c main_arg2) (V m c main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c =>
    ⟨((h.1 c).1 3).trans (final_out m c),
     ((h.1 c).1 0).trans (((dats m 0 c).arrAt_in 0 rfl _).trans (A_eq m c 0)),
     (h.1 c).2 main_arg1 (Pipeline.mem_restRefs_of main_arg1 (by decide) (by decide)),
     ((h.1 c).1 1).trans (((dats m 0 c).arrAt_in 1 rfl _).trans (A_eq m c 1)),
     ((h.1 c).1 2).trans (((dats m 0 c).arrAt_in 2 rfl _).trans (A_eq m c 2))⟩, h.2⟩) (run_main m ρ hR)

end Cert.AttnIdeal.Hand
-- ==== Proof.AttnRow.lean ====
module
public import Idealize.ShloMosaic.PureOps.Ideal
public import Idealize.ShloMosaic.Lib.Routing.OpsPair
@[expose] public section
noncomputable section
/-! # One row of the attention, and stores of which the last one stays

`attnRow` is the softmax attention of one query row over the extended reals. The rest is about a run of stores to one
place: what it leaves is the last value stored, or what was there before. -/
namespace Cert.AttnSpec
open Idealize.ShloMosaic

/-- The product of a query row with key row `l`. -/
def logit (q : Fin 64 → EReal) (K : Fin 4096 → Fin 64 → EReal) (l : Fin 4096) : EReal := ∑ x, q x * K l x

/-- The greatest product of a query row, from −∞ up. -/
def top (q : Fin 64 → EReal) (K : Fin 4096 → Fin 64 → EReal) : EReal :=
  Finset.fold max (Ideal.ofBits .f32 0xFF800000#32) (fun l => logit q K l) Finset.univ

/-- The softmax attention of one query row, at column `e` of the values. -/
def attnRow (q : Fin 64 → EReal) (K V : Fin 4096 → Fin 64 → EReal) (e : Fin 64) : EReal :=
  ∑ l, Ideal.div (Ideal.exp (logit q K l - top q K)) (∑ l', Ideal.exp (logit q K l' - top q K)) * V l e

/-- What it starts from does not raise the greatest product. -/
theorem max_top (q : Fin 64 → EReal) (K : Fin 4096 → Fin 64 → EReal) : max (Ideal.ofBits .f32 0xFF800000#32) (top q K) = top q K :=
  max_eq_right (Finset.le_fold_max _ |>.2 (.inl le_rfl))

/-! ## The last store stays -/

section Last
variable {ι α : Type} (P : ι → Prop) [DecidablePred P] (v : ι → α)

/-- Where nothing of the list is stored, the value stays. -/
theorem foldl_none (l : List ι) (a : α) (h : ∀ n ∈ l, ¬ P n) : l.foldl (fun a n => if P n then v n else a) a = a := by
  induction l generalizing a with
  | nil => rfl
  | cons x l ih =>
    rw [List.foldl_cons, if_neg (h x List.mem_cons_self)]
    exact ih a fun n hn => h n (List.mem_cons_of_mem _ hn)

/-- Of an increasing list of stores the last one stays. -/
theorem foldl_last [LinearOrder ι] (l : List ι) (hl : l.Pairwise (· < ·)) (a : α) (n : ι) (hn : n ∈ l) (hP : P n)
    (h : ∀ n' ∈ l, n < n' → ¬ P n') : l.foldl (fun a n => if P n then v n else a) a = v n := by
  induction l generalizing a with
  | nil => cases hn
  | cons x l ih =>
    rw [List.pairwise_cons] at hl
    rw [List.foldl_cons]
    rcases List.mem_cons.1 hn with rfl | hn'
    · rw [if_pos hP]
      exact foldl_none P v l _ fun n' hn' => h n' (List.mem_cons_of_mem _ hn') (hl.1 n' hn')
    · exact ih hl.2 _ hn' fun n' hm => h n' (List.mem_cons_of_mem _ hm)
end Last

/-- Either no word of the 45 names row `r`, or one is the last that does. -/
theorem last_word (w : Fin 45 → ℕ) (r : ℕ) : (∀ t, w t ≠ r) ∨ ∃ t, w t = r ∧ ∀ t', t < t' → w t' ≠ r := by
  by_cases h : ∃ t, w t = r
  · right
    have hne : (Finset.univ.filter fun t => w t = r).Nonempty := by
      obtain ⟨t, ht⟩ := h
      exact ⟨t, Finset.mem_filter.2 ⟨Finset.mem_univ t, ht⟩⟩
    refine ⟨Finset.max' _ hne, (Finset.mem_filter.1 (Finset.max'_mem _ hne)).2, fun t' ht' e => ?_⟩
    exact absurd (Finset.le_max' _ t' (Finset.mem_filter.2 ⟨Finset.mem_univ t', e⟩)) (not_le.2 ht')
  · left
    exact fun t e => h ⟨t, e⟩

end Cert.AttnSpec
end
-- ==== Proof.AttnValue.lean ====
module
public import proofs.«01_k».proof.Proof.AttnIdealFrame
public import proofs.«01_k».proof.Proof.AttnRow
public import Idealize.ShloMosaic.Lib.Pointwise
@[expose] public section
set_option maxRecDepth 16384
noncomputable section
/-! # What the kernel's attention computes, index by index -/
namespace Cert.AttnIdeal.Hand
open Idealize.ShloMosaic Idealize.ShloMosaic.TcCoe
open Cert.AttnIdeal Cert.AttnIdeal.Gen Cert.AttnSpec

/-- The softmax attention of row `t` of the picked rows. -/
theorem attend_apply (q : FVec Ideal S45x64 .f32) (K V : FVec Ideal S4096x64 .f32) (t : Fin 45) (e : Fin 64) :
    k0_pay2 (F := Ideal) K V q (constant S45x4096 .f32 0x00000000#32) (ix2 t e)
      = attnRow (fun x => q (ix2 t x)) (fun l x => K (ix2 l x)) (fun l x => V (ix2 l x)) e := by
  pointwise [k0_pay2, attnRow, top, logit]

/-- The column sums of the values. -/
theorem sums_apply (V : FVec Ideal S4096x64 .f32) (r : Fin 4096) (e : Fin 64) (z : Fin 1) :
    k0_pay1 (F := Ideal) V (ix3 z r e) = ∑ l, V (ix2 l e) := by
  pointwise [k0_pay1]

theorem keys_apply (X : FVec Ideal S1x4096x64 .f32) (l : Fin 4096) (x : Fin 64) : k0_pay4 (F := Ideal) X (ix2 l x) = X (ix3 0 l x) := by
  pointwise [k0_pay4]

theorem values_apply (X : FVec Ideal S1x4096x64 .f32) (l : Fin 4096) (x : Fin 64) : k0_pay5 (F := Ideal) X (ix2 l x) = X (ix3 0 l x) := by
  pointwise [k0_pay5]

/-! ## The rows stored over the sums -/

section Stores
variable {α : Type} (w : Fin 45 → BitVec 32) (U : S45x64.Idx → α) (A : S1x4096x64.Idx → α) (r : Fin 4096) (e : Fin 64)

/-- Where no word names row `r`, the block keeps what it held. -/
theorem scatF_none (hn : ∀ t, (w t).toNat ≠ r.val) (k : ℕ) : scatF w U A k (ix3 0 r e) = A (ix3 0 r e) := by
  induction k with
  | zero => rfl
  | succ k ih =>
    unfold scatF
    split
    · rw [if_neg fun h => hn _ h.symm]
      exact ih
    · exact ih

/-- Where word `t` is the last that names row `r`, the block holds row `t`. -/
theorem scatF_last (t : Fin 45) (ht : (w t).toNat = r.val) (hn : ∀ t', t < t' → (w t').toNat ≠ r.val) (k : ℕ) (hk : t.val < k) :
    scatF w U A k (ix3 0 r e) = U (ix2 t e) := by
  induction k with
  | zero => omega
  | succ k ih =>
    unfold scatF
    by_cases hkt : k = t.val
    · subst hkt
      refine (dif_pos t.isLt).trans ((if_pos ?_).trans ?_)
      · exact ht.symm
      · rfl
    · split
      · next hlt =>
        rw [if_neg fun h => hn ⟨k, hlt⟩ (Fin.lt_def.2 (show t.val < k by omega)) h.symm]
        exact ih (by omega)
      · exact ih (by omega)
end Stores

/-- A row of the result that no word of its head names is the sum of the values. -/
theorem outArr_none (X1 : S2048.Idx → BitVec 32) (Xq Xk Xv : S32x4096x64.Idx → Ideal .f32) (h : Fin 32) (r : Fin 4096) (e : Fin 64)
    (hn : ∀ t : Fin 45, (X1 (ix1 ⟨64 * h.val + t.val, by omega⟩)).toNat ≠ r.val) :
    outArr (F := Ideal) X1 Xq Xk Xv (ix3 h r e) = ∑ l, Xv (ix3 h l e) := by
  refine (scatF_none (wordAt X1 h) _ _ r e hn 45).trans ?_
  rw [sums_apply]
  simp only [values_apply]
  rfl

/-- A row of the result that word `t` of its head is the last to name is the attention of the query row it names. -/
theorem outArr_last (X1 : S2048.Idx → BitVec 32) (Xq Xk Xv : S32x4096x64.Idx → Ideal .f32) (h : Fin 32) (r : Fin 4096) (e : Fin 64)
    (t : Fin 45) (ht : (X1 (ix1 ⟨64 * h.val + t.val, by omega⟩)).toNat = r.val)
    (hn : ∀ t' : Fin 45, t < t' → (X1 (ix1 ⟨64 * h.val + t'.val, by omega⟩)).toNat ≠ r.val) :
    outArr (F := Ideal) X1 Xq Xk Xv (ix3 h r e)
      = attnRow (fun x => Xq (ix3 h ⟨(X1 (ix1 ⟨64 * h.val + t.val, by omega⟩)).toNat % 4096, Nat.mod_lt _ (by decide)⟩ x))
          (fun l x => Xk (ix3 h l x)) (fun l x => Xv (ix3 h l x)) e := by
  refine (scatF_last (wordAt X1 h) _ _ r e t ht hn 45 t.isLt).trans ?_
  rw [attend_apply]
  simp only [keys_apply, values_apply]
  rfl

end Cert.AttnIdeal.Hand
end
-- ==== Proof.AttnRefValue.lean ====
module
public import proofs.«01_k».proof.Proof.Gen.AttnRefIdeal.Run
public import proofs.«01_k».proof.Proof.AttnRow
public import Idealize.ShloMosaic.Lib.Pointwise
public import Idealize.ShloMosaic.Lib.KernelVsHost
public import Idealize.ShloMosaic.Lib.Routing.OpsPair
@[expose] public section
set_option maxRecDepth 16384
noncomputable section
/-! # What the reference's attention computes, index by index -/
namespace Cert.AttnRefIdeal.Hand
open Idealize.ShloMosaic Idealize.ShloMosaic.TcCoe
open Cert.AttnRefIdeal Cert.AttnRefIdeal.Gen Cert.AttnSpec

/-- The index words as (head, row) pairs, as the reference lays them out for its gather and its scatter. -/
def pairsOf (W : IVec S32x45 32) : IVec S32x45x2 32 :=
  concatenate S32x45x2 2 [⟨S32x45x1, (broadcastInDim S32x45x1 ![0, 1] bcast_S32x45_S32x45x1_0_1 (broadcastInDim S32x45 ![0, 1] bcast_S32x1_S32x45_0_1 (select (cmpi .slt (broadcastInDim S32x1 ![0] bcast_S32_S32x1_0 (iotaInDim S32 32 0)) (broadcastInDim S32x1 ![] bcast_S_S32x1 (constantI S_ 32 0#32))) (addi (broadcastInDim S32x1 ![0] bcast_S32_S32x1_0 (iotaInDim S32 32 0)) (broadcastInDim S32x1 ![] bcast_S_S32x1 (constantI S_ 32 32#32))) (broadcastInDim S32x1 ![0] bcast_S32_S32x1_0 (iotaInDim S32 32 0)))))⟩, ⟨S32x45x1, (broadcastInDim S32x45x1 ![0, 1] bcast_S32x45_S32x45x1_0_1 (select (cmpi .slt W (broadcastInDim S32x45 ![] bcast_S_S32x45 (constantI S_ 32 0#32))) (addi W (broadcastInDim S32x45 ![] bcast_S_S32x45 (constantI S_ 32 4096#32))) W))⟩] concatenates_S32x45x1_S32x45x1_S32x45x2_d2

/-- The first 45 words of each head. -/
def cut (X1 : IVec S2048 32) : IVec S32x45 32 :=
  extractStridedSlice S32x45 ![0, 0] (shapeCast _ X1 shapeCasts_S2048_S32x64) slices_S32x64_S32x45_0_0

/-- The pairs of the index words. -/
def rowPairs (X1 : IVec S2048 32) : IVec S32x45x2 32 := pairsOf (cut X1)

/-- The products of the picked query rows with the keys. -/
def logits (Q : FVec Ideal S32x45x64 .f32) (K : FVec Ideal S32x4096x64 .f32) : FVec Ideal S32x45x4096 .f32 :=
  Host.dotGeneral dot_S32x45x64_S32x64x4096_S32x45x4096_2_1_1_2_0_0 none Q (transpose S32x64x4096 [0, 2, 1] K transposes_S32x4096x64_S32x64x4096_0_2_1)

/-- The greatest of each row of products. -/
def tops (Lg : FVec Ideal S32x45x4096 .f32) : FVec Ideal S32x45 .f32 :=
  maximumf (broadcastInDim S32x45 ![] bcast_S_S32x45 (constant S_ .f32 0xFF800000#32)) (Host.reduce FloatOps.maximumf Lg (constant S_ .f32 0xFF800000#32) reducesTo_S32x45x4096_S32x45_d2 h_S_)

/-- The softmax's terms. -/
def exps (Lg : FVec Ideal S32x45x4096 .f32) (M : FVec Ideal S32x45 .f32) : FVec Ideal S32x45x4096 .f32 :=
  Host.exp (subf Lg (broadcastInDim S32x45x4096 ![0, 1, 2] bcast_S32x45x1_S32x45x4096_0_1_2 (broadcastInDim S32x45x1 ![0, 1] bcast_S32x45_S32x45x1_0_1 M)))

/-- The softmax's weights times the values. -/
def outs (E : FVec Ideal S32x45x4096 .f32) (V : FVec Ideal S32x4096x64 .f32) : FVec Ideal S32x45x64 .f32 :=
  Host.dotGeneral dot_S32x45x4096_S32x4096x64_S32x45x64_2_1_1_2_0_0 none (Host.divf E (broadcastInDim S32x45x4096 ![0, 1, 2] bcast_S32x45x1_S32x45x4096_0_1_2 (broadcastInDim S32x45x1 ![0, 1] bcast_S32x45_S32x45x1_0_1 (Host.reduceAdd E (constant S_ .f32 0x00000000#32) reducesTo_S32x45x4096_S32x45_d2 h_S_)))) V

/-- Every row the sum of the values. -/
def sums (V : FVec Ideal S32x4096x64 .f32) : FVec Ideal S32x4096x64 .f32 :=
  broadcastInDim S32x4096x64 ![0, 1, 2] bcast_S32x1x64_S32x4096x64_0_1_2 (broadcastInDim S32x1x64 ![0, 2] bcast_S32x64_S32x1x64_0_2 (Host.reduceAdd V (constant S_ .f32 0x00000000#32) reducesTo_S32x4096x64_S32x64_d1 h_S_))

/-- The query rows the pairs name. -/
def picked (I : IVec S32x45x2 32) (Xq : FVec Ideal S32x4096x64 .f32) : FVec Ideal S32x45x64 .f32 :=
  Host.gather gather_S32x4096x64_S32x45x2_S32x45x64_2_01_n_n_01_2_1164 Xq I

/-- The attention of the picked rows. -/
def attended (I : IVec S32x45x2 32) (Xq Xk Xv : FVec Ideal S32x4096x64 .f32) : FVec Ideal S32x45x64 .f32 :=
  outs (exps (logits (picked I Xq) Xk) (tops (logits (picked I Xq) Xk))) Xv

/-- The attention of the picked rows over the sum of the values. -/
def placed (I : IVec S32x45x2 32) (Xq Xk Xv : FVec Ideal S32x4096x64 .f32) : FVec Ideal S32x4096x64 .f32 :=
  Host.scatter scatter_S32x4096x64_S32x45x2_S32x45x64_2_01_01_2 (fun _ b => b) (sums Xv) I (attended I Xq Xk Xv)

/-- The reference's result. -/
def refOut (X1 : IVec S2048 32) (Xq Xk Xv : FVec Ideal S32x4096x64 .f32) : FVec Ideal S32x4096x64 .f32 :=
  placed (rowPairs X1) Xq Xk Xv

theorem res_eq (m : (ℓ : Loc nD τ sig) → Buf (Elt Ideal) ℓ) (c : Dev nD) :
    Value.res_main_v50 (F := Ideal) m c = refOut (m ((c.tc : Thread nD τ).loc main_arg0)) (m ((c.tc : Thread nD τ).loc main_arg1))
      (m ((c.tc : Thread nD τ).loc main_arg2)) (m ((c.tc : Thread nD τ).loc main_arg3)) := by
  unfold Value.res_main_v50; rfl

/-! ## Products, softmax and sums -/

theorem logits_apply (Q : FVec Ideal S32x45x64 .f32) (K : FVec Ideal S32x4096x64 .f32) (h : Fin 32) (t : Fin 45) (l : Fin 4096) :
    logits Q K (ix3 h t l) = logit (fun x => Q (ix3 h t x)) (fun l x => K (ix3 h l x)) l := by
  pointwise [logits, logit]

/-- A host maximum along the last of three axes, from −∞. -/
theorem hostMax_last {a b n : Nat} (x : FVec Ideal ⟨3, ![a, b, n]⟩ .f32) (h : Shape.ReducesTo ⟨3, ![a, b, n]⟩ [2] ⟨2, ![a, b]⟩)
    (h' : Shape.Reduces ⟨3, ![a, b, n]⟩ [2] ⟨2, ![a, b]⟩) (i : Fin a) (j : Fin b) :
    Host.reduce FloatOps.maximumf x (constant S_ .f32 0xFF800000#32) h h_S_ (ix2 i j)
      = Finset.fold max (Ideal.ofBits .f32 0xFF800000#32) (fun l => x (ix3 i j l)) Finset.univ := by
  rw [hostReduce_maximumf_eq_multiReduction x 0xFF800000#32 _ _ h' (.inl rfl) rfl]
  refine (Ideal.multiReduction_maximumf_single x 0xFF800000#32 h' (.inl rfl) rfl (ix2 i j)).trans ?_
  refine congrArg (fun f => Finset.fold max (Ideal.ofBits .f32 0xFF800000#32) f Finset.univ) (funext fun l => congrArg x (funext fun c => Fin.ext ?_))
  match c with
  | ⟨0, _⟩ => rfl
  | ⟨1, _⟩ => rfl
  | ⟨2, _⟩ => rfl

theorem reduces_logits : S32x45x4096.Reduces [2] S32x45 := by decide

theorem maxFrom_apply (Y : FVec Ideal S32x45 .f32) (h : Fin 32) (t : Fin 45) :
    maximumf (broadcastInDim S32x45 ![] bcast_S_S32x45 (constant (F := Ideal) S_ .f32 0xFF800000#32)) Y (ix2 h t)
      = max (Ideal.ofBits .f32 0xFF800000#32) (Y (ix2 h t)) := by
  pointwise

theorem tops_apply (Lg : FVec Ideal S32x45x4096 .f32) (h : Fin 32) (t : Fin 45) :
    tops Lg (ix2 h t) = max (Ideal.ofBits .f32 0xFF800000#32) (Finset.fold max (Ideal.ofBits .f32 0xFF800000#32) (fun l => Lg (ix3 h t l)) Finset.univ) :=
  (maxFrom_apply _ h t).trans (congrArg _ (hostMax_last Lg _ reduces_logits h t))

theorem exps_apply (Lg : FVec Ideal S32x45x4096 .f32) (M : FVec Ideal S32x45 .f32) (h : Fin 32) (t : Fin 45) (l : Fin 4096) :
    exps Lg M (ix3 h t l) = Ideal.exp (Lg (ix3 h t l) - M (ix2 h t)) := by
  pointwise [exps]

theorem outs_apply (E : FVec Ideal S32x45x4096 .f32) (V : FVec Ideal S32x4096x64 .f32) (h : Fin 32) (t : Fin 45) (e : Fin 64) :
    outs E V (ix3 h t e) = ∑ l, Ideal.div (E (ix3 h t l)) (∑ l', E (ix3 h t l')) * V (ix3 h l e) := by
  pointwise [outs]

theorem sums_apply (V : FVec Ideal S32x4096x64 .f32) (h : Fin 32) (r : Fin 4096) (e : Fin 64) :
    sums V (ix3 h r e) = ∑ l, V (ix3 h l e) := by
  pointwise [sums]

theorem attended_apply (I : IVec S32x45x2 32) (Xq Xk Xv : FVec Ideal S32x4096x64 .f32) (h : Fin 32) (t : Fin 45) (e : Fin 64) :
    attended I Xq Xk Xv (ix3 h t e)
      = attnRow (fun x => picked I Xq (ix3 h t x)) (fun l x => Xk (ix3 h l x)) (fun l x => Xv (ix3 h l x)) e := by
  unfold attended
  rw [outs_apply]
  simp only [exps_apply, logits_apply, tops_apply]
  unfold attnRow
  rw [← max_top]
  rfl

/-! ## The words, the gather and the scatter -/

section Words
variable (X1 : IVec S2048 32) (hX : ∀ j, (X1 j).toNat < 4096)

theorem rowPairs_head (h : Fin 32) (t : Fin 45) : rowPairs X1 (ix3 h t (0 : Fin 2)) = BitVec.ofNat 32 h.val := by
  pointwise [rowPairs, pairsOf, cut]
  refine Routing.wrap_of_lt _ _ ?_
  have := h.isLt
  rw [BitVec.toNat_ofNat]; omega

include hX in
theorem rowPairs_word (h : Fin 32) (t : Fin 45) :
    rowPairs X1 (ix3 h t (1 : Fin 2)) = X1 (ix1 ⟨64 * h.val + t.val, by omega⟩) := by
  pointwise [rowPairs, pairsOf, cut]
  refine (Routing.wrap_of_lt _ _ ?_).trans ?_
  · exact Nat.lt_trans (hX _) (by decide)
  · refine congrArg (fun k => X1 (ix1 k)) (Fin.ext ?_)
    show h.val * 64 + t.val = 64 * h.val + t.val
    omega

/-- A word below 2³¹ read signed is itself. -/
theorem toInt_of_lt (x : BitVec 32) (h : x.toNat < 2147483648) : x.toInt = (x.toNat : Int) :=
  BitVec.toInt_eq_toNat_of_lt (by omega)

/-- The gather's index word `k` of result row `(h, t)`. -/
theorem gather_pair (h : Fin 32) (t : Fin 45) (e : Fin 64) (k : Fin 2) :
    GatherDims.siIdx gather_S32x4096x64_S32x45x2_S32x45x64_2_01_n_n_01_2_1164 (ix3 h t e) k = ix3 h t k := by
  funext b
  match b with
  | ⟨0, _⟩ => rfl
  | ⟨1, _⟩ => rfl
  | ⟨2, _⟩ => rfl

/-- The scatter's index word `k` of update row `(h, t)`. -/
theorem scatter_pair (h : Fin 32) (t : Fin 45) (e : Fin 64) (k : Fin 2) :
    ScatterDims.siIdx scatter_S32x4096x64_S32x45x2_S32x45x64_2_01_01_2 (ix3 h t e) k = ix3 h t k := by
  funext b
  match b with
  | ⟨0, _⟩ => rfl
  | ⟨1, _⟩ => rfl
  | ⟨2, _⟩ => rfl

include hX in
/-- A picked row is the row of `q` its word names. -/
theorem picked_apply (Xq : FVec Ideal S32x4096x64 .f32) (h : Fin 32) (t : Fin 45) (e : Fin 64) :
    picked (rowPairs X1) Xq (ix3 h t e) = Xq (ix3 h ⟨(X1 (ix1 ⟨64 * h.val + t.val, by omega⟩)).toNat % 4096, Nat.mod_lt _ (by decide)⟩ e) := by
  have e0 := rowPairs_head X1 h t
  have e1 := rowPairs_word X1 hX h t
  have hw := hX (ix1 ⟨64 * h.val + t.val, by omega⟩)
  unfold picked
  generalize rowPairs X1 = I at e0 e1
  unfold Host.gather
  refine congrArg Xq (funext fun a => Fin.ext ?_)
  show GatherDims.start _ _ _ _ + GatherDims.batchCoord _ _ _ + GatherDims.offCoord _ _ _ = _
  match a with
  | ⟨0, _⟩ =>
    have hs : GatherDims.start gather_S32x4096x64_S32x45x2_S32x45x64_2_01_n_n_01_2_1164 (ix3 h t e) I ⟨0, by decide⟩
        = min (I (ix3 h t (0 : Fin 2))).toInt.toNat 31 := by
      rw [← gather_pair h t e 0]; rfl
    have hb : GatherDims.batchCoord gather_S32x4096x64_S32x45x2_S32x45x64_2_01_n_n_01_2_1164 (ix3 h t e) ⟨0, by decide⟩ = 0 := rfl
    have ho : GatherDims.offCoord gather_S32x4096x64_S32x45x2_S32x45x64_2_01_n_n_01_2_1164 (ix3 h t e) ⟨0, by decide⟩ = 0 := rfl
    rw [hs, hb, ho, e0, toInt_of_lt _ (by rw [BitVec.toNat_ofNat]; omega), BitVec.toNat_ofNat]
    show _ = h.val
    omega
  | ⟨1, _⟩ =>
    have hs : GatherDims.start gather_S32x4096x64_S32x45x2_S32x45x64_2_01_n_n_01_2_1164 (ix3 h t e) I ⟨1, by decide⟩
        = min (I (ix3 h t (1 : Fin 2))).toInt.toNat 4095 := by
      rw [← gather_pair h t e 1]; rfl
    have hb : GatherDims.batchCoord gather_S32x4096x64_S32x45x2_S32x45x64_2_01_n_n_01_2_1164 (ix3 h t e) ⟨1, by decide⟩ = 0 := rfl
    have ho : GatherDims.offCoord gather_S32x4096x64_S32x45x2_S32x45x64_2_01_n_n_01_2_1164 (ix3 h t e) ⟨1, by decide⟩ = 0 := rfl
    rw [hs, hb, ho, e1, toInt_of_lt _ (Nat.lt_trans hw (by decide))]
    show _ = BitVec.toNat _ % 4096
    omega
  | ⟨2, _⟩ =>
    have hs : GatherDims.start gather_S32x4096x64_S32x45x2_S32x45x64_2_01_n_n_01_2_1164 (ix3 h t e) I ⟨2, by decide⟩ = 0 := rfl
    have hb : GatherDims.batchCoord gather_S32x4096x64_S32x45x2_S32x45x64_2_01_n_n_01_2_1164 (ix3 h t e) ⟨2, by decide⟩ = 0 := rfl
    have ho : GatherDims.offCoord gather_S32x4096x64_S32x45x2_S32x45x64_2_01_n_n_01_2_1164 (ix3 h t e) ⟨2, by decide⟩ = e.val := rfl
    rw [hs, hb, ho]
    show _ = e.val
    omega

include hX in
/-- An update lands where its head, its row's word and its column say. -/
theorem lands_iff (h' : Fin 32) (t : Fin 45) (e' : Fin 64) (h : Fin 32) (r : Fin 4096) (e : Fin 64) :
    ScatterDims.resultIdx? scatter_S32x4096x64_S32x45x2_S32x45x64_2_01_01_2 (ix3 h' t e') (rowPairs X1) = some (ix3 h r e)
      ↔ h' = h ∧ (X1 (ix1 ⟨64 * h'.val + t.val, by omega⟩)).toNat = r.val ∧ e' = e := by
  have e0 := rowPairs_head X1 h' t
  have e1 := rowPairs_word X1 hX h' t
  have hw := hX (ix1 ⟨64 * h'.val + t.val, by omega⟩)
  generalize rowPairs X1 = I at e0 e1
  rw [Routing.resultIdx?_eq_some]
  have hs0 : ScatterDims.start scatter_S32x4096x64_S32x45x2_S32x45x64_2_01_01_2 (ix3 h' t e') I ⟨0, by decide⟩ = (h'.val : Int) := by
    have : ScatterDims.start scatter_S32x4096x64_S32x45x2_S32x45x64_2_01_01_2 (ix3 h' t e') I ⟨0, by decide⟩ = (I (ix3 h' t (0 : Fin 2))).toInt := by
      rw [← scatter_pair h' t e' 0]; rfl
    rw [this, e0, toInt_of_lt _ (by rw [BitVec.toNat_ofNat]; omega), BitVec.toNat_ofNat]
    omega
  have hs1 : ScatterDims.start scatter_S32x4096x64_S32x45x2_S32x45x64_2_01_01_2 (ix3 h' t e') I ⟨1, by decide⟩
      = ((X1 (ix1 ⟨64 * h'.val + t.val, by omega⟩)).toNat : Int) := by
    have : ScatterDims.start scatter_S32x4096x64_S32x45x2_S32x45x64_2_01_01_2 (ix3 h' t e') I ⟨1, by decide⟩ = (I (ix3 h' t (1 : Fin 2))).toInt := by
      rw [← scatter_pair h' t e' 1]; rfl
    rw [this, e1, toInt_of_lt _ (Nat.lt_trans hw (by decide))]
  have hs2 : ScatterDims.start scatter_S32x4096x64_S32x45x2_S32x45x64_2_01_01_2 (ix3 h' t e') I ⟨2, by decide⟩ = 0 := rfl
  have hw0 : ScatterDims.window scatter_S32x4096x64_S32x45x2_S32x45x64_2_01_01_2 (ix3 h' t e') ⟨0, by decide⟩ = 0 := rfl
  have hw1 : ScatterDims.window scatter_S32x4096x64_S32x45x2_S32x45x64_2_01_01_2 (ix3 h' t e') ⟨1, by decide⟩ = 0 := rfl
  have hw2 : ScatterDims.window scatter_S32x4096x64_S32x45x2_S32x45x64_2_01_01_2 (ix3 h' t e') ⟨2, by decide⟩ = e'.val := rfl
  constructor
  · intro H
    have H0 : _ = (h.val : Int) := H ⟨0, by decide⟩
    have H1 : _ = (r.val : Int) := H ⟨1, by decide⟩
    have H2 : _ = (e.val : Int) := H ⟨2, by decide⟩
    rw [hs0, hw0] at H0
    rw [hs1, hw1] at H1
    rw [hs2, hw2] at H2
    exact ⟨Fin.ext (by omega), by omega, Fin.ext (by omega)⟩
  · rintro ⟨rfl, hr, rfl⟩ a
    match a with
    | ⟨0, _⟩ => rw [hs0, hw0]; show _ = (h'.val : Int); omega
    | ⟨1, _⟩ => rw [hs1, hw1]; show _ = (r.val : Int); omega
    | ⟨2, _⟩ => rw [hs2, hw2]; show _ = (e'.val : Int); omega

include hX in
/-- Where no word of a head names row `r`, the scatter leaves what it started from. -/
theorem scatter_none (A : FVec Ideal S32x4096x64 .f32) (U : FVec Ideal S32x45x64 .f32) (h : Fin 32) (r : Fin 4096) (e : Fin 64)
    (hn : ∀ t : Fin 45, (X1 (ix1 ⟨64 * h.val + t.val, by omega⟩)).toNat ≠ r.val) :
    Host.scatter scatter_S32x4096x64_S32x45x2_S32x45x64_2_01_01_2 (fun _ b => b) A (rowPairs X1) U (ix3 h r e) = A (ix3 h r e) := by
  rw [Routing.scatter_at]
  refine foldl_none _ (fun n => U (S32x45x64.rowMajor.symm n)) _ _ fun n _ hP => ?_
  generalize S32x45x64.rowMajor.symm n = k at hP
  idx_vars k
  obtain ⟨rfl, hr, rfl⟩ := (lands_iff X1 hX _ _ _ h r e).1 hP
  exact hn _ hr

include hX in
/-- Where word `t` of a head is the last that names row `r`, the scatter leaves update row `t`. -/
theorem scatter_last (A : FVec Ideal S32x4096x64 .f32) (U : FVec Ideal S32x45x64 .f32) (h : Fin 32) (r : Fin 4096) (e : Fin 64)
    (t : Fin 45) (ht : (X1 (ix1 ⟨64 * h.val + t.val, by omega⟩)).toNat = r.val)
    (hn : ∀ t' : Fin 45, t < t' → (X1 (ix1 ⟨64 * h.val + t'.val, by omega⟩)).toNat ≠ r.val) :
    Host.scatter scatter_S32x4096x64_S32x45x2_S32x45x64_2_01_01_2 (fun _ b => b) A (rowPairs X1) U (ix3 h r e) = U (ix3 h t e) := by
  rw [Routing.scatter_at]
  refine (foldl_last _ (fun n => U (S32x45x64.rowMajor.symm n)) _ (List.pairwise_lt_finRange _) _ (S32x45x64.rowMajor (ix3 h t e))
    (List.mem_finRange _) ?_ fun n _ hlt hP => ?_).trans ?_
  · rw [Equiv.symm_apply_apply]
    exact (lands_iff X1 hX h t e h r e).2 ⟨rfl, ht, rfl⟩
  · obtain ⟨k, rfl⟩ := S32x45x64.rowMajor.surjective n
    rw [Equiv.symm_apply_apply] at hP
    idx_vars k
    obtain ⟨rfl, hr, rfl⟩ := (lands_iff X1 hX _ _ _ h r e).1 hP
    refine hn _ ?_ hr
    have hlt' := Fin.lt_def.1 hlt
    rw [Shape.rowMajor_val_three, Shape.rowMajor_val_three] at hlt'
    have hlt2 : (k0.val * 45 + t.val) * 64 + k2.val < (k0.val * 45 + k1.val) * 64 + k2.val := hlt'
    exact Fin.lt_def.2 (by omega)
  · rw [Equiv.symm_apply_apply]
end Words
end Cert.AttnRefIdeal.Hand
-- ==== Proof.AttnEq.lean ====
module
public import proofs.«01_k».proof.Proof.AttnValue
public import proofs.«01_k».proof.Proof.AttnRefValue
@[expose] public section
set_option maxRecDepth 16384
noncomputable section
/-! # The kernel's attention is the reference's -/
namespace Cert.AttnSpec
open Idealize.ShloMosaic

/-- With every row index inside the array, the kernel's result and the reference's are one function. -/
theorem out_eq (X1 : IVec ⟨1, ![2048]⟩ 32) (Xq Xk Xv : FVec Ideal ⟨3, ![32, 4096, 64]⟩ .f32) (hX : ∀ j, (X1 j).toNat < 4096) :
    AttnRefIdeal.Hand.refOut X1 Xq Xk Xv = AttnIdeal.Hand.outArr (F := Ideal) X1 Xq Xk Xv := by
  unfold AttnRefIdeal.Hand.refOut AttnRefIdeal.Hand.placed
  funext j
  idx_vars j
  rcases last_word (fun t => (X1 (ix1 ⟨64 * j0.val + t.val, by omega⟩)).toNat) j1.val with hn | ⟨t, ht, hn⟩
  · refine ((AttnRefIdeal.Hand.scatter_none X1 hX _ _ j0 j1 j2 hn).trans (AttnRefIdeal.Hand.sums_apply Xv j0 j1 j2)).trans ?_
    exact (AttnIdeal.Hand.outArr_none X1 Xq Xk Xv j0 j1 j2 hn).symm
  · refine ((AttnRefIdeal.Hand.scatter_last X1 hX _ _ j0 j1 j2 t ht hn).trans (AttnRefIdeal.Hand.attended_apply (AttnRefIdeal.Hand.rowPairs X1) Xq Xk Xv j0 t j2)).trans ?_
    rw [funext fun x => AttnRefIdeal.Hand.picked_apply X1 hX Xq j0 t x]
    exact (AttnIdeal.Hand.outArr_last X1 Xq Xk Xv j0 j1 j2 t ht hn).symm

end Cert.AttnSpec
end
-- ==== Proof.Rows.lean ====
module
public import Idealize.ShloMosaic.Lib.Tactic
public import Idealize.ShloMosaic.Lib.VecWindow
public import Idealize.ShloMosaic.Lib.ValueIdxCore
@[expose] public section
noncomputable section
/-! # A buffer written in pieces -/
namespace Cert.Pieces
open Idealize.ShloMosaic

/-- A list of pieces that all hold the values of one function reads that function wherever some piece covers. -/
theorem read_pieces {sig' : RefSig} {κ : Kind} {sp : Space} {s : Shape} {e : EltTy} {Val : EltTy → Type} (v : View sig' κ sp s e)
    (f : v.ty.Contents Val) (G : s.Idx → Val e) (y : s.Idx) : ∀ L : List (View.Piece Val s e), (∀ p ∈ L, ∀ x, p.2 x = G (p.1.emb x)) →
      (∃ p ∈ L, y ∈ p.1.set) → v.read Val (v.writes Val f L) y = G y
  | [], _, h => by obtain ⟨_, hm, _⟩ := h; exact absurd hm List.not_mem_nil
  | p :: L, ha, h => by
    by_cases hy : y ∈ p.1.set
    · obtain ⟨x, rfl⟩ : ∃ x, p.1.emb x = y := p.1.exists_idx_of_mem hy
      obtain ⟨r, w⟩ := p
      rw [View.read_writes_cons_emb]
      exact ha _ List.mem_cons_self x
    · have hy' : y ∉ Finset.univ.map p.1.emb := by rwa [Rect.map_emb_univ]
      rw [View.writes_cons, View.read_slice_write_of_not_mem p.1 _ _ _ hy']
      refine read_pieces v f G y L (fun p' hp => ha p' (List.mem_cons_of_mem _ hp)) ?_
      obtain ⟨p', hm, hy2⟩ := h
      rcases List.mem_cons.mp hm with rfl | hm
      · exact absurd hy2 hy
      · exact ⟨p', hm, hy2⟩

end Cert.Pieces
end
-- ==== Proof.ScoreIdealBody.lean ====
module
public import proofs.«01_k».proof.Proof.Gen.ScoreIdeal
public import proofs.«01_k».proof.Proof.Gen.ScoreIdeal.Skeleton
public import proofs.«01_k».proof.Proof.Gen.ScoreIdeal.Points
public import proofs.«01_k».proof.Proof.Gen.ScoreIdeal.Launch
public import proofs.«01_k».proof.Proof.Rows
public import Idealize.ShloMosaic.Lib.Batch
public import Idealize.ShloMosaic.Lib.Ring
public import Idealize.ShloMosaic.Lib.Tactic
public import Idealize.ShloMosaic.Lib.Pipeline.Kit
public import Idealize.ShloMosaic.Lib.Pipeline.Frame
public import Idealize.ShloMosaic.Lib.ValueIdxCore
public import Idealize.ShloMosaic.Lib.VecWindow
public import Idealize.ShloMosaic.Lib.Pipeline.Value
@[expose] public section
set_option maxRecDepth 16384
noncomputable section
/-! # The score call at one grid point: the 45 row copies of `k`, and the block of measures the body leaves -/
namespace Cert.ScoreIdeal.Hand
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Cert.ScoreIdeal Cert.ScoreIdeal.Gen Cert.Pieces
open Idealize.ShloMosaic.ValueIdx

variable {F : FTy → Type} [FloatOps F]
local notation "𝕄" => MT nD τ sig Unit (Elt F) ℕ (Pipeline.UD sig nD τ) ℕ

abbrev kM : Memref sig .tc .hbm S32x4096x64 .f32 := Memref.whole main_arg1
abbrev sM : Memref sig .tc .vmem S45x64 .f32 := Memref.whole cc0_scratch0

/-- The read share of `k` copy `n` takes. -/
def kTok (n : ℕ) : PosShare TreeShare := Transfers.shareTokN fullShare n

/-- The head grid point `i` works on. -/
def hd (i : grid0.Coords) : Fin 32 := ⟨(i 0).val, (i 0).isLt⟩

/-- The rows of `k` the kernel samples. -/
def sampled : Fin 45 → Fin 4096 :=
  ![1220, 18, 1207, 3265, 653, 3435, 2433, 2343, 2054, 1282, 552, 2034, 3481, 475, 4044, 1810, 1611, 898, 2883, 519, 3638, 651, 2316, 3779, 3180, 1553, 3056, 539, 2332, 3383, 2309, 676, 1493, 2094, 3123, 2068, 814, 1970, 3921, 2029, 1799, 1604, 3735, 381, 2937]

/-- The sampled rows of head `h` of `k`. -/
def rowsOf (Xk : S32x4096x64.Idx → F .f32) (h : Fin 32) : S45x64.Idx → F .f32 :=
  fun j => Xk (ix3 h (sampled (j 0)) (j 1))

/-- What one copy puts into row `t` of the scratch: the sampled row `t`. -/
theorem row_val (c : Dev nD) (i : grid0.Coords) (fk : Buf (Elt F) (kM.view.loc (c : Thread nD τ))) (t : Fin 45) {off : Fin 3 → ℕ}
    (hoff : off = ![(i 0).val, (sampled t).val, 0]) (inb : ∀ a, off a + S1x1x64.size a ≤ S32x4096x64.size a)
    (hst) (hsq : (Rect.unit (s := S32x4096x64) off S1x1x64.size inb).shape.Squeezes S1x64)
    (inb' : ∀ a, (![t.val, 0] : Fin 2 → ℕ) a + S1x64.size a ≤ S45x64.size a) (x : S1x64.Idx) :
    View.read (Elt F) ((kM.slice (Rect.unit (s := S32x4096x64) off S1x1x64.size inb) hst).squeeze S1x64 hsq).view fk x
      = rowsOf (kM.view.read (Elt F) fk) (hd i) ((Rect.unit (s := S45x64) ![t.val, 0] S1x64.size inb').emb x) := by
  subst hoff
  show kM.view.read (Elt F) fk ((Rect.unit (s := S32x4096x64) _ S1x1x64.size inb).emb (Shape.reshapeEquiv hsq.numel_eq x)) = _
  have e : Shape.reshapeEquiv (s' := S1x64) (s := S1x1x64) hsq.numel_eq x = Fin.cons ⟨0, Nat.one_pos⟩ x := Shape.reshapeEquiv_cons_one _ x
  have hx : (x 0).val < 1 := (x 0).isLt
  have ht : (Rect.unit (s := S45x64) ![t.val, 0] S1x64.size inb').emb x 0 = t := Fin.ext (by show t.val + 1 * (x 0).val = t.val; omega)
  have h1 : ((Rect.unit (s := S45x64) ![t.val, 0] S1x64.size inb').emb x 1).val = (x 1).val := by show 0 + 1 * (x 1).val = (x 1).val; omega
  unfold rowsOf
  rw [ht]
  refine congrArg (kM.view.read (Elt F) fk) ((congrArg _ e).trans (funext fun a => Fin.ext ?_))
  match a with
  | ⟨0, _⟩ => show (i 0).val + 1 * 0 = (i 0).val; omega
  | ⟨1, _⟩ => show (sampled t).val + 1 * (x 0).val = (sampled t).val; omega
  | ⟨2, _⟩ => show 0 + 1 * (x 1).val = _; exact (by omega : 0 + 1 * (x 1).val = (x 1).val).trans h1.symm

/-- The block of the result grid point `i` leaves, of what its operands read. -/
def bodyOut (h : Fin 32) (X1 : S1x4096x64.Idx → F .f32) (Xk : S32x4096x64.Idx → F .f32) : S1x1x4096.Idx → F .f32 :=
  k0_pay1 X1 (rowsOf Xk h)

set_option maxHeartbeats 40000000
set_option sl_exec.rejoinFuel 100
set_option sl_exec.stepHeartbeats 4000000
/-- The kernel's body at a grid point, `k` in the 45 read shares its row copies take: what it leaves is `bodyOut`'s block. -/
theorem bodyRun (c : Dev nD) (i : grid0.Coords) (arg1 : Memref sig .tc .vmem S1x4096x64 .f32) (harg1 : arg1.IsWhole)
   (arg3 : Memref sig .tc .vmem S1x1x4096 .f32) (harg3 : arg3.IsWhole)
   (f1 : Buf (Elt F) (arg1.view.loc (c : Thread nD τ))) (fk : Buf (Elt F) (kM.view.loc (c : Thread nD τ))) (fs : Buf (Elt F) (sM.view.loc (c : Thread nD τ)))
   (f3 : Buf (Elt F) (arg3.view.loc (c : Thread nD τ))) (W : Waits sig Unit) (K : _ → sProp 𝕄)
   (_plan : Transfers.BatchOf (c : Thread nD τ) (SemLoc.dma (sig := sig) 4) 45 (windows := true)) :
   iprop((arg1.view.loc (c : Thread nD τ) ↦[arg1.view.set]{fullShare} f1)
     ∗ (arg3.view.loc (c : Thread nD τ) ↦[arg3.view.set]{fullShare} f3)
     ∗ (sM.view.loc (c : Thread nD τ) ↦{fullShare} fs)
     ∗ semVal ((c : Thread nD τ), SemLoc.dma 4) 0
     ∗ owes (c : Thread nD τ) 0 W
     ∗ (kM.view.loc (c : Thread nD τ) ↦{kTok 0} fk)
     ∗ (kM.view.loc (c : Thread nD τ) ↦{kTok 1} fk)
     ∗ (kM.view.loc (c : Thread nD τ) ↦{kTok 2} fk)
     ∗ (kM.view.loc (c : Thread nD τ) ↦{kTok 3} fk)
     ∗ (kM.view.loc (c : Thread nD τ) ↦{kTok 4} fk)
     ∗ (kM.view.loc (c : Thread nD τ) ↦{kTok 5} fk)
     ∗ (kM.view.loc (c : Thread nD τ) ↦{kTok 6} fk)
     ∗ (kM.view.loc (c : Thread nD τ) ↦{kTok 7} fk)
     ∗ (kM.view.loc (c : Thread nD τ) ↦{kTok 8} fk)
     ∗ (kM.view.loc (c : Thread nD τ) ↦{kTok 9} fk)
     ∗ (kM.view.loc (c : Thread nD τ) ↦{kTok 10} fk)
     ∗ (kM.view.loc (c : Thread nD τ) ↦{kTok 11} fk)
     ∗ (kM.view.loc (c : Thread nD τ) ↦{kTok 12} fk)
     ∗ (kM.view.loc (c : Thread nD τ) ↦{kTok 13} fk)
     ∗ (kM.view.loc (c : Thread nD τ) ↦{kTok 14} fk)
     ∗ (kM.view.loc (c : Thread nD τ) ↦{kTok 15} fk)
     ∗ (kM.view.loc (c : Thread nD τ) ↦{kTok 16} fk)
     ∗ (kM.view.loc (c : Thread nD τ) ↦{kTok 17} fk)
     ∗ (kM.view.loc (c : Thread nD τ) ↦{kTok 18} fk)
     ∗ (kM.view.loc (c : Thread nD τ) ↦{kTok 19} fk)
     ∗ (kM.view.loc (c : Thread nD τ) ↦{kTok 20} fk)
     ∗ (kM.view.loc (c : Thread nD τ) ↦{kTok 21} fk)
     ∗ (kM.view.loc (c : Thread nD τ) ↦{kTok 22} fk)
     ∗ (kM.view.loc (c : Thread nD τ) ↦{kTok 23} fk)
     ∗ (kM.view.loc (c : Thread nD τ) ↦{kTok 24} fk)
     ∗ (kM.view.loc (c : Thread nD τ) ↦{kTok 25} fk)
     ∗ (kM.view.loc (c : Thread nD τ) ↦{kTok 26} fk)
     ∗ (kM.view.loc (c : Thread nD τ) ↦{kTok 27} fk)
     ∗ (kM.view.loc (c : Thread nD τ) ↦{kTok 28} fk)
     ∗ (kM.view.loc (c : Thread nD τ) ↦{kTok 29} fk)
     ∗ (kM.view.loc (c : Thread nD τ) ↦{kTok 30} fk)
     ∗ (kM.view.loc (c : Thread nD τ) ↦{kTok 31} fk)
     ∗ (kM.view.loc (c : Thread nD τ) ↦{kTok 32} fk)
     ∗ (kM.view.loc (c : Thread nD τ) ↦{kTok 33} fk)
     ∗ (kM.view.loc (c : Thread nD τ) ↦{kTok 34} fk)
     ∗ (kM.view.loc (c : Thread nD τ) ↦{kTok 35} fk)
     ∗ (kM.view.loc (c : Thread nD τ) ↦{kTok 36} fk)
     ∗ (kM.view.loc (c : Thread nD τ) ↦{kTok 37} fk)
     ∗ (kM.view.loc (c : Thread nD τ) ↦{kTok 38} fk)
     ∗ (kM.view.loc (c : Thread nD τ) ↦{kTok 39} fk)
     ∗ (kM.view.loc (c : Thread nD τ) ↦{kTok 40} fk)
     ∗ (kM.view.loc (c : Thread nD τ) ↦{kTok 41} fk)
     ∗ (kM.view.loc (c : Thread nD τ) ↦{kTok 42} fk)
     ∗ (kM.view.loc (c : Thread nD τ) ↦{kTok 43} fk)
     ∗ (kM.view.loc (c : Thread nD τ) ↦{kTok 44} fk)
     ∗ (iprop((arg1.view.loc (c : Thread nD τ) ↦[arg1.view.set]{fullShare} f1)
         ∗ (∃ g, ⌜arg3.view.read (Elt F) g = bodyOut (hd i) (arg1.view.read (Elt F) f1) (kM.view.read (Elt F) fk)⌝
             ∗ (arg3.view.loc (c : Thread nD τ) ↦[arg3.view.set]{fullShare} g))
         ∗ (∃ g, sM.view.loc (c : Thread nD τ) ↦{fullShare} g)
         ∗ semVal ((c : Thread nD τ), SemLoc.dma 4) 0
         ∗ (∃ W', owes (c : Thread nD τ) 0 W')
         ∗ (kM.view.loc (c : Thread nD τ) ↦{kTok 0} fk)
         ∗ (kM.view.loc (c : Thread nD τ) ↦{kTok 1} fk)
         ∗ (kM.view.loc (c : Thread nD τ) ↦{kTok 2} fk)
         ∗ (kM.view.loc (c : Thread nD τ) ↦{kTok 3} fk)
         ∗ (kM.view.loc (c : Thread nD τ) ↦{kTok 4} fk)
         ∗ (kM.view.loc (c : Thread nD τ) ↦{kTok 5} fk)
         ∗ (kM.view.loc (c : Thread nD τ) ↦{kTok 6} fk)
         ∗ (kM.view.loc (c : Thread nD τ) ↦{kTok 7} fk)
         ∗ (kM.view.loc (c : Thread nD τ) ↦{kTok 8} fk)
         ∗ (kM.view.loc (c : Thread nD τ) ↦{kTok 9} fk)
         ∗ (kM.view.loc (c : Thread nD τ) ↦{kTok 10} fk)
         ∗ (kM.view.loc (c : Thread nD τ) ↦{kTok 11} fk)
         ∗ (kM.view.loc (c : Thread nD τ) ↦{kTok 12} fk)
         ∗ (kM.view.loc (c : Thread nD τ) ↦{kTok 13} fk)
         ∗ (kM.view.loc (c : Thread nD τ) ↦{kTok 14} fk)
         ∗ (kM.view.loc (c : Thread nD τ) ↦{kTok 15} fk)
         ∗ (kM.view.loc (c : Thread nD τ) ↦{kTok 16} fk)
         ∗ (kM.view.loc (c : Thread nD τ) ↦{kTok 17} fk)
         ∗ (kM.view.loc (c : Thread nD τ) ↦{kTok 18} fk)
         ∗ (kM.view.loc (c : Thread nD τ) ↦{kTok 19} fk)
         ∗ (kM.view.loc (c : Thread nD τ) ↦{kTok 20} fk)
         ∗ (kM.view.loc (c : Thread nD τ) ↦{kTok 21} fk)
         ∗ (kM.view.loc (c : Thread nD τ) ↦{kTok 22} fk)
         ∗ (kM.view.loc (c : Thread nD τ) ↦{kTok 23} fk)
         ∗ (kM.view.loc (c : Thread nD τ) ↦{kTok 24} fk)
         ∗ (kM.view.loc (c : Thread nD τ) ↦{kTok 25} fk)
         ∗ (kM.view.loc (c : Thread nD τ) ↦{kTok 26} fk)
         ∗ (kM.view.loc (c : Thread nD τ) ↦{kTok 27} fk)
         ∗ (kM.view.loc (c : Thread nD τ) ↦{kTok 28} fk)
         ∗ (kM.view.loc (c : Thread nD τ) ↦{kTok 29} fk)
         ∗ (kM.view.loc (c : Thread nD τ) ↦{kTok 30} fk)
         ∗ (kM.view.loc (c : Thread nD τ) ↦{kTok 31} fk)
         ∗ (kM.view.loc (c : Thread nD τ) ↦{kTok 32} fk)
         ∗ (kM.view.loc (c : Thread nD τ) ↦{kTok 33} fk)
         ∗ (kM.view.loc (c : Thread nD τ) ↦{kTok 34} fk)
         ∗ (kM.view.loc (c : Thread nD τ) ↦{kTok 35} fk)
         ∗ (kM.view.loc (c : Thread nD τ) ↦{kTok 36} fk)
         ∗ (kM.view.loc (c : Thread nD τ) ↦{kTok 37} fk)
         ∗ (kM.view.loc (c : Thread nD τ) ↦{kTok 38} fk)
         ∗ (kM.view.loc (c : Thread nD τ) ↦{kTok 39} fk)
         ∗ (kM.view.loc (c : Thread nD τ) ↦{kTok 40} fk)
         ∗ (kM.view.loc (c : Thread nD τ) ↦{kTok 41} fk)
         ∗ (kM.view.loc (c : Thread nD τ) ↦{kTok 42} fk)
         ∗ (kM.view.loc (c : Thread nD τ) ↦{kTok 43} fk)
         ∗ (kM.view.loc (c : Thread nD τ) ↦{kTok 44} fk)) -∗ K ⟨⟩))
   ⊢ wp frame (wpE (defs₀ (F := F)) Variants.none c none) Set.univ
       (cc0__score_kernel i arg1 harg1 kM (Memref.isWhole_whole _) arg3 harg3 sM (Memref.isWhole_whole _) cc0_scratch1) K := by
  iintro ⟨H1, H3, HS, Hsem, HO, Hk0, Hk1, Hk2, Hk3, Hk4, Hk5, Hk6, Hk7, Hk8, Hk9, Hk10, Hk11, Hk12, Hk13, Hk14, Hk15, Hk16, Hk17, Hk18, Hk19, Hk20, Hk21, Hk22, Hk23, Hk24, Hk25, Hk26, Hk27, Hk28, Hk29, Hk30, Hk31, Hk32, Hk33, Hk34, Hk35, Hk36, Hk37, Hk38, Hk39, Hk40, Hk41, Hk42, Hk43, Hk44, Hk⟩
  rw [cc0__score_kernel_eq_skeleton]; unfold cc0__score_kernel_skel
  sl_exec
  have hv : bodyRun.sl.v272 c i fk = rowsOf (kM.view.read (Elt F) fk) (hd i) := by
    unfold bodyRun.sl.v272 View.readCov
    refine (View.readAt_full _ _ inb_S45x64_S45x64_0_0).trans (funext fun y => ?_)
    refine read_pieces _ _ _ y _ ?_ (View.cover_of_tiledL (s := S45x64) _ S1x64.size (by sl_kernel_rfl) y)
    simp only [List.forall_mem_cons]
    exact ⟨row_val c i fk 44 (k0_off45_eq i) _ _ _ _,
      row_val c i fk 43 (k0_off44_eq i) _ _ _ _,
      row_val c i fk 42 (k0_off43_eq i) _ _ _ _,
      row_val c i fk 41 (k0_off42_eq i) _ _ _ _,
      row_val c i fk 40 (k0_off41_eq i) _ _ _ _,
      row_val c i fk 39 (k0_off40_eq i) _ _ _ _,
      row_val c i fk 38 (k0_off39_eq i) _ _ _ _,
      row_val c i fk 37 (k0_off38_eq i) _ _ _ _,
      row_val c i fk 36 (k0_off37_eq i) _ _ _ _,
      row_val c i fk 35 (k0_off36_eq i) _ _ _ _,
      row_val c i fk 34 (k0_off35_eq i) _ _ _ _,
      row_val c i fk 33 (k0_off34_eq i) _ _ _ _,
      row_val c i fk 32 (k0_off33_eq i) _ _ _ _,
      row_val c i fk 31 (k0_off32_eq i) _ _ _ _,
      row_val c i fk 30 (k0_off31_eq i) _ _ _ _,
      row_val c i fk 29 (k0_off30_eq i) _ _ _ _,
      row_val c i fk 28 (k0_off29_eq i) _ _ _ _,
      row_val c i fk 27 (k0_off28_eq i) _ _ _ _,
      row_val c i fk 26 (k0_off27_eq i) _ _ _ _,
      row_val c i fk 25 (k0_off26_eq i) _ _ _ _,
      row_val c i fk 24 (k0_off25_eq i) _ _ _ _,
      row_val c i fk 23 (k0_off24_eq i) _ _ _ _,
      row_val c i fk 22 (k0_off23_eq i) _ _ _ _,
      row_val c i fk 21 (k0_off22_eq i) _ _ _ _,
      row_val c i fk 20 (k0_off21_eq i) _ _ _ _,
      row_val c i fk 19 (k0_off20_eq i) _ _ _ _,
      row_val c i fk 18 (k0_off19_eq i) _ _ _ _,
      row_val c i fk 17 (k0_off18_eq i) _ _ _ _,
      row_val c i fk 16 (k0_off17_eq i) _ _ _ _,
      row_val c i fk 15 (k0_off16_eq i) _ _ _ _,
      row_val c i fk 14 (k0_off15_eq i) _ _ _ _,
      row_val c i fk 13 (k0_off14_eq i) _ _ _ _,
      row_val c i fk 12 (k0_off13_eq i) _ _ _ _,
      row_val c i fk 11 (k0_off12_eq i) _ _ _ _,
      row_val c i fk 10 (k0_off11_eq i) _ _ _ _,
      row_val c i fk 9 (k0_off10_eq i) _ _ _ _,
      row_val c i fk 8 (k0_off9_eq i) _ _ _ _,
      row_val c i fk 7 (k0_off8_eq i) _ _ _ _,
      row_val c i fk 6 (k0_off7_eq i) _ _ _ _,
      row_val c i fk 5 (k0_off6_eq i) _ _ _ _,
      row_val c i fk 4 (k0_off5_eq i) _ _ _ _,
      row_val c i fk 3 (k0_off4_eq i) _ _ _ _,
      row_val c i fk 2 (k0_off3_eq i) _ _ _ _,
      row_val c i fk 1 (k0_off2_eq i) _ _ _ _,
      row_val c i fk 0 (k0_off1_eq i) _ _ _ _, fun _ h => absurd h List.not_mem_nil⟩
  sl_step
  iapply Hk
  isplitl [H1]; · iexact H1
  isplitl [H3]
  · iexists _; isplitr; swap; · iexact H3
    ipureintro
    refine (View.read_writes_full (L := []) _ _ inb_S1x1x4096_S1x1x4096_0_0_0 _).trans ?_
    rw [hv]
    unfold bodyOut
    rw [View.readAt_full arg1.view f1 inb_S1x4096x64_S1x4096x64_0_0_0]
  isplitl [HS]; · iexists _; iexact HS
  isplitl [Hsem]; · iexact Hsem
  isplitl [HO]; · iexists _; iexact HO
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  isplitl [Hk8]; · iexact Hk8
  isplitl [Hk9]; · iexact Hk9
  isplitl [Hk10]; · iexact Hk10
  isplitl [Hk11]; · iexact Hk11
  isplitl [Hk12]; · iexact Hk12
  isplitl [Hk13]; · iexact Hk13
  isplitl [Hk14]; · iexact Hk14
  isplitl [Hk15]; · iexact Hk15
  isplitl [Hk16]; · iexact Hk16
  isplitl [Hk17]; · iexact Hk17
  isplitl [Hk18]; · iexact Hk18
  isplitl [Hk19]; · iexact Hk19
  isplitl [Hk20]; · iexact Hk20
  isplitl [Hk21]; · iexact Hk21
  isplitl [Hk22]; · iexact Hk22
  isplitl [Hk23]; · iexact Hk23
  isplitl [Hk24]; · iexact Hk24
  isplitl [Hk25]; · iexact Hk25
  isplitl [Hk26]; · iexact Hk26
  isplitl [Hk27]; · iexact Hk27
  isplitl [Hk28]; · iexact Hk28
  isplitl [Hk29]; · iexact Hk29
  isplitl [Hk30]; · iexact Hk30
  isplitl [Hk31]; · iexact Hk31
  isplitl [Hk32]; · iexact Hk32
  isplitl [Hk33]; · iexact Hk33
  isplitl [Hk34]; · iexact Hk34
  isplitl [Hk35]; · iexact Hk35
  isplitl [Hk36]; · iexact Hk36
  isplitl [Hk37]; · iexact Hk37
  isplitl [Hk38]; · iexact Hk38
  isplitl [Hk39]; · iexact Hk39
  isplitl [Hk40]; · iexact Hk40
  isplitl [Hk41]; · iexact Hk41
  isplitl [Hk42]; · iexact Hk42
  isplitl [Hk43]; · iexact Hk43
  iexact Hk44

/-- The 45 read shares of the whole of `k`, and what is left beside them. -/
theorem k_split (c : Dev nD) (fk : Buf (Elt F) (kM.view.loc (c : Thread nD τ))) :
    ((kM.view.loc (c : Thread nD τ) ↦{fullShare} fk : sProp 𝕄)) ⊣⊢ iprop((kM.view.loc (c : Thread nD τ) ↦{Transfers.shareDrop fullShare 45} fk)
      ∗ (kM.view.loc (c : Thread nD τ) ↦{kTok 0} fk)
      ∗ (kM.view.loc (c : Thread nD τ) ↦{kTok 1} fk)
      ∗ (kM.view.loc (c : Thread nD τ) ↦{kTok 2} fk)
      ∗ (kM.view.loc (c : Thread nD τ) ↦{kTok 3} fk)
      ∗ (kM.view.loc (c : Thread nD τ) ↦{kTok 4} fk)
      ∗ (kM.view.loc (c : Thread nD τ) ↦{kTok 5} fk)
      ∗ (kM.view.loc (c : Thread nD τ) ↦{kTok 6} fk)
      ∗ (kM.view.loc (c : Thread nD τ) ↦{kTok 7} fk)
      ∗ (kM.view.loc (c : Thread nD τ) ↦{kTok 8} fk)
      ∗ (kM.view.loc (c : Thread nD τ) ↦{kTok 9} fk)
      ∗ (kM.view.loc (c : Thread nD τ) ↦{kTok 10} fk)
      ∗ (kM.view.loc (c : Thread nD τ) ↦{kTok 11} fk)
      ∗ (kM.view.loc (c : Thread nD τ) ↦{kTok 12} fk)
      ∗ (kM.view.loc (c : Thread nD τ) ↦{kTok 13} fk)
      ∗ (kM.view.loc (c : Thread nD τ) ↦{kTok 14} fk)
      ∗ (kM.view.loc (c : Thread nD τ) ↦{kTok 15} fk)
      ∗ (kM.view.loc (c : Thread nD τ) ↦{kTok 16} fk)
      ∗ (kM.view.loc (c : Thread nD τ) ↦{kTok 17} fk)
      ∗ (kM.view.loc (c : Thread nD τ) ↦{kTok 18} fk)
      ∗ (kM.view.loc (c : Thread nD τ) ↦{kTok 19} fk)
      ∗ (kM.view.loc (c : Thread nD τ) ↦{kTok 20} fk)
      ∗ (kM.view.loc (c : Thread nD τ) ↦{kTok 21} fk)
      ∗ (kM.view.loc (c : Thread nD τ) ↦{kTok 22} fk)
      ∗ (kM.view.loc (c : Thread nD τ) ↦{kTok 23} fk)
      ∗ (kM.view.loc (c : Thread nD τ) ↦{kTok 24} fk)
      ∗ (kM.view.loc (c : Thread nD τ) ↦{kTok 25} fk)
      ∗ (kM.view.loc (c : Thread nD τ) ↦{kTok 26} fk)
      ∗ (kM.view.loc (c : Thread nD τ) ↦{kTok 27} fk)
      ∗ (kM.view.loc (c : Thread nD τ) ↦{kTok 28} fk)
      ∗ (kM.view.loc (c : Thread nD τ) ↦{kTok 29} fk)
      ∗ (kM.view.loc (c : Thread nD τ) ↦{kTok 30} fk)
      ∗ (kM.view.loc (c : Thread nD τ) ↦{kTok 31} fk)
      ∗ (kM.view.loc (c : Thread nD τ) ↦{kTok 32} fk)
      ∗ (kM.view.loc (c : Thread nD τ) ↦{kTok 33} fk)
      ∗ (kM.view.loc (c : Thread nD τ) ↦{kTok 34} fk)
      ∗ (kM.view.loc (c : Thread nD τ) ↦{kTok 35} fk)
      ∗ (kM.view.loc (c : Thread nD τ) ↦{kTok 36} fk)
      ∗ (kM.view.loc (c : Thread nD τ) ↦{kTok 37} fk)
      ∗ (kM.view.loc (c : Thread nD τ) ↦{kTok 38} fk)
      ∗ (kM.view.loc (c : Thread nD τ) ↦{kTok 39} fk)
      ∗ (kM.view.loc (c : Thread nD τ) ↦{kTok 40} fk)
      ∗ (kM.view.loc (c : Thread nD τ) ↦{kTok 41} fk)
      ∗ (kM.view.loc (c : Thread nD τ) ↦{kTok 42} fk)
      ∗ (kM.view.loc (c : Thread nD τ) ↦{kTok 43} fk)
      ∗ (kM.view.loc (c : Thread nD τ) ↦{kTok 44} fk)) := by
  refine (Transfers.pointsTo_toks_range (ℓ := kM.view.loc (c : Thread nD τ)) (f := fk) fullShare 45).trans ?_
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44] (by decide) (by decide)]
  exact ⟨.rfl, .rfl⟩

/-- The kernel's body at a grid point: `k` whole, the operand's block, the result's block at anything. -/
theorem bodySpec (c : Dev nD) (i : grid0.Coords) (arg1 : Memref sig .tc .vmem S1x4096x64 .f32) (harg1 : arg1.IsWhole)
   (arg3 : Memref sig .tc .vmem S1x1x4096 .f32) (harg3 : arg3.IsWhole)
   (f1 : Buf (Elt F) (arg1.view.loc (c : Thread nD τ))) (fk : Buf (Elt F) (kM.view.loc (c : Thread nD τ))) (fs : Buf (Elt F) (sM.view.loc (c : Thread nD τ)))
   (f3 : Buf (Elt F) (arg3.view.loc (c : Thread nD τ))) (W : Waits sig Unit) (K : _ → sProp 𝕄) :
   iprop((arg1.view.loc (c : Thread nD τ) ↦[arg1.view.set]{fullShare} f1)
     ∗ (arg3.view.loc (c : Thread nD τ) ↦[arg3.view.set]{fullShare} f3)
     ∗ (sM.view.loc (c : Thread nD τ) ↦{fullShare} fs)
     ∗ semVal ((c : Thread nD τ), SemLoc.dma 4) 0
     ∗ owes (c : Thread nD τ) 0 W
     ∗ (kM.view.loc (c : Thread nD τ) ↦{fullShare} fk)
     ∗ (iprop((arg1.view.loc (c : Thread nD τ) ↦[arg1.view.set]{fullShare} f1)
         ∗ (∃ g, ⌜arg3.view.read (Elt F) g = bodyOut (hd i) (arg1.view.read (Elt F) f1) (kM.view.read (Elt F) fk)⌝
             ∗ (arg3.view.loc (c : Thread nD τ) ↦[arg3.view.set]{fullShare} g))
         ∗ (∃ g, sM.view.loc (c : Thread nD τ) ↦{fullShare} g)
         ∗ semVal ((c : Thread nD τ), SemLoc.dma 4) 0
         ∗ (∃ W', owes (c : Thread nD τ) 0 W')
         ∗ (kM.view.loc (c : Thread nD τ) ↦{fullShare} fk)) -∗ K ⟨⟩))
   ⊢ wp frame (wpE (defs₀ (F := F)) Variants.none c none) Set.univ
       (cc0__score_kernel i arg1 harg1 kM (Memref.isWhole_whole _) arg3 harg3 sM (Memref.isWhole_whole _) cc0_scratch1) K := by
  iintro ⟨H1, H3, HS, Hsem, HO, Hq, Hk⟩
  ihave Hq := (k_split c fk).1 $$ Hq
  icases Hq with ⟨Hd, Hk0, Hk1, Hk2, Hk3, Hk4, Hk5, Hk6, Hk7, Hk8, Hk9, Hk10, Hk11, Hk12, Hk13, Hk14, Hk15, Hk16, Hk17, Hk18, Hk19, Hk20, Hk21, Hk22, Hk23, Hk24, Hk25, Hk26, Hk27, Hk28, Hk29, Hk30, Hk31, Hk32, Hk33, Hk34, Hk35, Hk36, Hk37, Hk38, Hk39, Hk40, Hk41, Hk42, Hk43, Hk44⟩
  iapply (bodyRun c i arg1 harg1 arg3 harg3 f1 fk fs f3 W K trivial)
  isplitl [H1]; · iexact H1
  isplitl [H3]; · iexact H3
  isplitl [HS]; · iexact HS
  isplitl [Hsem]; · iexact Hsem
  isplitl [HO]; · iexact HO
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  isplitl [Hk8]; · iexact Hk8
  isplitl [Hk9]; · iexact Hk9
  isplitl [Hk10]; · iexact Hk10
  isplitl [Hk11]; · iexact Hk11
  isplitl [Hk12]; · iexact Hk12
  isplitl [Hk13]; · iexact Hk13
  isplitl [Hk14]; · iexact Hk14
  isplitl [Hk15]; · iexact Hk15
  isplitl [Hk16]; · iexact Hk16
  isplitl [Hk17]; · iexact Hk17
  isplitl [Hk18]; · iexact Hk18
  isplitl [Hk19]; · iexact Hk19
  isplitl [Hk20]; · iexact Hk20
  isplitl [Hk21]; · iexact Hk21
  isplitl [Hk22]; · iexact Hk22
  isplitl [Hk23]; · iexact Hk23
  isplitl [Hk24]; · iexact Hk24
  isplitl [Hk25]; · iexact Hk25
  isplitl [Hk26]; · iexact Hk26
  isplitl [Hk27]; · iexact Hk27
  isplitl [Hk28]; · iexact Hk28
  isplitl [Hk29]; · iexact Hk29
  isplitl [Hk30]; · iexact Hk30
  isplitl [Hk31]; · iexact Hk31
  isplitl [Hk32]; · iexact Hk32
  isplitl [Hk33]; · iexact Hk33
  isplitl [Hk34]; · iexact Hk34
  isplitl [Hk35]; · iexact Hk35
  isplitl [Hk36]; · iexact Hk36
  isplitl [Hk37]; · iexact Hk37
  isplitl [Hk38]; · iexact Hk38
  isplitl [Hk39]; · iexact Hk39
  isplitl [Hk40]; · iexact Hk40
  isplitl [Hk41]; · iexact Hk41
  isplitl [Hk42]; · iexact Hk42
  isplitl [Hk43]; · iexact Hk43
  isplitl [Hk44]; · iexact Hk44
  iintro ⟨H1, H3, HS, Hsem, HO, Hk0, Hk1, Hk2, Hk3, Hk4, Hk5, Hk6, Hk7, Hk8, Hk9, Hk10, Hk11, Hk12, Hk13, Hk14, Hk15, Hk16, Hk17, Hk18, Hk19, Hk20, Hk21, Hk22, Hk23, Hk24, Hk25, Hk26, Hk27, Hk28, Hk29, Hk30, Hk31, Hk32, Hk33, Hk34, Hk35, Hk36, Hk37, Hk38, Hk39, Hk40, Hk41, Hk42, Hk43, Hk44⟩
  iapply Hk
  isplitl [H1]; · iexact H1
  isplitl [H3]; · iexact H3
  isplitl [HS]; · iexact HS
  isplitl [Hsem]; · iexact Hsem
  isplitl [HO]; · iexact HO
  iapply (k_split c fk).2
  isplitl [Hd]; · iexact Hd
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  isplitl [Hk8]; · iexact Hk8
  isplitl [Hk9]; · iexact Hk9
  isplitl [Hk10]; · iexact Hk10
  isplitl [Hk11]; · iexact Hk11
  isplitl [Hk12]; · iexact Hk12
  isplitl [Hk13]; · iexact Hk13
  isplitl [Hk14]; · iexact Hk14
  isplitl [Hk15]; · iexact Hk15
  isplitl [Hk16]; · iexact Hk16
  isplitl [Hk17]; · iexact Hk17
  isplitl [Hk18]; · iexact Hk18
  isplitl [Hk19]; · iexact Hk19
  isplitl [Hk20]; · iexact Hk20
  isplitl [Hk21]; · iexact Hk21
  isplitl [Hk22]; · iexact Hk22
  isplitl [Hk23]; · iexact Hk23
  isplitl [Hk24]; · iexact Hk24
  isplitl [Hk25]; · iexact Hk25
  isplitl [Hk26]; · iexact Hk26
  isplitl [Hk27]; · iexact Hk27
  isplitl [Hk28]; · iexact Hk28
  isplitl [Hk29]; · iexact Hk29
  isplitl [Hk30]; · iexact Hk30
  isplitl [Hk31]; · iexact Hk31
  isplitl [Hk32]; · iexact Hk32
  isplitl [Hk33]; · iexact Hk33
  isplitl [Hk34]; · iexact Hk34
  isplitl [Hk35]; · iexact Hk35
  isplitl [Hk36]; · iexact Hk36
  isplitl [Hk37]; · iexact Hk37
  isplitl [Hk38]; · iexact Hk38
  isplitl [Hk39]; · iexact Hk39
  isplitl [Hk40]; · iexact Hk40
  isplitl [Hk41]; · iexact Hk41
  isplitl [Hk42]; · iexact Hk42
  isplitl [Hk43]; · iexact Hk43
  iexact Hk44

end Cert.ScoreIdeal.Hand
-- ==== Proof.ScoreIdealFrame.lean ====
module
public import proofs.«01_k».proof.Proof.Gen.ScoreIdeal
public import proofs.«01_k».proof.Proof.Gen.ScoreIdeal.Skeleton
public import proofs.«01_k».proof.Proof.Gen.ScoreIdeal.Points
public import proofs.«01_k».proof.Proof.Gen.ScoreIdeal.Launch
public import proofs.«01_k».proof.Proof.ScoreIdealBody
public import Idealize.ShloMosaic.Lib.Pipeline.FrameBody
public import Idealize.ShloMosaic.Lib.Pipeline.ValueKit
public import Idealize.ShloMosaic.Lib.Batch
public import Idealize.ShloMosaic.Lib.Ring
public import Idealize.ShloMosaic.Lib.Tactic
public import Idealize.ShloMosaic.Lib.Pipeline.Kit
public import Idealize.ShloMosaic.Lib.Pipeline.Frame
public import Idealize.ShloMosaic.Lib.ValueIdxCore
public import Idealize.ShloMosaic.Lib.VecWindow
public import Idealize.ShloMosaic.Lib.Pipeline.Value
@[expose] public section
set_option maxRecDepth 16384
noncomputable section
namespace Cert.ScoreIdeal.Hand
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Cert.ScoreIdeal Cert.ScoreIdeal.Gen
open Idealize.ShloMosaic.ValueIdx
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The launch -/

/-- What the region finds in a buffer: what it was launched with. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The one semaphore the row copies complete on. -/
abbrev osem0 : Fin 1 → SemLoc sig := fun j => (![SemLoc.dma 4] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 4) 0 := by
  rw [Pipeline.ownSems0_eq_of_list c osem0 [0] (by decide) (by decide)]; rfl
/-- The operand the row copies read where it lies: `k`. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (kM.view.loc (c : Thread nD τ) ↦{fullShare} V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop((∃ f, sM.view.loc (c : Thread nD τ) ↦{fullShare} f) ∗ (∃ r, prngReg c r)
          ∗ semVal ((c : Thread nD τ), SemLoc.dma 4) 0
          ∗ (kM.view.loc (c : Thread nD τ) ↦{fullShare} V m c main_arg1)) := by
  rw [Pipeline.ΦD_eq, scopedRest0_eq, ownSems00_eq, hbmPts0_eq]

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves in the result's buffer at point `t`. -/
def outAt (c : Dev nD) (t : Fin cfg0.N) : S1x1x4096.Idx → F .f32 :=
  bodyOut (hd (grid0.coords t)) (iblk m c 0 t) (kM.view.read (Elt F) (V m c main_arg1))

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
abbrev ms0_0 (t : Fin cfg0.N) : Memref sig .tc .vmem S1x4096x64 .f32 := win0_0.stage (cfg0.slots t 0)
abbrev ms0_1 (t : Fin cfg0.N) : Memref sig .tc .vmem S1x1x4096 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1]
  simp only [before0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold owns
  iintro ⟨⟨⟨%fs, HS⟩, Hg, Hsem, Hq⟩, ⟨%W, -, HW⟩, ⟨%d0, %f0, %e0, H0⟩, ⟨%d1, %f1, -, H1⟩⟩
  iapply (bodySpec c (grid0.coords t) (ms0_0 t) (hstage0_0 ((cfg0.slots t 0).cast nbuf0_0)) (ms0_1 t)
    (hstage0_1 ((cfg0.slots t 1).cast nbuf0_1)) f0 (V m c main_arg1) fs f1 W _)
  isplitl [H0]; · iexact H0
  isplitl [H1]; · iexact H1
  isplitl [HS]; · iexact HS
  isplitl [Hsem]; · iexact Hsem
  isplitl [HW]; · iexact HW
  isplitl [Hq]; · iexact Hq
  iintro ⟨H0, ⟨%g, %eg, H1⟩, HS, Hsem, ⟨%W', HW'⟩, Hq⟩
  isplitl [HS Hg Hsem Hq]
  · isplitl [HS]; · iexact HS
    isplitl [Hg]; · iexact Hg
    isplitl [Hsem]; · iexact Hsem
    iexact Hq
  isplitl [HW']
  · iexists W'; isplitr; · ipureintro; exact fun _ _ => Or.inl trivial
    iexact HW'
  isplitl [H0]
  · iexists _; isplitr; swap; · iexact H0
    ipureintro; exact e0
  iexists _; isplitr; swap; · iexact H1
  ipureintro; rw [eg, e0]; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-! ## What the result array holds -/

/-- The whole result: head `h`'s block is `bodyOut`'s of the head's block of `q`. -/
def outArr (Xq Xk : S32x4096x64.Idx → F .f32) : S32x1x4096.Idx → F .f32 :=
  fun j => bodyOut (F := F) (j 0) (fun y => Xq (ValueIdx.ix3 (j 0) (y 1) (y 2))) Xk (ValueIdx.ix3 (0 : Fin 1) (j 1) (j 2))

theorem index0_0 : ∀ t : Fin cfg0.N, win0_0.index t = ![(grid0.coords t 0).val, 0, 0] := by decide +kernel
theorem index0_1 : ∀ t : Fin cfg0.N, win0_1.index t = ![(grid0.coords t 0).val, 0, 0] := by decide +kernel

theorem iblk0_eq (c : Dev nD) (t : Fin cfg0.N) : (iblk m c 0 t : S1x4096x64.Idx → F .f32) = fun y => V m c main_arg0 (ValueIdx.ix3 (hd (grid0.coords t)) (y 1) (y 2)) := by
  funext y
  have hy : (y 0).val < 1 := (y 0).isLt
  blk_simp [iblk]
  refine congrArg (V m c main_arg0) ?_
  funext a
  match a with
  | ⟨0, _⟩ => apply Fin.ext; blk_simp [index0_0]; rfl
  | ⟨1, _⟩ => apply Fin.ext; blk_simp [index0_0]; rfl
  | ⟨2, _⟩ => apply Fin.ext; blk_simp [index0_0]; rfl

/-- Where point `t`'s block of the result lies in the result. -/
theorem emb1_eq (t : Fin cfg0.N) (y : S1x1x4096.Idx) :
    (((cfg0.win 1).blk t).view.emb y : S32x1x4096.Idx) = ValueIdx.ix3 (hd (grid0.coords t)) (y 1) (y 2) := by
  have hy : (y 0).val < 1 := (y 0).isLt
  funext a
  match a with
  | ⟨0, _⟩ => apply Fin.ext; blk_simp [index0_1]; rfl
  | ⟨1, _⟩ => apply Fin.ext; blk_simp [index0_1]
  | ⟨2, _⟩ => apply Fin.ext; blk_simp [index0_1]; rfl

theorem final_out (c : Dev nD) :
    (dats m 0 c).arrAt 1 cfg0.N = outArr (F := F) (V m c main_arg0) (V m c main_arg1) := by
  refine (dats m 0 c).arrAt_eq_of_covers 1 _ (by decide +kernel) fun t hf y => ?_
  refine Eq.trans ?_ (congrArg (outArr (F := F) (V m c main_arg0) (V m c main_arg1)) (emb1_eq t y)).symm
  blk_simp
  rw [after0_1]
  unfold outAt outArr
  rw [iblk0_eq]
  have hy : y = (ValueIdx.ix3 (0 : Fin 1) (y 1) (y 2) : S1x1x4096.Idx) := by
    have hy : (y 0).val < 1 := (y 0).isLt
    funext a
    match a with
    | ⟨0, _⟩ => exact Fin.ext (by show (y 0).val = 0; omega)
    | ⟨1, _⟩ => rfl
    | ⟨2, _⟩ => rfl
  exact congrArg (bodyOut (hd (grid0.coords t)) _ _) hy

/-- The kernel's run: the result array is `outArr` of the arguments, which end unchanged, and every semaphore is back at zero. -/
theorem run : θ_run defs (onTc (τ := τ) (main (F := F))) (s₀ m ρ) (fun r =>
    (∀ c : Dev nD, r.2.mem ((c.tc : Thread nD τ).loc main_v0) = outArr (F := F) (V m c main_arg0) (V m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c =>
    ⟨((h.1 c).1 1).trans (final_out m c),
     ((h.1 c).1 0).trans (((dats m 0 c).arrAt_in 0 rfl _).trans (A_eq m c 0)),
     (h.1 c).2 main_arg1 (Pipeline.mem_restRefs_of main_arg1 (by decide) (by decide))⟩, h.2⟩) (run_main m ρ)

end Cert.ScoreIdeal.Hand
-- ==== Proof.ScoreValue.lean ====
module
public import proofs.«01_k».proof.Proof.ScoreIdealFrame
public import Idealize.ShloMosaic.Lib.Pointwise
@[expose] public section
set_option maxRecDepth 16384
noncomputable section
/-! # The measure of a query row, and what the kernel's score call computes, index by index -/
namespace Cert.ScoreSpec
open Idealize.ShloMosaic

/-- The measure of a query row over the extended reals: its greatest product with the 45 sampled key rows, less the sum of the products over 4096. -/
def rowMeasure (q : Fin 64 → EReal) (S : Fin 45 → Fin 64 → EReal) : EReal :=
  Finset.fold max (Ideal.ofBits .f32 0xFF800000#32) (fun t => ∑ x, q x * S t x) Finset.univ
    - Ideal.div (∑ t, ∑ x, q x * S t x) (Ideal.ofBits .f32 0x45800000#32)
end Cert.ScoreSpec

namespace Cert.ScoreIdeal.Hand
open Idealize.ShloMosaic Idealize.ShloMosaic.TcCoe
open Cert.ScoreIdeal Cert.ScoreIdeal.Gen Cert.ScoreSpec

theorem pay_apply (X : FVec Ideal S1x4096x64 .f32) (S : FVec Ideal S45x64 .f32) (r : Fin 4096) (z z' : Fin 1) :
    k0_pay1 (F := Ideal) X S (ix3 z z' r) = rowMeasure (fun x => X (ix3 0 r x)) (fun t x => S (ix2 t x)) := by
  unfold rowMeasure
  simp only [mul_comm (X _)]
  pointwise [k0_pay1]

/-- The kernel's result: at head `h` and row `r` the measure of row `r` of the head's queries over its sampled keys. -/
theorem outArr_apply (Xq Xk : FVec Ideal S32x4096x64 .f32) (h : Fin 32) (z : Fin 1) (r : Fin 4096) :
    outArr (F := Ideal) Xq Xk (ix3 h z r) = rowMeasure (fun x => Xq (ix3 h r x)) (fun t x => Xk (ix3 h (sampled t) x)) :=
  pay_apply _ _ r 0 z

end Cert.ScoreIdeal.Hand
end
-- ==== Proof.ScoreRefValue.lean ====
module
public import proofs.«01_k».proof.Proof.Gen.ScoreRefIdeal.Run
public import proofs.«01_k».proof.Proof.AttnRefValue
public import proofs.«01_k».proof.Proof.ScoreValue
public import Idealize.ShloMosaic.Lib.Pointwise
public import Idealize.ShloMosaic.Lib.KernelVsHost
public import Idealize.ShloMosaic.Lib.ReduceAll
public import Idealize.ShloMosaic.Lib.Routing.OpsPair
@[expose] public section
set_option maxRecDepth 16384
noncomputable section
/-! # What the reference's measure computes, index by index -/
namespace Cert.ScoreRefIdeal.Hand
open Idealize.ShloMosaic Idealize.ShloMosaic.TcCoe
open Cert.ScoreRefIdeal Cert.ScoreRefIdeal.Gen Cert.ScoreSpec

/-- The sampled row numbers, as the reference lays them out for its gather. -/
def words : IVec S45x1 32 :=
  broadcastInDim S45x1 ![0] bcast_S45_S45x1_0 (select (cmpi .slt ((fun i => lit0 (S45.rowMajor i))) (broadcastInDim S45 ![] bcast_S_S45 (constantI S_ 32 0#32))) (addi ((fun i => lit0 (S45.rowMajor i))) (broadcastInDim S45 ![] bcast_S_S45 (constantI S_ 32 4096#32))) ((fun i => lit0 (S45.rowMajor i))))

/-- Which of the words lie inside the array. -/
def inside : IVec S45 1 :=
  Host.reduce IntOp.andi (andi (cmpi .sge words (broadcastInDim S45x1 ![] bcast_S_S45x1 (constantI S_ 32 0#32))) (cmpi .sle words (broadcastInDim S45x1 ![0, 1] bcast_S1x1_S45x1_0_1 (broadcastInDim S1x1 ![1] bcast_S1_S1x1_1 (constantI S1 32 4095#32))))) (constantI S_ 1 1#1) reducesTo_S45x1_S45_d1 h_S_

/-- The rows the words name. -/
def gathered (Xk : FVec Ideal S32x4096x64 .f32) : FVec Ideal S32x45x64 .f32 :=
  Host.gather gather_S32x4096x64_S45x1_S32x45x64_02_1_n_n_1_1_32164 Xk words

/-- The sampled rows of `k`. -/
def taken (Xk : FVec Ideal S32x4096x64 .f32) : FVec Ideal S32x45x64 .f32 :=
  select (broadcastInDim S32x45x64 ![1] bcast_S45_S32x45x64_1 inside) (gathered Xk) (broadcastInDim S32x45x64 ![] bcast_S_S32x45x64 (constant S_ .f32 0x7FC00000#32))

/-- The products of the queries with the sampled keys. -/
def products (Xq : FVec Ideal S32x4096x64 .f32) (T : FVec Ideal S32x45x64 .f32) : FVec Ideal S32x4096x45 .f32 :=
  Host.dotGeneral dot_S32x4096x64_S32x45x64_S32x4096x45_2_2_1_1_0_0 none Xq T

/-- The greatest of each row of products. -/
def tops (P : FVec Ideal S32x4096x45 .f32) : FVec Ideal S32x4096 .f32 :=
  Host.reduce FloatOps.maximumf P (constant S_ .f32 0xFF800000#32) reducesTo_S32x4096x45_S32x4096_d2 h_S_

/-- The sum of each row of products over 4096. -/
def means (P : FVec Ideal S32x4096x45 .f32) : FVec Ideal S32x4096 .f32 :=
  Host.divf (Host.reduceAdd P (constant S_ .f32 0x00000000#32) reducesTo_S32x4096x45_S32x4096_d2 h_S_) (broadcastInDim S32x4096 ![] bcast_S_S32x4096 (constant S_ .f32 0x45800000#32))

def less (A B : FVec Ideal S32x4096 .f32) : FVec Ideal S32x1x4096 .f32 :=
  shapeCast _ (subf A B) shapeCasts_S32x4096_S32x1x4096

/-- The reference's result. -/
def refOut (Xq Xk : FVec Ideal S32x4096x64 .f32) : FVec Ideal S32x1x4096 .f32 :=
  less (tops (products Xq (taken Xk))) (means (products Xq (taken Xk)))

/-! ## The sampled rows -/

theorem wrapped : ∀ t : Fin 45, Scalar.select (IntOp.cmpi .slt (lit0 t) 0#32) (IntOp.addi (lit0 t) 4096#32) (lit0 t) = BitVec.ofNat 32 (ScoreIdeal.Hand.sampled t).val := by
  decide

theorem words_apply (t : Fin 45) (z : Fin 1) : words (ix2 t z) = BitVec.ofNat 32 (ScoreIdeal.Hand.sampled t).val := by
  have e : words (ix2 t z) = Scalar.select (IntOp.cmpi .slt (lit0 (S45.rowMajor (ix1 t))) 0#32) (IntOp.addi (lit0 (S45.rowMajor (ix1 t))) 4096#32) (lit0 (S45.rowMajor (ix1 t))) := by
    pointwise [words]
  have hr : S45.rowMajor (ix1 t) = t := Fin.ext (Shape.rowMajor_val_one _)
  rw [e, hr]
  exact wrapped t

theorem bounds_apply (W : IVec S45x1 32) (t : Fin 45) (z : Fin 1) :
    andi (cmpi .sge W (broadcastInDim S45x1 ![] bcast_S_S45x1 (constantI S_ 32 0#32))) (cmpi .sle W (broadcastInDim S45x1 ![0, 1] bcast_S1x1_S45x1_0_1 (broadcastInDim S1x1 ![1] bcast_S1_S1x1_1 (constantI S1 32 4095#32)))) (ix2 t z)
      = IntOp.andi (IntOp.cmpi .sge (W (ix2 t z)) 0#32) (IntOp.cmpi .sle (W (ix2 t z)) 4095#32) := by
  pointwise

theorem inside_apply (t : Fin 45) : inside (ix1 t) = 1#1 := by
  unfold inside
  refine Host.reduce_andi_one _ _ _ _ _ rfl fun i => ?_
  idx_vars i
  rw [bounds_apply, words_apply]
  revert i0
  decide

theorem gather_word (h : Fin 32) (t : Fin 45) (x : Fin 64) :
    GatherDims.siIdx gather_S32x4096x64_S45x1_S32x45x64_02_1_n_n_1_1_32164 (ix3 h t x) ⟨0, by decide⟩ = ix2 t (0 : Fin 1) := by
  funext b
  match b with
  | ⟨0, _⟩ => rfl
  | ⟨1, _⟩ => rfl

theorem gathered_apply (Xk : FVec Ideal S32x4096x64 .f32) (h : Fin 32) (t : Fin 45) (x : Fin 64) :
    gathered Xk (ix3 h t x) = Xk (ix3 h (ScoreIdeal.Hand.sampled t) x) := by
  have e := words_apply t 0
  unfold gathered
  generalize words = W at e
  unfold Host.gather
  refine congrArg Xk (funext fun a => Fin.ext ?_)
  show GatherDims.start _ _ _ _ + GatherDims.batchCoord _ _ _ + GatherDims.offCoord _ _ _ = _
  have hlt := (ScoreIdeal.Hand.sampled t).isLt
  match a with
  | ⟨0, _⟩ =>
    have hs : GatherDims.start gather_S32x4096x64_S45x1_S32x45x64_02_1_n_n_1_1_32164 (ix3 h t x) W ⟨0, by decide⟩ = 0 := rfl
    have hb : GatherDims.batchCoord gather_S32x4096x64_S45x1_S32x45x64_02_1_n_n_1_1_32164 (ix3 h t x) ⟨0, by decide⟩ = 0 := rfl
    have ho : GatherDims.offCoord gather_S32x4096x64_S45x1_S32x45x64_02_1_n_n_1_1_32164 (ix3 h t x) ⟨0, by decide⟩ = h.val := rfl
    rw [hs, hb, ho]
    show _ = h.val
    omega
  | ⟨1, _⟩ =>
    have hs : GatherDims.start gather_S32x4096x64_S45x1_S32x45x64_02_1_n_n_1_1_32164 (ix3 h t x) W ⟨1, by decide⟩
        = min (W (ix2 t (0 : Fin 1))).toInt.toNat 4095 := by
      rw [← gather_word h t x]; rfl
    have hb : GatherDims.batchCoord gather_S32x4096x64_S45x1_S32x45x64_02_1_n_n_1_1_32164 (ix3 h t x) ⟨1, by decide⟩ = 0 := rfl
    have ho : GatherDims.offCoord gather_S32x4096x64_S45x1_S32x45x64_02_1_n_n_1_1_32164 (ix3 h t x) ⟨1, by decide⟩ = 0 := rfl
    rw [hs, hb, ho, e, AttnRefIdeal.Hand.toInt_of_lt _ (by rw [BitVec.toNat_ofNat]; omega), BitVec.toNat_ofNat]
    show _ = (ScoreIdeal.Hand.sampled t).val
    omega
  | ⟨2, _⟩ =>
    have hs : GatherDims.start gather_S32x4096x64_S45x1_S32x45x64_02_1_n_n_1_1_32164 (ix3 h t x) W ⟨2, by decide⟩ = 0 := rfl
    have hb : GatherDims.batchCoord gather_S32x4096x64_S45x1_S32x45x64_02_1_n_n_1_1_32164 (ix3 h t x) ⟨2, by decide⟩ = 0 := rfl
    have ho : GatherDims.offCoord gather_S32x4096x64_S45x1_S32x45x64_02_1_n_n_1_1_32164 (ix3 h t x) ⟨2, by decide⟩ = x.val := rfl
    rw [hs, hb, ho]
    show _ = x.val
    omega

theorem pickWhere_apply (M : IVec S45 1) (A B : FVec Ideal S32x45x64 .f32) (h : Fin 32) (t : Fin 45) (x : Fin 64) (hM : M (ix1 t) = 1#1) :
    select (broadcastInDim S32x45x64 ![1] bcast_S45_S32x45x64_1 M) A B (ix3 h t x) = A (ix3 h t x) := by
  have e : broadcastInDim S32x45x64 ![1] bcast_S45_S32x45x64_1 M (ix3 h t x) = M (ix1 t) := by pointwise
  show (if broadcastInDim S32x45x64 ![1] bcast_S45_S32x45x64_1 M (ix3 h t x) = 1#1 then A (ix3 h t x) else B (ix3 h t x)) = _
  rw [e, if_pos hM]

theorem taken_apply (Xk : FVec Ideal S32x4096x64 .f32) (h : Fin 32) (t : Fin 45) (x : Fin 64) :
    taken Xk (ix3 h t x) = Xk (ix3 h (ScoreIdeal.Hand.sampled t) x) :=
  (pickWhere_apply _ _ _ h t x (inside_apply t)).trans (gathered_apply Xk h t x)

/-! ## Products, maxima and sums -/

theorem products_apply (Xq : FVec Ideal S32x4096x64 .f32) (T : FVec Ideal S32x45x64 .f32) (h : Fin 32) (r : Fin 4096) (t : Fin 45) :
    products Xq T (ix3 h r t) = ∑ x, Xq (ix3 h r x) * T (ix3 h t x) := by
  pointwise [products]

theorem reduces_products : S32x4096x45.Reduces [2] S32x4096 := by decide

theorem tops_apply (P : FVec Ideal S32x4096x45 .f32) (h : Fin 32) (r : Fin 4096) :
    tops P (ix2 h r) = Finset.fold max (Ideal.ofBits .f32 0xFF800000#32) (fun t => P (ix3 h r t)) Finset.univ :=
  AttnRefIdeal.Hand.hostMax_last P _ reduces_products h r

theorem means_apply (P : FVec Ideal S32x4096x45 .f32) (h : Fin 32) (r : Fin 4096) :
    means P (ix2 h r) = Ideal.div (∑ t, P (ix3 h r t)) (Ideal.ofBits .f32 0x45800000#32) := by
  pointwise [means]

theorem less_apply (A B : FVec Ideal S32x4096 .f32) (h : Fin 32) (z : Fin 1) (r : Fin 4096) :
    less A B (ix3 h z r) = A (ix2 h r) - B (ix2 h r) := by
  pointwise [less]

/-- The reference's result: at head `h` and row `r` the measure of row `r` of the head's queries over its sampled keys. -/
theorem refOut_apply (Xq Xk : FVec Ideal S32x4096x64 .f32) (h : Fin 32) (z : Fin 1) (r : Fin 4096) :
    refOut Xq Xk (ix3 h z r) = rowMeasure (fun x => Xq (ix3 h r x)) (fun t x => Xk (ix3 h (ScoreIdeal.Hand.sampled t) x)) := by
  unfold refOut
  rw [less_apply, tops_apply, means_apply]
  simp only [products_apply, taken_apply]
  rfl

/-- The kernel's result and the reference's are one function. -/
theorem out_eq (Xq Xk : FVec Ideal S32x4096x64 .f32) : refOut Xq Xk = ScoreIdeal.Hand.outArr (F := Ideal) Xq Xk := by
  funext j
  idx_vars j
  exact (refOut_apply Xq Xk j0 j1 j2).trans (ScoreIdeal.Hand.outArr_apply Xq Xk j0 j1 j2).symm

end Cert.ScoreRefIdeal.Hand
end
-- ==== Proof.TopKIdealBody.lean ====
module
public import proofs.«01_k».proof.Proof.Gen.TopKIdeal
public import proofs.«01_k».proof.Proof.Gen.TopKIdeal.Skeleton
public import Idealize.ShloMosaic.Lib.Exec
public import Idealize.ShloMosaic.Lib.Ring
public import Idealize.ShloMosaic.Lib.Tactic
public import Idealize.ShloMosaic.Lib.VecWindow
public import Idealize.ShloMosaic.Lib.Pipeline.Kit
public import Idealize.ShloMosaic.Lib.Pipeline.Frame
@[expose] public section
set_option maxRecDepth 16384
noncomputable section
/-! # The kernel's top-k call: what its loop carries and what it leaves -/
namespace Cert.TopKIdeal.Hand
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Idealize.ShloMosaic.Rounds
open Cert.TopKIdeal Cert.TopKIdeal.Gen

variable {F : FTy → Type} [FloatOps F]
local notation "𝕄" => MT nD τ sig Unit (Elt F) ℕ (UR sig nD τ) ℕ

/-- The scratch before turn `k`, from `Y`: the entries of the turns before it lowered. -/
def scAt (Y : Vec F S32x4096 .f32) : ℕ → Vec F S32x4096 .f32
  | 0 => Y
  | k + 1 => k0_pay4 (scAt Y k)

/-- The numbers gathered before turn `k`. -/
def accAt (Y : Vec F S32x4096 .f32) : ℕ → IVec S32x64 32
  | 0 => k0_pay2
  | k + 1 => if h : k < k0_t1_loop.trips then k0_pay5 ⟨k, h⟩ (accAt Y k) (scAt Y k) else accAt Y k

theorem trips_eq : Scf.trips k0_t1_loop.lb k0_t1_loop.ub k0_t1_loop.st = 45 := by decide +kernel

theorem accAt_succ (Y : Vec F S32x4096 .f32) (k : Fin k0_t1_loop.trips) :
    accAt Y (k.val + 1) = k0_pay5 k (accAt Y k.val) (scAt Y k.val) := by
  rw [accAt]; exact dif_pos k.isLt

/-- The scratch's buffer before turn `k`, from `g`. -/
def bufAt (arg2 : Memref sig .tc .vmem S32x4096 .f32) (g : arg2.view.ty.Contents (Elt F)) : ℕ → arg2.view.ty.Contents (Elt F)
  | 0 => g
  | k + 1 => arg2.view.writes (Elt F) (bufAt arg2 g k)
      [⟨Rect.unit (s := S32x4096) ![0, 0] S32x4096.size inb_S32x4096_S32x4096_0_0, k0_pay4 (arg2.view.read (Elt F) (bufAt arg2 g k))⟩]

theorem bufAt_read (arg2 : Memref sig .tc .vmem S32x4096 .f32) (g : arg2.view.ty.Contents (Elt F)) :
    ∀ k, arg2.view.read (Elt F) (bufAt arg2 g k) = scAt (arg2.view.read (Elt F) g) k
  | 0 => rfl
  | k + 1 => by
    refine (View.read_writes_full (L := []) _ _ inb_S32x4096_S32x4096_0_0 _).trans ?_
    rw [bufAt_read arg2 g k]; rfl

set_option warn.classDefReducibility false in
set_option maxHeartbeats 4000000 in
@[sl_loop] def loopInv (c : Dev nD) (arg0 : Memref sig .tc .vmem S32x1x4096 .f32) (harg0 : arg0.IsWhole) (arg1 : Memref sig .tc .vmem S32x64 .i32) (harg1 : arg1.IsWhole)
    (arg2 : Memref sig .tc .vmem S32x4096 .f32) (harg2 : arg2.IsWhole) (g : Buf (Elt F) (arg2.view.loc (c : Thread nD τ))) :
    Idealize.ShloMosaic.LoopInv (M := 𝕄) Idealize.ShloMosaic.frame (wpE (defs₀ (F := F)) Variants.none (c : Thread nD τ) none) Set.univ
      k0_t1_loop.lb k0_t1_loop.ub k0_t1_loop.st k0_t1_ok k0_pay2 (k0_t1_body (F := F) arg0 harg0 arg1 harg1 arg2 harg2) where
  inv k acc := iprop((arg2.view.loc (c : Thread nD τ) ↦[arg2.view.set]{fullShare} bufAt arg2 g k) ∗ ⌜acc = accAt (arg2.view.read (Elt F) g) k⌝)
  step k acc := by
    have e2 : accAt (arg2.view.read (Elt F) g) (k.val + 1)
        = k0_pay5 k (accAt (arg2.view.read (Elt F) g) k.val) (arg2.view.read (Elt F) (bufAt arg2 g k.val)) := by
      rw [bufAt_read]; exact accAt_succ _ k
    rw [bufAt, e2]
    iintro ⟨H2, %ea⟩
    unfold k0_t1_body
    sl_exec
    sl_step
    rw [View.readAt_full arg2.view (bufAt arg2 g k.val) inb_S32x4096_S32x4096_0_0]
    isplitl [H2]; · iexact H2
    ipureintro
    rw [ea]

set_option maxHeartbeats 4000000 in
/-- The kernel's body: the measures' buffer, the result's and the scratch at anything; the result is what the loop's turns gather. -/
theorem bodySpec (c : Dev nD) (arg0 : Memref sig .tc .vmem S32x1x4096 .f32) (harg0 : arg0.IsWhole) (arg1 : Memref sig .tc .vmem S32x64 .i32) (harg1 : arg1.IsWhole)
    (arg2 : Memref sig .tc .vmem S32x4096 .f32) (harg2 : arg2.IsWhole)
    (f0 : Buf (Elt F) (arg0.view.loc (c : Thread nD τ))) (f1 : Buf (Elt F) (arg1.view.loc (c : Thread nD τ))) (f2 : Buf (Elt F) (arg2.view.loc (c : Thread nD τ)))
    (K : _ → sProp 𝕄) :
    iprop((arg0.view.loc (c : Thread nD τ) ↦[arg0.view.set]{fullShare} f0)
      ∗ (arg1.view.loc (c : Thread nD τ) ↦[arg1.view.set]{fullShare} f1)
      ∗ (arg2.view.loc (c : Thread nD τ) ↦[arg2.view.set]{fullShare} f2)
      ∗ (iprop((arg0.view.loc (c : Thread nD τ) ↦[arg0.view.set]{fullShare} f0)
          ∗ (∃ g, ⌜arg1.view.read (Elt F) g = accAt (k0_pay1 (arg0.view.read (Elt F) f0)) 45⌝ ∗ (arg1.view.loc (c : Thread nD τ) ↦[arg1.view.set]{fullShare} g))
          ∗ (∃ g, arg2.view.loc (c : Thread nD τ) ↦[arg2.view.set]{fullShare} g)) -∗ K ⟨⟩))
    ⊢ wp frame (wpE (defs₀ (F := F)) Variants.none c none) Set.univ (cc0__topk_kernel arg0 harg0 arg1 harg1 arg2 harg2) K := by
  iintro ⟨H0, H1, H2, Hk⟩
  rw [cc0__topk_kernel_eq_skeleton]; unfold cc0__topk_kernel_skel
  sl_exec
  sl_step
  iapply Hk
  isplitl [H0]; · iexact H0
  isplitl [H1]
  · iexists _; isplitr; swap; · iexact H1
    ipureintro
    refine (View.read_writes_full (L := []) _ _ inb_S32x64_S32x64_0_0 _).trans ?_
    refine congr (congrArg accAt ?_) trips_eq
    refine (View.read_writes_full (L := []) arg2.view _ inb_S32x4096_S32x4096_0_0 _).trans ?_
    rw [View.readAt_full arg0.view f0 inb_S32x1x4096_S32x1x4096_0_0_0]
  iexists _; iexact H2

end Cert.TopKIdeal.Hand
-- ==== Proof.TopKIdealFrame.lean ====
module
public import proofs.«01_k».proof.Proof.Gen.TopKIdeal.Frame.Runs
public import proofs.«01_k».proof.Proof.TopKIdealBody
public import Idealize.ShloMosaic.Lib.Pipeline.ValueKit
public import Idealize.ShloMosaic.Lib.Pipeline.Value
@[expose] public section
set_option maxRecDepth 16384
noncomputable section
/-! # The kernel's top-k call, launched -/
namespace Cert.TopKIdeal.Hand
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Idealize.ShloMosaic.Rounds
open Cert.TopKIdeal Cert.TopKIdeal.Gen
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The whole result, of the measures. -/
def outArr (X : Vec F S32x1x4096 .f32) : IVec S32x64 32 := accAt (k0_pay1 X) 45

/-- The proof data of the one pipeline. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => outArr (iblk m c 0 t)
  Φ _ := Pipeline.ΦA spec0 c
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outArr (iblk m c 0 t) := by dsimp only [dats]
theorem before0_0 (c : Dev nD) (t : Fin cfg0.N) (d) : (dats m 0 c).before 0 t d = iblk m c 0 t :=
  before0_0_of m (dats m 0 c) (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0, after0_1]
  rw [show (dats m 0 c).Φ t.castSucc = Pipeline.ΦA spec0 c from rfl, PhiA0_eq]
  unfold owns
  iintro ⟨⟨⟨%ds, %fs, -, HS⟩, Hg⟩, Ho, ⟨%d0, %f0, %e0, H0⟩, ⟨%d1, %f1, -, H1⟩⟩
  iapply (bodySpec c (ms0_0 t) (hs0_0 t) (ms0_1 t) (hs0_1 t) scM0_0 (Memref.isWhole_whole _) f0 f1 fs _)
  isplitl [H0]; · iexact H0
  isplitl [H1]; · iexact H1
  isplitl [HS]; · iexact HS
  iintro ⟨H0, ⟨%g, %eg, H1⟩, ⟨%gs, HS⟩⟩
  isplitl [HS Hg]
  · isplitl [HS]
    · iexists _; iexists _; isplitr; swap; · iexact HS
      ipureintro; rfl
    iexact Hg
  isplitl [Ho]; · iexact Ho
  isplitl [H0]
  · iexists _; isplitr; swap; · iexact H0
    ipureintro; exact e0
  iexists _; isplitr; swap; · iexact H1
  ipureintro; rw [eg, e0]; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => (Pipeline.FramePost cfgs (dats m) 0 (Gen.V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := Gen.V m) (hmain := hmain m Variants.none) (hA := A_eq m) (hΦ := fun _ _ => rfl)

/-! ## What the result array holds -/

theorem index0_0 : ∀ t : Fin cfg0.N, win0_0.index t = ![0, 0, 0] := by decide +kernel
theorem index0_1 : ∀ t : Fin cfg0.N, win0_1.index t = ![0, 0] := by decide +kernel

theorem iblk0_eq (c : Dev nD) (t : Fin cfg0.N) : (iblk m c 0 t : S32x1x4096.Idx → F .f32) = m ((c : Thread nD τ).loc main_arg0) := by
  funext y
  blk_simp [iblk]
  refine congrArg (Gen.V m c main_arg0) ?_
  funext a
  match a with
  | ⟨0, _⟩ => apply Fin.ext; blk_simp [index0_0]
  | ⟨1, _⟩ => apply Fin.ext; blk_simp [index0_0]
  | ⟨2, _⟩ => apply Fin.ext; blk_simp [index0_0]

theorem emb1_eq (t : Fin cfg0.N) (y : S32x64.Idx) : (((cfg0.win 1).blk t).view.emb y : S32x64.Idx) = y := by
  funext a
  match a with
  | ⟨0, _⟩ => apply Fin.ext; blk_simp [index0_1]
  | ⟨1, _⟩ => apply Fin.ext; blk_simp [index0_1]

theorem final_out (c : Dev nD) :
    (dats m 0 c).arrAt 1 cfg0.N = outArr (F := F) (m ((c : Thread nD τ).loc main_arg0)) := by
  refine (dats m 0 c).arrAt_eq_of_covers 1 _ (by decide +kernel) fun t hf y => ?_
  refine Eq.trans ?_ (congrArg (outArr (F := F) (m ((c : Thread nD τ).loc main_arg0))) (emb1_eq t y)).symm
  blk_simp
  rw [after0_1, iblk0_eq]

/-- The kernel's run: the result array is `outArr` of the measures, which end unchanged, and every semaphore is back at zero. -/
theorem run : θ_run defs (onTc (τ := τ) (main (F := F))) (s₀ m ρ) (fun r =>
    (∀ c : Dev nD, r.2.mem ((c.tc : Thread nD τ).loc main_v0) = outArr (F := F) (m ((c.tc : Thread nD τ).loc main_arg0))
      ∧ r.2.mem ((c.tc : Thread nD τ).loc main_arg0) = m ((c.tc : Thread nD τ).loc main_arg0))
    ∧ r.2.sem = fun _ => 0) :=
  (θ_run defs _ _).mono (fun r h => ⟨fun c =>
    ⟨((h.1 c).1 1).trans (final_out m c),
     ((h.1 c).1 0).trans (((dats m 0 c).arrAt_in 0 rfl _).trans (A_eq m c 0))⟩, h.2⟩) (run_main m ρ)

end Cert.TopKIdeal.Hand
-- ==== Proof.TopKPick.lean ====
module
public import Idealize.ShloMosaic.Lib.SortPrefix
public import Idealize.ShloMosaic.PureOps.Ideal
@[expose] public section
noncomputable section
/-! # Taking the greatest entry again and again is sorting

A row of numbers, the first place of its greatest entry taken, that entry lowered to the bottom, and so on: the places taken
in turn are the first places of the row sorted downward, equal entries in order of place. -/
namespace Cert.TopKSpec
open Idealize.ShloMosaic

section Pick
variable {n : ℕ} [NeZero n]

/-- Place `l` is the first that holds the greatest entry. -/
def IsFirst (x : Fin n → EReal) (l : Fin n) : Prop := (∀ p, x p ≤ x l) ∧ ∀ p, p < l → x p < x l

theorem exists_first (x : Fin n → EReal) : ∃ l, IsFirst x l := by
  classical
  obtain ⟨g, -, hg⟩ := Finset.exists_max_image (Finset.univ : Finset (Fin n)) x ⟨0, Finset.mem_univ _⟩
  have hne : (Finset.univ.filter fun l => x l = x g).Nonempty := ⟨g, by simp⟩
  refine ⟨(Finset.univ.filter fun l => x l = x g).min' hne, ?_⟩
  have hm := (Finset.mem_filter.1 (Finset.min'_mem _ hne)).2
  refine ⟨fun p => by rw [hm]; exact hg p (Finset.mem_univ _), fun p hp => ?_⟩
  rw [hm]
  refine lt_of_le_of_ne (hg p (Finset.mem_univ _)) fun e => ?_
  exact absurd (Finset.min'_le _ p (Finset.mem_filter.2 ⟨Finset.mem_univ _, e⟩)) (not_le.2 hp)

theorem IsFirst.eq {x : Fin n → EReal} {a b : Fin n} (ha : IsFirst x a) (hb : IsFirst x b) : a = b := by
  rcases lt_trichotomy a b with h | h | h
  · exact absurd (ha.1 b) (not_le.2 (hb.2 a h))
  · exact h
  · exact absurd (hb.1 a) (not_le.2 (ha.2 b h))

/-- The first place of the greatest entry. -/
def firstMax (x : Fin n → EReal) : Fin n := Classical.choose (exists_first x)
theorem firstMax_isFirst (x : Fin n → EReal) : IsFirst x (firstMax x) := Classical.choose_spec (exists_first x)

/-- The row with its first greatest entry lowered to the bottom. -/
def lower (x : Fin n → EReal) : Fin n → EReal := fun l => if l = firstMax x then ⊥ else x l

/-- The row after `t` entries are lowered. -/
def rest (x : Fin n → EReal) (t : ℕ) : Fin n → EReal := lower^[t] x

theorem rest_succ (x : Fin n → EReal) (t : ℕ) : rest x (t + 1) = lower (rest x t) := Function.iterate_succ_apply' _ _ _

/-- The place taken at turn `t`. -/
def pick (x : Fin n → EReal) (t : ℕ) : Fin n := firstMax (rest x t)

theorem rest_eq (x : Fin n → EReal) (t : ℕ) (l : Fin n) : ((∃ s < t, pick x s = l) ∧ rest x t l = ⊥) ∨ ((∀ s < t, pick x s ≠ l) ∧ rest x t l = x l) := by
  induction t with
  | zero => exact Or.inr ⟨fun s hs => absurd hs (Nat.not_lt_zero _), rfl⟩
  | succ t ih =>
    rw [rest_succ]
    unfold lower
    by_cases hl : l = firstMax (rest x t)
    · rw [if_pos hl]
      exact Or.inl ⟨⟨t, Nat.lt_succ_self t, hl.symm⟩, rfl⟩
    · rw [if_neg hl]
      rcases ih with ⟨⟨s, hs, e⟩, h⟩ | ⟨hn, h⟩
      · exact Or.inl ⟨⟨s, by omega, e⟩, h⟩
      · refine Or.inr ⟨fun s hs e => ?_, h⟩
        rcases Nat.lt_succ_iff_lt_or_eq.1 hs with h' | rfl
        · exact hn s h' e
        · exact hl e.symm

variable {x : Fin n → EReal} (hx : ∀ l, ⊥ < x l)
include hx

/-- While turns are fewer than places, each takes a new place. -/
theorem pick_new {t : ℕ} (ht : t < n) : ∀ s < t, pick x s ≠ pick x t := by
  classical
  obtain ⟨l, hl⟩ : ∃ l, l ∉ (Finset.range t).image (pick x) := by
    by_contra h
    have hle : (Finset.univ : Finset (Fin n)).card ≤ ((Finset.range t).image (pick x)).card :=
      Finset.card_le_card fun l _ => by by_contra hl; exact h ⟨l, hl⟩
    have := hle.trans Finset.card_image_le
    rw [Finset.card_univ, Fintype.card_fin, Finset.card_range] at this
    omega
  have hl' : rest x t l = x l := by
    rcases rest_eq x t l with ⟨⟨s, hs, e⟩, -⟩ | ⟨-, h⟩
    · exact absurd (Finset.mem_image.2 ⟨s, Finset.mem_range.2 hs, e⟩) hl
    · exact h
  rcases rest_eq x t (pick x t) with ⟨-, h⟩ | ⟨h, -⟩
  · have h1 := (firstMax_isFirst (rest x t)).1 l
    rw [hl'] at h1
    have h2 : rest x t (firstMax (rest x t)) = ⊥ := h
    rw [h2] at h1
    exact absurd (hx l) (not_lt.2 h1)
  · exact h

theorem pick_rest {t : ℕ} (ht : t < n) : rest x t (pick x t) = x (pick x t) := by
  rcases rest_eq x t (pick x t) with ⟨⟨s, hs, e⟩, -⟩ | ⟨-, h⟩
  · exact absurd e (pick_new hx ht s hs)
  · exact h

/-- Equal entries in order of place, greater entries first. -/
def before (x : Fin n → EReal) (k k' : Fin n) : Bool := decide (x k' < x k) || (decide (x k = x k') && decide (k < k'))

/-- A place not yet taken does not come before the one taken. -/
theorem pick_first {t : ℕ} (ht : t < n) (p : Fin n) (hp : ∀ s < t, pick x s ≠ p) : before x p (pick x t) = false := by
  have hr : rest x t p = x p := by
    rcases rest_eq x t p with ⟨⟨s, hs, e⟩, -⟩ | ⟨-, h⟩
    · exact absurd e (hp s hs)
    · exact h
  have h1 : x p ≤ x (pick x t) := by
    rw [← hr, ← pick_rest hx ht]; exact (firstMax_isFirst (rest x t)).1 p
  have h2 : p < pick x t → x p < x (pick x t) := fun h => by
    rw [← hr, ← pick_rest hx ht]; exact (firstMax_isFirst (rest x t)).2 p h
  unfold before
  simp only [Bool.or_eq_false_iff, Bool.and_eq_false_iff, decide_eq_false_iff_not]
  refine ⟨not_lt.2 h1, ?_⟩
  by_cases h : p < pick x t
  · exact Or.inl (ne_of_lt (h2 h))
  · exact Or.inr h
end Pick

/-! ## The sort -/

/-- Two relations that agree on a later element against an earlier one sort a list alike. -/
theorem stableSort_congr_later {ι : Type} (R R' : ι → ι → Bool) : ∀ l : List ι, l.Pairwise (fun a b => R b a = R' b a) → stableSort R l = stableSort R' l
  | [], _ => rfl
  | a :: l, h => by
    obtain ⟨ha, hl⟩ := List.pairwise_cons.1 h
    unfold stableSort
    rw [stableSort_congr_later R R' l hl]
    exact insertBefore_congr R R' a _ fun b hb => ha b ((perm_stableSort R' l).mem_iff.1 hb)

theorem before_order {n : ℕ} [NeZero n] (x : Fin n → EReal) : StrictTotalBefore (before x) := by
  have := StrictTotalBefore.of_key_then_position (fun a b : EReal => decide (b < a)) x (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  refine cast (congrArg StrictTotalBefore (funext fun k => funext fun k' => ?_)) this
  unfold before
  congr

/-- The places a downward sort of the row takes its first entries from are the places taken in turn. -/
theorem sortedFrom_eq_pick {n : ℕ} [NeZero n] {x : Fin n → EReal} (hx : ∀ l, ⊥ < x l) {k : ℕ} (hk : k ≤ n) (i : Fin k) :
    sortedFrom (fun a b => decide (x b < x a)) (i.castLE hk) = pick x i.val := by
  have e : sortPositions n (fun a b => decide (x b < x a)) = sortPositions n (before x) := by
    refine stableSort_congr_later _ _ _ ((List.pairwise_lt_finRange n).imp fun {a b} hab => ?_)
    unfold before
    rw [decide_eq_false (not_lt.2 hab.le), Bool.and_false, Bool.or_false]
  have e2 : sortedFrom (fun a b => decide (x b < x a)) (i.castLE hk) = sortedFrom (before x) (i.castLE hk) := by
    unfold sortedFrom
    rw [List.get_of_eq e]
    rfl
  rw [e2]
  refine (before_order x).sortedFrom_eq_of_prefix hk (fun t => pick x t.val) (fun a b hab => ?_) (fun a b hab => ?_) (fun a p hp => ?_) i
  · rcases lt_trichotomy a b with h | h | h
    · exact absurd hab (pick_new hx (b.isLt.trans_le hk) _ h)
    · exact h
    · exact absurd hab.symm (pick_new hx (a.isLt.trans_le hk) _ h)
  · exact pick_first hx (a.isLt.trans_le hk) _ fun s hs => pick_new hx (b.isLt.trans_le hk) s (hs.trans hab)
  · exact pick_first hx (a.isLt.trans_le hk) _ fun s hs => hp ⟨s, hs.trans a.isLt⟩

end Cert.TopKSpec
end
-- ==== Proof.TopKValue.lean ====
module
public import proofs.«01_k».proof.Proof.TopKIdealFrame
public import proofs.«01_k».proof.Proof.TopKPick
public import Idealize.ShloMosaic.Lib.Pointwise
@[expose] public section
set_option maxRecDepth 16384
noncomputable section
/-! # What the kernel's top-k call computes, index by index -/
namespace Cert.TopKIdeal.Hand
open Idealize.ShloMosaic Idealize.ShloMosaic.TcCoe
open Cert.TopKIdeal Cert.TopKIdeal.Gen Cert.TopKSpec

theorem bottom : Ideal.ofBits .f32 0xFF800000#32 = ⊥ := by simp [Ideal.ofBits, Ideal.ieee]

/-- The fold of the maximum over a row is the entry at the first place of its greatest. -/
theorem fold_max_eq {n : ℕ} [NeZero n] (x : Fin n → EReal) :
    Finset.fold max (Ideal.ofBits .f32 0xFF800000#32) x Finset.univ = x (firstMax x) := by
  rw [bottom]
  refine le_antisymm ((Finset.fold_max_le _).2 ⟨bot_le, fun p _ => (firstMax_isFirst x).1 p⟩) ?_
  exact (Finset.le_fold_max _).2 (Or.inr ⟨firstMax x, Finset.mem_univ _, le_rfl⟩)

theorem toInt_minsi (a b : BitVec 32) : (IntOp.minsi a b).toInt = min a.toInt b.toInt := by
  unfold IntOp.minsi
  split
  · rename_i h
    have := BitVec.slt_iff_toInt_lt.1 h
    omega
  · rename_i h
    have := mt BitVec.slt_iff_toInt_lt.2 h
    omega

theorem toInt_place (p : Fin 4096) : (BitVec.ofNat 32 p.val).toInt = p.val := by
  have hp := p.isLt
  rw [BitVec.toInt_eq_toNat_of_lt (by rw [BitVec.toNat_ofNat]; omega), BitVec.toNat_ofNat]
  omega

/-- The fold of the signed minimum over the places of the greatest entry, 4096 elsewhere, is the first of them. -/
theorem fold_min_eq (x : Fin 4096 → EReal) :
    Finset.fold IntOp.minsi (2147483647#32) (fun p => if x p = x (firstMax x) then BitVec.ofNat 32 p.val else 4096#32) Finset.univ
      = BitVec.ofNat 32 (firstMax x).val := by
  apply BitVec.eq_of_toInt_eq
  rw [← Finset.fold_hom (op' := min) (m := BitVec.toInt) toInt_minsi, toInt_place]
  have hF := (firstMax x).isLt
  refine le_antisymm ((Finset.fold_min_le _).2 (Or.inr ⟨firstMax x, Finset.mem_univ _, ?_⟩)) ((Finset.le_fold_min _).2 ⟨?_, fun p _ => ?_⟩)
  · show (if x (firstMax x) = x (firstMax x) then BitVec.ofNat 32 (firstMax x).val else 4096#32).toInt ≤ _
    rw [if_pos rfl, toInt_place]
  · have : (2147483647#32).toInt = 2147483647 := by decide
    omega
  · show _ ≤ (if x p = x (firstMax x) then BitVec.ofNat 32 p.val else 4096#32).toInt
    split
    · rename_i h
      rw [toInt_place]
      by_contra hlt
      have : p < firstMax x := by rw [Fin.lt_def]; omega
      exact absurd h (ne_of_lt ((firstMax_isFirst x).2 p this))
    · have : (4096#32).toInt = 4096 := by decide
      omega

theorem pay3_apply (v : FVec Ideal S32x4096 .f32) (r : Fin 32) (z : Fin 1) :
    k0_pay3 (F := Ideal) v (ix2 r z) = BitVec.ofNat 32 (firstMax fun l => v (ix2 r l)).val := by
  rw [← fold_min_eq]
  simp only [← fold_max_eq (fun l => v (ix2 r l))]
  pointwise [k0_pay3]

theorem place_eq {a b : ℕ} (ha : a < 4096) (hb : b < 4096) : BitVec.ofNat 32 a = BitVec.ofNat 32 b ↔ a = b := by
  refine ⟨fun h => ?_, fun h => h ▸ rfl⟩
  have := congrArg BitVec.toNat h
  rw [BitVec.toNat_ofNat, BitVec.toNat_ofNat] at this
  omega

theorem select_eq {α : Type} (a b : BitVec 32) (u v : α) : Scalar.select (IntOp.cmpi .eq a b) u v = if a = b then u else v := by
  by_cases h : a = b
  · rw [if_pos h]; exact if_pos (IntOp.cmpi_eq.2 h)
  · rw [if_neg h]; exact if_neg (mt IntOp.cmpi_eq.1 h)

theorem pay4_apply (v : FVec Ideal S32x4096 .f32) (r : Fin 32) (l : Fin 4096) :
    k0_pay4 (F := Ideal) v (ix2 r l) = lower (fun l => v (ix2 r l)) l := by
  have e : k0_pay4 (F := Ideal) v (ix2 r l) = Scalar.select (IntOp.cmpi .eq (BitVec.ofNat 32 l.val) (k0_pay3 (F := Ideal) v (ix2 r 0)))
      (Ideal.ofBits .f32 0xFF800000#32) (v (ix2 r l)) := by
    pointwise [k0_pay4]
  rw [e, select_eq, pay3_apply, bottom]
  unfold lower
  simp only [place_eq l.isLt (Fin.isLt _), Fin.ext_iff]

theorem pay5_apply (t : Fin k0_t1_loop.trips) (acc : IVec S32x64 32) (v : FVec Ideal S32x4096 .f32) (r : Fin 32) (l : Fin 64) :
    k0_pay5 (F := Ideal) t acc v (ix2 r l) = if l.val = t.val then BitVec.ofNat 32 (firstMax fun l => v (ix2 r l)).val else acc (ix2 r l) := by
  have e : k0_pay5 (F := Ideal) t acc v (ix2 r l) = Scalar.select (IntOp.cmpi .eq (BitVec.ofNat 32 l.val) (Scf.iv 0#32 1#32 t))
      (k0_pay3 (F := Ideal) v (ix2 r 0)) (acc (ix2 r l)) := by
    pointwise [k0_pay5]
  have ht : t.val < 45 := t.isLt.trans_eq trips_eq
  have hiv : Scf.iv 0#32 1#32 t.val = BitVec.ofNat 32 t.val := by
    unfold Scf.iv
    simp
  rw [e, select_eq, pay3_apply, hiv]
  simp only [place_eq (l.isLt.trans (by decide)) (ht.trans (by decide))]

/-- A row of the scratch before turn `k` is the row of measures with `k` entries lowered. -/
theorem scAt_apply (Y : FVec Ideal S32x4096 .f32) (r : Fin 32) : ∀ k, (fun l => scAt (F := Ideal) Y k (ix2 r l)) = rest (fun l => Y (ix2 r l)) k
  | 0 => rfl
  | k + 1 => by
    rw [rest_succ, ← scAt_apply Y r k]
    exact funext fun l => pay4_apply _ r l

/-- Before turn `k` the first `k` numbers of a row are the places taken, the others zero. -/
theorem accAt_apply (Y : FVec Ideal S32x4096 .f32) (r : Fin 32) (l : Fin 64) : ∀ k, k ≤ 45 →
    accAt (F := Ideal) Y k (ix2 r l) = if l.val < k then BitVec.ofNat 32 (pick (fun l => Y (ix2 r l)) l.val).val else 0#32
  | 0, _ => by
    rw [if_neg (Nat.not_lt_zero _)]
    show k0_pay2 (ix2 r l) = 0#32
    pointwise [k0_pay2]
  | k + 1, hk => by
    have hk' : k < k0_t1_loop.trips := Nat.lt_of_lt_of_eq hk trips_eq.symm
    rw [accAt_succ (F := Ideal) Y ⟨k, hk'⟩]
    rw [pay5_apply]
    simp only [accAt_apply Y r l k (by omega), scAt_apply]
    by_cases h : l.val = k
    · rw [if_pos h, if_pos (by omega), h]; rfl
    · rw [if_neg h]
      by_cases h' : l.val < k
      · rw [if_pos h', if_pos (by omega)]
      · rw [if_neg h', if_neg (by omega)]

/-- The kernel's result: the first 45 numbers of row `r` are the places taken from its measures in turn, the others zero. -/
theorem outArr_apply (X : FVec Ideal S32x1x4096 .f32) (r : Fin 32) (l : Fin 64) :
    outArr (F := Ideal) X (ix2 r l) = if l.val < 45 then BitVec.ofNat 32 (pick (fun p => X (ix3 r 0 p)) l.val).val else 0#32 := by
  have e : ∀ p, k0_pay1 (F := Ideal) X (ix2 r p) = X (ix3 r 0 p) := fun p => by pointwise [k0_pay1]
  refine (accAt_apply _ r l 45 le_rfl).trans ?_
  simp only [e]

end Cert.TopKIdeal.Hand
end
-- ==== Proof.TopKRefValue.lean ====
module
public import proofs.«01_k».proof.Proof.Gen.TopKRefIdeal.Run
public import proofs.«01_k».proof.Pre_finite_measures
public import proofs.«01_k».proof.Proof.TopKValue
public import Idealize.ShloMosaic.Lib.Pointwise
public import Idealize.ShloMosaic.Lib.KernelVsHost
public import Idealize.ShloMosaic.Lib.ReduceAll
public import Idealize.ShloMosaic.Lib.WordCmp
@[expose] public section
set_option maxRecDepth 16384
noncomputable section
/-! # What the reference's top-k computes, index by index -/

namespace Cert.Pre_finite_measures
open Idealize.ShloMosaic

variable [Facts]

/-- Where the precondition holds, every measure is greater than minus infinity. -/
theorem measure_gt (a0 : FVec Ideal S32x1x4096 .f32) (h : fn (F := Ideal) a0 = fun _ => 1#1) (j : S32x1x4096.Idx) : ⊥ < a0 j := by
  have hs : Subsingleton S_.Idx := ⟨fun a b => funext fun k => k.elim0⟩
  have e := congrFun h (fun k => k.elim0)
  have e2 : Ideal.cmp .ogt (a0 j) (Ideal.ofBits .f32 0xFF800000#32) = 1#1 := Host.reduce_andi_all _ _ _ _ _ e j
  rw [Cert.TopKIdeal.Hand.bottom] at e2
  exact (WordCmp.ofBool_decide_eq_one_iff _).1 e2

end Cert.Pre_finite_measures

namespace Cert.TopKRefIdeal.Hand
open Idealize.ShloMosaic Idealize.ShloMosaic.TcCoe
open Cert.TopKRefIdeal Cert.TopKRefIdeal.Gen Cert.TopKSpec

theorem along_row {m n : ℕ} (r : Fin m) (b p : Fin n) : Shape.Idx.along (s := ⟨2, ![m, n]⟩) (ix2 r b) (1 : Fin 2) p = ix2 r p := by
  funext a
  match a with
  | 0 => rfl
  | 1 => rfl

/-- A sort of two matrices along their rows, read at an index. -/
theorem sort2_row {α β : Type} {m n : ℕ} (cmp : α × β → α × β → BitVec 1) (x : (⟨2, ![m, n]⟩ : Shape).Idx → α)
    (y : (⟨2, ![m, n]⟩ : Shape).Idx → β) (r : Fin m) (c : Fin n) :
    (Host.sort2 ⟨2, ![m, n]⟩ 1 cmp x y).2 (ix2 r c)
      = y (ix2 r (sortedFrom (fun a b => cmp (x (ix2 r a), y (ix2 r a)) (x (ix2 r b), y (ix2 r b)) == 1#1) c)) := by
  have e : (Host.sort2 ⟨2, ![m, n]⟩ 1 cmp x y).2 (ix2 r c)
      = y (Shape.Idx.along (s := ⟨2, ![m, n]⟩) (ix2 r c) (1 : Fin 2) (sortedFrom (n := n) (fun a b =>
          cmp (x (Shape.Idx.along (s := ⟨2, ![m, n]⟩) (ix2 r c) (1 : Fin 2) a), y (Shape.Idx.along (s := ⟨2, ![m, n]⟩) (ix2 r c) (1 : Fin 2) a))
            (x (Shape.Idx.along (s := ⟨2, ![m, n]⟩) (ix2 r c) (1 : Fin 2) b), y (Shape.Idx.along (s := ⟨2, ![m, n]⟩) (ix2 r c) (1 : Fin 2) b)) == 1#1) c)) := by
    unfold Host.sort2
    rw [dif_pos (show 1 < (⟨2, ![m, n]⟩ : Shape).rank from Nat.one_lt_two)]
    rfl
  rw [e]
  simp only [along_row]

/-- The places `topK` gives along the rows of a matrix are those its sort puts first. -/
theorem topK_row {α : Type} {m n k : ℕ} (gt : α → α → BitVec 1) (x : (⟨2, ![m, n]⟩ : Shape).Idx → α)
    (h : (⟨2, ![m, n]⟩ : Shape).Slices (fun _ => 0) ⟨2, ![m, k]⟩) (hk : k ≤ n) (r : Fin m) (c : Fin k) :
    (Host.topK ⟨2, ![m, k]⟩ 1 gt x h).2 (ix2 r c)
      = BitVec.ofNat 32 (sortedFrom (fun a b => gt (x (ix2 r a)) (x (ix2 r b)) == 1#1) (c.castLE hk)).val := by
  have hj : ∀ (v : (⟨2, ![m, n]⟩ : Shape).Idx → BitVec 32), extractStridedSlice ⟨2, ![m, k]⟩ (fun _ => 0) v h (ix2 r c) = v (ix2 r (c.castLE hk)) := fun v => by
    unfold extractStridedSlice
    congr 1
    funext a
    match a with
    | 0 => exact Fin.ext (Nat.zero_add _)
    | 1 => exact Fin.ext (Nat.zero_add _)
  let y : (⟨2, ![m, n]⟩ : Shape).Idx → BitVec 32 := fun i => if hd : 1 < (⟨2, ![m, n]⟩ : Shape).rank then iotaInDim ⟨2, ![m, n]⟩ 32 ⟨1, hd⟩ i else 0#32
  refine (hj (Host.sort2 ⟨2, ![m, n]⟩ 1 (fun l r => gt l.1 r.1) x y).2).trans ((sort2_row _ _ _ _ _).trans ?_)
  exact (dif_pos (show 1 < (⟨2, ![m, n]⟩ : Shape).rank from Nat.one_lt_two)).trans rfl

/-- The reference's result. -/
def refOut (X : FVec Ideal S32x1x4096 .f32) : IVec S32x64 32 :=
  pad S32x64 ![0, 0] ![0, 19] ![0, 0] ((Host.topK S32x45 1 (FloatOps.cmpfTotal (F := Ideal) (φ := .f32) .gt) (shapeCast _ X shapeCasts_S32x1x4096_S32x4096) sliceFits_S32x4096_S32x45).2) (id (constantI S_ 32 0#32)) pads_S32x45_S32x64_000_0190 h_S_

/-- Where every measure is greater than minus infinity, the first 45 numbers of row `r` are the places taken from its measures in turn, the others zero. -/
theorem refOut_apply (X : FVec Ideal S32x1x4096 .f32) (hX : ∀ j, ⊥ < X j) (r : Fin 32) (l : Fin 64) :
    refOut X (ix2 r l) = if l.val < 45 then BitVec.ofNat 32 (pick (fun p => X (ix3 r 0 p)) l.val).val else 0#32 := by
  unfold refOut
  by_cases hl : l.val < 45
  · rw [if_pos hl]
    refine (pad_apply_of_inside _ _ _ _ _ _ _ _ (ix2 r ⟨l.val, hl⟩) fun a => ?_).trans ?_
    · match a with
      | 0 => show r.val = 0 + r.val * 1; omega
      | 1 => show l.val = 0 + l.val * 1; omega
    · rw [topK_row (m := 32) (n := 4096) (k := 45) _ _ _ (by decide) r ⟨l.val, hl⟩]
      have e : ∀ p : Fin 4096, shapeCast S32x4096 X shapeCasts_S32x1x4096_S32x4096 (ix2 r p) = X (ix3 r 0 p) := fun p => by pointwise
      rw [← sortedFrom_eq_pick (fun p => hX (ix3 r 0 p)) (by decide : 45 ≤ 4096) ⟨l.val, hl⟩]
      refine congrArg (fun f => BitVec.ofNat 32 (sortedFrom f _).val) (funext fun a => funext fun b => ?_)
      rw [e, e]
      show (BitVec.ofBool (decide (X (ix3 r 0 b) < X (ix3 r 0 a))) == 1#1) = _
      cases decide (X (ix3 r 0 b) < X (ix3 r 0 a)) <;> rfl
  · rw [if_neg hl]
    refine pad_apply_of_not_inside _ _ _ _ _ _ _ _ (1 : Fin 2) fun h => hl ?_
    have h2 : (l.val - 0) / (0 + 1) < 45 := h.2.2
    omega

/-- Where every measure is greater than minus infinity, the kernel's and the reference's index arrays are equal. -/
theorem out_eq (X : FVec Ideal S32x1x4096 .f32) (hX : ∀ j, ⊥ < X j) : Cert.TopKIdeal.Hand.outArr (F := Ideal) X = refOut X := by
  funext j
  idx_vars j
  exact (Cert.TopKIdeal.Hand.outArr_apply X j0 j1).trans (refOut_apply X hX j0 j1).symm

end Cert.TopKRefIdeal.Hand
end
-- ==== Proof.WholeRegion.lean ====
module
public import proofs.«01_k».proof.Proof.Gen.WholeIdeal
public import proofs.«01_k».proof.Proof.Gen.WholeIdeal.Launch
public import Idealize.ShloMosaic.Lib.Tactic
public import Idealize.ShloMosaic.Lib.Pipeline.Kit
public import Idealize.ShloMosaic.Lib.Pipeline.Frame
public import Idealize.ShloMosaic.Lib.Pipeline.Regions
public import Idealize.ShloMosaic.Lib.Pipeline.RegionsLoop
public import Idealize.ShloMosaic.Lib.Pipeline.RegionArrays
@[expose] public section
set_option maxRecDepth 16384
noncomputable section
/-! # A call of the whole kernel: what surrounds it is all the arrays of the program, before and after -/
namespace Cert.WholeIdeal.Hand
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Idealize.ShloMosaic.Rounds
open Cert.WholeIdeal Cert.WholeIdeal.Gen
open Idealize.ShloMosaic.Pipeline (Dat Cfg Window BodyObligation cellOf)

variable {F : FTy → Type} [FloatOps F]
local notation "𝕄" => MT nD τ sig Unit (Elt F) ℕ (Pipeline.UD sig nD τ) ℕ

/-- Contents of every array of the program. -/
abbrev Vals (F : FTy → Type) : Type := Dev nD → Valuation τ sig (Elt F)

/-- What a call keeps between its grid points: the buffers it does not stage, its own semaphores at zero, and the arrays it has no window on. -/
def kept {K : Type} [Fintype K] (osem : K → SemLoc sig) {gr W : ℕ} (spec : Fin W → Pipeline.WinSpec sig gr) (V : Vals F) (c : Dev nD) : sProp 𝕄 :=
  iprop(Pipeline.scopedRest spec c ∗ Pipeline.ownSems0 osem c ∗ Pipeline.unscopedRest spec c fun b => V c b)

/-- No level is needed: no core owes another anything. -/
abbrev L : GSem nD τ sig → Finset Unit := fun _ => ∅
abbrev lv : GSem nD τ sig → Unit → ℕ := fun _ _ => 0
/-- No call has a table. -/
abbrev adm : (p : Fin 3) → (pcfgs (F := F) p).Adm := fun p => (cfgs p).toPCfg_adm
/-- What rides beside the arrays. -/
abbrev R (c : Dev nD) : sProp 𝕄 := iprop(∃ W, owes (c.tc : Thread nD τ) (0 : CellTallies nD τ sig Unit) W)

set_option backward.isDefEq.respectTransparency.types false in
/-- A call, entered with the arrays at `V` and left with them at `V'`, which differs from `V` at most at the call's windows. -/
def region (pdats : (p : Fin 3) → (c : Dev nD) → Dat τ (Elt F) Unit ℕ (Pipeline.UD sig nD τ) ℕ (Pipeline.pin (pcfgs (F := F)) adm p) c)
    (p : Fin 3) {K : Type} [Fintype K] (osem : K → SemLoc sig) (ho : Pipeline.OwnSemFacts (Pipeline.pin (pcfgs (F := F)) adm p).spec osem)
    (kit : Pipeline.LaunchFacts (nD := nD) (τ := τ) cfgs p) (V V' : Vals F)
    (hbody : ∀ c, BodyObligation (pdats p c) (defs₀ (F := F)) Variants.none () Set.univ)
    (howed : ∀ c t, (pdats p c).owed t = 0) (hrec : ∀ c, (pdats p c).recorded 0 = Set.univ)
    (hshare : ∀ c w, (pdats p c).share w = fullShare)
    (hΦ : ∀ c t, (pdats p c).Φ t = kept osem (Pipeline.pin (pcfgs (F := F)) adm p).spec V c)
    (hA : ∀ c w, (pdats p c).A w = V c (Pipeline.arrRef (Pipeline.pin (pcfgs (F := F)) adm p).spec w))
    (hF : ∀ c w, (pdats p c).arrAt w (Pipeline.pin (pcfgs (F := F)) adm p).N = V' c (Pipeline.arrRef (Pipeline.pin (pcfgs (F := F)) adm p).spec w))
    (hrest : ∀ (c : Dev nD) (b : Ref sig .tc), b ∉ Finset.univ.image (Pipeline.arrRef (Pipeline.pin (pcfgs (F := F)) adm p).spec) → V' c b = V c b) :
    Pipeline.RegionSeg (pcfgs (F := F)) adm pdats () defs₀ Variants.none L lv p where
  win := kit.win.to₀
  block_pos := kit.block_pos
  stage_whole := kit.stage_whole
  K := K
  osem := osem
  ho := ho
  hbody c := (hbody c).loose
  hwaits := Pipeline.hwaits_of_owed_zero _ _ _ _ L lv p howed
  pre c := iprop(StableHlo.held (c.tc : Thread nD τ) (Pipeline.ucRefs τ sig) (V c) ∗ R c)
  post c := iprop(StableHlo.held (c.tc : Thread nD τ) (Pipeline.ucRefs τ sig) (V' c) ∗ R c)
  X c := iprop(Pipeline.ownSems0 osem c ∗ Pipeline.unscopedRest (Pipeline.pin (pcfgs (F := F)) adm p).spec c fun b => V c b)
  Y c := iprop(Pipeline.unscopedRest (Pipeline.pin (pcfgs (F := F)) adm p).spec c fun b => V c b)
  Z c := iprop(emp)
  hentry c := by
    rw [← Pipeline.unscopedBufs_held, Pipeline.prefHeld_of_none _ rfl]
    have hsplit := Pipeline.arrays_of_unscopedBufs (pcfgs (F := F)) adm pdats (p := p) kit.win kit.arr_whole c (hshare c) (fun b => V c b) (hA c)
    iintro ⟨⟨Hub, HO⟩, Hos, -⟩
    ihave H := hsplit $$ Hub
    icases H with ⟨Ha, Hr⟩
    imodintro
    isplitl [Ha]; · iexact Ha
    isplitr; · iempintro
    isplitl [HO]
    · unfold Dat.owesAt Pipeline.owesWithin Dat.bound
      rw [howed c 0, hrec c]
      icases HO with ⟨%W, HO⟩; iexists W; isplitr; · ipureintro; exact fun _ _ => Or.inl trivial
      iexact HO
    isplitl [Hos Hr]
    · isplitl [Hos] <;> iassumption
    iempintro
  hin c := by
    rw [hΦ]; unfold kept
    iintro ⟨⟨Hos, Hu⟩, -, Hr⟩
    isplitl [Hr]; · iexact Hr
    isplitl [Hos] <;> iassumption
  hout c := by
    rw [hΦ]; unfold kept
    iintro ⟨Hr, Hos, Hu⟩
    isplitl [Hu]; · iexact Hu
    isplitl [Hos] <;> iassumption
  hexit c := by
    rw [← Pipeline.unscopedBufs_held]
    have hjoin := Pipeline.unscopedBufs_of_arrays (pcfgs (F := F)) adm (p := p) kit.win kit.arr_whole c pdats (hshare c) (fun b => V c b) (fun b => V' c b)
      ((pdats p c).arrAt · (Pipeline.pin (pcfgs (F := F)) adm p).N) (hF c) (hrest c)
    iintro ⟨Ha, HO, Hu, -⟩
    imodintro
    isplitr [HO]
    · iapply hjoin
      isplitl [Ha] <;> iassumption
    · unfold Dat.owesAt Pipeline.owesWithin
      rw [howed c (Fin.last _)]
      icases HO with ⟨%W, -, HO⟩; iexists W; iexact HO

end Cert.WholeIdeal.Hand
-- ==== Proof.WholeScoreBody.lean ====
module
public import proofs.«01_k».proof.Proof.Gen.WholeIdeal
public import proofs.«01_k».proof.Proof.Gen.WholeIdeal.Skeleton
public import proofs.«01_k».proof.Proof.Gen.WholeIdeal.Points
public import proofs.«01_k».proof.Proof.Gen.WholeIdeal.Launch
public import proofs.«01_k».proof.Proof.Rows
public import Idealize.ShloMosaic.Lib.Batch
public import Idealize.ShloMosaic.Lib.Ring
public import Idealize.ShloMosaic.Lib.Tactic
public import Idealize.ShloMosaic.Lib.Pipeline.Kit
public import Idealize.ShloMosaic.Lib.Pipeline.Frame
public import Idealize.ShloMosaic.Lib.ValueIdxCore
public import Idealize.ShloMosaic.Lib.VecWindow
public import Idealize.ShloMosaic.Lib.Pipeline.Value
@[expose] public section
set_option maxRecDepth 16384
noncomputable section
/-! # In the whole kernel, the score call at one grid point: the 45 row copies of `k`, and the block of measures the body leaves -/
namespace Cert.WholeIdeal.Score
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Cert.WholeIdeal Cert.WholeIdeal.Gen Cert.Pieces
open Idealize.ShloMosaic.ValueIdx

variable {F : FTy → Type} [FloatOps F]
local notation "𝕄" => MT nD τ sig Unit (Elt F) ℕ (Pipeline.UD sig nD τ) ℕ

abbrev kM : Memref sig .tc .hbm S32x4096x64 .f32 := Memref.whole main_v1
abbrev sM : Memref sig .tc .vmem S45x64 .f32 := Memref.whole cc0_scratch0

/-- The read share of `k` copy `n` takes. -/
def kTok (n : ℕ) : PosShare TreeShare := Transfers.shareTokN fullShare n

/-- The head grid point `i` works on. -/
def hd (i : grid0.Coords) : Fin 32 := ⟨(i 0).val, (i 0).isLt⟩

/-- The rows of `k` the kernel samples. -/
def sampled : Fin 45 → Fin 4096 :=
  ![1220, 18, 1207, 3265, 653, 3435, 2433, 2343, 2054, 1282, 552, 2034, 3481, 475, 4044, 1810, 1611, 898, 2883, 519, 3638, 651, 2316, 3779, 3180, 1553, 3056, 539, 2332, 3383, 2309, 676, 1493, 2094, 3123, 2068, 814, 1970, 3921, 2029, 1799, 1604, 3735, 381, 2937]

/-- The sampled rows of head `h` of `k`. -/
def rowsOf (Xk : S32x4096x64.Idx → F .f32) (h : Fin 32) : S45x64.Idx → F .f32 :=
  fun j => Xk (ix3 h (sampled (j 0)) (j 1))

/-- What one copy puts into row `t` of the scratch: the sampled row `t`. -/
theorem row_val (c : Dev nD) (i : grid0.Coords) (fk : Buf (Elt F) (kM.view.loc (c : Thread nD τ))) (t : Fin 45) {off : Fin 3 → ℕ}
    (hoff : off = ![(i 0).val, (sampled t).val, 0]) (inb : ∀ a, off a + S1x1x64.size a ≤ S32x4096x64.size a)
    (hst) (hsq : (Rect.unit (s := S32x4096x64) off S1x1x64.size inb).shape.Squeezes S1x64)
    (inb' : ∀ a, (![t.val, 0] : Fin 2 → ℕ) a + S1x64.size a ≤ S45x64.size a) (x : S1x64.Idx) :
    View.read (Elt F) ((kM.slice (Rect.unit (s := S32x4096x64) off S1x1x64.size inb) hst).squeeze S1x64 hsq).view fk x
      = rowsOf (kM.view.read (Elt F) fk) (hd i) ((Rect.unit (s := S45x64) ![t.val, 0] S1x64.size inb').emb x) := by
  subst hoff
  show kM.view.read (Elt F) fk ((Rect.unit (s := S32x4096x64) _ S1x1x64.size inb).emb (Shape.reshapeEquiv hsq.numel_eq x)) = _
  have e : Shape.reshapeEquiv (s' := S1x64) (s := S1x1x64) hsq.numel_eq x = Fin.cons ⟨0, Nat.one_pos⟩ x := Shape.reshapeEquiv_cons_one _ x
  have hx : (x 0).val < 1 := (x 0).isLt
  have ht : (Rect.unit (s := S45x64) ![t.val, 0] S1x64.size inb').emb x 0 = t := Fin.ext (by show t.val + 1 * (x 0).val = t.val; omega)
  have h1 : ((Rect.unit (s := S45x64) ![t.val, 0] S1x64.size inb').emb x 1).val = (x 1).val := by show 0 + 1 * (x 1).val = (x 1).val; omega
  unfold rowsOf
  rw [ht]
  refine congrArg (kM.view.read (Elt F) fk) ((congrArg _ e).trans (funext fun a => Fin.ext ?_))
  match a with
  | ⟨0, _⟩ => show (i 0).val + 1 * 0 = (i 0).val; omega
  | ⟨1, _⟩ => show (sampled t).val + 1 * (x 0).val = (sampled t).val; omega
  | ⟨2, _⟩ => show 0 + 1 * (x 1).val = _; exact (by omega : 0 + 1 * (x 1).val = (x 1).val).trans h1.symm

/-- The block of the result grid point `i` leaves, of what its operands read. -/
def bodyOut (h : Fin 32) (X1 : S1x4096x64.Idx → F .f32) (Xk : S32x4096x64.Idx → F .f32) : S1x1x4096.Idx → F .f32 :=
  k0_pay1 X1 (rowsOf Xk h)

set_option maxHeartbeats 40000000
set_option sl_exec.rejoinFuel 100
set_option sl_exec.stepHeartbeats 4000000
/-- The kernel's body at a grid point, `k` in the 45 read shares its row copies take: what it leaves is `bodyOut`'s block. -/
theorem bodyRun (c : Dev nD) (i : grid0.Coords) (arg1 : Memref sig .tc .vmem S1x4096x64 .f32) (harg1 : arg1.IsWhole)
   (arg3 : Memref sig .tc .vmem S1x1x4096 .f32) (harg3 : arg3.IsWhole)
   (f1 : Buf (Elt F) (arg1.view.loc (c : Thread nD τ))) (fk : Buf (Elt F) (kM.view.loc (c : Thread nD τ))) (fs : Buf (Elt F) (sM.view.loc (c : Thread nD τ)))
   (f3 : Buf (Elt F) (arg3.view.loc (c : Thread nD τ))) (W : Waits sig Unit) (K : _ → sProp 𝕄)
   (_plan : Transfers.BatchOf (c : Thread nD τ) (SemLoc.dma (sig := sig) 4) 45 (windows := true)) :
   iprop((arg1.view.loc (c : Thread nD τ) ↦[arg1.view.set]{fullShare} f1)
     ∗ (arg3.view.loc (c : Thread nD τ) ↦[arg3.view.set]{fullShare} f3)
     ∗ (sM.view.loc (c : Thread nD τ) ↦{fullShare} fs)
     ∗ semVal ((c : Thread nD τ), SemLoc.dma 4) 0
     ∗ owes (c : Thread nD τ) 0 W
     ∗ (kM.view.loc (c : Thread nD τ) ↦{kTok 0} fk)
     ∗ (kM.view.loc (c : Thread nD τ) ↦{kTok 1} fk)
     ∗ (kM.view.loc (c : Thread nD τ) ↦{kTok 2} fk)
     ∗ (kM.view.loc (c : Thread nD τ) ↦{kTok 3} fk)
     ∗ (kM.view.loc (c : Thread nD τ) ↦{kTok 4} fk)
     ∗ (kM.view.loc (c : Thread nD τ) ↦{kTok 5} fk)
     ∗ (kM.view.loc (c : Thread nD τ) ↦{kTok 6} fk)
     ∗ (kM.view.loc (c : Thread nD τ) ↦{kTok 7} fk)
     ∗ (kM.view.loc (c : Thread nD τ) ↦{kTok 8} fk)
     ∗ (kM.view.loc (c : Thread nD τ) ↦{kTok 9} fk)
     ∗ (kM.view.loc (c : Thread nD τ) ↦{kTok 10} fk)
     ∗ (kM.view.loc (c : Thread nD τ) ↦{kTok 11} fk)
     ∗ (kM.view.loc (c : Thread nD τ) ↦{kTok 12} fk)
     ∗ (kM.view.loc (c : Thread nD τ) ↦{kTok 13} fk)
     ∗ (kM.view.loc (c : Thread nD τ) ↦{kTok 14} fk)
     ∗ (kM.view.loc (c : Thread nD τ) ↦{kTok 15} fk)
     ∗ (kM.view.loc (c : Thread nD τ) ↦{kTok 16} fk)
     ∗ (kM.view.loc (c : Thread nD τ) ↦{kTok 17} fk)
     ∗ (kM.view.loc (c : Thread nD τ) ↦{kTok 18} fk)
     ∗ (kM.view.loc (c : Thread nD τ) ↦{kTok 19} fk)
     ∗ (kM.view.loc (c : Thread nD τ) ↦{kTok 20} fk)
     ∗ (kM.view.loc (c : Thread nD τ) ↦{kTok 21} fk)
     ∗ (kM.view.loc (c : Thread nD τ) ↦{kTok 22} fk)
     ∗ (kM.view.loc (c : Thread nD τ) ↦{kTok 23} fk)
     ∗ (kM.view.loc (c : Thread nD τ) ↦{kTok 24} fk)
     ∗ (kM.view.loc (c : Thread nD τ) ↦{kTok 25} fk)
     ∗ (kM.view.loc (c : Thread nD τ) ↦{kTok 26} fk)
     ∗ (kM.view.loc (c : Thread nD τ) ↦{kTok 27} fk)
     ∗ (kM.view.loc (c : Thread nD τ) ↦{kTok 28} fk)
     ∗ (kM.view.loc (c : Thread nD τ) ↦{kTok 29} fk)
     ∗ (kM.view.loc (c : Thread nD τ) ↦{kTok 30} fk)
     ∗ (kM.view.loc (c : Thread nD τ) ↦{kTok 31} fk)
     ∗ (kM.view.loc (c : Thread nD τ) ↦{kTok 32} fk)
     ∗ (kM.view.loc (c : Thread nD τ) ↦{kTok 33} fk)
     ∗ (kM.view.loc (c : Thread nD τ) ↦{kTok 34} fk)
     ∗ (kM.view.loc (c : Thread nD τ) ↦{kTok 35} fk)
     ∗ (kM.view.loc (c : Thread nD τ) ↦{kTok 36} fk)
     ∗ (kM.view.loc (c : Thread nD τ) ↦{kTok 37} fk)
     ∗ (kM.view.loc (c : Thread nD τ) ↦{kTok 38} fk)
     ∗ (kM.view.loc (c : Thread nD τ) ↦{kTok 39} fk)
     ∗ (kM.view.loc (c : Thread nD τ) ↦{kTok 40} fk)
     ∗ (kM.view.loc (c : Thread nD τ) ↦{kTok 41} fk)
     ∗ (kM.view.loc (c : Thread nD τ) ↦{kTok 42} fk)
     ∗ (kM.view.loc (c : Thread nD τ) ↦{kTok 43} fk)
     ∗ (kM.view.loc (c : Thread nD τ) ↦{kTok 44} fk)
     ∗ (iprop((arg1.view.loc (c : Thread nD τ) ↦[arg1.view.set]{fullShare} f1)
         ∗ (∃ g, ⌜arg3.view.read (Elt F) g = bodyOut (hd i) (arg1.view.read (Elt F) f1) (kM.view.read (Elt F) fk)⌝
             ∗ (arg3.view.loc (c : Thread nD τ) ↦[arg3.view.set]{fullShare} g))
         ∗ (∃ g, sM.view.loc (c : Thread nD τ) ↦{fullShare} g)
         ∗ semVal ((c : Thread nD τ), SemLoc.dma 4) 0
         ∗ (∃ W', owes (c : Thread nD τ) 0 W')
         ∗ (kM.view.loc (c : Thread nD τ) ↦{kTok 0} fk)
         ∗ (kM.view.loc (c : Thread nD τ) ↦{kTok 1} fk)
         ∗ (kM.view.loc (c : Thread nD τ) ↦{kTok 2} fk)
         ∗ (kM.view.loc (c : Thread nD τ) ↦{kTok 3} fk)
         ∗ (kM.view.loc (c : Thread nD τ) ↦{kTok 4} fk)
         ∗ (kM.view.loc (c : Thread nD τ) ↦{kTok 5} fk)
         ∗ (kM.view.loc (c : Thread nD τ) ↦{kTok 6} fk)
         ∗ (kM.view.loc (c : Thread nD τ) ↦{kTok 7} fk)
         ∗ (kM.view.loc (c : Thread nD τ) ↦{kTok 8} fk)
         ∗ (kM.view.loc (c : Thread nD τ) ↦{kTok 9} fk)
         ∗ (kM.view.loc (c : Thread nD τ) ↦{kTok 10} fk)
         ∗ (kM.view.loc (c : Thread nD τ) ↦{kTok 11} fk)
         ∗ (kM.view.loc (c : Thread nD τ) ↦{kTok 12} fk)
         ∗ (kM.view.loc (c : Thread nD τ) ↦{kTok 13} fk)
         ∗ (kM.view.loc (c : Thread nD τ) ↦{kTok 14} fk)
         ∗ (kM.view.loc (c : Thread nD τ) ↦{kTok 15} fk)
         ∗ (kM.view.loc (c : Thread nD τ) ↦{kTok 16} fk)
         ∗ (kM.view.loc (c : Thread nD τ) ↦{kTok 17} fk)
         ∗ (kM.view.loc (c : Thread nD τ) ↦{kTok 18} fk)
         ∗ (kM.view.loc (c : Thread nD τ) ↦{kTok 19} fk)
         ∗ (kM.view.loc (c : Thread nD τ) ↦{kTok 20} fk)
         ∗ (kM.view.loc (c : Thread nD τ) ↦{kTok 21} fk)
         ∗ (kM.view.loc (c : Thread nD τ) ↦{kTok 22} fk)
         ∗ (kM.view.loc (c : Thread nD τ) ↦{kTok 23} fk)
         ∗ (kM.view.loc (c : Thread nD τ) ↦{kTok 24} fk)
         ∗ (kM.view.loc (c : Thread nD τ) ↦{kTok 25} fk)
         ∗ (kM.view.loc (c : Thread nD τ) ↦{kTok 26} fk)
         ∗ (kM.view.loc (c : Thread nD τ) ↦{kTok 27} fk)
         ∗ (kM.view.loc (c : Thread nD τ) ↦{kTok 28} fk)
         ∗ (kM.view.loc (c : Thread nD τ) ↦{kTok 29} fk)
         ∗ (kM.view.loc (c : Thread nD τ) ↦{kTok 30} fk)
         ∗ (kM.view.loc (c : Thread nD τ) ↦{kTok 31} fk)
         ∗ (kM.view.loc (c : Thread nD τ) ↦{kTok 32} fk)
         ∗ (kM.view.loc (c : Thread nD τ) ↦{kTok 33} fk)
         ∗ (kM.view.loc (c : Thread nD τ) ↦{kTok 34} fk)
         ∗ (kM.view.loc (c : Thread nD τ) ↦{kTok 35} fk)
         ∗ (kM.view.loc (c : Thread nD τ) ↦{kTok 36} fk)
         ∗ (kM.view.loc (c : Thread nD τ) ↦{kTok 37} fk)
         ∗ (kM.view.loc (c : Thread nD τ) ↦{kTok 38} fk)
         ∗ (kM.view.loc (c : Thread nD τ) ↦{kTok 39} fk)
         ∗ (kM.view.loc (c : Thread nD τ) ↦{kTok 40} fk)
         ∗ (kM.view.loc (c : Thread nD τ) ↦{kTok 41} fk)
         ∗ (kM.view.loc (c : Thread nD τ) ↦{kTok 42} fk)
         ∗ (kM.view.loc (c : Thread nD τ) ↦{kTok 43} fk)
         ∗ (kM.view.loc (c : Thread nD τ) ↦{kTok 44} fk)) -∗ K ⟨⟩))
   ⊢ wp frame (wpE (defs₀ (F := F)) Variants.none c none) Set.univ
       (cc0__score_kernel i arg1 harg1 kM (Memref.isWhole_whole _) arg3 harg3 sM (Memref.isWhole_whole _) cc0_scratch1) K := by
  iintro ⟨H1, H3, HS, Hsem, HO, Hk0, Hk1, Hk2, Hk3, Hk4, Hk5, Hk6, Hk7, Hk8, Hk9, Hk10, Hk11, Hk12, Hk13, Hk14, Hk15, Hk16, Hk17, Hk18, Hk19, Hk20, Hk21, Hk22, Hk23, Hk24, Hk25, Hk26, Hk27, Hk28, Hk29, Hk30, Hk31, Hk32, Hk33, Hk34, Hk35, Hk36, Hk37, Hk38, Hk39, Hk40, Hk41, Hk42, Hk43, Hk44, Hk⟩
  rw [cc0__score_kernel_eq_skeleton]; unfold cc0__score_kernel_skel
  sl_exec
  have hv : bodyRun.sl.v272 c i fk = rowsOf (kM.view.read (Elt F) fk) (hd i) := by
    unfold bodyRun.sl.v272 View.readCov
    refine (View.readAt_full _ _ inb_S45x64_S45x64_0_0).trans (funext fun y => ?_)
    refine read_pieces _ _ _ y _ ?_ (View.cover_of_tiledL (s := S45x64) _ S1x64.size (by sl_kernel_rfl) y)
    simp only [List.forall_mem_cons]
    exact ⟨row_val c i fk 44 (k0_off45_eq i) _ _ _ _,
      row_val c i fk 43 (k0_off44_eq i) _ _ _ _,
      row_val c i fk 42 (k0_off43_eq i) _ _ _ _,
      row_val c i fk 41 (k0_off42_eq i) _ _ _ _,
      row_val c i fk 40 (k0_off41_eq i) _ _ _ _,
      row_val c i fk 39 (k0_off40_eq i) _ _ _ _,
      row_val c i fk 38 (k0_off39_eq i) _ _ _ _,
      row_val c i fk 37 (k0_off38_eq i) _ _ _ _,
      row_val c i fk 36 (k0_off37_eq i) _ _ _ _,
      row_val c i fk 35 (k0_off36_eq i) _ _ _ _,
      row_val c i fk 34 (k0_off35_eq i) _ _ _ _,
      row_val c i fk 33 (k0_off34_eq i) _ _ _ _,
      row_val c i fk 32 (k0_off33_eq i) _ _ _ _,
      row_val c i fk 31 (k0_off32_eq i) _ _ _ _,
      row_val c i fk 30 (k0_off31_eq i) _ _ _ _,
      row_val c i fk 29 (k0_off30_eq i) _ _ _ _,
      row_val c i fk 28 (k0_off29_eq i) _ _ _ _,
      row_val c i fk 27 (k0_off28_eq i) _ _ _ _,
      row_val c i fk 26 (k0_off27_eq i) _ _ _ _,
      row_val c i fk 25 (k0_off26_eq i) _ _ _ _,
      row_val c i fk 24 (k0_off25_eq i) _ _ _ _,
      row_val c i fk 23 (k0_off24_eq i) _ _ _ _,
      row_val c i fk 22 (k0_off23_eq i) _ _ _ _,
      row_val c i fk 21 (k0_off22_eq i) _ _ _ _,
      row_val c i fk 20 (k0_off21_eq i) _ _ _ _,
      row_val c i fk 19 (k0_off20_eq i) _ _ _ _,
      row_val c i fk 18 (k0_off19_eq i) _ _ _ _,
      row_val c i fk 17 (k0_off18_eq i) _ _ _ _,
      row_val c i fk 16 (k0_off17_eq i) _ _ _ _,
      row_val c i fk 15 (k0_off16_eq i) _ _ _ _,
      row_val c i fk 14 (k0_off15_eq i) _ _ _ _,
      row_val c i fk 13 (k0_off14_eq i) _ _ _ _,
      row_val c i fk 12 (k0_off13_eq i) _ _ _ _,
      row_val c i fk 11 (k0_off12_eq i) _ _ _ _,
      row_val c i fk 10 (k0_off11_eq i) _ _ _ _,
      row_val c i fk 9 (k0_off10_eq i) _ _ _ _,
      row_val c i fk 8 (k0_off9_eq i) _ _ _ _,
      row_val c i fk 7 (k0_off8_eq i) _ _ _ _,
      row_val c i fk 6 (k0_off7_eq i) _ _ _ _,
      row_val c i fk 5 (k0_off6_eq i) _ _ _ _,
      row_val c i fk 4 (k0_off5_eq i) _ _ _ _,
      row_val c i fk 3 (k0_off4_eq i) _ _ _ _,
      row_val c i fk 2 (k0_off3_eq i) _ _ _ _,
      row_val c i fk 1 (k0_off2_eq i) _ _ _ _,
      row_val c i fk 0 (k0_off1_eq i) _ _ _ _, fun _ h => absurd h List.not_mem_nil⟩
  sl_step
  iapply Hk
  isplitl [H1]; · iexact H1
  isplitl [H3]
  · iexists _; isplitr; swap; · iexact H3
    ipureintro
    refine (View.read_writes_full (L := []) _ _ inb_S1x1x4096_S1x1x4096_0_0_0 _).trans ?_
    rw [hv]
    unfold bodyOut
    rw [View.readAt_full arg1.view f1 inb_S1x4096x64_S1x4096x64_0_0_0]
  isplitl [HS]; · iexists _; iexact HS
  isplitl [Hsem]; · iexact Hsem
  isplitl [HO]; · iexists _; iexact HO
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  isplitl [Hk8]; · iexact Hk8
  isplitl [Hk9]; · iexact Hk9
  isplitl [Hk10]; · iexact Hk10
  isplitl [Hk11]; · iexact Hk11
  isplitl [Hk12]; · iexact Hk12
  isplitl [Hk13]; · iexact Hk13
  isplitl [Hk14]; · iexact Hk14
  isplitl [Hk15]; · iexact Hk15
  isplitl [Hk16]; · iexact Hk16
  isplitl [Hk17]; · iexact Hk17
  isplitl [Hk18]; · iexact Hk18
  isplitl [Hk19]; · iexact Hk19
  isplitl [Hk20]; · iexact Hk20
  isplitl [Hk21]; · iexact Hk21
  isplitl [Hk22]; · iexact Hk22
  isplitl [Hk23]; · iexact Hk23
  isplitl [Hk24]; · iexact Hk24
  isplitl [Hk25]; · iexact Hk25
  isplitl [Hk26]; · iexact Hk26
  isplitl [Hk27]; · iexact Hk27
  isplitl [Hk28]; · iexact Hk28
  isplitl [Hk29]; · iexact Hk29
  isplitl [Hk30]; · iexact Hk30
  isplitl [Hk31]; · iexact Hk31
  isplitl [Hk32]; · iexact Hk32
  isplitl [Hk33]; · iexact Hk33
  isplitl [Hk34]; · iexact Hk34
  isplitl [Hk35]; · iexact Hk35
  isplitl [Hk36]; · iexact Hk36
  isplitl [Hk37]; · iexact Hk37
  isplitl [Hk38]; · iexact Hk38
  isplitl [Hk39]; · iexact Hk39
  isplitl [Hk40]; · iexact Hk40
  isplitl [Hk41]; · iexact Hk41
  isplitl [Hk42]; · iexact Hk42
  isplitl [Hk43]; · iexact Hk43
  iexact Hk44

/-- The 45 read shares of the whole of `k`, and what is left beside them. -/
theorem k_split (c : Dev nD) (fk : Buf (Elt F) (kM.view.loc (c : Thread nD τ))) :
    ((kM.view.loc (c : Thread nD τ) ↦{fullShare} fk : sProp 𝕄)) ⊣⊢ iprop((kM.view.loc (c : Thread nD τ) ↦{Transfers.shareDrop fullShare 45} fk)
      ∗ (kM.view.loc (c : Thread nD τ) ↦{kTok 0} fk)
      ∗ (kM.view.loc (c : Thread nD τ) ↦{kTok 1} fk)
      ∗ (kM.view.loc (c : Thread nD τ) ↦{kTok 2} fk)
      ∗ (kM.view.loc (c : Thread nD τ) ↦{kTok 3} fk)
      ∗ (kM.view.loc (c : Thread nD τ) ↦{kTok 4} fk)
      ∗ (kM.view.loc (c : Thread nD τ) ↦{kTok 5} fk)
      ∗ (kM.view.loc (c : Thread nD τ) ↦{kTok 6} fk)
      ∗ (kM.view.loc (c : Thread nD τ) ↦{kTok 7} fk)
      ∗ (kM.view.loc (c : Thread nD τ) ↦{kTok 8} fk)
      ∗ (kM.view.loc (c : Thread nD τ) ↦{kTok 9} fk)
      ∗ (kM.view.loc (c : Thread nD τ) ↦{kTok 10} fk)
      ∗ (kM.view.loc (c : Thread nD τ) ↦{kTok 11} fk)
      ∗ (kM.view.loc (c : Thread nD τ) ↦{kTok 12} fk)
      ∗ (kM.view.loc (c : Thread nD τ) ↦{kTok 13} fk)
      ∗ (kM.view.loc (c : Thread nD τ) ↦{kTok 14} fk)
      ∗ (kM.view.loc (c : Thread nD τ) ↦{kTok 15} fk)
      ∗ (kM.view.loc (c : Thread nD τ) ↦{kTok 16} fk)
      ∗ (kM.view.loc (c : Thread nD τ) ↦{kTok 17} fk)
      ∗ (kM.view.loc (c : Thread nD τ) ↦{kTok 18} fk)
      ∗ (kM.view.loc (c : Thread nD τ) ↦{kTok 19} fk)
      ∗ (kM.view.loc (c : Thread nD τ) ↦{kTok 20} fk)
      ∗ (kM.view.loc (c : Thread nD τ) ↦{kTok 21} fk)
      ∗ (kM.view.loc (c : Thread nD τ) ↦{kTok 22} fk)
      ∗ (kM.view.loc (c : Thread nD τ) ↦{kTok 23} fk)
      ∗ (kM.view.loc (c : Thread nD τ) ↦{kTok 24} fk)
      ∗ (kM.view.loc (c : Thread nD τ) ↦{kTok 25} fk)
      ∗ (kM.view.loc (c : Thread nD τ) ↦{kTok 26} fk)
      ∗ (kM.view.loc (c : Thread nD τ) ↦{kTok 27} fk)
      ∗ (kM.view.loc (c : Thread nD τ) ↦{kTok 28} fk)
      ∗ (kM.view.loc (c : Thread nD τ) ↦{kTok 29} fk)
      ∗ (kM.view.loc (c : Thread nD τ) ↦{kTok 30} fk)
      ∗ (kM.view.loc (c : Thread nD τ) ↦{kTok 31} fk)
      ∗ (kM.view.loc (c : Thread nD τ) ↦{kTok 32} fk)
      ∗ (kM.view.loc (c : Thread nD τ) ↦{kTok 33} fk)
      ∗ (kM.view.loc (c : Thread nD τ) ↦{kTok 34} fk)
      ∗ (kM.view.loc (c : Thread nD τ) ↦{kTok 35} fk)
      ∗ (kM.view.loc (c : Thread nD τ) ↦{kTok 36} fk)
      ∗ (kM.view.loc (c : Thread nD τ) ↦{kTok 37} fk)
      ∗ (kM.view.loc (c : Thread nD τ) ↦{kTok 38} fk)
      ∗ (kM.view.loc (c : Thread nD τ) ↦{kTok 39} fk)
      ∗ (kM.view.loc (c : Thread nD τ) ↦{kTok 40} fk)
      ∗ (kM.view.loc (c : Thread nD τ) ↦{kTok 41} fk)
      ∗ (kM.view.loc (c : Thread nD τ) ↦{kTok 42} fk)
      ∗ (kM.view.loc (c : Thread nD τ) ↦{kTok 43} fk)
      ∗ (kM.view.loc (c : Thread nD τ) ↦{kTok 44} fk)) := by
  refine (Transfers.pointsTo_toks_range (ℓ := kM.view.loc (c : Thread nD τ)) (f := fk) fullShare 45).trans ?_
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44] (by decide) (by decide)]
  exact ⟨.rfl, .rfl⟩

/-- The kernel's body at a grid point: `k` whole, the operand's block, the result's block at anything. -/
theorem bodySpec (c : Dev nD) (i : grid0.Coords) (arg1 : Memref sig .tc .vmem S1x4096x64 .f32) (harg1 : arg1.IsWhole)
   (arg3 : Memref sig .tc .vmem S1x1x4096 .f32) (harg3 : arg3.IsWhole)
   (f1 : Buf (Elt F) (arg1.view.loc (c : Thread nD τ))) (fk : Buf (Elt F) (kM.view.loc (c : Thread nD τ))) (fs : Buf (Elt F) (sM.view.loc (c : Thread nD τ)))
   (f3 : Buf (Elt F) (arg3.view.loc (c : Thread nD τ))) (W : Waits sig Unit) (K : _ → sProp 𝕄) :
   iprop((arg1.view.loc (c : Thread nD τ) ↦[arg1.view.set]{fullShare} f1)
     ∗ (arg3.view.loc (c : Thread nD τ) ↦[arg3.view.set]{fullShare} f3)
     ∗ (sM.view.loc (c : Thread nD τ) ↦{fullShare} fs)
     ∗ semVal ((c : Thread nD τ), SemLoc.dma 4) 0
     ∗ owes (c : Thread nD τ) 0 W
     ∗ (kM.view.loc (c : Thread nD τ) ↦{fullShare} fk)
     ∗ (iprop((arg1.view.loc (c : Thread nD τ) ↦[arg1.view.set]{fullShare} f1)
         ∗ (∃ g, ⌜arg3.view.read (Elt F) g = bodyOut (hd i) (arg1.view.read (Elt F) f1) (kM.view.read (Elt F) fk)⌝
             ∗ (arg3.view.loc (c : Thread nD τ) ↦[arg3.view.set]{fullShare} g))
         ∗ (∃ g, sM.view.loc (c : Thread nD τ) ↦{fullShare} g)
         ∗ semVal ((c : Thread nD τ), SemLoc.dma 4) 0
         ∗ (∃ W', owes (c : Thread nD τ) 0 W')
         ∗ (kM.view.loc (c : Thread nD τ) ↦{fullShare} fk)) -∗ K ⟨⟩))
   ⊢ wp frame (wpE (defs₀ (F := F)) Variants.none c none) Set.univ
       (cc0__score_kernel i arg1 harg1 kM (Memref.isWhole_whole _) arg3 harg3 sM (Memref.isWhole_whole _) cc0_scratch1) K := by
  iintro ⟨H1, H3, HS, Hsem, HO, Hq, Hk⟩
  ihave Hq := (k_split c fk).1 $$ Hq
  icases Hq with ⟨Hd, Hk0, Hk1, Hk2, Hk3, Hk4, Hk5, Hk6, Hk7, Hk8, Hk9, Hk10, Hk11, Hk12, Hk13, Hk14, Hk15, Hk16, Hk17, Hk18, Hk19, Hk20, Hk21, Hk22, Hk23, Hk24, Hk25, Hk26, Hk27, Hk28, Hk29, Hk30, Hk31, Hk32, Hk33, Hk34, Hk35, Hk36, Hk37, Hk38, Hk39, Hk40, Hk41, Hk42, Hk43, Hk44⟩
  iapply (bodyRun c i arg1 harg1 arg3 harg3 f1 fk fs f3 W K trivial)
  isplitl [H1]; · iexact H1
  isplitl [H3]; · iexact H3
  isplitl [HS]; · iexact HS
  isplitl [Hsem]; · iexact Hsem
  isplitl [HO]; · iexact HO
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  isplitl [Hk8]; · iexact Hk8
  isplitl [Hk9]; · iexact Hk9
  isplitl [Hk10]; · iexact Hk10
  isplitl [Hk11]; · iexact Hk11
  isplitl [Hk12]; · iexact Hk12
  isplitl [Hk13]; · iexact Hk13
  isplitl [Hk14]; · iexact Hk14
  isplitl [Hk15]; · iexact Hk15
  isplitl [Hk16]; · iexact Hk16
  isplitl [Hk17]; · iexact Hk17
  isplitl [Hk18]; · iexact Hk18
  isplitl [Hk19]; · iexact Hk19
  isplitl [Hk20]; · iexact Hk20
  isplitl [Hk21]; · iexact Hk21
  isplitl [Hk22]; · iexact Hk22
  isplitl [Hk23]; · iexact Hk23
  isplitl [Hk24]; · iexact Hk24
  isplitl [Hk25]; · iexact Hk25
  isplitl [Hk26]; · iexact Hk26
  isplitl [Hk27]; · iexact Hk27
  isplitl [Hk28]; · iexact Hk28
  isplitl [Hk29]; · iexact Hk29
  isplitl [Hk30]; · iexact Hk30
  isplitl [Hk31]; · iexact Hk31
  isplitl [Hk32]; · iexact Hk32
  isplitl [Hk33]; · iexact Hk33
  isplitl [Hk34]; · iexact Hk34
  isplitl [Hk35]; · iexact Hk35
  isplitl [Hk36]; · iexact Hk36
  isplitl [Hk37]; · iexact Hk37
  isplitl [Hk38]; · iexact Hk38
  isplitl [Hk39]; · iexact Hk39
  isplitl [Hk40]; · iexact Hk40
  isplitl [Hk41]; · iexact Hk41
  isplitl [Hk42]; · iexact Hk42
  isplitl [Hk43]; · iexact Hk43
  isplitl [Hk44]; · iexact Hk44
  iintro ⟨H1, H3, HS, Hsem, HO, Hk0, Hk1, Hk2, Hk3, Hk4, Hk5, Hk6, Hk7, Hk8, Hk9, Hk10, Hk11, Hk12, Hk13, Hk14, Hk15, Hk16, Hk17, Hk18, Hk19, Hk20, Hk21, Hk22, Hk23, Hk24, Hk25, Hk26, Hk27, Hk28, Hk29, Hk30, Hk31, Hk32, Hk33, Hk34, Hk35, Hk36, Hk37, Hk38, Hk39, Hk40, Hk41, Hk42, Hk43, Hk44⟩
  iapply Hk
  isplitl [H1]; · iexact H1
  isplitl [H3]; · iexact H3
  isplitl [HS]; · iexact HS
  isplitl [Hsem]; · iexact Hsem
  isplitl [HO]; · iexact HO
  iapply (k_split c fk).2
  isplitl [Hd]; · iexact Hd
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  isplitl [Hk8]; · iexact Hk8
  isplitl [Hk9]; · iexact Hk9
  isplitl [Hk10]; · iexact Hk10
  isplitl [Hk11]; · iexact Hk11
  isplitl [Hk12]; · iexact Hk12
  isplitl [Hk13]; · iexact Hk13
  isplitl [Hk14]; · iexact Hk14
  isplitl [Hk15]; · iexact Hk15
  isplitl [Hk16]; · iexact Hk16
  isplitl [Hk17]; · iexact Hk17
  isplitl [Hk18]; · iexact Hk18
  isplitl [Hk19]; · iexact Hk19
  isplitl [Hk20]; · iexact Hk20
  isplitl [Hk21]; · iexact Hk21
  isplitl [Hk22]; · iexact Hk22
  isplitl [Hk23]; · iexact Hk23
  isplitl [Hk24]; · iexact Hk24
  isplitl [Hk25]; · iexact Hk25
  isplitl [Hk26]; · iexact Hk26
  isplitl [Hk27]; · iexact Hk27
  isplitl [Hk28]; · iexact Hk28
  isplitl [Hk29]; · iexact Hk29
  isplitl [Hk30]; · iexact Hk30
  isplitl [Hk31]; · iexact Hk31
  isplitl [Hk32]; · iexact Hk32
  isplitl [Hk33]; · iexact Hk33
  isplitl [Hk34]; · iexact Hk34
  isplitl [Hk35]; · iexact Hk35
  isplitl [Hk36]; · iexact Hk36
  isplitl [Hk37]; · iexact Hk37
  isplitl [Hk38]; · iexact Hk38
  isplitl [Hk39]; · iexact Hk39
  isplitl [Hk40]; · iexact Hk40
  isplitl [Hk41]; · iexact Hk41
  isplitl [Hk42]; · iexact Hk42
  isplitl [Hk43]; · iexact Hk43
  iexact Hk44

end Cert.WholeIdeal.Score
-- ==== Proof.WholeScore.lean ====
module
public import proofs.«01_k».proof.Proof.Gen.WholeIdeal.Points
public import proofs.«01_k».proof.Proof.WholeRegion
public import proofs.«01_k».proof.Proof.WholeScoreBody
public import Idealize.ShloMosaic.Lib.Pipeline.FrameBody
public import Idealize.ShloMosaic.Lib.Pipeline.ValueKit
public import Idealize.ShloMosaic.Lib.Pipeline.Value
@[expose] public section
set_option maxRecDepth 16384
noncomputable section
/-! # In the whole kernel, the score call -/
namespace Cert.WholeIdeal.Score
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Idealize.ShloMosaic.Rounds
open Cert.WholeIdeal Cert.WholeIdeal.Gen
open Idealize.ShloMosaic.Pipeline (Dat Cfg Window BodyObligation cellOf)

variable {F : FTy → Type} [FloatOps F]
local notation "𝕄" => MT nD τ sig Unit (Elt F) ℕ (Pipeline.UD sig nD τ) ℕ

open Cert.WholeIdeal.Hand

/-- The one semaphore the row copies complete on. -/
abbrev osem : Fin 1 → SemLoc sig := fun j => (![SemLoc.dma 4] : Fin 1 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 4) 0 := by
  rw [Pipeline.ownSems0_eq_of_list c osem [0] (by decide) (by decide)]; rfl

variable (V : Vals F)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the result's buffer at point `t`. -/
def outAt (c : Dev nD) (t : Fin cfg0.N) : S1x1x4096.Idx → F .f32 :=
  bodyOut (hd (grid0.coords t)) (iblk V c 0 t) (kM.view.read (Elt F) (V c main_v1))

/-- The proof data of the call. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => outAt V c t
  Φ _ := kept osem spec0 V c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = outAt V c t := by dsimp only [dat]
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

abbrev ms_0 (t : Fin cfg0.N) : Memref sig .tc .vmem S1x4096x64 .f32 := win0_0.stage (cfg0.slots t 0)
abbrev ms_1 (t : Fin cfg0.N) : Memref sig .tc .vmem S1x1x4096 .f32 := win0_1.stage (cfg0.slots t 1)

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d)))
def bodyPost (c : Dev nD) (t : Fin cfg0.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat V c).Φ t.succ = (dat V c).Φ t.castSucc from rfl, after_0, after_1]
  simp only [before_0]
  rw [show (dat V c).Φ t.castSucc = kept osem spec0 V c from rfl]
  unfold kept
  rw [scopedRest0_eq, ownSems_eq, unscopedRest0_eq]
  unfold Dat.owesAt Pipeline.owesWithin
  rw [show (dat V c).owed t.castSucc = 0 from rfl, show (dat V c).owed t.succ = 0 from rfl]
  unfold owns
  iintro ⟨⟨⟨⟨%fs, HS⟩, Hr⟩, Hsem, Ha, Hb, Hc, Hq, Hu⟩, ⟨%W, -, HW⟩, ⟨%d0, %f0, %e0, H0⟩, ⟨%d1, %f1, -, H1⟩⟩
  iapply (bodySpec c (grid0.coords t) (ms_0 t) (hstage0_0 ((cfg0.slots t 0).cast nbuf0_0)) (ms_1 t)
    (hstage0_1 ((cfg0.slots t 1).cast nbuf0_1)) f0 (V c main_v1) fs f1 W _)
  isplitl [H0]; · iexact H0
  isplitl [H1]; · iexact H1
  isplitl [HS]; · iexact HS
  isplitl [Hsem]; · iexact Hsem
  isplitl [HW]; · iexact HW
  isplitl [Hq]; · iexact Hq
  iintro ⟨H0, ⟨%g, %eg, H1⟩, HS, Hsem, ⟨%W', HW'⟩, Hq⟩
  isplitl [HS Hr Hsem Ha Hb Hc Hq Hu]
  · isplitl [HS Hr]
    · isplitl [HS]; · iexact HS
      iexact Hr
    isplitl [Hsem]; · iexact Hsem
    isplitl [Ha]; · iexact Ha
    isplitl [Hb]; · iexact Hb
    isplitl [Hc]; · iexact Hc
    isplitl [Hq]; · iexact Hq
    iexact Hu
  isplitl [HW']
  · iexists W'; isplitr; · ipureintro; exact fun _ _ => Or.inl trivial
    iexact HW'
  isplitl [H0]
  · iexists _; isplitr; swap; · iexact H0
    ipureintro; exact e0
  iexists _; isplitr; swap; · iexact H1
  ipureintro; rw [eg, e0]; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, defs₀_row]
  exact triple_restated (sound_body V c t) rfl .rfl fun _ => .rfl

/-! ## What the result array holds -/

/-- The whole result: head `h`'s block is `bodyOut`'s of the head's block of `q`. -/
def outArr (Xq Xk : S32x4096x64.Idx → F .f32) : S32x1x4096.Idx → F .f32 :=
  fun j => bodyOut (F := F) (j 0) (fun y => Xq (ValueIdx.ix3 (j 0) (y 1) (y 2))) Xk (ValueIdx.ix3 (0 : Fin 1) (j 1) (j 2))

theorem index_0 : ∀ t : Fin cfg0.N, win0_0.index t = ![(grid0.coords t 0).val, 0, 0] := by decide +kernel
theorem index_1 : ∀ t : Fin cfg0.N, win0_1.index t = ![(grid0.coords t 0).val, 0, 0] := by decide +kernel

theorem iblk0_eq (c : Dev nD) (t : Fin cfg0.N) : (iblk V c 0 t : S1x4096x64.Idx → F .f32) = fun y => V c main_v0 (ValueIdx.ix3 (hd (grid0.coords t)) (y 1) (y 2)) := by
  funext y
  have hy : (y 0).val < 1 := (y 0).isLt
  blk_simp [iblk]
  refine congrArg (V c main_v0) ?_
  funext a
  match a with
  | ⟨0, _⟩ => apply Fin.ext; blk_simp [index_0]; rfl
  | ⟨1, _⟩ => apply Fin.ext; blk_simp [index_0]; rfl
  | ⟨2, _⟩ => apply Fin.ext; blk_simp [index_0]; rfl

/-- Where point `t`'s block of the result lies in the result. -/
theorem emb1_eq (t : Fin cfg0.N) (y : S1x1x4096.Idx) :
    (((cfg0.win 1).blk t).view.emb y : S32x1x4096.Idx) = ValueIdx.ix3 (hd (grid0.coords t)) (y 1) (y 2) := by
  have hy : (y 0).val < 1 := (y 0).isLt
  funext a
  match a with
  | ⟨0, _⟩ => apply Fin.ext; blk_simp [index_1]; rfl
  | ⟨1, _⟩ => apply Fin.ext; blk_simp [index_1]
  | ⟨2, _⟩ => apply Fin.ext; blk_simp [index_1]; rfl

theorem final_out (c : Dev nD) : (dat V c).arrAt 1 cfg0.N = outArr (F := F) (V c main_v0) (V c main_v1) := by
  refine (dat V c).arrAt_eq_of_covers 1 _ (by decide +kernel) fun t hf y => ?_
  refine Eq.trans ?_ (congrArg (outArr (F := F) (V c main_v0) (V c main_v1)) (emb1_eq t y)).symm
  blk_simp
  rw [after_1]
  unfold outAt outArr
  rw [iblk0_eq]
  have hy : y = (ValueIdx.ix3 (0 : Fin 1) (y 1) (y 2) : S1x1x4096.Idx) := by
    have hy : (y 0).val < 1 := (y 0).isLt
    funext a
    match a with
    | ⟨0, _⟩ => exact Fin.ext (by show (y 0).val = 0; omega)
    | ⟨1, _⟩ => rfl
    | ⟨2, _⟩ => rfl
  exact congrArg (bodyOut (hd (grid0.coords t)) _ _) hy

end Cert.WholeIdeal.Score
-- ==== Proof.WholeTopKBody.lean ====
module
public import proofs.«01_k».proof.Proof.Gen.WholeIdeal
public import proofs.«01_k».proof.Proof.Gen.WholeIdeal.Skeleton
public import Idealize.ShloMosaic.Lib.Exec
public import Idealize.ShloMosaic.Lib.Ring
public import Idealize.ShloMosaic.Lib.Tactic
public import Idealize.ShloMosaic.Lib.VecWindow
public import Idealize.ShloMosaic.Lib.Pipeline.Kit
public import Idealize.ShloMosaic.Lib.Pipeline.Frame
@[expose] public section
set_option maxRecDepth 16384
noncomputable section
/-! # The kernel's top-k call: what its loop carries and what it leaves -/
namespace Cert.WholeIdeal.TopK
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Idealize.ShloMosaic.Rounds
open Cert.WholeIdeal Cert.WholeIdeal.Gen

variable {F : FTy → Type} [FloatOps F]
local notation "𝕄" => MT nD τ sig Unit (Elt F) ℕ (Pipeline.UD sig nD τ) ℕ

/-- The scratch before turn `k`, from `Y`: the entries of the turns before it lowered. -/
def scAt (Y : Vec F S32x4096 .f32) : ℕ → Vec F S32x4096 .f32
  | 0 => Y
  | k + 1 => k1_pay4 (scAt Y k)

/-- The numbers gathered before turn `k`. -/
def accAt (Y : Vec F S32x4096 .f32) : ℕ → IVec S32x64 32
  | 0 => k1_pay2
  | k + 1 => if h : k < k1_t1_loop.trips then k1_pay5 ⟨k, h⟩ (accAt Y k) (scAt Y k) else accAt Y k

theorem trips_eq : Scf.trips k1_t1_loop.lb k1_t1_loop.ub k1_t1_loop.st = 45 := by decide +kernel

theorem accAt_succ (Y : Vec F S32x4096 .f32) (k : Fin k1_t1_loop.trips) :
    accAt Y (k.val + 1) = k1_pay5 k (accAt Y k.val) (scAt Y k.val) := by
  rw [accAt]; exact dif_pos k.isLt

/-- The scratch's buffer before turn `k`, from `g`. -/
def bufAt (arg2 : Memref sig .tc .vmem S32x4096 .f32) (g : arg2.view.ty.Contents (Elt F)) : ℕ → arg2.view.ty.Contents (Elt F)
  | 0 => g
  | k + 1 => arg2.view.writes (Elt F) (bufAt arg2 g k)
      [⟨Rect.unit (s := S32x4096) ![0, 0] S32x4096.size inb_S32x4096_S32x4096_0_0, k1_pay4 (arg2.view.read (Elt F) (bufAt arg2 g k))⟩]

theorem bufAt_read (arg2 : Memref sig .tc .vmem S32x4096 .f32) (g : arg2.view.ty.Contents (Elt F)) :
    ∀ k, arg2.view.read (Elt F) (bufAt arg2 g k) = scAt (arg2.view.read (Elt F) g) k
  | 0 => rfl
  | k + 1 => by
    refine (View.read_writes_full (L := []) _ _ inb_S32x4096_S32x4096_0_0 _).trans ?_
    rw [bufAt_read arg2 g k]; rfl

set_option warn.classDefReducibility false in
set_option maxHeartbeats 4000000 in
@[sl_loop] def loopInv (c : Dev nD) (arg0 : Memref sig .tc .vmem S32x1x4096 .f32) (harg0 : arg0.IsWhole) (arg1 : Memref sig .tc .vmem S32x64 .i32) (harg1 : arg1.IsWhole)
    (arg2 : Memref sig .tc .vmem S32x4096 .f32) (harg2 : arg2.IsWhole) (g : Buf (Elt F) (arg2.view.loc (c : Thread nD τ))) :
    Idealize.ShloMosaic.LoopInv (M := 𝕄) Idealize.ShloMosaic.frame (wpE (defs₀ (F := F)) Variants.none (c : Thread nD τ) none) Set.univ
      k1_t1_loop.lb k1_t1_loop.ub k1_t1_loop.st k1_t1_ok k1_pay2 (k1_t1_body (F := F) arg0 harg0 arg1 harg1 arg2 harg2) where
  inv k acc := iprop((arg2.view.loc (c : Thread nD τ) ↦[arg2.view.set]{fullShare} bufAt arg2 g k) ∗ ⌜acc = accAt (arg2.view.read (Elt F) g) k⌝)
  step k acc := by
    have e2 : accAt (arg2.view.read (Elt F) g) (k.val + 1)
        = k1_pay5 k (accAt (arg2.view.read (Elt F) g) k.val) (arg2.view.read (Elt F) (bufAt arg2 g k.val)) := by
      rw [bufAt_read]; exact accAt_succ _ k
    rw [bufAt, e2]
    iintro ⟨H2, %ea⟩
    unfold k1_t1_body
    sl_exec
    sl_step
    rw [View.readAt_full arg2.view (bufAt arg2 g k.val) inb_S32x4096_S32x4096_0_0]
    isplitl [H2]; · iexact H2
    ipureintro
    rw [ea]

set_option maxHeartbeats 4000000 in
/-- The kernel's body: the measures' buffer, the result's and the scratch at anything; the result is what the loop's turns gather. -/
theorem bodySpec (c : Dev nD) (arg0 : Memref sig .tc .vmem S32x1x4096 .f32) (harg0 : arg0.IsWhole) (arg1 : Memref sig .tc .vmem S32x64 .i32) (harg1 : arg1.IsWhole)
    (arg2 : Memref sig .tc .vmem S32x4096 .f32) (harg2 : arg2.IsWhole)
    (f0 : Buf (Elt F) (arg0.view.loc (c : Thread nD τ))) (f1 : Buf (Elt F) (arg1.view.loc (c : Thread nD τ))) (f2 : Buf (Elt F) (arg2.view.loc (c : Thread nD τ)))
    (K : _ → sProp 𝕄) :
    iprop((arg0.view.loc (c : Thread nD τ) ↦[arg0.view.set]{fullShare} f0)
      ∗ (arg1.view.loc (c : Thread nD τ) ↦[arg1.view.set]{fullShare} f1)
      ∗ (arg2.view.loc (c : Thread nD τ) ↦[arg2.view.set]{fullShare} f2)
      ∗ (iprop((arg0.view.loc (c : Thread nD τ) ↦[arg0.view.set]{fullShare} f0)
          ∗ (∃ g, ⌜arg1.view.read (Elt F) g = accAt (k1_pay1 (arg0.view.read (Elt F) f0)) 45⌝ ∗ (arg1.view.loc (c : Thread nD τ) ↦[arg1.view.set]{fullShare} g))
          ∗ (∃ g, arg2.view.loc (c : Thread nD τ) ↦[arg2.view.set]{fullShare} g)) -∗ K ⟨⟩))
    ⊢ wp frame (wpE (defs₀ (F := F)) Variants.none c none) Set.univ (cc1__topk_kernel arg0 harg0 arg1 harg1 arg2 harg2) K := by
  iintro ⟨H0, H1, H2, Hk⟩
  rw [cc1__topk_kernel_eq_skeleton]; unfold cc1__topk_kernel_skel
  sl_exec
  sl_step
  iapply Hk
  isplitl [H0]; · iexact H0
  isplitl [H1]
  · iexists _; isplitr; swap; · iexact H1
    ipureintro
    refine (View.read_writes_full (L := []) _ _ inb_S32x64_S32x64_0_0 _).trans ?_
    refine congr (congrArg accAt ?_) trips_eq
    refine (View.read_writes_full (L := []) arg2.view _ inb_S32x4096_S32x4096_0_0 _).trans ?_
    rw [View.readAt_full arg0.view f0 inb_S32x1x4096_S32x1x4096_0_0_0]
  iexists _; iexact H2

end Cert.WholeIdeal.TopK
-- ==== Proof.WholeTopK.lean ====
module
public import proofs.«01_k».proof.Proof.Gen.WholeIdeal.Points
public import proofs.«01_k».proof.Proof.WholeRegion
public import proofs.«01_k».proof.Proof.WholeTopKBody
public import Idealize.ShloMosaic.Lib.Pipeline.FrameBody
public import Idealize.ShloMosaic.Lib.Pipeline.ValueKit
public import Idealize.ShloMosaic.Lib.Pipeline.Value
@[expose] public section
set_option maxRecDepth 16384
noncomputable section
/-! # In the whole kernel, the top-k call -/
namespace Cert.WholeIdeal.TopK
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Idealize.ShloMosaic.Rounds
open Cert.WholeIdeal Cert.WholeIdeal.Gen
open Idealize.ShloMosaic.Pipeline (Dat Cfg Window BodyObligation cellOf)

variable {F : FTy → Type} [FloatOps F]
local notation "𝕄" => MT nD τ sig Unit (Elt F) ℕ (Pipeline.UD sig nD τ) ℕ

open Cert.WholeIdeal.Hand

/-- The whole result, of the measures. -/
def outArr (X : Vec F S32x1x4096 .f32) : IVec S32x64 32 := accAt (k1_pay1 X) 45

/-- It has no semaphore of its own. -/
abbrev osem : Fin 0 → SemLoc sig := Fin.elim0
theorem ownSemFacts : Pipeline.OwnSemFacts spec1 osem := by decide

variable (V : Vals F)

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the call. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => outArr (iblk V c 0 t)
  Φ _ := kept osem spec1 V c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = outArr (iblk V c 0 t) := by dsimp only [dat]
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

abbrev ms_0 (t : Fin cfg1.N) : Memref sig .tc .vmem S32x1x4096 .f32 := win1_0.stage (cfg1.slots t 0)
abbrev ms_1 (t : Fin cfg1.N) : Memref sig .tc .vmem S32x64 .i32 := win1_1.stage (cfg1.slots t 1)

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d)))
def bodyPost (c : Dev nD) (t : Fin cfg1.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).Φ t.succ = (dat V c).Φ t.castSucc from rfl,
    show (dat V c).owesAt () t.succ = (dat V c).owesAt () t.castSucc from rfl, after_0, after_1]
  rw [show (dat V c).Φ t.castSucc = kept osem spec1 V c from rfl]
  unfold kept
  rw [scopedRest1_eq]
  unfold owns
  iintro ⟨⟨⟨Ha, Hb, Hc, Hd, He, ⟨%fs, HS⟩, Hr⟩, Hos, Hu⟩, Ho, ⟨%d0, %f0, %e0, H0⟩, ⟨%d1, %f1, -, H1⟩⟩
  iapply (bodySpec c (ms_0 t) (hstage1_0 0) (ms_1 t) (hstage1_1 0) (Memref.whole cc1_scratch0) (Memref.isWhole_whole _) f0 f1 fs _)
  rw [show (Memref.whole cc1_scratch0).view.set = Finset.univ from View.set_whole _]
  isplitl [H0]; · iexact H0
  isplitl [H1]; · iexact H1
  isplitl [HS]; · iexact HS
  iintro ⟨H0, ⟨%g, %eg, H1⟩, HS⟩
  isplitl [HS Ha Hb Hc Hd He Hr Hos Hu]
  · isplitr [Hos Hu]
    · isplitl [Ha]; · iexact Ha
      isplitl [Hb]; · iexact Hb
      isplitl [Hc]; · iexact Hc
      isplitl [Hd]; · iexact Hd
      isplitl [He]; · iexact He
      isplitl [HS]; · iexact HS
      iexact Hr
    isplitl [Hos] <;> iassumption
  isplitl [Ho]; · iexact Ho
  isplitl [H0]
  · iexists _; isplitr; swap; · iexact H0
    ipureintro; exact e0
  iexists _; isplitr; swap; · iexact H1
  ipureintro; rw [eg, e0]; rfl

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, defs₀_row]
  exact triple_restated (sound_body V c t) rfl .rfl fun _ => .rfl

/-! ## What the result array holds -/

theorem index_0 : ∀ t : Fin cfg1.N, win1_0.index t = ![0, 0, 0] := by decide +kernel
theorem index_1 : ∀ t : Fin cfg1.N, win1_1.index t = ![0, 0] := by decide +kernel

theorem iblk0_eq (c : Dev nD) (t : Fin cfg1.N) : (iblk V c 0 t : S32x1x4096.Idx → F .f32) = V c main_v3 := by
  funext y
  blk_simp [iblk]
  refine congrArg (V c main_v3) ?_
  funext a
  match a with
  | ⟨0, _⟩ => apply Fin.ext; blk_simp [index_0]
  | ⟨1, _⟩ => apply Fin.ext; blk_simp [index_0]
  | ⟨2, _⟩ => apply Fin.ext; blk_simp [index_0]

theorem emb1_eq (t : Fin cfg1.N) (y : S32x64.Idx) : (((cfg1.win 1).blk t).view.emb y : S32x64.Idx) = y := by
  funext a
  match a with
  | ⟨0, _⟩ => apply Fin.ext; blk_simp [index_1]
  | ⟨1, _⟩ => apply Fin.ext; blk_simp [index_1]

theorem final_out (c : Dev nD) : (dat V c).arrAt 1 cfg1.N = outArr (F := F) (V c main_v3) := by
  refine (dat V c).arrAt_eq_of_covers 1 _ (by decide +kernel) fun t hf y => ?_
  refine Eq.trans ?_ (congrArg (outArr (F := F) (V c main_v3)) (emb1_eq t y)).symm
  blk_simp
  rw [after_1, iblk0_eq]

end Cert.WholeIdeal.TopK
-- ==== Proof.WholeAttnRows.lean ====
module
public import proofs.«01_k».proof.Proof.Gen.WholeIdeal
public import proofs.«01_k».proof.Proof.Gen.WholeIdeal.Skeleton
public import proofs.«01_k».proof.Proof.Gen.WholeIdeal.Points
public import proofs.«01_k».proof.Proof.Gen.WholeIdeal.Loops
public import proofs.«01_k».proof.Proof.Gen.WholeIdeal.Launch
public import Idealize.ShloMosaic.Lib.Batch
public import Idealize.ShloMosaic.Lib.Tactic
public import Idealize.ShloMosaic.Lib.Pipeline.Kit
public import Idealize.ShloMosaic.Lib.Pipeline.Frame
public import Idealize.ShloMosaic.Lib.ValueIdxCore
public import Idealize.ShloMosaic.Lib.VecWindow
public import Idealize.ShloMosaic.Lib.Pipeline.Value
@[expose] public section
set_option maxRecDepth 16384
noncomputable section
namespace Cert.WholeIdeal.Attn
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Cert.WholeIdeal Cert.WholeIdeal.Gen

variable {F : FTy → Type} [FloatOps F]
local notation "𝕄" => MT nD τ sig Unit (Elt F) ℕ (Pipeline.UD sig nD τ) ℕ

abbrev qM : Memref sig .tc .hbm S32x4096x64 .f32 := Memref.whole main_v0
abbrev sM : Memref sig .tc .vmem S45x64 .f32 := Memref.whole cc2_scratch0

/-- A row of one head of `q` that a word below 4096 names lies inside the array. -/
theorem row_inb (i : grid2.Coords) (v : BitVec 32) (h : v.toNat < 4096) :
    ∀ a, (![(BitVec.ofNat 32 (i 0).val).toNat, v.toNat, 0] : Fin 3 → ℕ) a + S1x1x64.size a ≤ S32x4096x64.size a := by
  have hi : (i 0).val < 32 := (i 0).isLt
  intro a
  fin_cases a
  · show (BitVec.ofNat 32 (i 0).val).toNat + 1 ≤ 32
    rw [BitVec.toNat_ofNat]; omega
  · show v.toNat + 1 ≤ 4096
    omega
  · show 0 + 64 ≤ 64
    omega
theorem chk1_of (i : grid2.Coords) (v : BitVec 32) (h : v.toNat < 4096) : k2_chk1 i v := ⟨row_inb i v h, row_inb i v h⟩
theorem chk2_of (i : grid2.Coords) (v : BitVec 32) (h : v.toNat < 4096) : k2_chk2 i v := ⟨row_inb i v h, row_inb i v h⟩
theorem chk3_of (i : grid2.Coords) (v : BitVec 32) (h : v.toNat < 4096) : k2_chk3 i v := ⟨row_inb i v h, row_inb i v h⟩
theorem chk4_of (i : grid2.Coords) (v : BitVec 32) (h : v.toNat < 4096) : k2_chk4 i v := ⟨row_inb i v h, row_inb i v h⟩
theorem chk5_of (i : grid2.Coords) (v : BitVec 32) (h : v.toNat < 4096) : k2_chk5 i v := ⟨row_inb i v h, row_inb i v h⟩
theorem chk6_of (i : grid2.Coords) (v : BitVec 32) (h : v.toNat < 4096) : k2_chk6 i v := ⟨row_inb i v h, row_inb i v h⟩
theorem chk7_of (i : grid2.Coords) (v : BitVec 32) (h : v.toNat < 4096) : k2_chk7 i v := ⟨row_inb i v h, row_inb i v h⟩
theorem chk8_of (i : grid2.Coords) (v : BitVec 32) (h : v.toNat < 4096) : k2_chk8 i v := ⟨row_inb i v h, row_inb i v h⟩
theorem chk9_of (i : grid2.Coords) (v : BitVec 32) (h : v.toNat < 4096) : k2_chk9 i v := ⟨row_inb i v h, row_inb i v h⟩
theorem chk10_of (i : grid2.Coords) (v : BitVec 32) (h : v.toNat < 4096) : k2_chk10 i v := ⟨row_inb i v h, row_inb i v h⟩
theorem chk11_of (i : grid2.Coords) (v : BitVec 32) (h : v.toNat < 4096) : k2_chk11 i v := ⟨row_inb i v h, row_inb i v h⟩
theorem chk12_of (i : grid2.Coords) (v : BitVec 32) (h : v.toNat < 4096) : k2_chk12 i v := ⟨row_inb i v h, row_inb i v h⟩
theorem chk13_of (i : grid2.Coords) (v : BitVec 32) (h : v.toNat < 4096) : k2_chk13 i v := ⟨row_inb i v h, row_inb i v h⟩
theorem chk14_of (i : grid2.Coords) (v : BitVec 32) (h : v.toNat < 4096) : k2_chk14 i v := ⟨row_inb i v h, row_inb i v h⟩
theorem chk15_of (i : grid2.Coords) (v : BitVec 32) (h : v.toNat < 4096) : k2_chk15 i v := ⟨row_inb i v h, row_inb i v h⟩
theorem chk16_of (i : grid2.Coords) (v : BitVec 32) (h : v.toNat < 4096) : k2_chk16 i v := ⟨row_inb i v h, row_inb i v h⟩
theorem chk17_of (i : grid2.Coords) (v : BitVec 32) (h : v.toNat < 4096) : k2_chk17 i v := ⟨row_inb i v h, row_inb i v h⟩
theorem chk18_of (i : grid2.Coords) (v : BitVec 32) (h : v.toNat < 4096) : k2_chk18 i v := ⟨row_inb i v h, row_inb i v h⟩
theorem chk19_of (i : grid2.Coords) (v : BitVec 32) (h : v.toNat < 4096) : k2_chk19 i v := ⟨row_inb i v h, row_inb i v h⟩
theorem chk20_of (i : grid2.Coords) (v : BitVec 32) (h : v.toNat < 4096) : k2_chk20 i v := ⟨row_inb i v h, row_inb i v h⟩
theorem chk21_of (i : grid2.Coords) (v : BitVec 32) (h : v.toNat < 4096) : k2_chk21 i v := ⟨row_inb i v h, row_inb i v h⟩
theorem chk22_of (i : grid2.Coords) (v : BitVec 32) (h : v.toNat < 4096) : k2_chk22 i v := ⟨row_inb i v h, row_inb i v h⟩
theorem chk23_of (i : grid2.Coords) (v : BitVec 32) (h : v.toNat < 4096) : k2_chk23 i v := ⟨row_inb i v h, row_inb i v h⟩
theorem chk24_of (i : grid2.Coords) (v : BitVec 32) (h : v.toNat < 4096) : k2_chk24 i v := ⟨row_inb i v h, row_inb i v h⟩
theorem chk25_of (i : grid2.Coords) (v : BitVec 32) (h : v.toNat < 4096) : k2_chk25 i v := ⟨row_inb i v h, row_inb i v h⟩
theorem chk26_of (i : grid2.Coords) (v : BitVec 32) (h : v.toNat < 4096) : k2_chk26 i v := ⟨row_inb i v h, row_inb i v h⟩
theorem chk27_of (i : grid2.Coords) (v : BitVec 32) (h : v.toNat < 4096) : k2_chk27 i v := ⟨row_inb i v h, row_inb i v h⟩
theorem chk28_of (i : grid2.Coords) (v : BitVec 32) (h : v.toNat < 4096) : k2_chk28 i v := ⟨row_inb i v h, row_inb i v h⟩
theorem chk29_of (i : grid2.Coords) (v : BitVec 32) (h : v.toNat < 4096) : k2_chk29 i v := ⟨row_inb i v h, row_inb i v h⟩
theorem chk30_of (i : grid2.Coords) (v : BitVec 32) (h : v.toNat < 4096) : k2_chk30 i v := ⟨row_inb i v h, row_inb i v h⟩
theorem chk31_of (i : grid2.Coords) (v : BitVec 32) (h : v.toNat < 4096) : k2_chk31 i v := ⟨row_inb i v h, row_inb i v h⟩
theorem chk32_of (i : grid2.Coords) (v : BitVec 32) (h : v.toNat < 4096) : k2_chk32 i v := ⟨row_inb i v h, row_inb i v h⟩
theorem chk33_of (i : grid2.Coords) (v : BitVec 32) (h : v.toNat < 4096) : k2_chk33 i v := ⟨row_inb i v h, row_inb i v h⟩
theorem chk34_of (i : grid2.Coords) (v : BitVec 32) (h : v.toNat < 4096) : k2_chk34 i v := ⟨row_inb i v h, row_inb i v h⟩
theorem chk35_of (i : grid2.Coords) (v : BitVec 32) (h : v.toNat < 4096) : k2_chk35 i v := ⟨row_inb i v h, row_inb i v h⟩
theorem chk36_of (i : grid2.Coords) (v : BitVec 32) (h : v.toNat < 4096) : k2_chk36 i v := ⟨row_inb i v h, row_inb i v h⟩
theorem chk37_of (i : grid2.Coords) (v : BitVec 32) (h : v.toNat < 4096) : k2_chk37 i v := ⟨row_inb i v h, row_inb i v h⟩
theorem chk38_of (i : grid2.Coords) (v : BitVec 32) (h : v.toNat < 4096) : k2_chk38 i v := ⟨row_inb i v h, row_inb i v h⟩
theorem chk39_of (i : grid2.Coords) (v : BitVec 32) (h : v.toNat < 4096) : k2_chk39 i v := ⟨row_inb i v h, row_inb i v h⟩
theorem chk40_of (i : grid2.Coords) (v : BitVec 32) (h : v.toNat < 4096) : k2_chk40 i v := ⟨row_inb i v h, row_inb i v h⟩
theorem chk41_of (i : grid2.Coords) (v : BitVec 32) (h : v.toNat < 4096) : k2_chk41 i v := ⟨row_inb i v h, row_inb i v h⟩
theorem chk42_of (i : grid2.Coords) (v : BitVec 32) (h : v.toNat < 4096) : k2_chk42 i v := ⟨row_inb i v h, row_inb i v h⟩
theorem chk43_of (i : grid2.Coords) (v : BitVec 32) (h : v.toNat < 4096) : k2_chk43 i v := ⟨row_inb i v h, row_inb i v h⟩
theorem chk44_of (i : grid2.Coords) (v : BitVec 32) (h : v.toNat < 4096) : k2_chk44 i v := ⟨row_inb i v h, row_inb i v h⟩
theorem chk45_of (i : grid2.Coords) (v : BitVec 32) (h : v.toNat < 4096) : k2_chk45 i v := row_inb i v h

theorem chk46_of (v : BitVec 32) (h : v.toNat < 4096) : k2_chk46 v := by
  intro a
  fin_cases a
  · show 0 + 1 ≤ 1
    omega
  · show (Scalar.indexCast v).toNat + 1 ≤ 4096
    have : (Scalar.indexCast v).toNat = v.toNat := rfl
    omega
  · show 0 + 64 ≤ 64
    omega

/-- The read share of `q` the `n`th row copy takes. -/
def qTok (n : ℕ) : PosShare TreeShare := Transfers.shareTokN fullShare n

section Run
variable (c : Dev nD) (i : grid2.Coords) (arg1 : Memref sig .tc .smem S2048 .i32) (harg1 : arg1.IsWhole)
  (arg3 arg4 arg5 : Memref sig .tc .vmem S1x4096x64 .f32) (harg3 : arg3.IsWhole) (harg4 : arg4.IsWhole) (harg5 : arg5.IsWhole)

/-- Every word the kernel may read off the index buffer names a row. -/
def InRange (f1 : Buf (Elt F) (arg1.view.loc (c : Thread nD τ))) : Prop :=
  ∀ (o : Fin 1 → ℕ) h y, BitVec.toNat (w := 32) (arg1.view.readAt (Elt F) (Rect.unit (s := S2048) o S1.size h).toLoadRect f1 y) < 4096

/-- The word trip `k` of the second loop reads. -/
abbrev wordT (f1 : Buf (Elt F) (arg1.view.loc (c : Thread nD τ))) (k : Fin k2_t1_loop.trips) : BitVec 32 :=
  arg1.view.readAt (Elt F) (Rect.unit (s := S2048) (k2_off136 i k) S1.size (k2_off136_inb i k)).toLoadRect f1 (Shape.Idx.first (numel1_S1.symm ▸ Nat.one_pos))

/-- The result's buffer before trip `k` of the second loop: the rows of the trips before it written over `g`. -/
def scB (f1 : Buf (Elt F) (arg1.view.loc (c : Thread nD τ))) (hr : InRange c arg1 f1) (fs : Buf (Elt F) (sM.view.loc (c : Thread nD τ)))
    (g : Buf (Elt F) (arg5.view.loc (c : Thread nD τ))) : ℕ → Buf (Elt F) (arg5.view.loc (c : Thread nD τ))
  | 0 => g
  | k + 1 => if h : k < k2_t1_loop.trips then
      arg5.view.writes (Elt F) (scB f1 hr fs g k)
        [⟨Rect.unit (s := S1x4096x64) (k2_off137 (wordT c i arg1 f1 ⟨k, h⟩)) S1x1x64.size (k2_off137_inb _ (chk46_of _ (hr _ _ _))),
          k2_pay3 (sM.view.readAt (Elt F) (Rect.unit (s := S45x64) (k2_off135 ⟨k, h⟩) S1x64.size (k2_off135_inb ⟨k, h⟩)).toLoadRect fs)⟩]
      else scB f1 hr fs g k

set_option warn.classDefReducibility false in
set_option maxHeartbeats 4000000 in
@[sl_loop] def loopInv (f1 : Buf (Elt F) (arg1.view.loc (c : Thread nD τ))) (hr : InRange c arg1 f1) (fs : Buf (Elt F) (sM.view.loc (c : Thread nD τ)))
    (g : Buf (Elt F) (arg5.view.loc (c : Thread nD τ))) :
    LoopInvTy_k2_t1 (F := F) Unit ℕ (Pipeline.UD sig nD τ) ℕ Variants.none c none Set.univ i arg1 harg1 qM (Memref.isWhole_whole _)
      arg3 harg3 arg4 harg4 arg5 harg5 sM (Memref.isWhole_whole _) cc2_scratch1 where
  inv k _ := iprop((arg1.view.loc (c : Thread nD τ) ↦[arg1.view.set]{fullShare} f1)
    ∗ (sM.view.loc (c : Thread nD τ) ↦{fullShare} fs)
    ∗ (arg5.view.loc (c : Thread nD τ) ↦[arg5.view.set]{fullShare} scB c i arg1 arg5 f1 hr fs g k))
  step k _ := by
    have e : scB c i arg1 arg5 f1 hr fs g (k.val + 1) = arg5.view.writes (Elt F) (scB c i arg1 arg5 f1 hr fs g k.val)
        [⟨Rect.unit (s := S1x4096x64) (k2_off137 (wordT c i arg1 f1 k)) S1x1x64.size (k2_off137_inb _ (chk46_of _ (hr _ _ _))),
          k2_pay3 (sM.view.readAt (Elt F) (Rect.unit (s := S45x64) (k2_off135 k) S1x64.size (k2_off135_inb k)).toLoadRect fs)⟩] := by
      rw [scB]; exact dif_pos k.isLt
    rw [e]
    iintro ⟨H1, HS, H5⟩
    unfold k2_t1_body
    sl_exec (disch := (with_reducible apply chk46_of); exact hr _ _ _)
    sl_step
    isplitl [H1]; · iexact H1
    isplitl [HS]; · iexact HS
    iexact H5
end Run

/-! ## What the kernel computes, of arrays -/

section Values
open Idealize.ShloMosaic.ValueIdx
variable {X : EltTy → Type}

/-- Word `t` of head `h` of the index array. -/
def wordAt (X1 : S2048.Idx → BitVec 32) (h : Fin 32) (t : Fin 45) : BitVec 32 :=
  X1 (ix1 ⟨64 * h.val + t.val, by omega⟩)

/-- The head grid point `i` works on. -/
def hd (i : grid2.Coords) : Fin 32 := ⟨(i 0).val, (i 0).isLt⟩

/-- The row of `q` a word names. -/
def rowNo (v : BitVec 32) : Fin 4096 := ⟨v.toNat % 4096, Nat.mod_lt _ (by decide)⟩

/-- The 45 rows of `q` the words of a head pick. -/
def rowsOf (X1 : S2048.Idx → BitVec 32) (Xq : S32x4096x64.Idx → F .f32) (h : Fin 32) : S45x64.Idx → F .f32 :=
  fun j => Xq (ix3 h (rowNo (wordAt X1 h (j 0))) (j 1))

/-- The block `A` after the rows `0 … k - 1` of `U` are stored over it, row `t` at the place `w t`. -/
def scatF {α : Type} (w : Fin 45 → BitVec 32) (U : S45x64.Idx → α) (A : S1x4096x64.Idx → α) : ℕ → S1x4096x64.Idx → α
  | 0 => A
  | k + 1 => fun y => if h : k < 45 then
      if (y 1).val = (w ⟨k, h⟩).toNat then U (ix2 ⟨k, h⟩ (y 2)) else scatF w U A k y
    else scatF w U A k y

/-- The block of the result grid point `i` leaves, of what its operands read. -/
def bodyOut (h : Fin 32) (X1 : S2048.Idx → BitVec 32) (Xq : S32x4096x64.Idx → F .f32) (X3 X4 : S1x4096x64.Idx → F .f32) :
    S1x4096x64.Idx → F .f32 :=
  scatF (wordAt X1 h) (k2_pay2 (k2_pay4 X3) (k2_pay5 X4) (rowsOf X1 Xq h) (constant S45x4096 .f32 0x00000000#32)) (k2_pay1 (k2_pay5 X4)) 45
end Values

/-! ## The kernel's reads and writes are those -/

section Reads
open Idealize.ShloMosaic.ValueIdx

/-- A word load off the index buffer. -/
theorem word_read (c : Dev nD) (i : grid2.Coords) (arg1 : Memref sig .tc .smem S2048 .i32) (f1 : Buf (Elt F) (arg1.view.loc (c : Thread nD τ)))
    {off : Fin 1 → ℕ} (inb : ∀ a, off a + S1.size a ≤ S2048.size a) (t : Fin 45) (ho : off = ![64 * (i 0).val + t.val])
    (x : (Rect.unit (s := S2048) off S1.size inb).toLoadRect.shape.Idx) :
    arg1.view.readAt (Elt F) (Rect.unit (s := S2048) off S1.size inb).toLoadRect f1 x
      = wordAt (arg1.view.read (Elt F) f1) (hd i) t := by
  subst ho
  rw [View.readAt_apply]
  refine congrArg (arg1.view.read (Elt F) f1) (funext fun a => Fin.ext ?_)
  have hx : (x 0).val < 1 := (x 0).isLt
  match a with
  | ⟨0, _⟩ =>
    show 64 * (i 0).val + t.val + 1 * (x 0).val = 64 * (i 0).val + t.val
    omega

/-- One row copy's payload: the row of `q` the word names. -/
theorem pay_row (c : Dev nD) (i : grid2.Coords) (v : BitVec 32) (hv : v.toNat < 4096) {off : Fin 3 → ℕ}
    (hoff : off = ![(BitVec.ofNat 32 (i 0).val).toNat, v.toNat, 0]) (inb : ∀ a, off a + S1x1x64.size a ≤ S32x4096x64.size a)
    (hst) (hsq : (Rect.unit (s := S32x4096x64) off S1x1x64.size inb).shape.Squeezes S1x64) (fq : Buf (Elt F) (qM.view.loc (c : Thread nD τ))) (j : S1x64.Idx) :
    View.read (Elt F) ((qM.slice (Rect.unit (s := S32x4096x64) off S1x1x64.size inb) hst).squeeze S1x64 hsq).view fq j
      = qM.view.read (Elt F) fq (ix3 (hd i) (rowNo v) (j 1)) := by
  subst hoff
  show qM.view.read (Elt F) fq ((Rect.unit (s := S32x4096x64) _ S1x1x64.size inb).emb (Shape.reshapeEquiv hsq.numel_eq j)) = _
  have e : Shape.reshapeEquiv (s' := S1x64) (s := S1x1x64) hsq.numel_eq j = Fin.cons ⟨0, Nat.one_pos⟩ j := Shape.reshapeEquiv_cons_one _ j
  have hj : (j 0).val < 1 := (j 0).isLt
  have hi : (i 0).val < 32 := (i 0).isLt
  have hb : (BitVec.ofNat 32 (i 0).val).toNat = (i 0).val := by rw [BitVec.toNat_ofNat]; omega
  refine congrArg (qM.view.read (Elt F) fq) ?_
  refine (congrArg _ e).trans (funext fun a => Fin.ext ?_)
  match a with
  | ⟨0, _⟩ =>
    show (BitVec.ofNat 32 (i 0).val).toNat + 1 * 0 = (i 0).val
    omega
  | ⟨1, _⟩ =>
    show v.toNat + 1 * (j 0).val = v.toNat % 4096
    omega
  | ⟨2, _⟩ =>
    show 0 + 1 * (j 1).val = (j 1).val
    omega

/-- A list of pieces that all hold the values of one function reads that function wherever some piece covers. -/
theorem read_pieces {sig' : RefSig} {κ : Kind} {sp : Space} {s : Shape} {e : EltTy} {Val : EltTy → Type} (v : View sig' κ sp s e)
    (f : v.ty.Contents Val) (G : s.Idx → Val e) (y : s.Idx) : ∀ L : List (View.Piece Val s e), (∀ p ∈ L, ∀ x, p.2 x = G (p.1.emb x)) →
      (∃ p ∈ L, y ∈ p.1.set) → v.read Val (v.writes Val f L) y = G y
  | [], _, h => by obtain ⟨_, hm, _⟩ := h; exact absurd hm List.not_mem_nil
  | p :: L, ha, h => by
    by_cases hy : y ∈ p.1.set
    · obtain ⟨x, rfl⟩ : ∃ x, p.1.emb x = y := p.1.exists_idx_of_mem hy
      obtain ⟨r, w⟩ := p
      rw [View.read_writes_cons_emb]
      exact ha _ List.mem_cons_self x
    · have hy' : y ∉ Finset.univ.map p.1.emb := by rwa [Rect.map_emb_univ]
      rw [View.writes_cons, View.read_slice_write_of_not_mem p.1 _ _ _ hy']
      refine read_pieces v f G y L (fun p' hp => ha p' (List.mem_cons_of_mem _ hp)) ?_
      obtain ⟨p', hm, hy2⟩ := h
      rcases List.mem_cons.mp hm with rfl | hm
      · exact absurd hy2 hy
      · exact ⟨p', hm, hy2⟩

/-- A row of the scratch, placed. -/
theorem row_emb {k : ℕ} (hk : k < 45) (inb : ∀ a, (![k, 0] : Fin 2 → ℕ) a + S1x64.size a ≤ S45x64.size a) (x : S1x64.Idx) :
    (Rect.unit (s := S45x64) ![k, 0] S1x64.size inb).emb x = ix2 ⟨k, hk⟩ (x 1) := by
  have hx : (x 0).val < 1 := (x 0).isLt
  refine funext fun a => Fin.ext ?_
  match a with
  | ⟨0, _⟩ =>
    show k + 1 * (x 0).val = k
    omega
  | ⟨1, _⟩ =>
    show 0 + 1 * (x 1).val = (x 1).val
    omega

theorem trips45 : k2_t1_loop.trips = 45 := by decide +kernel

/-- The result's buffer in the second loop reads as the scattered block. -/
theorem scB_read (c : Dev nD) (i : grid2.Coords) (arg1 : Memref sig .tc .smem S2048 .i32) (arg5 : Memref sig .tc .vmem S1x4096x64 .f32)
    (f1 : Buf (Elt F) (arg1.view.loc (c : Thread nD τ))) (hr : InRange c arg1 f1) (fs : Buf (Elt F) (sM.view.loc (c : Thread nD τ)))
    (g : Buf (Elt F) (arg5.view.loc (c : Thread nD τ))) : ∀ k : ℕ, k ≤ 45 → ∀ y,
    arg5.view.read (Elt F) (scB c i arg1 arg5 f1 hr fs g k) y
      = scatF (wordAt (arg1.view.read (Elt F) f1) (hd i)) (sM.view.read (Elt F) fs) (arg5.view.read (Elt F) g) k y
  | 0, _, y => rfl
  | k + 1, hk, y => by
    have hk' : k < k2_t1_loop.trips := by rw [trips45]; omega
    have hk2 : k < 45 := by omega
    have ew : wordT c i arg1 f1 ⟨k, hk'⟩ = wordAt (arg1.view.read (Elt F) f1) (hd i) ⟨k, hk2⟩ :=
      word_read c i arg1 f1 (k2_off136_inb i ⟨k, hk'⟩) ⟨k, hk2⟩ (k2_off136_eq i ⟨k, hk'⟩) _
    rw [scB, dif_pos hk', scatF]
    simp only [dif_pos hk2]
    have ho : k2_off137 (wordT c i arg1 f1 ⟨k, hk'⟩) = ![0, (wordT c i arg1 f1 ⟨k, hk'⟩).toNat, 0] := rfl
    have hy0 : (y 0).val < 1 := (y 0).isLt
    split
    · rename_i h
      refine (View.read_writes_cons_unit_of_mem (size := S1x1x64.size) arg5.view (scB c i arg1 arg5 f1 hr fs g k) _ _ [] y
        (ix3 (0 : Fin 1) (0 : Fin 1) (y 2) : S1x1x64.Idx) ho ?_).trans ?_
      rotate_left
      · unfold k2_pay3
        refine (shapeCast_addUnit_apply (n := 2) ![1, 64] _ shapeCasts_S1x64_S1x1x64 (ix3 (0 : Fin 1) (0 : Fin 1) (y 2))).trans ?_
        show sM.view.read (Elt F) fs ((Rect.unit (s := S45x64) (k2_off135 ⟨k, hk'⟩) S1x64.size (k2_off135_inb ⟨k, hk'⟩)).toLoadRect.idx _) = _
        refine congrArg (sM.view.read (Elt F) fs) (funext fun a => Fin.ext ?_)
        have h135 := k2_off135_eq ⟨k, hk'⟩
        match a with
        | ⟨0, _⟩ =>
          show k2_off135 ⟨k, hk'⟩ 0 + 1 * 0 = k
          rw [h135]; rfl
        | ⟨1, _⟩ =>
          show k2_off135 ⟨k, hk'⟩ 1 + 1 * (y 2).val = (y 2).val
          rw [h135]
          show 0 + 1 * (y 2).val = (y 2).val
          omega
      · intro a
        match a with
        | ⟨0, _⟩ =>
          show (y 0).val = 0 + 0
          omega
        | ⟨1, _⟩ =>
          show (y 1).val = (wordT c i arg1 f1 ⟨k, hk'⟩).toNat + 0
          rw [ew, h]; rfl
        | ⟨2, _⟩ =>
          show (y 2).val = 0 + (y 2).val
          omega
    · rename_i h
      refine (View.read_writes_cons_unit_of_not_mem (size := S1x1x64.size) arg5.view (scB c i arg1 arg5 f1 hr fs g k) _ _ [] y ho ⟨1, by decide⟩ ?_).trans ?_
      rotate_left
      · exact scB_read c i arg1 arg5 f1 hr fs g k (by omega) y
      · rw [← ew] at h
        show (y 1).val < (wordT c i arg1 f1 ⟨k, hk'⟩).toNat ∨ (wordT c i arg1 f1 ⟨k, hk'⟩).toNat + 1 ≤ (y 1).val
        omega
end Reads

end Cert.WholeIdeal.Attn
-- ==== Proof.WholeAttnBody.lean ====
module
public import proofs.«01_k».proof.Proof.Gen.WholeIdeal
public import proofs.«01_k».proof.Proof.Gen.WholeIdeal.Skeleton
public import proofs.«01_k».proof.Proof.Gen.WholeIdeal.Points
public import proofs.«01_k».proof.Proof.Gen.WholeIdeal.Loops
public import proofs.«01_k».proof.Proof.Gen.WholeIdeal.Launch
public import proofs.«01_k».proof.Proof.WholeAttnRows
public import Idealize.ShloMosaic.Lib.Batch
public import Idealize.ShloMosaic.Lib.Ring
public import Idealize.ShloMosaic.Lib.Tactic
public import Idealize.ShloMosaic.Lib.Pipeline.Kit
public import Idealize.ShloMosaic.Lib.Pipeline.Frame
public import Idealize.ShloMosaic.Lib.ValueIdxCore
public import Idealize.ShloMosaic.Lib.VecWindow
public import Idealize.ShloMosaic.Lib.Pipeline.Value
@[expose] public section
set_option maxRecDepth 16384
noncomputable section
namespace Cert.WholeIdeal.Attn
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Cert.WholeIdeal Cert.WholeIdeal.Gen
open Idealize.ShloMosaic.ValueIdx

variable {F : FTy → Type} [FloatOps F]
local notation "𝕄" => MT nD τ sig Unit (Elt F) ℕ (Pipeline.UD sig nD τ) ℕ

set_option maxHeartbeats 40000000
set_option sl_exec.rejoinFuel 100
set_option sl_exec.stepHeartbeats 4000000
/-- The kernel's body at a grid point, `q` in the 45 read shares its row copies take: what it leaves is `bodyOut`'s block. -/
theorem bodyRun (c : Dev nD) (i : grid2.Coords) (arg1 : Memref sig .tc .smem S2048 .i32) (harg1 : arg1.IsWhole)
   (arg3 arg4 arg5 : Memref sig .tc .vmem S1x4096x64 .f32) (harg3 : arg3.IsWhole) (harg4 : arg4.IsWhole) (harg5 : arg5.IsWhole)
   (f1 : Buf (Elt F) (arg1.view.loc (c : Thread nD τ))) (fq : Buf (Elt F) (qM.view.loc (c : Thread nD τ))) (fs : Buf (Elt F) (sM.view.loc (c : Thread nD τ)))
   (f3 : Buf (Elt F) (arg3.view.loc (c : Thread nD τ))) (f4 : Buf (Elt F) (arg4.view.loc (c : Thread nD τ))) (f5 : Buf (Elt F) (arg5.view.loc (c : Thread nD τ)))
   (hr : InRange c arg1 f1) (W : Waits sig Unit) (K : _ → sProp 𝕄)
   (_plan : Transfers.BatchOf (c : Thread nD τ) (SemLoc.dma (sig := sig) 14) 45 (windows := true)) :
   iprop((arg1.view.loc (c : Thread nD τ) ↦[arg1.view.set]{fullShare} f1)
     ∗ (arg3.view.loc (c : Thread nD τ) ↦[arg3.view.set]{fullShare} f3)
     ∗ (arg4.view.loc (c : Thread nD τ) ↦[arg4.view.set]{fullShare} f4)
     ∗ (arg5.view.loc (c : Thread nD τ) ↦[arg5.view.set]{fullShare} f5)
     ∗ (sM.view.loc (c : Thread nD τ) ↦{fullShare} fs)
     ∗ semVal ((c : Thread nD τ), SemLoc.dma 14) 0
     ∗ owes (c : Thread nD τ) 0 W
     ∗ (qM.view.loc (c : Thread nD τ) ↦{qTok 0} fq)
     ∗ (qM.view.loc (c : Thread nD τ) ↦{qTok 1} fq)
     ∗ (qM.view.loc (c : Thread nD τ) ↦{qTok 2} fq)
     ∗ (qM.view.loc (c : Thread nD τ) ↦{qTok 3} fq)
     ∗ (qM.view.loc (c : Thread nD τ) ↦{qTok 4} fq)
     ∗ (qM.view.loc (c : Thread nD τ) ↦{qTok 5} fq)
     ∗ (qM.view.loc (c : Thread nD τ) ↦{qTok 6} fq)
     ∗ (qM.view.loc (c : Thread nD τ) ↦{qTok 7} fq)
     ∗ (qM.view.loc (c : Thread nD τ) ↦{qTok 8} fq)
     ∗ (qM.view.loc (c : Thread nD τ) ↦{qTok 9} fq)
     ∗ (qM.view.loc (c : Thread nD τ) ↦{qTok 10} fq)
     ∗ (qM.view.loc (c : Thread nD τ) ↦{qTok 11} fq)
     ∗ (qM.view.loc (c : Thread nD τ) ↦{qTok 12} fq)
     ∗ (qM.view.loc (c : Thread nD τ) ↦{qTok 13} fq)
     ∗ (qM.view.loc (c : Thread nD τ) ↦{qTok 14} fq)
     ∗ (qM.view.loc (c : Thread nD τ) ↦{qTok 15} fq)
     ∗ (qM.view.loc (c : Thread nD τ) ↦{qTok 16} fq)
     ∗ (qM.view.loc (c : Thread nD τ) ↦{qTok 17} fq)
     ∗ (qM.view.loc (c : Thread nD τ) ↦{qTok 18} fq)
     ∗ (qM.view.loc (c : Thread nD τ) ↦{qTok 19} fq)
     ∗ (qM.view.loc (c : Thread nD τ) ↦{qTok 20} fq)
     ∗ (qM.view.loc (c : Thread nD τ) ↦{qTok 21} fq)
     ∗ (qM.view.loc (c : Thread nD τ) ↦{qTok 22} fq)
     ∗ (qM.view.loc (c : Thread nD τ) ↦{qTok 23} fq)
     ∗ (qM.view.loc (c : Thread nD τ) ↦{qTok 24} fq)
     ∗ (qM.view.loc (c : Thread nD τ) ↦{qTok 25} fq)
     ∗ (qM.view.loc (c : Thread nD τ) ↦{qTok 26} fq)
     ∗ (qM.view.loc (c : Thread nD τ) ↦{qTok 27} fq)
     ∗ (qM.view.loc (c : Thread nD τ) ↦{qTok 28} fq)
     ∗ (qM.view.loc (c : Thread nD τ) ↦{qTok 29} fq)
     ∗ (qM.view.loc (c : Thread nD τ) ↦{qTok 30} fq)
     ∗ (qM.view.loc (c : Thread nD τ) ↦{qTok 31} fq)
     ∗ (qM.view.loc (c : Thread nD τ) ↦{qTok 32} fq)
     ∗ (qM.view.loc (c : Thread nD τ) ↦{qTok 33} fq)
     ∗ (qM.view.loc (c : Thread nD τ) ↦{qTok 34} fq)
     ∗ (qM.view.loc (c : Thread nD τ) ↦{qTok 35} fq)
     ∗ (qM.view.loc (c : Thread nD τ) ↦{qTok 36} fq)
     ∗ (qM.view.loc (c : Thread nD τ) ↦{qTok 37} fq)
     ∗ (qM.view.loc (c : Thread nD τ) ↦{qTok 38} fq)
     ∗ (qM.view.loc (c : Thread nD τ) ↦{qTok 39} fq)
     ∗ (qM.view.loc (c : Thread nD τ) ↦{qTok 40} fq)
     ∗ (qM.view.loc (c : Thread nD τ) ↦{qTok 41} fq)
     ∗ (qM.view.loc (c : Thread nD τ) ↦{qTok 42} fq)
     ∗ (qM.view.loc (c : Thread nD τ) ↦{qTok 43} fq)
     ∗ (qM.view.loc (c : Thread nD τ) ↦{qTok 44} fq)
     ∗ (iprop((arg1.view.loc (c : Thread nD τ) ↦[arg1.view.set]{fullShare} f1)
         ∗ (arg3.view.loc (c : Thread nD τ) ↦[arg3.view.set]{fullShare} f3)
         ∗ (arg4.view.loc (c : Thread nD τ) ↦[arg4.view.set]{fullShare} f4)
         ∗ (∃ g, ⌜arg5.view.read (Elt F) g = bodyOut (hd i) (arg1.view.read (Elt F) f1) (qM.view.read (Elt F) fq) (arg3.view.read (Elt F) f3) (arg4.view.read (Elt F) f4)⌝
             ∗ (arg5.view.loc (c : Thread nD τ) ↦[arg5.view.set]{fullShare} g))
         ∗ (∃ g, sM.view.loc (c : Thread nD τ) ↦{fullShare} g)
         ∗ semVal ((c : Thread nD τ), SemLoc.dma 14) 0
         ∗ (∃ W', owes (c : Thread nD τ) 0 W')
         ∗ (qM.view.loc (c : Thread nD τ) ↦{qTok 0} fq)
         ∗ (qM.view.loc (c : Thread nD τ) ↦{qTok 1} fq)
         ∗ (qM.view.loc (c : Thread nD τ) ↦{qTok 2} fq)
         ∗ (qM.view.loc (c : Thread nD τ) ↦{qTok 3} fq)
         ∗ (qM.view.loc (c : Thread nD τ) ↦{qTok 4} fq)
         ∗ (qM.view.loc (c : Thread nD τ) ↦{qTok 5} fq)
         ∗ (qM.view.loc (c : Thread nD τ) ↦{qTok 6} fq)
         ∗ (qM.view.loc (c : Thread nD τ) ↦{qTok 7} fq)
         ∗ (qM.view.loc (c : Thread nD τ) ↦{qTok 8} fq)
         ∗ (qM.view.loc (c : Thread nD τ) ↦{qTok 9} fq)
         ∗ (qM.view.loc (c : Thread nD τ) ↦{qTok 10} fq)
         ∗ (qM.view.loc (c : Thread nD τ) ↦{qTok 11} fq)
         ∗ (qM.view.loc (c : Thread nD τ) ↦{qTok 12} fq)
         ∗ (qM.view.loc (c : Thread nD τ) ↦{qTok 13} fq)
         ∗ (qM.view.loc (c : Thread nD τ) ↦{qTok 14} fq)
         ∗ (qM.view.loc (c : Thread nD τ) ↦{qTok 15} fq)
         ∗ (qM.view.loc (c : Thread nD τ) ↦{qTok 16} fq)
         ∗ (qM.view.loc (c : Thread nD τ) ↦{qTok 17} fq)
         ∗ (qM.view.loc (c : Thread nD τ) ↦{qTok 18} fq)
         ∗ (qM.view.loc (c : Thread nD τ) ↦{qTok 19} fq)
         ∗ (qM.view.loc (c : Thread nD τ) ↦{qTok 20} fq)
         ∗ (qM.view.loc (c : Thread nD τ) ↦{qTok 21} fq)
         ∗ (qM.view.loc (c : Thread nD τ) ↦{qTok 22} fq)
         ∗ (qM.view.loc (c : Thread nD τ) ↦{qTok 23} fq)
         ∗ (qM.view.loc (c : Thread nD τ) ↦{qTok 24} fq)
         ∗ (qM.view.loc (c : Thread nD τ) ↦{qTok 25} fq)
         ∗ (qM.view.loc (c : Thread nD τ) ↦{qTok 26} fq)
         ∗ (qM.view.loc (c : Thread nD τ) ↦{qTok 27} fq)
         ∗ (qM.view.loc (c : Thread nD τ) ↦{qTok 28} fq)
         ∗ (qM.view.loc (c : Thread nD τ) ↦{qTok 29} fq)
         ∗ (qM.view.loc (c : Thread nD τ) ↦{qTok 30} fq)
         ∗ (qM.view.loc (c : Thread nD τ) ↦{qTok 31} fq)
         ∗ (qM.view.loc (c : Thread nD τ) ↦{qTok 32} fq)
         ∗ (qM.view.loc (c : Thread nD τ) ↦{qTok 33} fq)
         ∗ (qM.view.loc (c : Thread nD τ) ↦{qTok 34} fq)
         ∗ (qM.view.loc (c : Thread nD τ) ↦{qTok 35} fq)
         ∗ (qM.view.loc (c : Thread nD τ) ↦{qTok 36} fq)
         ∗ (qM.view.loc (c : Thread nD τ) ↦{qTok 37} fq)
         ∗ (qM.view.loc (c : Thread nD τ) ↦{qTok 38} fq)
         ∗ (qM.view.loc (c : Thread nD τ) ↦{qTok 39} fq)
         ∗ (qM.view.loc (c : Thread nD τ) ↦{qTok 40} fq)
         ∗ (qM.view.loc (c : Thread nD τ) ↦{qTok 41} fq)
         ∗ (qM.view.loc (c : Thread nD τ) ↦{qTok 42} fq)
         ∗ (qM.view.loc (c : Thread nD τ) ↦{qTok 43} fq)
         ∗ (qM.view.loc (c : Thread nD τ) ↦{qTok 44} fq)) -∗ K ⟨⟩))
   ⊢ wp frame (wpE (defs₀ (F := F)) Variants.none c none) Set.univ
       (cc2__attn_kernel i arg1 harg1 qM (Memref.isWhole_whole _) arg3 harg3 arg4 harg4 arg5 harg5 sM (Memref.isWhole_whole _) cc2_scratch1) K := by
  iintro ⟨H1, H3, H4, H5, HS, Hsem, HO, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hk⟩
  rw [cc2__attn_kernel_eq_skeleton]; unfold cc2__attn_kernel_skel
  sl_exec (disch := (first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of); exact hr _ _ _)
  have hv : bodyRun.sl.v454 c i arg1 f1 fq hr = rowsOf (arg1.view.read (Elt F) f1) (qM.view.read (Elt F) fq) (hd i) := by
    unfold bodyRun.sl.v454 View.readCov
    refine (View.readAt_full _ _ inb_S45x64_S45x64_0_0).trans (funext fun y => ?_)
    refine read_pieces _ _ _ y _ ?_ (View.cover_of_tiledL (s := S45x64) _ S1x64.size (by sl_kernel_rfl) y)
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 44 (k2_off89_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 43 (k2_off87_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 42 (k2_off85_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 41 (k2_off83_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 40 (k2_off81_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 39 (k2_off79_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 38 (k2_off77_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 37 (k2_off75_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 36 (k2_off73_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 35 (k2_off71_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 34 (k2_off69_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 33 (k2_off67_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 32 (k2_off65_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 31 (k2_off63_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 30 (k2_off61_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 29 (k2_off59_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 28 (k2_off57_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 27 (k2_off55_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 26 (k2_off53_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 25 (k2_off51_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 24 (k2_off49_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 23 (k2_off47_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 22 (k2_off45_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 21 (k2_off43_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 20 (k2_off41_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 19 (k2_off39_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 18 (k2_off37_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 17 (k2_off35_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 16 (k2_off33_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 15 (k2_off31_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 14 (k2_off29_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 13 (k2_off27_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 12 (k2_off25_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 11 (k2_off23_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 10 (k2_off21_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 9 (k2_off19_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 8 (k2_off17_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 7 (k2_off15_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 6 (k2_off13_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 5 (k2_off11_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 4 (k2_off9_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 3 (k2_off7_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 2 (k2_off5_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 1 (k2_off3_eq i) _)
    · intro x
      refine (pay_row c i _ (hr _ _ _) rfl _ _ _ fq x).trans ?_
      rw [row_emb (by decide)]
      exact congrArg (fun v => qM.view.read (Elt F) fq (ix3 (hd i) (rowNo v) (x 1))) (word_read c i arg1 f1 _ 0 (k2_off1_eq i) _)
  sl_step
  iapply Hk
  isplitl [H1]; · iexact H1
  isplitl [H3]; · iexact H3
  isplitl [H4]; · iexact H4
  isplitl [H5]
  · iexists _; isplitr; swap; · iexact H5
    ipureintro
    funext y
    refine (scB_read c i arg1 arg5 f1 hr _ _ _ (by rw [show Scf.trips k2_t1_loop.lb k2_t1_loop.ub k2_t1_loop.st = 45 from trips45]) y).trans ?_
    rw [show Scf.trips k2_t1_loop.lb k2_t1_loop.ub k2_t1_loop.st = 45 from trips45]
    unfold bodyOut
    refine congrArg₂ (fun U A => scatF (wordAt (arg1.view.read (Elt F) f1) (hd i)) U A 45 y) ?_ ?_
    · unfold bodyRun.sl.HS_46
      refine (View.read_writes_full _ _ inb_S45x64_S45x64_0_0 _ _).trans ?_
      rw [hv]
      unfold bodyRun.sl.r_45 bodyRun.sl.r_46 bodyRun.sl.cst
      rw [View.readAt_full arg3.view f3 inb_S1x4096x64_S1x4096x64_0_0_0, View.readAt_full arg4.view f4 inb_S1x4096x64_S1x4096x64_0_0_0]
    · refine (View.read_writes_full (L := []) _ _ inb_S1x4096x64_S1x4096x64_0_0_0 _).trans ?_
      unfold bodyRun.sl.r_46
      rw [View.readAt_full arg4.view f4 inb_S1x4096x64_S1x4096x64_0_0_0]
  isplitl [HS]; · iexists _; iexact HS
  isplitl [Hsem]; · iexact Hsem
  isplitl [HO]; · iexists _; iexact HO
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  iexact Hq44

/-- The 45 read shares of the whole of `q`, and what is left beside them. -/
theorem q_split (c : Dev nD) (fq : Buf (Elt F) (qM.view.loc (c : Thread nD τ))) :
    ((qM.view.loc (c : Thread nD τ) ↦{fullShare} fq : sProp 𝕄)) ⊣⊢ iprop((qM.view.loc (c : Thread nD τ) ↦{Transfers.shareDrop fullShare 45} fq)
      ∗ (qM.view.loc (c : Thread nD τ) ↦{qTok 0} fq)
      ∗ (qM.view.loc (c : Thread nD τ) ↦{qTok 1} fq)
      ∗ (qM.view.loc (c : Thread nD τ) ↦{qTok 2} fq)
      ∗ (qM.view.loc (c : Thread nD τ) ↦{qTok 3} fq)
      ∗ (qM.view.loc (c : Thread nD τ) ↦{qTok 4} fq)
      ∗ (qM.view.loc (c : Thread nD τ) ↦{qTok 5} fq)
      ∗ (qM.view.loc (c : Thread nD τ) ↦{qTok 6} fq)
      ∗ (qM.view.loc (c : Thread nD τ) ↦{qTok 7} fq)
      ∗ (qM.view.loc (c : Thread nD τ) ↦{qTok 8} fq)
      ∗ (qM.view.loc (c : Thread nD τ) ↦{qTok 9} fq)
      ∗ (qM.view.loc (c : Thread nD τ) ↦{qTok 10} fq)
      ∗ (qM.view.loc (c : Thread nD τ) ↦{qTok 11} fq)
      ∗ (qM.view.loc (c : Thread nD τ) ↦{qTok 12} fq)
      ∗ (qM.view.loc (c : Thread nD τ) ↦{qTok 13} fq)
      ∗ (qM.view.loc (c : Thread nD τ) ↦{qTok 14} fq)
      ∗ (qM.view.loc (c : Thread nD τ) ↦{qTok 15} fq)
      ∗ (qM.view.loc (c : Thread nD τ) ↦{qTok 16} fq)
      ∗ (qM.view.loc (c : Thread nD τ) ↦{qTok 17} fq)
      ∗ (qM.view.loc (c : Thread nD τ) ↦{qTok 18} fq)
      ∗ (qM.view.loc (c : Thread nD τ) ↦{qTok 19} fq)
      ∗ (qM.view.loc (c : Thread nD τ) ↦{qTok 20} fq)
      ∗ (qM.view.loc (c : Thread nD τ) ↦{qTok 21} fq)
      ∗ (qM.view.loc (c : Thread nD τ) ↦{qTok 22} fq)
      ∗ (qM.view.loc (c : Thread nD τ) ↦{qTok 23} fq)
      ∗ (qM.view.loc (c : Thread nD τ) ↦{qTok 24} fq)
      ∗ (qM.view.loc (c : Thread nD τ) ↦{qTok 25} fq)
      ∗ (qM.view.loc (c : Thread nD τ) ↦{qTok 26} fq)
      ∗ (qM.view.loc (c : Thread nD τ) ↦{qTok 27} fq)
      ∗ (qM.view.loc (c : Thread nD τ) ↦{qTok 28} fq)
      ∗ (qM.view.loc (c : Thread nD τ) ↦{qTok 29} fq)
      ∗ (qM.view.loc (c : Thread nD τ) ↦{qTok 30} fq)
      ∗ (qM.view.loc (c : Thread nD τ) ↦{qTok 31} fq)
      ∗ (qM.view.loc (c : Thread nD τ) ↦{qTok 32} fq)
      ∗ (qM.view.loc (c : Thread nD τ) ↦{qTok 33} fq)
      ∗ (qM.view.loc (c : Thread nD τ) ↦{qTok 34} fq)
      ∗ (qM.view.loc (c : Thread nD τ) ↦{qTok 35} fq)
      ∗ (qM.view.loc (c : Thread nD τ) ↦{qTok 36} fq)
      ∗ (qM.view.loc (c : Thread nD τ) ↦{qTok 37} fq)
      ∗ (qM.view.loc (c : Thread nD τ) ↦{qTok 38} fq)
      ∗ (qM.view.loc (c : Thread nD τ) ↦{qTok 39} fq)
      ∗ (qM.view.loc (c : Thread nD τ) ↦{qTok 40} fq)
      ∗ (qM.view.loc (c : Thread nD τ) ↦{qTok 41} fq)
      ∗ (qM.view.loc (c : Thread nD τ) ↦{qTok 42} fq)
      ∗ (qM.view.loc (c : Thread nD τ) ↦{qTok 43} fq)
      ∗ (qM.view.loc (c : Thread nD τ) ↦{qTok 44} fq)) := by
  refine (Transfers.pointsTo_toks_range (ℓ := qM.view.loc (c : Thread nD τ)) (f := fq) fullShare 45).trans ?_
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44] (by decide) (by decide)]
  exact ⟨.rfl, .rfl⟩

set_option maxHeartbeats 4000000 in
/-- The kernel's body at a grid point: `q` whole, the operands' blocks, the result's block at anything. -/
theorem bodySpec (c : Dev nD) (i : grid2.Coords) (arg1 : Memref sig .tc .smem S2048 .i32) (harg1 : arg1.IsWhole)
   (arg3 arg4 arg5 : Memref sig .tc .vmem S1x4096x64 .f32) (harg3 : arg3.IsWhole) (harg4 : arg4.IsWhole) (harg5 : arg5.IsWhole)
   (f1 : Buf (Elt F) (arg1.view.loc (c : Thread nD τ))) (fq : Buf (Elt F) (qM.view.loc (c : Thread nD τ))) (fs : Buf (Elt F) (sM.view.loc (c : Thread nD τ)))
   (f3 : Buf (Elt F) (arg3.view.loc (c : Thread nD τ))) (f4 : Buf (Elt F) (arg4.view.loc (c : Thread nD τ))) (f5 : Buf (Elt F) (arg5.view.loc (c : Thread nD τ)))
   (hr : InRange c arg1 f1) (W : Waits sig Unit) (K : _ → sProp 𝕄) :
   iprop((arg1.view.loc (c : Thread nD τ) ↦[arg1.view.set]{fullShare} f1)
     ∗ (arg3.view.loc (c : Thread nD τ) ↦[arg3.view.set]{fullShare} f3)
     ∗ (arg4.view.loc (c : Thread nD τ) ↦[arg4.view.set]{fullShare} f4)
     ∗ (arg5.view.loc (c : Thread nD τ) ↦[arg5.view.set]{fullShare} f5)
     ∗ (sM.view.loc (c : Thread nD τ) ↦{fullShare} fs)
     ∗ semVal ((c : Thread nD τ), SemLoc.dma 14) 0
     ∗ owes (c : Thread nD τ) 0 W
     ∗ (qM.view.loc (c : Thread nD τ) ↦{fullShare} fq)
     ∗ (iprop((arg1.view.loc (c : Thread nD τ) ↦[arg1.view.set]{fullShare} f1)
         ∗ (arg3.view.loc (c : Thread nD τ) ↦[arg3.view.set]{fullShare} f3)
         ∗ (arg4.view.loc (c : Thread nD τ) ↦[arg4.view.set]{fullShare} f4)
         ∗ (∃ g, ⌜arg5.view.read (Elt F) g = bodyOut (hd i) (arg1.view.read (Elt F) f1) (qM.view.read (Elt F) fq) (arg3.view.read (Elt F) f3) (arg4.view.read (Elt F) f4)⌝
             ∗ (arg5.view.loc (c : Thread nD τ) ↦[arg5.view.set]{fullShare} g))
         ∗ (∃ g, sM.view.loc (c : Thread nD τ) ↦{fullShare} g)
         ∗ semVal ((c : Thread nD τ), SemLoc.dma 14) 0
         ∗ (∃ W', owes (c : Thread nD τ) 0 W')
         ∗ (qM.view.loc (c : Thread nD τ) ↦{fullShare} fq)) -∗ K ⟨⟩))
   ⊢ wp frame (wpE (defs₀ (F := F)) Variants.none c none) Set.univ
       (cc2__attn_kernel i arg1 harg1 qM (Memref.isWhole_whole _) arg3 harg3 arg4 harg4 arg5 harg5 sM (Memref.isWhole_whole _) cc2_scratch1) K := by
  iintro ⟨H1, H3, H4, H5, HS, Hsem, HO, Hq, Hk⟩
  ihave Hq := (q_split c fq).1 $$ Hq
  icases Hq with ⟨Hd, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44⟩
  iapply (bodyRun c i arg1 harg1 arg3 arg4 arg5 harg3 harg4 harg5 f1 fq fs f3 f4 f5 hr W K trivial)
  isplitl [H1]; · iexact H1
  isplitl [H3]; · iexact H3
  isplitl [H4]; · iexact H4
  isplitl [H5]; · iexact H5
  isplitl [HS]; · iexact HS
  isplitl [Hsem]; · iexact Hsem
  isplitl [HO]; · iexact HO
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  iintro ⟨H1, H3, H4, H5, HS, Hsem, HO, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44⟩
  iapply Hk
  isplitl [H1]; · iexact H1
  isplitl [H3]; · iexact H3
  isplitl [H4]; · iexact H4
  isplitl [H5]; · iexact H5
  isplitl [HS]; · iexact HS
  isplitl [Hsem]; · iexact Hsem
  isplitl [HO]; · iexact HO
  iapply (q_split c fq).2
  isplitl [Hd]; · iexact Hd
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  iexact Hq44

end Cert.WholeIdeal.Attn
-- ==== Proof.WholeAttn.lean ====
module
public import proofs.«01_k».proof.Proof.Gen.WholeIdeal.Points
public import proofs.«01_k».proof.Proof.WholeRegion
public import proofs.«01_k».proof.Proof.WholeAttnBody
public import proofs.«01_k».proof.Proof.WholeAttnRows
public import Idealize.ShloMosaic.Lib.Pipeline.FrameBody
public import Idealize.ShloMosaic.Lib.Pipeline.ValueKit
public import Idealize.ShloMosaic.Lib.Pipeline.Value
@[expose] public section
set_option maxRecDepth 16384
noncomputable section
/-! # In the whole kernel, the attention call -/
namespace Cert.WholeIdeal.Attn
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Idealize.ShloMosaic.Rounds
open Cert.WholeIdeal Cert.WholeIdeal.Gen
open Idealize.ShloMosaic.Pipeline (Dat Cfg Window BodyObligation cellOf)

variable {F : FTy → Type} [FloatOps F]
local notation "𝕄" => MT nD τ sig Unit (Elt F) ℕ (Pipeline.UD sig nD τ) ℕ

open Cert.WholeIdeal.Hand

/-- The one semaphore the row copies complete on. -/
abbrev osem : Fin 1 → SemLoc sig := fun j => (![SemLoc.dma 14] : Fin 1 → SemLoc sig) j
theorem ownSemFacts : Pipeline.OwnSemFacts spec2 osem := by decide
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 14) 0 := by
  rw [Pipeline.ownSems0_eq_of_list c osem [0] (by decide) (by decide)]; rfl

variable (V : Vals F)

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the result's buffer at point `t`. -/
def outAt (c : Dev nD) (t : Fin cfg2.N) : S1x4096x64.Idx → F .f32 :=
  bodyOut (hd (grid2.coords t)) (iblk V c 0 t) (qM.view.read (Elt F) (V c main_v0)) (iblk V c 1 t) (iblk V c 2 t)

/-- The proof data of the call. -/
def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outAt V c t
  Φ _ := kept osem spec2 V c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = outAt V c t := by dsimp only [dat]

theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

abbrev ms_0 (t : Fin cfg2.N) : Memref sig .tc .smem S2048 .i32 := win2_0.stage (cfg2.slots t 0)
abbrev ms_1 (t : Fin cfg2.N) : Memref sig .tc .vmem S1x4096x64 .f32 := win2_1.stage (cfg2.slots t 1)
abbrev ms_2 (t : Fin cfg2.N) : Memref sig .tc .vmem S1x4096x64 .f32 := win2_2.stage (cfg2.slots t 2)
abbrev ms_3 (t : Fin cfg2.N) : Memref sig .tc .vmem S1x4096x64 .f32 := win2_3.stage (cfg2.slots t 3)

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))
def bodyPost (c : Dev nD) (t : Fin cfg2.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t))

/-- Every word of the index array names a row. -/
def RowsOk : Prop := ∀ (c : Dev nD) (j : S2048.Idx), BitVec.toNat (w := 32) (V c main_v5 j) < 4096

/-- A block of the index window holds words of the index array. -/
theorem iblk0_lt (hR : RowsOk V) (c : Dev nD) (t : Fin cfg2.N) (j : S2048.Idx) : BitVec.toNat (w := 32) (iblk V c 0 t j) < 4096 := by
  unfold iblk
  rw [View.read_apply, cast_eq]
  exact hR c _

theorem sound_body (hR : RowsOk V) (c : Dev nD) (t : Fin cfg2.N) :
    bodyPre V c t ⊢ wp frame (wpE (defs₀ (F := F)) Variants.none c none) Set.univ (bodyAt2 t) (fun _ => bodyPost V c t) := by
  unfold bodyPre bodyPost bodyAt2
  rw [show (dat V c).Φ t.succ = (dat V c).Φ t.castSucc from rfl, after_0, after_1, after_2, after_3]
  simp only [before_0, before_1, before_2]
  rw [show (dat V c).Φ t.castSucc = kept osem spec2 V c from rfl]
  unfold kept
  rw [scopedRest2_eq, ownSems_eq, unscopedRest2_eq]
  unfold Dat.owesAt Pipeline.owesWithin
  rw [show (dat V c).owed t.castSucc = 0 from rfl, show (dat V c).owed t.succ = 0 from rfl]
  unfold owns
  iintro ⟨⟨⟨G0, G1, G2, G3, G4, G5, G6, G7, %fs, HS⟩, Hsem, Ha, Hb, Hc, Hq, Hu⟩, ⟨%W, -, HW⟩, ⟨%d0, %f0, %e0, H0⟩, ⟨%d1, %f1, %e1, H1⟩, ⟨%d2, %f2, %e2, H2⟩, ⟨%d3, %f3, -, H3⟩⟩
  have hr : InRange c (ms_0 t) f0 := fun o h y => by
    rw [View.readAt_apply, e0]; exact iblk0_lt V hR c t _
  iapply (bodySpec c (grid2.coords t) (ms_0 t) (hstage2_0 ((cfg2.slots t 0).cast nbuf2_0)) (ms_1 t) (ms_2 t) (ms_3 t)
    (hstage2_1 ((cfg2.slots t 1).cast nbuf2_1)) (hstage2_2 ((cfg2.slots t 2).cast nbuf2_2)) (hstage2_3 ((cfg2.slots t 3).cast nbuf2_3))
    f0 (V c main_v0) fs f1 f2 f3 hr W _)
  isplitl [H0]; · iexact H0
  isplitl [H1]; · iexact H1
  isplitl [H2]; · iexact H2
  isplitl [H3]; · iexact H3
  isplitl [HS]; · iexact HS
  isplitl [Hsem]; · iexact Hsem
  isplitl [HW]; · iexact HW
  isplitl [Hq]; · iexact Hq
  iintro ⟨H0, H1, H2, ⟨%g, %eg, H3⟩, HS, Hsem, ⟨%W', HW'⟩, Hq⟩
  isplitl [G0 G1 G2 G3 G4 G5 G6 G7 HS Hsem Ha Hb Hc Hq Hu]
  · isplitl [G0 G1 G2 G3 G4 G5 G6 G7 HS]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      iexact HS
    isplitl [Hsem]; · iexact Hsem
    isplitl [Ha]; · iexact Ha
    isplitl [Hb]; · iexact Hb
    isplitl [Hc]; · iexact Hc
    isplitl [Hq]; · iexact Hq
    iexact Hu
  isplitl [HW']
  · iexists W'; isplitr; · ipureintro; exact fun _ _ => Or.inl trivial
    iexact HW'
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  iexists _; isplitr; swap; · iexact H3
  ipureintro; rw [eg, e0, e1, e2]; rfl

theorem defs₀_row (t : Fin cfg2.N) :
    defs₀ (F := F) .tc cfg2.body (cfg2.bodyArgs t (cfg2.slots t)) = bodyAt2 t := by
  unfold defs₀; rw [Defs.onTc_tc]

theorem body_obligation (hR : RowsOk V) (c : Dev nD) : BodyObligation (dat V c) (defs₀ (F := F)) Variants.none () Set.univ := fun t => by
  rw [bigSep_W2, bigSep_W2, defs₀_row]
  exact triple_restated (sound_body V hR c t) rfl .rfl fun _ => .rfl

/-! ## What the result array holds -/

/-- The whole result: head `h`'s block is `bodyOut`'s of the head's blocks of `k` and `v`. -/
def outArr (X1 : S2048.Idx → BitVec 32) (Xq Xk Xv : S32x4096x64.Idx → F .f32) : S32x4096x64.Idx → F .f32 :=
  fun j => bodyOut (F := F) (j 0) X1 Xq (fun y => Xk (ValueIdx.ix3 (j 0) (y 1) (y 2))) (fun y => Xv (ValueIdx.ix3 (j 0) (y 1) (y 2))) (ValueIdx.ix3 (0 : Fin 1) (j 1) (j 2))

theorem index_0 : ∀ t : Fin cfg2.N, win2_0.index t = ![0] := by decide +kernel
theorem index_1 : ∀ t : Fin cfg2.N, win2_1.index t = ![(grid2.coords t 0).val, 0, 0] := by decide +kernel
theorem index_2 : ∀ t : Fin cfg2.N, win2_2.index t = ![(grid2.coords t 0).val, 0, 0] := by decide +kernel
theorem index_3 : ∀ t : Fin cfg2.N, win2_3.index t = ![(grid2.coords t 0).val, 0, 0] := by decide +kernel

theorem iblk0_eq (c : Dev nD) (t : Fin cfg2.N) : (iblk V c 0 t : S2048.Idx → BitVec 32) = V c main_v5 := by
  funext y
  blk_simp [iblk]
  refine congrArg (V c main_v5) ?_
  blk_ext [index_0]
theorem iblk1_eq (c : Dev nD) (t : Fin cfg2.N) : (iblk V c 1 t : S1x4096x64.Idx → F .f32) = fun y => V c main_v1 (ValueIdx.ix3 (hd (grid2.coords t)) (y 1) (y 2)) := by
  funext y
  have hy : (y 0).val < 1 := (y 0).isLt
  blk_simp [iblk]
  refine congrArg (V c main_v1) ?_
  funext a
  match a with
  | ⟨0, _⟩ => apply Fin.ext; blk_simp [index_1]; rfl
  | ⟨1, _⟩ => apply Fin.ext; blk_simp [index_1]; rfl
  | ⟨2, _⟩ => apply Fin.ext; blk_simp [index_1]; rfl
theorem iblk2_eq (c : Dev nD) (t : Fin cfg2.N) : (iblk V c 2 t : S1x4096x64.Idx → F .f32) = fun y => V c main_v2 (ValueIdx.ix3 (hd (grid2.coords t)) (y 1) (y 2)) := by
  funext y
  have hy : (y 0).val < 1 := (y 0).isLt
  blk_simp [iblk]
  refine congrArg (V c main_v2) ?_
  funext a
  match a with
  | ⟨0, _⟩ => apply Fin.ext; blk_simp [index_2]; rfl
  | ⟨1, _⟩ => apply Fin.ext; blk_simp [index_2]; rfl
  | ⟨2, _⟩ => apply Fin.ext; blk_simp [index_2]; rfl

/-- Where point `t`'s block of the result lies in the result. -/
theorem emb3_eq (t : Fin cfg2.N) (y : S1x4096x64.Idx) :
    (((cfg2.win 3).blk t).view.emb y : S32x4096x64.Idx) = ValueIdx.ix3 (hd (grid2.coords t)) (y 1) (y 2) := by
  have hy : (y 0).val < 1 := (y 0).isLt
  funext a
  match a with
  | ⟨0, _⟩ => apply Fin.ext; blk_simp [index_3]; rfl
  | ⟨1, _⟩ => apply Fin.ext; blk_simp [index_3]; rfl
  | ⟨2, _⟩ => apply Fin.ext; blk_simp [index_3]; rfl

theorem final_out (c : Dev nD) :
    (dat V c).arrAt 3 cfg2.N = outArr (F := F) (V c main_v5) (V c main_v0) (V c main_v1) (V c main_v2) := by
  refine (dat V c).arrAt_eq_of_covers 3 _ (by decide +kernel) fun t hf y => ?_
  refine Eq.trans ?_ (congrArg (outArr (F := F) (V c main_v5) (V c main_v0) (V c main_v1) (V c main_v2)) (emb3_eq t y)).symm
  blk_simp
  rw [after_3]
  unfold outAt outArr
  rw [iblk0_eq, iblk1_eq, iblk2_eq]
  have hy : y = (ValueIdx.ix3 (0 : Fin 1) (y 1) (y 2) : S1x4096x64.Idx) := by
    have hy : (y 0).val < 1 := (y 0).isLt
    funext a
    match a with
    | ⟨0, _⟩ => exact Fin.ext (by show (y 0).val = 0; omega)
    | ⟨1, _⟩ => rfl
    | ⟨2, _⟩ => rfl
  exact congrArg (bodyOut (hd (grid2.coords t)) (V c main_v5) (V c main_v0) _ _) hy

end Cert.WholeIdeal.Attn
-- ==== Proof.WholeRun.lean ====
module
public import proofs.«01_k».proof.Proof.WholeScore
public import proofs.«01_k».proof.Proof.WholeTopK
public import proofs.«01_k».proof.Proof.WholeAttn
@[expose] public section
set_option maxRecDepth 16384
noncomputable section
/-! # The run of the whole kernel: three reshapes, the score call, the top-k call, a reshape, the attention call, a reshape -/
namespace Cert.WholeIdeal.Hand
open Idealize.ShloMosaic Idealize.ShloMosaic.TcCoe
open Idealize.SL Idealize.SL.Sem
open Idealize.SL.BI (sProp bigSep Storable)
open scoped Idealize.SL.BI
open Idealize.SL.BI.BIBase Idealize.SL.BI.Laws Idealize.SL.ProofMode
open Idealize.SL.RA
open Idealize.ShloMosaic.Tactic
open Idealize.ShloMosaic.Rounds
open Cert.WholeIdeal Cert.WholeIdeal.Gen
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## What the arrays hold after each part -/

/-- At the launch. -/
def V0 : Vals F := fun c b => m ((c : Dev nD), b)
/-- With the heads merged. -/
def V1 : Vals F := fun c => StableHlo.after hostOps0 (V0 m c)
/-- With the measures. -/
def V2 : Vals F := fun c => Function.update (V1 m c) (Proc.devRef .tc main_v3) (Score.outArr (F := F) (V1 m c main_v0) (V1 m c main_v1))
/-- With the chosen rows. -/
def V3 : Vals F := fun c => Function.update (V2 m c) (Proc.devRef .tc main_v4) (TopK.outArr (F := F) (V2 m c main_v3))
/-- With the chosen rows in one line. -/
def V4 : Vals F := fun c => StableHlo.after hostOps2 (V3 m c)
/-- With the attended rows. -/
def V5 : Vals F := fun c => Function.update (V4 m c) (Proc.devRef .tc main_v6)
  (Attn.outArr (F := F) (V4 m c main_v5) (V4 m c main_v0) (V4 m c main_v1) (V4 m c main_v2))
/-- With the heads apart. -/
def V6 : Vals F := fun c => StableHlo.after hostOps3 (V5 m c)

theorem V2_ne (c : Dev nD) (b : Ref sig .tc) (h : b ≠ main_v3) : V2 m c b = V1 m c b :=
  Function.update_of_ne (StableHlo.devRef_ne_of_ne h) _ _
theorem V2_self (c : Dev nD) : V2 m c main_v3 = Score.outArr (F := F) (V1 m c main_v0) (V1 m c main_v1) := Function.update_self _ _ _
theorem V3_ne (c : Dev nD) (b : Ref sig .tc) (h : b ≠ main_v4) : V3 m c b = V2 m c b :=
  Function.update_of_ne (StableHlo.devRef_ne_of_ne h) _ _
theorem V3_self (c : Dev nD) : V3 m c main_v4 = TopK.outArr (F := F) (V2 m c main_v3) := Function.update_self _ _ _
theorem V5_ne (c : Dev nD) (b : Ref sig .tc) (h : b ≠ main_v6) : V5 m c b = V4 m c b :=
  Function.update_of_ne (StableHlo.devRef_ne_of_ne h) _ _
theorem V5_self (c : Dev nD) : V5 m c main_v6 = Attn.outArr (F := F) (V4 m c main_v5) (V4 m c main_v0) (V4 m c main_v1) (V4 m c main_v2) :=
  Function.update_self _ _ _

theorem V1_ne (c : Dev nD) (b : Ref sig .tc) (h : b ≠ main_v0 ∧ b ≠ main_v1 ∧ b ≠ main_v2) : V1 m c b = V0 m c b :=
  StableHlo.after_of_forall_not_mem hostOps0 (V0 m c) (by
    obtain ⟨h0, h1, h2⟩ := h
    intro op hop
    simp only [List.mem_cons, List.mem_nil_iff, or_false] at hop
    rcases hop with rfl | rfl | rfl <;> simp only [StableHlo.reshape_writes, Finset.mem_singleton] <;> exact StableHlo.devRef_ne_of_ne ‹_›)
theorem V4_ne (c : Dev nD) (b : Ref sig .tc) (h : b ≠ main_v5) : V4 m c b = V3 m c b :=
  StableHlo.after_of_forall_not_mem hostOps2 (V3 m c) (by
    intro op hop
    simp only [List.mem_cons, List.mem_nil_iff, or_false] at hop
    subst hop; simp only [StableHlo.reshape_writes, Finset.mem_singleton]; exact StableHlo.devRef_ne_of_ne h)
theorem V6_ne (c : Dev nD) (b : Ref sig .tc) (h : b ≠ main_v7) : V6 m c b = V5 m c b :=
  StableHlo.after_of_forall_not_mem hostOps3 (V5 m c) (by
    intro op hop
    simp only [List.mem_cons, List.mem_nil_iff, or_false] at hop
    subst hop; simp only [StableHlo.reshape_writes, Finset.mem_singleton]; exact StableHlo.devRef_ne_of_ne h)

/-- An array no part writes ends as launched. -/
theorem V6_arg (c : Dev nD) (b : Ref sig .tc)
    (h : b ≠ main_v7 ∧ b ≠ main_v6 ∧ b ≠ main_v5 ∧ b ≠ main_v4 ∧ b ≠ main_v3 ∧ b ≠ main_v0 ∧ b ≠ main_v1 ∧ b ≠ main_v2) :
    V6 m c b = m ((c.tc : Thread nD τ).loc b) := by
  obtain ⟨h7, h6, h5, h4, h3, h⟩ := h
  exact (V6_ne m c b h7).trans ((V5_ne m c b h6).trans ((V4_ne m c b h5).trans ((V3_ne m c b h4).trans ((V2_ne m c b h3).trans (V1_ne m c b h)))))

/-! ## The parts -/

/-- The proof data of the three calls. -/
def pdats : (p : Fin 3) → (c : Dev nD) → Dat τ (Elt F) Unit ℕ (Pipeline.UD sig nD τ) ℕ (Pipeline.pin (pcfgs (F := F)) adm p) c
  | 0 => fun c => Score.dat (V1 m) c
  | 1 => fun c => TopK.dat (V2 m) c
  | 2 => fun c => Attn.dat (V4 m) c

set_option backward.isDefEq.respectTransparency.types false in
/-- The score call. -/
def reg0 : Pipeline.RegionSeg (pcfgs (F := F)) adm (pdats m) () defs₀ Variants.none L lv 0 :=
  region (pdats m) 0 Score.osem Score.ownSemFacts launch0 (V1 m) (V2 m)
    (fun c => Score.body_obligation (V1 m) c) (fun _ _ => rfl) (fun _ => rfl) (fun c => (Score.dat (V1 m) c).share_full fun _ => rfl)
    (fun _ _ => rfl) (fun c w => Score.A_eq (V1 m) c w)
    (fun c w => match w with
      | 0 => ((Score.dat (V1 m) c).arrAt_in 0 rfl _).trans ((Score.A_eq (V1 m) c 0).trans (V2_ne m c main_v0 (by decide)).symm)
      | 1 => (Score.final_out (V1 m) c).trans (V2_self m c).symm)
    (fun c b hb => V2_ne m c b fun e => hb (Finset.mem_image.mpr ⟨1, Finset.mem_univ _, e.symm⟩))

set_option backward.isDefEq.respectTransparency.types false in
/-- The top-k call. -/
def reg1 : Pipeline.RegionSeg (pcfgs (F := F)) adm (pdats m) () defs₀ Variants.none L lv 1 :=
  region (pdats m) 1 TopK.osem TopK.ownSemFacts launch1 (V2 m) (V3 m)
    (fun c => TopK.body_obligation (V2 m) c) (fun _ _ => rfl) (fun _ => rfl) (fun c => (TopK.dat (V2 m) c).share_full fun _ => rfl)
    (fun _ _ => rfl) (fun c w => TopK.A_eq (V2 m) c w)
    (fun c w => match w with
      | 0 => ((TopK.dat (V2 m) c).arrAt_in 0 rfl _).trans ((TopK.A_eq (V2 m) c 0).trans (V3_ne m c main_v3 (by decide)).symm)
      | 1 => (TopK.final_out (V2 m) c).trans (V3_self m c).symm)
    (fun c b hb => V3_ne m c b fun e => hb (Finset.mem_image.mpr ⟨1, Finset.mem_univ _, e.symm⟩))

set_option backward.isDefEq.respectTransparency.types false in
/-- The attention call, with the chosen rows inside the array. -/
def reg2 (hR : Attn.RowsOk (V4 m)) : Pipeline.RegionSeg (pcfgs (F := F)) adm (pdats m) () defs₀ Variants.none L lv 2 :=
  region (pdats m) 2 Attn.osem Attn.ownSemFacts launch2 (V4 m) (V5 m)
    (fun c => Attn.body_obligation (V4 m) hR c) (fun _ _ => rfl) (fun _ => rfl) (fun c => (Attn.dat (V4 m) c).share_full fun _ => rfl)
    (fun _ _ => rfl) (fun c w => Attn.A_eq (V4 m) c w)
    (fun c w => match w with
      | 0 => ((Attn.dat (V4 m) c).arrAt_in 0 rfl _).trans ((Attn.A_eq (V4 m) c 0).trans (V5_ne m c main_v5 (by decide)).symm)
      | 1 => ((Attn.dat (V4 m) c).arrAt_in 1 rfl _).trans ((Attn.A_eq (V4 m) c 1).trans (V5_ne m c main_v1 (by decide)).symm)
      | 2 => ((Attn.dat (V4 m) c).arrAt_in 2 rfl _).trans ((Attn.A_eq (V4 m) c 2).trans (V5_ne m c main_v2 (by decide)).symm)
      | 3 => (Attn.final_out (V4 m) c).trans (V5_self m c).symm)
    (fun c b hb => V5_ne m c b fun e => hb (Finset.mem_image.mpr ⟨3, Finset.mem_univ _, e.symm⟩))

/-- The reshapes before the calls; -/
def host0 : Pipeline.HostSeg (Name := ℕ) (U := Pipeline.UD sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V0 m) R
/-- of the chosen rows; -/
def host2 : Pipeline.HostSeg (Name := ℕ) (U := Pipeline.UD sig nD τ) (pcfgs (F := F)) defs₀ Variants.none L lv :=
  Pipeline.HostSeg.ofOps _ _ _ _ _ (Pipeline.ucRefs τ sig) hostOps2 (fun op h => Pipeline.sub_ucRefs op ((List.forall_iff_forall_mem.mp hostOps2_sub) op h))
    (by intro _ h; (repeat (cases h with | head => rfl | tail _ h => ?_)); exact nomatch h) (V3 m) R
/-- and of the result. -/
def host3 : Pipeline.HostSeg (Name := ℕ) (U := Pipeline.UD sig nD τ) (pcfgs (F := F)) defs₀ Variants.none L lv :=
  Pipeline.HostSeg.ofOps _ _ _ _ _ (Pipeline.ucRefs τ sig) hostOps3 (fun op h => Pipeline.sub_ucRefs op ((List.forall_iff_forall_mem.mp hostOps3_sub) op h))
    (by intro _ h; (repeat (cases h with | head => rfl | tail _ h => ?_)); exact nomatch h) (V5 m) R

/-- The kernel as its parts. -/
abbrev segs (hR : Attn.RowsOk (V4 m)) : List (Pipeline.Seg (pcfgs (F := F)) adm (pdats m) () defs₀ Variants.none L lv) :=
  [.host (host0 m), .region (reg0 m), .region (reg1 m), .host (host2 m), .region (reg2 m hR), .host (host3 m)]

/-- What the launch gives the copies' tokens and the transfers' counters. -/
def u₀ : Pipeline.UD sig nD τ := (initOf (Pipeline.cells cfgs cellOf_inj) (Pipeline.launchToks cfgs cellOf_inj), 1)

set_option backward.isDefEq.respectTransparency.types false in
/-- The kernel ends, without fault, with every array as the parts in their order leave it and every semaphore at zero. -/
theorem run_main (hR : Attn.RowsOk (V4 m)) :
    θ_run defs (onTc (τ := τ) (main (F := F))) ⟨m, fun _ => 0, ρ⟩ (fun r =>
      (∀ (c : Dev nD) (b : DevRef τ sig), b ∈ Pipeline.ucRefs τ sig → r.2.mem ((c : Dev nD), b) = V6 m c b) ∧ r.2.sem = fun _ => 0) :=
  Pipeline.θ_run_regions_kit_sems (pcfgs (F := F)) adm (pdats m) () cellOf_inj embL defs₀ Variants.none L lv m ρ main (segs m hR)
    (fun c Q => by rw [main_segs adm (pdats m) () Variants.none L lv (host0 m) (host2 m) (host3 m) (reg0 m) (reg1 m) (reg2 m hR) rfl rfl rfl c])
    (by simp only [Pipeline.Seg.pipes_host, Pipeline.Seg.pipes_region, Pipeline.Seg.pipes_nil]; decide) (O₀ := 0) (hL := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ R c))
    (Tₙ := fun c => StableHlo.held (c.tc : Thread nD τ) (Pipeline.ucRefs τ sig) (V6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c.tc : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V6 m c b)
    (hfin := fun c s' => by
      have h := pointsTo_read_all (Pipeline.ucRefs τ sig) (fun b => ((c : Dev nD), b)) (fun b => V6 m c b) s' (Ix := Unit) (Name := ℕ) (U := Pipeline.UD sig nD τ) (Lvl := ℕ)
      unfold StableHlo.held
      iintro H
      ihave H := h $$ H
      imodintro
      iexact H)
    (hQ := fun _ h hz => ⟨h, funext fun g => hz g (.inr (by revert g; decide))⟩)

/-- The kernel's result, of what it was launched with. -/
theorem run (hR : Attn.RowsOk (V4 m)) : θ_run defs (onTc (τ := τ) (main (F := F))) ⟨m, fun _ => 0, ρ⟩ (fun r =>
    (∀ c : Dev nD, r.2.mem ((c.tc : Thread nD τ).loc main_v7) = V6 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c =>
    ⟨h.1 c _ (Pipeline.devRef_mem_ucRefs rfl),
     (h.1 c _ (Pipeline.devRef_mem_ucRefs rfl)).trans (V6_arg m c main_arg0 (by decide)),
     (h.1 c _ (Pipeline.devRef_mem_ucRefs rfl)).trans (V6_arg m c main_arg1 (by decide)),
     (h.1 c _ (Pipeline.devRef_mem_ucRefs rfl)).trans (V6_arg m c main_arg2 (by decide))⟩, h.2⟩) (run_main m ρ hR)

/-! ## The arrays named -/

theorem V1_v0 (c : Dev nD) : V1 m c main_v0 = shapeCast S32x4096x64 (m ((c.tc : Thread nD τ).loc main_arg0)) shapeCasts_S2x4096x16x64_S32x4096x64 := by
  unfold V1; simp only [hostOps0]; after_results_simp; rfl
theorem V1_v1 (c : Dev nD) : V1 m c main_v1 = shapeCast S32x4096x64 (m ((c.tc : Thread nD τ).loc main_arg1)) shapeCasts_S2x4096x16x64_S32x4096x64 := by
  unfold V1; simp only [hostOps0]; after_results_simp; rfl
theorem V1_v2 (c : Dev nD) : V1 m c main_v2 = shapeCast S32x4096x64 (m ((c.tc : Thread nD τ).loc main_arg2)) shapeCasts_S2x4096x16x64_S32x4096x64 := by
  unfold V1; simp only [hostOps0]; after_results_simp; rfl
theorem V4_v5 (c : Dev nD) : V4 m c main_v5 = shapeCast S2048 (V3 m c main_v4) shapeCasts_S32x64_S2048 := by
  unfold V4; simp only [hostOps2]; after_results_simp; rfl
theorem V6_v7 (c : Dev nD) : V6 m c main_v7 = shapeCast S2x16x4096x64 (V5 m c main_v6) shapeCasts_S32x4096x64_S2x16x4096x64 := by
  unfold V6; simp only [hostOps3]; after_results_simp; rfl

/-- The rows the kernel chooses. -/
def chosen (Xq Xk : S32x4096x64.Idx → F .f32) : S2048.Idx → BitVec 32 := shapeCast S2048 (TopK.outArr (F := F) (Score.outArr (F := F) Xq Xk)) shapeCasts_S32x64_S2048

/-- The rows the attention call is given. -/
theorem V4_chosen (c : Dev nD) : V4 m c main_v5 = chosen (F := F) (V1 m c main_v0) (V1 m c main_v1) := by
  rw [V4_v5, V3_self, V2_self]; rfl

/-- The kernel's result. -/
theorem V6_result (c : Dev nD) : V6 m c main_v7 = shapeCast S2x16x4096x64 (Attn.outArr (F := F) (chosen (F := F) (V1 m c main_v0) (V1 m c main_v1))
    (V1 m c main_v0) (V1 m c main_v1) (V1 m c main_v2)) shapeCasts_S32x4096x64_S2x16x4096x64 := by
  rw [V6_v7, V5_self, V4_chosen,
    V4_ne m c main_v0 (by decide), V3_ne m c main_v0 (by decide), V2_ne m c main_v0 (by decide),
    V4_ne m c main_v1 (by decide), V3_ne m c main_v1 (by decide), V2_ne m c main_v1 (by decide),
    V4_ne m c main_v2 (by decide), V3_ne m c main_v2 (by decide), V2_ne m c main_v2 (by decide)]

end Cert.WholeIdeal.Hand
-- ==== Proof.WholeValue.lean ====
module
public import proofs.«01_k».proof.Proof.WholeRun
public import proofs.«01_k».proof.Proof.TopKValue
public import proofs.«01_k».proof.Proof.ScoreValue
public import proofs.«01_k».proof.Proof.AttnIdealFrame
@[expose] public section
set_option maxRecDepth 16384
noncomputable section
/-! # Inside the whole kernel each call computes what it computes alone, and every chosen word names a row -/
namespace Cert.WholeIdeal.Hand
open Idealize.ShloMosaic Idealize.ShloMosaic.TcCoe
open Cert.WholeIdeal Cert.WholeIdeal.Gen

variable {F : FTy → Type} [FloatOps F]

theorem score_outArr (Xq Xk : S32x4096x64.Idx → F .f32) : Score.outArr (F := F) Xq Xk = ScoreIdeal.Hand.outArr (F := F) Xq Xk := rfl

theorem topk_scAt (Y : Vec F S32x4096 .f32) (n : ℕ) : TopK.scAt Y n = TopKIdeal.Hand.scAt Y n := by
  induction n with
  | zero => rfl
  | succ n ih => exact congrArg (k1_pay4 (F := F)) ih

theorem topk_accAt (Y : Vec F S32x4096 .f32) (n : ℕ) : TopK.accAt Y n = TopKIdeal.Hand.accAt Y n := by
  induction n with
  | zero => rfl
  | succ n ih =>
    unfold TopK.accAt TopKIdeal.Hand.accAt
    rw [ih, topk_scAt]
    rfl

theorem topk_outArr (X : Vec F S32x1x4096 .f32) : TopK.outArr X = TopKIdeal.Hand.outArr X := topk_accAt _ 45

theorem attn_scatF {α : Type} (w : Fin 45 → BitVec 32) (U : S45x64.Idx → α) (A : S1x4096x64.Idx → α) (n : ℕ) :
    Attn.scatF w U A n = AttnIdeal.Hand.scatF w U A n := by
  induction n with
  | zero => rfl
  | succ n ih => unfold Attn.scatF AttnIdeal.Hand.scatF; rw [ih]

theorem attn_outArr (X1 : S2048.Idx → BitVec 32) (Xq Xk Xv : S32x4096x64.Idx → F .f32) :
    Attn.outArr (F := F) X1 Xq Xk Xv = AttnIdeal.Hand.outArr (F := F) X1 Xq Xk Xv :=
  funext fun j => congrFun (attn_scatF _ _ _ 45) _

/-- Every word the top-k call writes names a row. -/
theorem topk_lt (X : FVec Ideal S32x1x4096 .f32) (j : S32x64.Idx) : (TopKIdeal.Hand.outArr (F := Ideal) X j : BitVec 32).toNat < 4096 := by
  idx_vars j
  rw [TopKIdeal.Hand.outArr_apply]
  split
  · rw [BitVec.toNat_ofNat]
    exact lt_of_le_of_lt (Nat.mod_le _ _) (Fin.isLt _)
  · decide

theorem chosen_lt (Xq Xk : FVec Ideal S32x4096x64 .f32) (j : S2048.Idx) : BitVec.toNat (w := 32) (chosen (F := Ideal) Xq Xk j) < 4096 := by
  unfold chosen shapeCast
  rw [topk_outArr]
  exact topk_lt _ _

/-- So the attention call is always given words that name rows. -/
theorem rowsOk (m : (ℓ : Loc nD τ sig) → Buf (Elt Ideal) ℓ) : Attn.RowsOk (F := Ideal) (V4 m) := fun c j => by
  rw [V4_chosen]
  exact chosen_lt _ _ j

end Cert.WholeIdeal.Hand
end
-- ==== Proof.WholeRefParts.lean ====
module
public import proofs.«01_k».proof.WholeRefIdeal
public import proofs.«01_k».proof.Proof.Gen.WholeRefIdeal.Run
public import proofs.«01_k».proof.Proof.ScoreRefValue
@[expose] public section
set_option maxRecDepth 16384
noncomputable section
/-! # The whole reference is its three parts in turn -/

namespace Cert.WholeRefIdeal.Hand
open Idealize.ShloMosaic Idealize.ShloMosaic.TcCoe
open Cert.WholeRefIdeal Cert.WholeRefIdeal.Gen

/-- The attention of the rows given head by head. -/
def attend (W : IVec S32x45 32) (Q K V : FVec Ideal S32x4096x64 .f32) : FVec Ideal S32x4096x64 .f32 :=
  AttnRefIdeal.Hand.placed (AttnRefIdeal.Hand.pairsOf W) Q K V

/-- The rows of greatest measure, head by head. -/
def top (M : FVec Ideal S32x4096 .f32) : IVec S32x45 32 :=
  (Host.topK S32x45 1 (FloatOps.cmpfTotal (F := Ideal) (φ := .f32) .gt) M sliceFits_S32x4096_S32x45).2

/-- The measures, head by head. -/
def measures (Q K : FVec Ideal S32x4096x64 .f32) : FVec Ideal S32x4096 .f32 :=
  subf (ScoreRefIdeal.Hand.tops (ScoreRefIdeal.Hand.products Q (ScoreRefIdeal.Hand.taken K)))
    (ScoreRefIdeal.Hand.means (ScoreRefIdeal.Hand.products Q (ScoreRefIdeal.Hand.taken K)))

/-- The heads merged. -/
def merge (X : FVec Ideal S2x4096x16x64 .f32) : FVec Ideal S32x4096x64 .f32 := shapeCast _ X shapeCasts_S2x4096x16x64_S32x4096x64

theorem res_eq (m : (ℓ : Loc nD τ sig) → Buf (Elt Ideal) ℓ) (c : Dev nD) :
    Value.res_main_v59 (F := Ideal) m c = shapeCast S2x16x4096x64
      (attend (top (measures (merge (m ((c.tc : Thread nD τ).loc main_arg0))) (merge (m ((c.tc : Thread nD τ).loc main_arg1)))))
        (merge (m ((c.tc : Thread nD τ).loc main_arg0))) (merge (m ((c.tc : Thread nD τ).loc main_arg1))) (merge (m ((c.tc : Thread nD τ).loc main_arg2))))
      shapeCasts_S32x4096x64_S2x16x4096x64 := by
  unfold Value.res_main_v59; rfl

end Cert.WholeRefIdeal.Hand
end
-- ==== Proof.WholeFinite.lean ====
module
public import proofs.«01_k».proof.Pre_finite_inputs
public import proofs.«01_k».proof.Proof.ScoreValue
public import proofs.«01_k».proof.Proof.TopKValue
public import Idealize.ShloMosaic.Lib.ReduceAll
public import Idealize.ShloMosaic.Lib.WordCmp
@[expose] public section
set_option maxRecDepth 16384
noncomputable section
/-! # Finite queries and keys have measures greater than minus infinity -/

namespace Cert.Pre_finite_inputs
open Idealize.ShloMosaic

variable [Facts]
open Facts

theorem top_word : Ideal.ofBits .f32 0x7F800000#32 = ⊤ := by simp [Ideal.ofBits, Ideal.ieee]

theorem both : ∀ c d : BitVec 1, IntOp.andi c d = 1#1 ↔ c = 1#1 ∧ d = 1#1 := by decide

/-- Where the precondition holds, every entry of `q` and of `k` is finite. -/
theorem finite (a0 a1 a2 : FVec Ideal S2x4096x16x64 .f32) (h : fn (F := Ideal) a0 a1 a2 = fun _ => 1#1) :
    (∀ j, ⊥ < a0 j ∧ a0 j < ⊤) ∧ ∀ j, ⊥ < a1 j ∧ a1 j < ⊤ := by
  have hs : Subsingleton S_.Idx := ⟨fun a b => funext fun k => k.elim0⟩
  have part : ∀ x : FVec Ideal S2x4096x16x64 .f32, ∀ z, Host.reduce IntOp.andi
      (andi (cmpf .ogt x (broadcastInDim S2x4096x16x64 ![] bcast_S_S2x4096x16x64 (constant S_ .f32 0xFF800000#32)))
        (cmpf .olt x (broadcastInDim S2x4096x16x64 ![] bcast_S_S2x4096x16x64 (constant S_ .f32 0x7F800000#32))))
      (constantI S_ 1 1#1) reducesTo_S2x4096x16x64_S_d0_1_2_3 h_S_ z = 1#1 → ∀ j, ⊥ < x j ∧ x j < ⊤ := fun x z e j => by
    have e2 : IntOp.andi (Ideal.cmp .ogt (x j) (Ideal.ofBits .f32 0xFF800000#32)) (Ideal.cmp .olt (x j) (Ideal.ofBits .f32 0x7F800000#32)) = 1#1 :=
      Host.reduce_andi_all _ _ _ _ _ e j
    rw [Cert.TopKIdeal.Hand.bottom, top_word] at e2
    obtain ⟨l, r⟩ := (both _ _).1 e2
    exact ⟨(WordCmp.ofBool_decide_eq_one_iff _).1 l, (WordCmp.ofBool_decide_eq_one_iff _).1 r⟩
  obtain ⟨l, r⟩ := (both _ _).1 (congrFun h (fun k => k.elim0))
  exact ⟨part a0 _ l, part a1 _ r⟩

end Cert.Pre_finite_inputs

namespace Cert.ScoreSpec
open Idealize.ShloMosaic

theorem count_word : Ideal.ofBits .f32 0x45800000#32 = ((4096 : ℝ) : EReal) := by
  simp [Ideal.ofBits, Ideal.ieee, -EReal.coe_mul]; norm_num

/-- A finite sum of finite numbers is finite. -/
theorem sum_finite {n : ℕ} (f : Fin n → EReal) (h : ∀ i, ⊥ < f i ∧ f i < ⊤) : ⊥ < ∑ i, f i ∧ ∑ i, f i < ⊤ :=
  Finset.sum_induction f (fun y => ⊥ < y ∧ y < ⊤)
    (fun a b ha hb => ⟨EReal.bot_lt_add_iff.2 ⟨ha.1, hb.1⟩, EReal.add_lt_top ha.2.ne hb.2.ne⟩)
    ⟨EReal.bot_lt_zero, EReal.zero_lt_top⟩ fun i _ => h i

theorem mul_finite {a b : EReal} (ha : ⊥ < a ∧ a < ⊤) (hb : ⊥ < b ∧ b < ⊤) : ⊥ < a * b ∧ a * b < ⊤ := by
  lift a to ℝ using ⟨ha.2.ne, ha.1.ne'⟩
  lift b to ℝ using ⟨hb.2.ne, hb.1.ne'⟩
  rw [← EReal.coe_mul]
  exact ⟨EReal.bot_lt_coe _, EReal.coe_lt_top _⟩

/-- The measure of a finite query row over finite key rows is greater than minus infinity. -/
theorem rowMeasure_gt (q : Fin 64 → EReal) (S : Fin 45 → Fin 64 → EReal) (hq : ∀ x, ⊥ < q x ∧ q x < ⊤) (hS : ∀ t x, ⊥ < S t x ∧ S t x < ⊤) :
    ⊥ < rowMeasure q S := by
  have hp : ∀ t, ⊥ < ∑ x, q x * S t x ∧ ∑ x, q x * S t x < ⊤ := fun t => sum_finite _ fun x => mul_finite (hq x) (hS t x)
  have hm := sum_finite _ hp
  unfold rowMeasure
  rw [count_word]
  generalize (∑ t, ∑ x, q x * S t x) = s at hm
  lift s to ℝ using ⟨hm.2.ne, hm.1.ne'⟩
  have hd : Ideal.div (s : EReal) ((4096 : ℝ) : EReal) = ((s / 4096 : ℝ) : EReal) := by
    unfold Ideal.div
    rw [if_neg (by norm_num), ← EReal.coe_inv, ← EReal.coe_mul, div_eq_mul_inv]
  rw [hd, bot_lt_iff_ne_bot, sub_eq_add_neg, Ne, EReal.add_eq_bot_iff, EReal.neg_eq_bot_iff, not_or]
  exact ⟨((Finset.lt_fold_max _).2 (.inr ⟨0, Finset.mem_univ _, (hp 0).1⟩)).ne', EReal.coe_ne_top _⟩

end Cert.ScoreSpec

end
-- ==== Proof.WholeRefValue.lean ====
module
public import proofs.«01_k».proof.Proof.WholeRefParts
public import proofs.«01_k».proof.Proof.WholeFinite
public import proofs.«01_k».proof.Proof.TopKRefValue
public import proofs.«01_k».proof.Proof.AttnEq
@[expose] public section
set_option maxRecDepth 16384
noncomputable section
/-! # The rows the kernel chooses are the reference's -/

namespace Cert.WholeRefIdeal.Hand
open Idealize.ShloMosaic Idealize.ShloMosaic.TcCoe
open Cert.WholeRefIdeal Cert.WholeRefIdeal.Gen

/-- Where every measure is greater than minus infinity, the rows of greatest measure are the places taken from its measures in turn. -/
theorem top_apply (M : FVec Ideal S32x4096 .f32) (hM : ∀ j, ⊥ < M j) (r : Fin 32) (l : Fin 45) :
    top M (ix2 r l) = BitVec.ofNat 32 (TopKSpec.pick (fun p => M (ix2 r p)) l.val).val := by
  unfold top
  rw [TopKRefIdeal.Hand.topK_row (m := 32) (n := 4096) (k := 45) _ _ _ (by decide) r l,
    ← TopKSpec.sortedFrom_eq_pick (fun p => hM (ix2 r p)) (by decide : 45 ≤ 4096) l]
  refine congrArg (fun f => BitVec.ofNat 32 (sortedFrom f _).val) (funext fun a => funext fun b => ?_)
  show (BitVec.ofBool (decide (M (ix2 r b) < M (ix2 r a))) == 1#1) = _
  cases decide (M (ix2 r b) < M (ix2 r a)) <;> rfl

/-- The first 45 words a head of the kernel's choice, put in one line and cut back. -/
theorem cut_apply (T : IVec S32x64 32) (h : S32x64.ShapeCasts ⟨1, ![2048]⟩) (r : Fin 32) (l : Fin 45) :
    AttnRefIdeal.Hand.cut (shapeCast ⟨1, ![2048]⟩ T h) (ix2 r l) = T (ix2 r (l.castLE (by decide))) := by
  pointwise [AttnRefIdeal.Hand.cut]
  rfl

theorem less_at (A B : FVec Ideal S32x4096 .f32) (r : Fin 32) (p : Fin 4096) :
    ScoreRefIdeal.Hand.less A B (ix3 r 0 p) = subf A B (ix2 r p) := ScoreRefIdeal.Hand.less_apply A B r 0 p

theorem ref_at (Q K : FVec Ideal S32x4096x64 .f32) (r : Fin 32) (p : Fin 4096) :
    ScoreRefIdeal.Hand.refOut Q K (ix3 r 0 p) = measures Q K (ix2 r p) := less_at _ _ r p

theorem score_at (Q K : FVec Ideal S32x4096x64 .f32) (j : ScoreRefIdeal.S32x1x4096.Idx) :
    ScoreIdeal.Hand.outArr (F := Ideal) Q K j = ScoreRefIdeal.Hand.refOut Q K j := congrFun (ScoreRefIdeal.Hand.out_eq Q K).symm j

/-- The score call's measures are the reference's. -/
theorem measures_apply (Q K : FVec Ideal S32x4096x64 .f32) (r : Fin 32) (p : Fin 4096) :
    ScoreIdeal.Hand.outArr (F := Ideal) Q K (ix3 r 0 p) = measures Q K (ix2 r p) := (score_at Q K (ix3 r 0 p)).trans (ref_at Q K r p)

/-- The rows the kernel's two first calls choose, cut back to 45 a head, are the rows of greatest measure. -/
theorem cut_chosen (Q K : FVec Ideal S32x4096x64 .f32) (hQ : ∀ j, ⊥ < Q j ∧ Q j < ⊤) (hK : ∀ j, ⊥ < K j ∧ K j < ⊤)
    (h : S32x64.ShapeCasts ⟨1, ![2048]⟩) :
    AttnRefIdeal.Hand.cut (shapeCast ⟨1, ![2048]⟩ (TopKIdeal.Hand.outArr (F := Ideal) (ScoreIdeal.Hand.outArr (F := Ideal) Q K)) h) = top (measures Q K) := by
  have hM : ∀ j, ⊥ < measures Q K j := fun j => by
    idx_vars j
    rw [← measures_apply, ScoreIdeal.Hand.outArr_apply]
    exact ScoreSpec.rowMeasure_gt _ _ (fun _ => hQ _) fun _ _ => hK _
  funext j
  idx_vars j
  rw [cut_apply, TopKIdeal.Hand.outArr_apply, top_apply _ hM]
  refine (if_pos j1.isLt).trans ?_
  simp only [measures_apply]
  rfl

/-- The attention of those rows is what the attention call computes of the kernel's choice. -/
theorem attend_chosen (Q K V : FVec Ideal S32x4096x64 .f32) (hQ : ∀ j, ⊥ < Q j ∧ Q j < ⊤) (hK : ∀ j, ⊥ < K j ∧ K j < ⊤)
    (X : IVec ⟨1, ![2048]⟩ 32) (hX : ∀ j, (X j).toNat < 4096) (h : S32x64.ShapeCasts ⟨1, ![2048]⟩)
    (e : X = shapeCast ⟨1, ![2048]⟩ (TopKIdeal.Hand.outArr (F := Ideal) (ScoreIdeal.Hand.outArr (F := Ideal) Q K)) h) :
    attend (top (measures Q K)) Q K V = AttnIdeal.Hand.outArr (F := Ideal) X Q K V := by
  rw [← cut_chosen Q K hQ hK h, ← e]
  exact AttnSpec.out_eq X Q K V hX

/-- A reshape of finite entries has finite entries. -/
theorem merge_finite (X : FVec Ideal S2x4096x16x64 .f32) (h : ∀ j, ⊥ < X j ∧ X j < ⊤) (j : S32x4096x64.Idx) : ⊥ < merge X j ∧ merge X j < ⊤ :=
  h _

end Cert.WholeRefIdeal.Hand
end
-- ==== Proof.WholeEq.lean ====
module
public import proofs.«01_k».proof.Proof.WholeValue
public import proofs.«01_k».proof.Proof.WholeRefValue
@[expose] public section
set_option maxRecDepth 16384
noncomputable section
/-! # From finite queries and keys the whole kernel's result is the whole reference's -/
namespace Cert.WholeIdeal.Hand
open Idealize.ShloMosaic Idealize.ShloMosaic.TcCoe
open Cert.WholeIdeal Cert.WholeIdeal.Gen

theorem chosen_eq (Q K : FVec Ideal S32x4096x64 .f32) : chosen (F := Ideal) Q K
    = shapeCast S2048 (TopKIdeal.Hand.outArr (F := Ideal) (ScoreIdeal.Hand.outArr (F := Ideal) Q K)) shapeCasts_S32x64_S2048 := by
  unfold chosen
  rw [topk_outArr, score_outArr]

/-- The attention over the kernel's choice is the reference's attention over the rows of greatest measure. -/
theorem attention_eq (Q K V : FVec Ideal S32x4096x64 .f32) (hQ : ∀ j, ⊥ < Q j ∧ Q j < ⊤) (hK : ∀ j, ⊥ < K j ∧ K j < ⊤) :
    Attn.outArr (F := Ideal) (chosen (F := Ideal) Q K) Q K V = WholeRefIdeal.Hand.attend (WholeRefIdeal.Hand.top (WholeRefIdeal.Hand.measures Q K)) Q K V :=
  (attn_outArr _ Q K V).trans (WholeRefIdeal.Hand.attend_chosen Q K V hQ hK _ (chosen_lt Q K) shapeCasts_S32x64_S2048 (chosen_eq Q K)).symm

/-- What the whole kernel leaves, of its arguments. -/
theorem result_eq (m : (ℓ : Loc nD τ sig) → Buf (Elt Ideal) ℓ) (c : Dev nD) (A0 A1 A2 : FVec Ideal S2x4096x16x64 .f32)
    (h0 : m ((c.tc : Thread nD τ).loc main_arg0) = A0) (h1 : m ((c.tc : Thread nD τ).loc main_arg1) = A1)
    (h2 : m ((c.tc : Thread nD τ).loc main_arg2) = A2) (hf : (∀ j, ⊥ < A0 j ∧ A0 j < ⊤) ∧ ∀ j, ⊥ < A1 j ∧ A1 j < ⊤) :
    V6 (F := Ideal) m c main_v7 = shapeCast S2x16x4096x64
      (WholeRefIdeal.Hand.attend (WholeRefIdeal.Hand.top (WholeRefIdeal.Hand.measures (WholeRefIdeal.Hand.merge A0) (WholeRefIdeal.Hand.merge A1)))
        (WholeRefIdeal.Hand.merge A0) (WholeRefIdeal.Hand.merge A1) (WholeRefIdeal.Hand.merge A2))
      shapeCasts_S32x4096x64_S2x16x4096x64 := by
  have e0 : V1 (F := Ideal) m c main_v0 = WholeRefIdeal.Hand.merge A0 := by rw [V1_v0, h0]; rfl
  have e1 : V1 (F := Ideal) m c main_v1 = WholeRefIdeal.Hand.merge A1 := by rw [V1_v1, h1]; rfl
  have e2 : V1 (F := Ideal) m c main_v2 = WholeRefIdeal.Hand.merge A2 := by rw [V1_v2, h2]; rfl
  rw [V6_result, e0, e1, e2]
  exact congrArg (fun X => shapeCast S2x16x4096x64 X shapeCasts_S32x4096x64_S2x16x4096x64)
    (attention_eq _ _ _ (WholeRefIdeal.Hand.merge_finite A0 hf.1) (WholeRefIdeal.Hand.merge_finite A1 hf.2))

end Cert.WholeIdeal.Hand
end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnRefIdeal
public import proofs.«01_k».proof.Proof.Gen.AttnRefIdeal.Run
public import proofs.«01_k».proof.Proof.Gen.Pre_rows_in_range
public import proofs.«01_k».proof.Proof.Gen.Score
public import proofs.«01_k».proof.Proof.Gen.Score.Skeleton
public import proofs.«01_k».proof.Proof.Gen.Score.Launch
public import proofs.«01_k».proof.Proof.Gen.Score.Points
public import proofs.«01_k».proof.Proof.Gen.ScoreIdeal
public import proofs.«01_k».proof.Proof.Gen.ScoreIdeal.Skeleton
public import proofs.«01_k».proof.Proof.Gen.ScoreIdeal.Launch
public import proofs.«01_k».proof.Proof.Gen.ScoreIdeal.Points
public import proofs.«01_k».proof.Proof.Gen.TopK
public import proofs.«01_k».proof.Proof.Gen.TopK.Skeleton
public import proofs.«01_k».proof.Proof.Gen.TopK.Loops
public import proofs.«01_k».proof.Proof.Gen.TopK.Launch
public import proofs.«01_k».proof.Proof.Gen.TopK.Points
public import proofs.«01_k».proof.Proof.Gen.TopK.Frame
public import proofs.«01_k».proof.Proof.Gen.TopKIdeal
public import proofs.«01_k».proof.Proof.Gen.TopKIdeal.Skeleton
public import proofs.«01_k».proof.Proof.Gen.TopKIdeal.Loops
public import proofs.«01_k».proof.Proof.Gen.TopKIdeal.Launch
public import proofs.«01_k».proof.Proof.Gen.TopKIdeal.Points
public import proofs.«01_k».proof.Proof.Gen.TopKIdeal.Frame
public import proofs.«01_k».proof.Proof.Gen.ScoreRefIdeal
public import proofs.«01_k».proof.Proof.Gen.ScoreRefIdeal.Run
public import proofs.«01_k».proof.Proof.Gen.TopKRefIdeal
public import proofs.«01_k».proof.Proof.Gen.TopKRefIdeal.Run
public import proofs.«01_k».proof.Proof.Gen.TopKIdeal.Value
public import proofs.«01_k».proof.Proof.Gen.Pre_finite_measures
public import proofs.«01_k».proof.Proof.Gen.WholeIdeal
public import proofs.«01_k».proof.Proof.Gen.WholeIdeal.Skeleton
public import proofs.«01_k».proof.Proof.Gen.WholeIdeal.Loops
public import proofs.«01_k».proof.Proof.Gen.WholeIdeal.Launch
public import proofs.«01_k».proof.Proof.Gen.WholeIdeal.Points
public import proofs.«01_k».proof.Proof.Gen.WholeRefIdeal
public import proofs.«01_k».proof.Proof.Gen.WholeRefIdeal.Run
public import proofs.«01_k».proof.Proof.Gen.Pre_finite_inputs
public import proofs.«01_k».proof.Proof.Words
public import proofs.«01_k».proof.Proof.AttnFrame
public import proofs.«01_k».proof.Proof.AttnIdealFrame
public import proofs.«01_k».proof.Proof.AttnEq
public import proofs.«01_k».proof.Proof.ScoreFrame
public import proofs.«01_k».proof.Proof.ScoreRefValue
public import proofs.«01_k».proof.Proof.TopKRefValue
public import proofs.«01_k».proof.Proof.WholeEq
public import Idealize.ShloMosaic.Lib.Quiescent

@[expose] public section

noncomputable section

namespace Cert.Proof

open Idealize.ShloMosaic Idealize.ShloMosaic.TcCoe Idealize.SL.Sem

/-- The call over machine floats, from index words in range: it ends, without fault, with its arguments unchanged and its
    semaphores at zero. -/
theorem frame_attn : Cert.quiescent_Attn := fun m ρ hpre =>
  (θ_run _ _ _).mono (fun _ h => ⟨fun c => (h.1 c).2, h.2⟩)
    (Cert.Attn.Hand.run (F := Bits) m ρ fun c j => Cert.Pre_rows_in_range.word_lt _ _ _ _ (hpre c) j)

/-- The same of the call over the extended reals. -/
theorem frame_attn_ideal : Cert.quiescent_AttnIdeal := fun m ρ hpre =>
  (θ_run _ _ _).mono (fun _ h => ⟨fun c => (h.1 c).2, h.2⟩)
    (Cert.AttnIdeal.Hand.run (F := Ideal) m ρ fun c j => Cert.Pre_rows_in_range.word_lt _ _ _ _ (hpre c) j)

/-- The reference ends with its arguments unchanged; it declares no semaphore. -/
theorem frame_attn_ref : Cert.quiescent_AttnRefIdeal := fun m ρ _ =>
  (θ_run _ _ _).mono (fun r h => ⟨fun c => (h c).2, sem_eq_zero_of_no_sems (by decide) r.2⟩)
    (Cert.AttnRefIdeal.Value.run (F := Ideal) m ρ)

/-- Over the extended reals the call and the reference compute one array. -/
theorem same_attn : Cert.algebraic_AttnIdeal_AttnRefIdeal := by
  intro m g m' g' hpre hagree
  refine ⟨_, (θ_run _ _ _).mono (fun _ h c => h.1 c) (Cert.AttnIdeal.Hand.run (F := Ideal) m g fun c j => Cert.Pre_rows_in_range.word_lt _ _ _ _ (hpre c) j),
    (θ_run _ _ _).mono (fun r h c => ⟨(h c).1.trans ?_, (h c).2⟩) (Cert.AttnRefIdeal.Value.run (F := Ideal) m' g')⟩
  obtain ⟨h0, h1, h2, h3⟩ := hagree c
  refine (Cert.AttnRefIdeal.Hand.res_eq m' c).trans ?_
  rw [h0, h1, h2, h3]
  exact Cert.AttnSpec.out_eq _ _ _ _ fun j => Cert.Pre_rows_in_range.word_lt _ _ _ _ (hpre c) j

/-- The score call over machine floats ends, without fault, with its arguments unchanged and its semaphores at zero. -/
theorem frame_score : Cert.quiescent_Score := fun m ρ _ =>
  (θ_run _ _ _).mono (fun _ h => ⟨fun c => (h.1 c).2, h.2⟩) (Cert.Score.Hand.run (F := Bits) m ρ)

/-- The same of the score call over the extended reals. -/
theorem frame_score_ideal : Cert.quiescent_ScoreIdeal := fun m ρ _ =>
  (θ_run _ _ _).mono (fun _ h => ⟨fun c => (h.1 c).2, h.2⟩) (Cert.ScoreIdeal.Hand.run (F := Ideal) m ρ)

/-- The measure's reference ends with its arguments unchanged; it declares no semaphore. -/
theorem frame_score_ref : Cert.quiescent_ScoreRefIdeal := fun m ρ _ =>
  (θ_run _ _ _).mono (fun r h => ⟨fun c => (h c).2, sem_eq_zero_of_no_sems (by decide) r.2⟩)
    (Cert.ScoreRefIdeal.Value.run (F := Ideal) m ρ)

/-- Over the extended reals the score call and its reference compute one array. -/
theorem same_score : Cert.algebraic_ScoreIdeal_ScoreRefIdeal := by
  intro m g m' g' _ hagree
  refine ⟨_, (θ_run _ _ _).mono (fun _ h c => h.1 c) (Cert.ScoreIdeal.Hand.run (F := Ideal) m g),
    (θ_run _ _ _).mono (fun r h c => ⟨(h c).1.trans ?_, (h c).2⟩) (Cert.ScoreRefIdeal.Value.run (F := Ideal) m' g')⟩
  obtain ⟨h0, h1⟩ := hagree c
  rw [h0, h1]
  exact Cert.ScoreRefIdeal.Hand.out_eq _ _

/-- The top-k call over machine floats ends, without fault, with its argument unchanged. -/
theorem frame_topk : Cert.quiescent_TopK := fun m ρ _ => Cert.TopK.Gen.frame (F := Bits) m ρ

/-- The same of the top-k call over the extended reals. -/
theorem frame_topk_ideal : Cert.quiescent_TopKIdeal := fun m ρ _ =>
  (θ_run _ _ _).mono (fun _ h => ⟨fun c => (h.1 c).2, h.2⟩) (Cert.TopKIdeal.Hand.run (F := Ideal) m ρ)

/-- The choice's reference ends with its argument unchanged; it declares no semaphore. -/
theorem frame_topk_ref : Cert.quiescent_TopKRefIdeal := fun m ρ _ =>
  (θ_run _ _ _).mono (fun r h => ⟨fun c => (h c).2, sem_eq_zero_of_no_sems (by decide) r.2⟩)
    (Cert.TopKRefIdeal.Value.run (F := Ideal) m ρ)

/-- Over the extended reals the top-k call and its reference compute one array of numbers, from measures greater than minus infinity. -/
theorem same_topk : Cert.algebraic_TopKIdeal_TopKRefIdeal_pre_finite_measures := by
  intro m g m' g' hpre hagree
  refine ⟨_, (θ_run _ _ _).mono (fun _ h c => h.1 c) (Cert.TopKIdeal.Hand.run (F := Ideal) m g),
    (θ_run _ _ _).mono (fun r h c => ⟨(h c).1.trans ?_, (h c).2⟩) (Cert.TopKRefIdeal.Value.run (F := Ideal) m' g')⟩
  rw [hagree c]
  exact (Cert.TopKRefIdeal.Hand.out_eq _ fun j => Cert.Pre_finite_measures.measure_gt _ (hpre c) j).symm

/-- The whole kernel over the extended reals ends, without fault, with its arguments unchanged and its semaphores at zero. -/
theorem frame_whole_ideal : Cert.quiescent_WholeIdeal := fun m ρ _ =>
  (θ_run _ _ _).mono (fun _ h => ⟨fun c => (h.1 c).2, h.2⟩) (Cert.WholeIdeal.Hand.run (F := Ideal) m ρ (Cert.WholeIdeal.Hand.rowsOk m))

/-- The whole reference ends with its arguments unchanged; it declares no semaphore. -/
theorem frame_whole_ref : Cert.quiescent_WholeRefIdeal := fun m ρ _ =>
  (θ_run _ _ _).mono (fun r h => ⟨fun c => (h c).2, sem_eq_zero_of_no_sems (by decide) r.2⟩)
    (Cert.WholeRefIdeal.Value.run (F := Ideal) m ρ)

/-- Over the extended reals the whole kernel and the whole reference compute one array, from finite queries and keys. -/
theorem same_whole : Cert.algebraic_WholeIdeal_WholeRefIdeal_pre_finite_inputs := by
  intro m g m' g' hpre hagree
  refine ⟨_, (θ_run _ _ _).mono (fun _ h c => h.1 c) (Cert.WholeIdeal.Hand.run (F := Ideal) m g (Cert.WholeIdeal.Hand.rowsOk m)),
    (θ_run _ _ _).mono (fun r h c => ⟨(h c).1.trans ?_, (h c).2⟩) (Cert.WholeRefIdeal.Value.run (F := Ideal) m' g')⟩
  obtain ⟨h0, h1, h2⟩ := hagree c
  refine (Cert.WholeRefIdeal.Hand.res_eq m' c).trans ?_
  rw [h0, h1, h2]
  exact (Cert.WholeIdeal.Hand.result_eq m c _ _ _ rfl rfl rfl (Cert.Pre_finite_inputs.finite _ _ _ (hpre c))).symm

theorem claim : Cert.Claim :=
  ⟨Cert.Attn.Gen.facts, Cert.AttnIdeal.Gen.facts, Cert.AttnRefIdeal.Gen.facts, Cert.Score.Gen.facts, Cert.ScoreIdeal.Gen.facts,
    Cert.ScoreRefIdeal.Gen.facts, Cert.TopK.Gen.facts, Cert.TopKIdeal.Gen.facts, Cert.TopKRefIdeal.Gen.facts, Cert.WholeIdeal.Gen.facts, Cert.WholeRefIdeal.Gen.facts, Cert.Pre_rows_in_range.Gen.facts,
    Cert.Pre_finite_measures.Gen.facts, Cert.Pre_finite_inputs.Gen.facts,
    frame_attn, frame_attn_ideal, frame_attn_ref, fun m ρ _ => frame_attn_ref m ρ trivial,
    frame_score, frame_score_ideal, frame_score_ref,
    frame_topk, frame_topk_ideal, fun m ρ _ => frame_topk_ideal m ρ trivial, frame_topk_ref, fun m ρ _ => frame_topk_ref m ρ trivial,
    frame_whole_ideal, fun m ρ _ => frame_whole_ideal m ρ trivial, frame_whole_ref, fun m ρ _ => frame_whole_ref m ρ trivial,
    trivial, same_attn, trivial, same_score, trivial, same_topk, same_whole⟩

end Cert.Proof

end
